-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S32768x12544 : Shape := ⟨2, ![32768, 12544]⟩
abbrev S32768x768 : Shape := ⟨2, ![32768, 768]⟩
abbrev S32768x1536 : Shape := ⟨2, ![32768, 1536]⟩
abbrev S_ : Shape := ⟨0, ![]⟩

class Facts : Prop where
  slices_S32768x12544_S32768x1536_0_10240 : S32768x12544.Slices ![0, 10240] S32768x1536
  bitsLt_bf16_f32 : FTy.bits .bf16 < FTy.bits .f32
  bcast_S_S32768x1536 : S_.BroadcastsInDim S32768x1536 (![] : Fin 0 → Fin S32768x1536.rank)
  reducesTo_S32768x1536_S_d0_1 : S32768x1536.ReducesTo [0, 1] S_
  h_S_ : 0 < S_.numel
  bcast_S_S32768x768 : S_.BroadcastsInDim S32768x768 (![] : Fin 0 → Fin S32768x768.rank)
  reducesTo_S32768x768_S_d0_1 : S32768x768.ReducesTo [0, 1] S_

variable [Facts]

def fn {F : FTy → Type} [FloatOps F] (main_arg0 : FVec F S32768x12544 .bf16) (main_arg1 : FVec F S32768x768 .bf16) (main_arg2 : FVec F S32768x768 .bf16) : IVec S_ 1 :=
  let main_v0 : FVec F S32768x1536 .bf16 := (extractStridedSlice S32768x1536 ![0, 10240] · slices_S32768x12544_S32768x1536_0_10240) main_arg0
  let main_v1 : FVec F S32768x1536 .f32 := (extf .f32 · bitsLt_bf16_f32) main_v0
  let main_v2 : FVec F S32768x1536 .f32 := Host.absf main_v1
  let main_cst : FVec F S_ .f32 := constant S_ .f32 0x7F800000#32
  let main_v3 : FVec F S32768x1536 .f32 := broadcastInDim S32768x1536 ![] bcast_S_S32768x1536 main_cst
  let main_v4 : IVec S32768x1536 1 := cmpf .olt main_v2 main_v3
  let main_c : IVec S_ 1 := constantI S_ 1 1#1
  let main_v5 : IVec S_ 1 := (fun x v => Host.reduce IntOp.andi x v reducesTo_S32768x1536_S_d0_1 h_S_) main_v4 main_c
  let main_v6 : FVec F S32768x768 .f32 := (extf .f32 · bitsLt_bf16_f32) main_arg1
  let main_v7 : FVec F S32768x768 .f32 := Host.absf main_v6
  let main_cst_0 : FVec F S_ .f32 := constant S_ .f32 0x7F800000#32
  let main_v8 : FVec F S32768x768 .f32 := broadcastInDim S32768x768 ![] bcast_S_S32768x768 main_cst_0
  let main_v9 : IVec S32768x768 1 := cmpf .olt main_v7 main_v8
  let main_c_1 : IVec S_ 1 := constantI S_ 1 1#1
  let main_v10 : IVec S_ 1 := (fun x v => Host.reduce IntOp.andi x v reducesTo_S32768x768_S_d0_1 h_S_) main_v9 main_c_1
  let main_v11 : IVec S_ 1 := andi main_v5 main_v10
  let main_v12 : FVec F S32768x768 .f32 := (extf .f32 · bitsLt_bf16_f32) main_arg2
  let main_v13 : FVec F S32768x768 .f32 := Host.absf main_v12
  let main_cst_2 : FVec F S_ .f32 := constant S_ .f32 0x7F800000#32
  let main_v14 : FVec F S32768x768 .f32 := broadcastInDim S32768x768 ![] bcast_S_S32768x768 main_cst_2
  let main_v15 : IVec S32768x768 1 := cmpf .olt main_v13 main_v14
  let main_c_3 : IVec S_ 1 := constantI S_ 1 1#1
  let main_v16 : IVec S_ 1 := (fun x v => Host.reduce IntOp.andi x v reducesTo_S32768x768_S_d0_1 h_S_) main_v15 main_c_3
  let main_v17 : IVec S_ 1 := andi main_v11 main_v16
  main_v17
-- ==== Pre_finite3.lean ====
abbrev S32768x2048 : Shape := ⟨2, ![32768, 2048]⟩
abbrev S2x1x2048 : Shape := ⟨3, ![2, 1, 2048]⟩
abbrev S2048x12544 : Shape := ⟨2, ![2048, 12544]⟩
abbrev S1x12544 : Shape := ⟨2, ![1, 12544]⟩
abbrev S2048x128 : Shape := ⟨2, ![2048, 128]⟩
abbrev S1x128 : Shape := ⟨2, ![1, 128]⟩
abbrev S_ : Shape := ⟨0, ![]⟩

class Facts : Prop where
  bcast_S_S2x1x2048 : S_.BroadcastsInDim S2x1x2048 (![] : Fin 0 → Fin S2x1x2048.rank)
  reducesTo_S2x1x2048_S_d0_1_2 : S2x1x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_

variable [Facts]

def fn {F : FTy → Type} [FloatOps F] (main_arg0 : FVec F S32768x2048 .f32) (main_arg1 : FVec F S2x1x2048 .f32) (main_arg2 : FVec F S2x1x2048 .f32) (main_arg3 : FVec F S2048x12544 .bf16) (main_arg4 : FVec F S1x12544 .f32) (main_arg5 : FVec F S2048x128 .f32) (main_arg6 : FVec F S1x128 .f32) : IVec S_ 1 :=
  let main_v0 : FVec F S2x1x2048 .f32 := Host.absf main_arg1
  let main_cst : FVec F S_ .f32 := constant S_ .f32 0x7F800000#32
  let main_v1 : FVec F S2x1x2048 .f32 := broadcastInDim S2x1x2048 ![] bcast_S_S2x1x2048 main_cst
  let main_v2 : IVec S2x1x2048 1 := cmpf .olt main_v0 main_v1
  let main_c : IVec S_ 1 := constantI S_ 1 1#1
  let main_v3 : IVec S_ 1 := (fun x v => Host.reduce IntOp.andi x v reducesTo_S2x1x2048_S_d0_1_2 h_S_) main_v2 main_c
  let main_v4 : FVec F S2x1x2048 .f32 := Host.absf main_arg2
  let main_cst_0 : FVec F S_ .f32 := constant S_ .f32 0x7F800000#32
  let main_v5 : FVec F S2x1x2048 .f32 := broadcastInDim S2x1x2048 ![] bcast_S_S2x1x2048 main_cst_0
  let main_v6 : IVec S2x1x2048 1 := cmpf .olt main_v4 main_v5
  let main_c_1 : IVec S_ 1 := constantI S_ 1 1#1
  let main_v7 : IVec S_ 1 := (fun x v => Host.reduce IntOp.andi x v reducesTo_S2x1x2048_S_d0_1_2 h_S_) main_v6 main_c_1
  let main_v8 : IVec S_ 1 := andi main_v3 main_v7
  let main_v9 : FVec F S2048x128 .f32 := Host.absf main_arg5
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  main_v13
-- ==== Kernel.lean ====
abbrev S32768x12544 : Shape := ⟨2, ![32768, 12544]⟩
abbrev S32768x768 : Shape := ⟨2, ![32768, 768]⟩
abbrev S2x6x144x16384 : Shape := ⟨4, ![2, 6, 144, 16384]⟩
abbrev S4096x128 : Shape := ⟨2, ![4096, 128]⟩
abbrev S1x1x144x4096 : Shape := ⟨4, ![1, 1, 144, 4096]⟩
abbrev S128x4096 : Shape := ⟨2, ![128, 4096]⟩
abbrev S1x1x128x4096 : Shape := ⟨4, ![1, 1, 128, 4096]⟩
abbrev S16x4096 : Shape := ⟨2, ![16, 4096]⟩
abbrev S1x1x16x4096 : Shape := ⟨4, ![1, 1, 16, 4096]⟩
abbrev S16384x256 : Shape := ⟨2, ![16384, 256]⟩
abbrev S1x2x144x16384 : Shape := ⟨4, ![1, 2, 144, 16384]⟩
abbrev S1024x256 : Shape := ⟨2, ![1024, 256]⟩
abbrev S2x1x1024 : Shape := ⟨3, ![2, 1, 1024]⟩
abbrev S2x144x1024 : Shape := ⟨3, ![2, 144, 1024]⟩
abbrev S2x2x512x1024 : Shape := ⟨4, ![2, 2, 512, 1024]⟩
abbrev S2x512x1024 : Shape := ⟨3, ![2, 512, 1024]⟩
abbrev S1024x128 : Shape := ⟨2, ![1024, 128]⟩
abbrev S512x128 : Shape := ⟨2, ![512, 128]⟩
abbrev S512x256 : Shape := ⟨2, ![512, 256]⟩
abbrev S512x1024 : Shape := ⟨2, ![512, 1024]⟩
abbrev S1x1x512x1024 : Shape := ⟨4, ![1, 1, 512, 1024]⟩
abbrev S1x1x1024 : Shape := ⟨3, ![1, 1, 1024]⟩
abbrev S1x1024 : Shape := ⟨2, ![1, 1024]⟩
abbrev S1024 : Shape := ⟨1, ![1024]⟩
abbrev S1x512x1024 : Shape := ⟨3, ![1, 512, 1024]⟩
abbrev S1x144x1024 : Shape := ⟨3, ![1, 144, 1024]⟩
abbrev S144x1024 : Shape := ⟨2, ![144, 1024]⟩
abbrev S1x1x144x512 : Shape := ⟨4, ![1, 1, 144, 512]⟩
abbrev S144x512 : Shape := ⟨2, ![144, 512]⟩
abbrev S1x128x1024 : Shape := ⟨3, ![1, 128, 1024]⟩
abbrev S128x1024 : Shape := ⟨2, ![128, 1024]⟩

abbrev nBuf : Space → Nat
  | .hbm => 5
  | .vmem => 18
  | .smem => 0
  | _ => 0

abbrev bufTy : (tb : Table) → Fin (tcTables nBuf tb) → BufTy
  | .hbm, ⟨0, _⟩ => ⟨S32768x12544, .bf16⟩
  | .hbm, ⟨1, _⟩ => ⟨S32768x768, .bf16⟩
  | .hbm, ⟨2, _⟩ => ⟨S32768x768, .bf16⟩
  | .hbm, ⟨3, _⟩ => ⟨S2x6x144x16384, .bf16⟩
  | .hbm, ⟨4, _⟩ => ⟨S32768x768, .bf16⟩
  | .local _ .vmem, ⟨0, _⟩ => ⟨S4096x128, .bf16⟩
  | .local _ .vmem, ⟨1, _⟩ => ⟨S4096x128, .bf16⟩
  | .local _ .vmem, ⟨2, _⟩ => ⟨S1x1x144x4096, .bf16⟩
  | .local _ .vmem, ⟨3, _⟩ => ⟨S1x1x144x4096, .bf16⟩
  | .local _ .vmem, ⟨4, _⟩ => ⟨S16384x256, .bf16⟩
  | .local _ .vmem, ⟨5, _⟩ => ⟨S16384x256, .bf16⟩
  | .local _ .vmem, ⟨6, _⟩ => ⟨S1x2x144x16384, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S2x1x1024, .f32⟩
  | .local _ .vmem, ⟨14, _⟩ => ⟨S2x144x1024, .f32⟩
  | .local _ .vmem, ⟨15, _⟩ => ⟨S2x2x512x1024, .f32⟩
  | .local _ .vmem, ⟨16, _⟩ => ⟨S2x512x1024, .bf16⟩
  | .local _ .vmem, ⟨17, _⟩ => ⟨S2x1x1024, .f32⟩
  | _, _ => ⟨S32768x12544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨3, ![2, 6, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c92_i32 : BitVec 32 := 92#32
  let v2 : BitVec 32 := Scalar.addi c92_i32 arg1
  let c0_i32 : BitVec 32 := 0#32
  ![v1.toNat, v2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x144x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev grid1 : Pipeline.Grid := ⟨3, ![2, 3, 16], ![false, false, false]⟩

def k1_cond1 (i : grid1.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_6 : BitVec 32 := 0#32
  let v10 : BitVec 1 := Scalar.cmpi .ne v9 c0_i32_6
  v10

def k1_mult1 : BitVec 32 :=
  let c0_i32_23 : BitVec 32 := 0#32
  c0_i32_23
def k1_mult2 : BitVec 32 :=
  let c512_i32 : BitVec 32 := 512#32
  c512_i32
def k1_mult3 : BitVec 32 :=
  let c0_i32_106 : BitVec 32 := 0#32
  c0_i32_106
def k1_mult4 : BitVec 32 :=
  let c512_i32_177 : BitVec 32 := 512#32
  c512_i32_177
def k1_cond2 (i : grid1.Coords) : BitVec 1 :=
  let arg2 : BitVec 32 := BitVec.ofNat 32 (i 2).val
  let c0_i32_7 : BitVec 32 := 0#32
  let v11 : BitVec 1 := Scalar.cmpi .sgt arg2 c0_i32_7
  let v12 : BitVec 32 := Scalar.extui v11
  let c0_i32_8 : BitVec 32 := 0#32
  let v13 : BitVec 1 := Scalar.cmpi .ne v12 c0_i32_8
  v13

def k1_mult5 : BitVec 32 :=
  let c0_i32_23 : BitVec 32 := 0#32
  c0_i32_23
def k1_mult6 : BitVec 32 :=
  let c512_i32 : BitVec 32 := 512#32
  c512_i32
@[reducible] def k1_t1_loop (i : grid1.Coords) : Scf.Loop 32 :=
  let c0_i32_103 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_103
  let c1_i32_104 : BitVec 32 := 1#32
  let v130 : BitVec 32 := Scalar.divsi v128 c1_i32_104
  let v131 : BitVec 32 := Scalar.muli v130 c1_i32_104
  let v132 : BitVec 32 := Scalar.addi c0_i32_103 v131
  let c1_i32_105 : BitVec 32 := 1#32
  ⟨c0_i32_103, v132, c1_i32_105⟩
def k1_mult7 (i : grid1.Coords) (k1_t1 : Fin (k1_t1_loop i).trips) : BitVec 32 :=
  let c2_i32_399 : BitVec 32 := 2#32
  let c0_i32_103 : BitVec 32 := 0#32
  let c1_i32_105 : BitVec 32 := 1#32
  let arg14 : BitVec 32 := Scf.iv c0_i32_103 c1_i32_105 k1_t1
  let v485 : BitVec 32 := Scalar.muli c2_i32_399 arg14
  let c512_i32_400 : BitVec 32 := 512#32
  let v486 : BitVec 32 := Scalar.muli v485 c512_i32_400
  v486
def k1_off1 (i : grid1.Coords) (k1_t1 : Fin (k1_t1_loop i).trips) : Fin 4 → Nat :=
  let c0_407 : Index := 0#32
  let c0_408 : Index := 0#32
  let c0_409 : Index := 0#32
  let c2_i32_399 : BitVec 32 := 2#32
  let c0_i32_103 : BitVec 32 := 0#32
  let c1_i32_105 : BitVec 32 := 1#32
  let arg14 : BitVec 32 := Scf.iv c0_i32_103 c1_i32_105 k1_t1
  let v485 : BitVec 32 := Scalar.muli c2_i32_399 arg14
  let c512_i32_400 : BitVec 32 := 512#32
  let v486 : BitVec 32 := Scalar.muli v485 c512_i32_400
  let v487 : BitVec 32 := v486
  let v494 : Index := Scalar.indexCast v487
  ![0, 0, 0, v494.toNat]
def k1_off2 (i : grid1.Coords) (k1_t1 : Fin (k1_t1_loop i).trips) : Fin 4 → Nat :=
  let c0_423 : Index := 0#32
  let c1_424 : Index := 1#32
  let c0_425 : Index := 0#32
  let c2_i32_399 : BitVec 32 := 2#32
  let c0_i32_103 : BitVec 32 := 0#32
  let c1_i32_105 : BitVec 32 := 1#32
  let arg14 : BitVec 32 := Scf.iv c0_i32_103 c1_i32_105 k1_t1
  let v485 : BitVec 32 := Scalar.muli c2_i32_399 arg14
  let c512_i32_400 : BitVec 32 := 512#32
  let v486 : BitVec 32 := Scalar.muli v485 c512_i32_400
  let v487 : BitVec 32 := v486
  let v510 : Index := Scalar.indexCast v487
  ![0, 1, 0, v510.toNat]
def k1_mult8 (i : grid1.Coords) (k1_t1 : Fin (k1_t1_loop i).trips) : BitVec 32 :=
  let c2_i32_399 : BitVec 32 := 2#32
  let c0_i32_103 : BitVec 32 := 0#32
  let c1_i32_105 : BitVec 32 := 1#32
  let arg14 : BitVec 32 := Scf.iv c0_i32_103 c1_i32_105 k1_t1
  let v485 : BitVec 32 := Scalar.muli c2_i32_399 arg14
  let c2_i32_433 : BitVec 32 := 2#32
  let v520 : BitVec 32 := Scalar.addi v485 c2_i32_433
  let c512_i32_434 : BitVec 32 := 512#32
  let v521 : BitVec 32 := Scalar.muli v520 c512_i32_434
  v521
def k1_off3 (i : grid1.Coords) (k1_t1 : Fin (k1_t1_loop i).trips) (c2_i32_433 : BitVec 32) : Fin 2 → Nat :=
  let c2_i32_399 : BitVec 32 := 2#32
  let c0_i32_103 : BitVec 32 := 0#32
  let c1_i32_105 : BitVec 32 := 1#32
  let arg14 : BitVec 32 := Scf.iv c0_i32_103 c1_i32_105 k1_t1
  let v485 : BitVec 32 := Scalar.muli c2_i32_399 arg14
  let v520 : BitVec 32 := Scalar.addi v485 c2_i32_433
  let c512_i32_434 : BitVec 32 := 512#32
  let v521 : BitVec 32 := Scalar.muli v520 c512_i32_434
  let v522 : BitVec 32 := v521
  let v526 : Index := Scalar.indexCast v522
  let c0_439 : Index := 0#32
  ![v526.toNat, 0]
def k1_off4 (i : grid1.Coords) (k1_t1 : Fin (k1_t1_loop i).trips) (c2_i32_433 : BitVec 32) : Fin 2 → Nat :=
  let c2_i32_399 : BitVec 32 := 2#32
  let c0_i32_103 : BitVec 32 := 0#32
  let c1_i32_105 : BitVec 32 := 1#32
  let arg14 : BitVec 32 := Scf.iv c0_i32_103 c1_i32_105 k1_t1
  let v485 : BitVec 32 := Scalar.muli c2_i32_399 arg14
  let v520 : BitVec 32 := Scalar.addi v485 c2_i32_433
  let c512_i32_434 : BitVec 32 := 512#32
  let v521 : BitVec 32 := Scalar.muli v520 c512_i32_434
  let v522 : BitVec 32 := v521
  let v538 : Index := Scalar.indexCast v522
  let c128_450 : Index := 128#32
  ![v538.toNat, 128]
def k1_mult9 (i : grid1.Coords) (k1_t1 : Fin (k1_t1_loop i).trips) : BitVec 32 :=
  let c2_i32_399 : BitVec 32 := 2#32
  let c0_i32_103 : BitVec 32 := 0#32
  let c1_i32_105 : BitVec 32 := 1#32
  let arg14 : BitVec 32 := Scf.iv c0_i32_103 c1_i32_105 k1_t1
  let v485 : BitVec 32 := Scalar.muli c2_i32_399 arg14
  let c1_i32_491 : BitVec 32 := 1#32
  let v591 : BitVec 32 := Scalar.addi v485 c1_i32_491
  let c512_i32_492 : BitVec 32 := 512#32
  let v592 : BitVec 32 := Scalar.muli v591 c512_i32_492
  v592
def k1_off5 (i : grid1.Coords) (k1_t1 : Fin (k1_t1_loop i).trips) : Fin 4 → Nat :=
  let c0_499 : Index := 0#32
  let c0_500 : Index := 0#32
  let c0_501 : Index := 0#32
  let c2_i32_399 : BitVec 32 := 2#32
  let c0_i32_103 : BitVec 32 := 0#32
  let c1_i32_105 : BitVec 32 := 1#32
  let arg14 : BitVec 32 := Scf.iv c0_i32_103 c1_i32_105 k1_t1
  let v485 : BitVec 32 := Scalar.muli c2_i32_399 arg14
  let c1_i32_491 : BitVec 32 := 1#32
  let v591 : BitVec 32 := Scalar.addi v485 c1_i32_491
  let c512_i32_492 : BitVec 32 := 512#32
  let v592 : BitVec 32 := Scalar.muli v591 c512_i32_492
  let v593 : BitVec 32 := v592
  let v600 : Index := Scalar.indexCast v593
  ![0, 0, 0, v600.toNat]
def k1_off6 (i : grid1.Coords) (k1_t1 : Fin (k1_t1_loop i).trips) : Fin 4 → Nat :=
  let c0_515 : Index := 0#32
  let c1_516 : Index := 1#32
  let c0_517 : Index := 0#32
  let c2_i32_399 : BitVec 32 := 2#32
  let c0_i32_103 : BitVec 32 := 0#32
  let c1_i32_105 : BitVec 32 := 1#32
  let arg14 : BitVec 32 := Scf.iv c0_i32_103 c1_i32_105 k1_t1
  let v485 : BitVec 32 := Scalar.muli c2_i32_399 arg14
  let c1_i32_491 : BitVec 32 := 1#32
  let v591 : BitVec 32 := Scalar.addi v485 c1_i32_491
  let c512_i32_492 : BitVec 32 := 512#32
  let v592 : BitVec 32 := Scalar.muli v591 c512_i32_492
  let v593 : BitVec 32 := v592
  let v616 : Index := Scalar.indexCast v593
  ![0, 1, 0, v616.toNat]
def k1_mult10 (i : grid1.Coords) (k1_t1 : Fin (k1_t1_loop i).trips) : BitVec 32 :=
  let c2_i32_399 : BitVec 32 := 2#32
  let c0_i32_103 : BitVec 32 := 0#32
  let c1_i32_105 : BitVec 32 := 1#32
  let arg14 : BitVec 32 := Scf.iv c0_i32_103 c1_i32_105 k1_t1
  let v485 : BitVec 32 := Scalar.muli c2_i32_399 arg14
  let c3_i32 : BitVec 32 := 3#32
  let v626 : BitVec 32 := Scalar.addi v485 c3_i32
  let c512_i32_525 : BitVec 32 := 512#32
  let v627 : BitVec 32 := Scalar.muli v626 c512_i32_525
  v627
@[reducible] def k1_t2_loop (i : grid1.Coords) : Scf.Loop 32 :=
  let c0_i32_103 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_103
  let c1_i32_104 : BitVec 32 := 1#32
  let v130 : BitVec 32 := Scalar.divsi v128 c1_i32_104
  let v131 : BitVec 32 := Scalar.muli v130 c1_i32_104
  let v132 : BitVec 32 := Scalar.addi c0_i32_103 v131
  let v129 : BitVec 32 := Scalar.addi c0_i32_103 v128
  let c1_i32_106 : BitVec 32 := 1#32
  ⟨v132, v129, c1_i32_106⟩
def k1_mult11 (i : grid1.Coords) (k1_t2 : Fin (k1_t2_loop i).trips) : BitVec 32 :=
  let c2_i32_399 : BitVec 32 := 2#32
  let c0_i32_103 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_103
  let c1_i32_104 : BitVec 32 := 1#32
  let v130 : BitVec 32 := Scalar.divsi v128 c1_i32_104
  let v131 : BitVec 32 := Scalar.muli v130 c1_i32_104
  let v132 : BitVec 32 := Scalar.addi c0_i32_103 v131
  let c1_i32_106 : BitVec 32 := 1#32
  let arg14 : BitVec 32 := Scf.iv v132 c1_i32_106 k1_t2
  let v485 : BitVec 32 := Scalar.muli c2_i32_399 arg14
  let c512_i32_400 : BitVec 32 := 512#32
  let v486 : BitVec 32 := Scalar.muli v485 c512_i32_400
  v486
def k1_off7 (i : grid1.Coords) (k1_t2 : Fin (k1_t2_loop i).trips) : Fin 4 → Nat :=
  let c0_407 : Index := 0#32
  let c0_408 : Index := 0#32
  let c0_409 : Index := 0#32
  let c2_i32_399 : BitVec 32 := 2#32
  let c0_i32_103 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_103
  let c1_i32_104 : BitVec 32 := 1#32
  let v130 : BitVec 32 := Scalar.divsi v128 c1_i32_104
  let v131 : BitVec 32 := Scalar.muli v130 c1_i32_104
  let v132 : BitVec 32 := Scalar.addi c0_i32_103 v131
  let c1_i32_106 : BitVec 32 := 1#32
  let arg14 : BitVec 32 := Scf.iv v132 c1_i32_106 k1_t2
  let v485 : BitVec 32 := Scalar.muli c2_i32_399 arg14
  let c512_i32_400 : BitVec 32 := 512#32
  let v486 : BitVec 32 := Scalar.muli v485 c512_i32_400
  let v487 : BitVec 32 := v486
  let v494 : Index := Scalar.indexCast v487
  ![0, 0, 0, v494.toNat]
def k1_off8 (i : grid1.Coords) (k1_t2 : Fin (k1_t2_loop i).trips) : Fin 4 → Nat :=
  let c0_423 : Index := 0#32
  let c1_424 : Index := 1#32
  let c0_425 : Index := 0#32
  let c2_i32_399 : BitVec 32 := 2#32
  let c0_i32_103 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_103
  let c1_i32_104 : BitVec 32 := 1#32
  let v130 : BitVec 32 := Scalar.divsi v128 c1_i32_104
  let v131 : BitVec 32 := Scalar.muli v130 c1_i32_104
  let v132 : BitVec 32 := Scalar.addi c0_i32_103 v131
  let c1_i32_106 : BitVec 32 := 1#32
  let arg14 : BitVec 32 := Scf.iv v132 c1_i32_106 k1_t2
  let v485 : BitVec 32 := Scalar.muli c2_i32_399 arg14
  let c512_i32_400 : BitVec 32 := 512#32
  let v486 : BitVec 32 := Scalar.muli v485 c512_i32_400
  let v487 : BitVec 32 := v486
  let v510 : Index := Scalar.indexCast v487
  ![0, 1, 0, v510.toNat]
def k1_mult12 (i : grid1.Coords) (k1_t2 : Fin (k1_t2_loop i).trips) : BitVec 32 :=
  let c2_i32_399 : BitVec 32 := 2#32
  let c0_i32_103 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_103
  let c1_i32_104 : BitVec 32 := 1#32
  let v130 : BitVec 32 := Scalar.divsi v128 c1_i32_104
  let v131 : BitVec 32 := Scalar.muli v130 c1_i32_104
  let v132 : BitVec 32 := Scalar.addi c0_i32_103 v131
  let c1_i32_106 : BitVec 32 := 1#32
  let arg14 : BitVec 32 := Scf.iv v132 c1_i32_106 k1_t2
  let v485 : BitVec 32 := Scalar.muli c2_i32_399 arg14
  let c2_i32_433 : BitVec 32 := 2#32
  let v520 : BitVec 32 := Scalar.addi v485 c2_i32_433
  let c512_i32_434 : BitVec 32 := 512#32
  let v521 : BitVec 32 := Scalar.muli v520 c512_i32_434
  v521
def k1_off9 (i : grid1.Coords) (k1_t2 : Fin (k1_t2_loop i).trips) (c2_i32_433 : BitVec 32) : Fin 2 → Nat :=
  let c2_i32_399 : BitVec 32 := 2#32
  let c0_i32_103 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_103
  let c1_i32_104 : BitVec 32 := 1#32
  let v130 : BitVec 32 := Scalar.divsi v128 c1_i32_104
  let v131 : BitVec 32 := Scalar.muli v130 c1_i32_104
  let v132 : BitVec 32 := Scalar.addi c0_i32_103 v131
  let c1_i32_106 : BitVec 32 := 1#32
  let arg14 : BitVec 32 := Scf.iv v132 c1_i32_106 k1_t2
  let v485 : BitVec 32 := Scalar.muli c2_i32_399 arg14
  let v520 : BitVec 32 := Scalar.addi v485 c2_i32_433
  let c512_i32_434 : BitVec 32 := 512#32
  let v521 : BitVec 32 := Scalar.muli v520 c512_i32_434
  let v522 : BitVec 32 := v521
  let v526 : Index := Scalar.indexCast v522
  let c0_439 : Index := 0#32
  ![v526.toNat, 0]
def k1_off10 (i : grid1.Coords) (k1_t2 : Fin (k1_t2_loop i).trips) (c2_i32_433 : BitVec 32) : Fin 2 → Nat :=
  let c2_i32_399 : BitVec 32 := 2#32
  let c0_i32_103 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_103
  let c1_i32_104 : BitVec 32 := 1#32
  let v130 : BitVec 32 := Scalar.divsi v128 c1_i32_104
  let v131 : BitVec 32 := Scalar.muli v130 c1_i32_104
  let v132 : BitVec 32 := Scalar.addi c0_i32_103 v131
  let c1_i32_106 : BitVec 32 := 1#32
  let arg14 : BitVec 32 := Scf.iv v132 c1_i32_106 k1_t2
  let v485 : BitVec 32 := Scalar.muli c2_i32_399 arg14
  let v520 : BitVec 32 := Scalar.addi v485 c2_i32_433
  let c512_i32_434 : BitVec 32 := 512#32
  let v521 : BitVec 32 := Scalar.muli v520 c512_i32_434
  let v522 : BitVec 32 := v521
  let v538 : Index := Scalar.indexCast v522
  let c128_450 : Index := 128#32
  ![v538.toNat, 128]
def k1_mult13 (i : grid1.Coords) (k1_t2 : Fin (k1_t2_loop i).trips) : BitVec 32 :=
  let c2_i32_399 : BitVec 32 := 2#32
  let c0_i32_103 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_103
  let c1_i32_104 : BitVec 32 := 1#32
  let v130 : BitVec 32 := Scalar.divsi v128 c1_i32_104
  let v131 : BitVec 32 := Scalar.muli v130 c1_i32_104
  let v132 : BitVec 32 := Scalar.addi c0_i32_103 v131
  let c1_i32_106 : BitVec 32 := 1#32
  let arg14 : BitVec 32 := Scf.iv v132 c1_i32_106 k1_t2
  let v485 : BitVec 32 := Scalar.muli c2_i32_399 arg14
  let c1_i32_491 : BitVec 32 := 1#32
  let v591 : BitVec 32 := Scalar.addi v485 c1_i32_491
  let c512_i32_492 : BitVec 32 := 512#32
  let v592 : BitVec 32 := Scalar.muli v591 c512_i32_492
  v592
def k1_off11 (i : grid1.Coords) (k1_t2 : Fin (k1_t2_loop i).trips) : Fin 4 → Nat :=
  let c0_499 : Index := 0#32
  let c0_500 : Index := 0#32
  let c0_501 : Index := 0#32
  let c2_i32_399 : BitVec 32 := 2#32
  let c0_i32_103 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_103
  let c1_i32_104 : BitVec 32 := 1#32
  let v130 : BitVec 32 := Scalar.divsi v128 c1_i32_104
  let v131 : BitVec 32 := Scalar.muli v130 c1_i32_104
  let v132 : BitVec 32 := Scalar.addi c0_i32_103 v131
  let c1_i32_106 : BitVec 32 := 1#32
  let arg14 : BitVec 32 := Scf.iv v132 c1_i32_106 k1_t2
  let v485 : BitVec 32 := Scalar.muli c2_i32_399 arg14
  let c1_i32_491 : BitVec 32 := 1#32
  let v591 : BitVec 32 := Scalar.addi v485 c1_i32_491
  let c512_i32_492 : BitVec 32 := 512#32
  let v592 : BitVec 32 := Scalar.muli v591 c512_i32_492
  let v593 : BitVec 32 := v592
  let v600 : Index := Scalar.indexCast v593
  ![0, 0, 0, v600.toNat]
def k1_off12 (i : grid1.Coords) (k1_t2 : Fin (k1_t2_loop i).trips) : Fin 4 → Nat :=
  let c0_515 : Index := 0#32
  let c1_516 : Index := 1#32
  let c0_517 : Index := 0#32
  let c2_i32_399 : BitVec 32 := 2#32
  let c0_i32_103 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_103
  let c1_i32_104 : BitVec 32 := 1#32
  let v130 : BitVec 32 := Scalar.divsi v128 c1_i32_104
  let v131 : BitVec 32 := Scalar.muli v130 c1_i32_104
  let v132 : BitVec 32 := Scalar.addi c0_i32_103 v131
  let c1_i32_106 : BitVec 32 := 1#32
  let arg14 : BitVec 32 := Scf.iv v132 c1_i32_106 k1_t2
  let v485 : BitVec 32 := Scalar.muli c2_i32_399 arg14
  let c1_i32_491 : BitVec 32 := 1#32
  let v591 : BitVec 32 := Scalar.addi v485 c1_i32_491
  let c512_i32_492 : BitVec 32 := 512#32
  let v592 : BitVec 32 := Scalar.muli v591 c512_i32_492
  let v593 : BitVec 32 := v592
  let v616 : Index := Scalar.indexCast v593
  ![0, 1, 0, v616.toNat]
def k1_mult14 (i : grid1.Coords) (k1_t2 : Fin (k1_t2_loop i).trips) : BitVec 32 :=
  let c2_i32_399 : BitVec 32 := 2#32
  let c0_i32_103 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_103
  let c1_i32_104 : BitVec 32 := 1#32
  let v130 : BitVec 32 := Scalar.divsi v128 c1_i32_104
  let v131 : BitVec 32 := Scalar.muli v130 c1_i32_104
  let v132 : BitVec 32 := Scalar.addi c0_i32_103 v131
  let c1_i32_106 : BitVec 32 := 1#32
  let arg14 : BitVec 32 := Scf.iv v132 c1_i32_106 k1_t2
  let v485 : BitVec 32 := Scalar.muli c2_i32_399 arg14
  let c3_i32 : BitVec 32 := 3#32
  let v626 : BitVec 32 := Scalar.addi v485 c3_i32
  let c512_i32_525 : BitVec 32 := 512#32
  let v627 : BitVec 32 := Scalar.muli v626 c512_i32_525
  v627
def k1_mult15 (i : grid1.Coords) : BitVec 32 :=
  let c2_i32 : BitVec 32 := 2#32
  let arg2 : BitVec 32 := BitVec.ofNat 32 (i 2).val
  let v32 : BitVec 32 := Scalar.muli c2_i32 arg2
  let c2_i32_107 : BitVec 32 := 2#32
  let v133 : BitVec 32 := Scalar.subi v32 c2_i32_107
  let c512_i32_108 : BitVec 32 := 512#32
  let v134 : BitVec 32 := Scalar.muli v133 c512_i32_108
  v134
def k1_off13 (i : grid1.Coords) (c2_i32_107 : BitVec 32) : Fin 4 → Nat :=
  let c0_115 : Index := 0#32
  let c0_116 : Index := 0#32
  let c0_117 : Index := 0#32
  let c2_i32 : BitVec 32 := 2#32
  let arg2 : BitVec 32 := BitVec.ofNat 32 (i 2).val
  let v32 : BitVec 32 := Scalar.muli c2_i32 arg2
  let v133 : BitVec 32 := Scalar.subi v32 c2_i32_107
  let c512_i32_108 : BitVec 32 := 512#32
  let v134 : BitVec 32 := Scalar.muli v133 c512_i32_108
  let v135 : BitVec 32 := v134
  let v142 : Index := Scalar.indexCast v135
  ![0, 0, 0, v142.toNat]
def k1_off14 (i : grid1.Coords) (c2_i32_107 : BitVec 32) : Fin 4 → Nat :=
  let c0_131 : Index := 0#32
  let c1_132 : Index := 1#32
  let c0_133 : Index := 0#32
  let c2_i32 : BitVec 32 := 2#32
  let arg2 : BitVec 32 := BitVec.ofNat 32 (i 2).val
  let v32 : BitVec 32 := Scalar.muli c2_i32 arg2
  let v133 : BitVec 32 := Scalar.subi v32 c2_i32_107
  let c512_i32_108 : BitVec 32 := 512#32
  let v134 : BitVec 32 := Scalar.muli v133 c512_i32_108
  let v135 : BitVec 32 := v134
  let v158 : Index := Scalar.indexCast v135
  ![0, 1, 0, v158.toNat]
def k1_mult16 (i : grid1.Coords) : BitVec 32 :=
  let c2_i32 : BitVec 32 := 2#32
  let arg2 : BitVec 32 := BitVec.ofNat 32 (i 2).val
  let v32 : BitVec 32 := Scalar.muli c2_i32 arg2
  let c512_i32_141 : BitVec 32 := 512#32
  let v168 : BitVec 32 := Scalar.muli v32 c512_i32_141
  v168
def k1_off15 (i : grid1.Coords) : Fin 2 → Nat :=
  let c2_i32 : BitVec 32 := 2#32
  let arg2 : BitVec 32 := BitVec.ofNat 32 (i 2).val
  let v32 : BitVec 32 := Scalar.muli c2_i32 arg2
  let c512_i32_141 : BitVec 32 := 512#32
  let v168 : BitVec 32 := Scalar.muli v32 c512_i32_141
  let v169 : BitVec 32 := v168
  let v173 : Index := Scalar.indexCast v169
  let c0_146 : Index := 0#32
  ![v173.toNat, 0]
def k1_off16 (i : grid1.Coords) : Fin 2 → Nat :=
  let c2_i32 : BitVec 32 := 2#32
  let arg2 : BitVec 32 := BitVec.ofNat 32 (i 2).val
  let v32 : BitVec 32 := Scalar.muli c2_i32 arg2
  let c512_i32_141 : BitVec 32 := 512#32
  let v168 : BitVec 32 := Scalar.muli v32 c512_i32_141
  let v169 : BitVec 32 := v168
  let v185 : Index := Scalar.indexCast v169
  let c128_157 : Index := 128#32
  ![v185.toNat, 128]
def k1_mult17 (i : grid1.Coords) : BitVec 32 :=
  let c2_i32 : BitVec 32 := 2#32
  let arg2 : BitVec 32 := BitVec.ofNat 32 (i 2).val
  let v32 : BitVec 32 := Scalar.muli c2_i32 arg2
  let c1_i32_198 : BitVec 32 := 1#32
  let v238 : BitVec 32 := Scalar.subi v32 c1_i32_198
  let c512_i32_199 : BitVec 32 := 512#32
  let v239 : BitVec 32 := Scalar.muli v238 c512_i32_199
  v239
def k1_mult18 (i : grid1.Coords) : BitVec 32 :=
  let c2_i32 : BitVec 32 := 2#32
  let arg2 : BitVec 32 := BitVec.ofNat 32 (i 2).val
  let v32 : BitVec 32 := Scalar.muli c2_i32 arg2
  let c1_i32_232 : BitVec 32 := 1#32
  let v273 : BitVec 32 := Scalar.addi v32 c1_i32_232
  let c512_i32_233 : BitVec 32 := 512#32
  let v274 : BitVec 32 := Scalar.muli v273 c512_i32_233
  v274
def k1_off17 (i : grid1.Coords) : Fin 2 → Nat :=
  let c2_i32 : BitVec 32 := 2#32
  let arg2 : BitVec 32 := BitVec.ofNat 32 (i 2).val
  let v32 : BitVec 32 := Scalar.muli c2_i32 arg2
  let c1_i32_232 : BitVec 32 := 1#32
  let v273 : BitVec 32 := Scalar.addi v32 c1_i32_232
  let c512_i32_233 : BitVec 32 := 512#32
  let v274 : BitVec 32 := Scalar.muli v273 c512_i32_233
  let v275 : BitVec 32 := v274
  let v279 : Index := Scalar.indexCast v275
  let c0_238 : Index := 0#32
  ![v279.toNat, 0]
def k1_off18 (i : grid1.Coords) : Fin 2 → Nat :=
  let c2_i32 : BitVec 32 := 2#32
  let arg2 : BitVec 32 := BitVec.ofNat 32 (i 2).val
  let v32 : BitVec 32 := Scalar.muli c2_i32 arg2
  let c1_i32_232 : BitVec 32 := 1#32
  let v273 : BitVec 32 := Scalar.addi v32 c1_i32_232
  let c512_i32_233 : BitVec 32 := 512#32
  let v274 : BitVec 32 := Scalar.muli v273 c512_i32_233
  let v275 : BitVec 32 := v274
  let v291 : Index := Scalar.indexCast v275
  let c128_249 : Index := 128#32
  ![v291.toNat, 128]
def k1_mult19 (i : grid1.Coords) : BitVec 32 :=
  let c2_i32 : BitVec 32 := 2#32
  let arg2 : BitVec 32 := BitVec.ofNat 32 (i 2).val
  let v32 : BitVec 32 := Scalar.muli c2_i32 arg2
  let c512_i32_294 : BitVec 32 := 512#32
  let v358 : BitVec 32 := Scalar.muli v32 c512_i32_294
  v358
def k1_off19 (i : grid1.Coords) : Fin 4 → Nat :=
  let c0_301 : Index := 0#32
  let c0_302 : Index := 0#32
  let c0_303 : Index := 0#32
  let c2_i32 : BitVec 32 := 2#32
  let arg2 : BitVec 32 := BitVec.ofNat 32 (i 2).val
  let v32 : BitVec 32 := Scalar.muli c2_i32 arg2
  let c512_i32_294 : BitVec 32 := 512#32
  let v358 : BitVec 32 := Scalar.muli v32 c512_i32_294
  let v359 : BitVec 32 := v358
  let v366 : Index := Scalar.indexCast v359
  ![0, 0, 0, v366.toNat]
def k1_off20 (i : grid1.Coords) : Fin 4 → Nat :=
  let c0_317 : Index := 0#32
  let c1_318 : Index := 1#32
  let c0_319 : Index := 0#32
  let c2_i32 : BitVec 32 := 2#32
  let arg2 : BitVec 32 := BitVec.ofNat 32 (i 2).val
  let v32 : BitVec 32 := Scalar.muli c2_i32 arg2
  let c512_i32_294 : BitVec 32 := 512#32
  let v358 : BitVec 32 := Scalar.muli v32 c512_i32_294
  let v359 : BitVec 32 := v358
  let v382 : Index := Scalar.indexCast v359
  ![0, 1, 0, v382.toNat]
def k1_mult20 (i : grid1.Coords) : BitVec 32 :=
  let c2_i32 : BitVec 32 := 2#32
  let arg2 : BitVec 32 := BitVec.ofNat 32 (i 2).val
  let v32 : BitVec 32 := Scalar.muli c2_i32 arg2
  let c1_i32_365 : BitVec 32 := 1#32
  let v450 : BitVec 32 := Scalar.addi v32 c1_i32_365
  let c512_i32_366 : BitVec 32 := 512#32
  let v451 : BitVec 32 := Scalar.muli v450 c512_i32_366
  v451
def k1_off21 (i : grid1.Coords) : Fin 4 → Nat :=
  let c0_373 : Index := 0#32
  let c0_374 : Index := 0#32
  let c0_375 : Index := 0#32
  let c2_i32 : BitVec 32 := 2#32
  let arg2 : BitVec 32 := BitVec.ofNat 32 (i 2).val
  let v32 : BitVec 32 := Scalar.muli c2_i32 arg2
  let c1_i32_365 : BitVec 32 := 1#32
  let v450 : BitVec 32 := Scalar.addi v32 c1_i32_365
  let c512_i32_366 : BitVec 32 := 512#32
  let v451 : BitVec 32 := Scalar.muli v450 c512_i32_366
  let v452 : BitVec 32 := v451
  let v459 : Index := Scalar.indexCast v452
  ![0, 0, 0, v459.toNat]
def k1_off22 (i : grid1.Coords) : Fin 4 → Nat :=
  let c0_389 : Index := 0#32
  let c1_390 : Index := 1#32
  let c0_391 : Index := 0#32
  let c2_i32 : BitVec 32 := 2#32
  let arg2 : BitVec 32 := BitVec.ofNat 32 (i 2).val
  let v32 : BitVec 32 := Scalar.muli c2_i32 arg2
  let c1_i32_365 : BitVec 32 := 1#32
  let v450 : BitVec 32 := Scalar.addi v32 c1_i32_365
  let c512_i32_366 : BitVec 32 := 512#32
  let v451 : BitVec 32 := Scalar.muli v450 c512_i32_366
  let v452 : BitVec 32 := v451
  let v475 : Index := Scalar.indexCast v452
  ![0, 1, 0, v475.toNat]
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c43_i32 : BitVec 32 := 43#32
  let v0 : BitVec 32 := Scalar.addi c43_i32 arg1
  let c0_i32 : BitVec 32 := 0#32
  ![arg0.toNat, v0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c40_i32 : BitVec 32 := 40#32
  let v2 : BitVec 32 := Scalar.addi c40_i32 arg1
  let c0_i32 : BitVec 32 := 0#32
  ![v1.toNat, v2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage1_0 : Fin 1 → Memref sig .tc .vmem S16384x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true, false]

abbrev stage1_1 : Fin 1 → Memref sig .tc .vmem S16384x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true, false]

abbrev stage1_2 : Fin 1 → Memref sig .tc .vmem S1x2x144x16384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== ReferenceIdeal.lean ====
abbrev S32768x12544 : Shape := ⟨2, ![32768, 12544]⟩
abbrev S32768x768 : Shape := ⟨2, ![32768, 768]⟩
abbrev S2x16384x6x128 : Shape := ⟨4, ![2, 16384, 6, 128]⟩
abbrev S2x6x16384x128 : Shape := ⟨4, ![2, 6, 16384, 128]⟩
abbrev S2x6x16384x16384 : Shape := ⟨4, ![2, 6, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S2x6x16384 : Shape := ⟨3, ![2, 6, 16384]⟩
abbrev S2x6x16384x1 : Shape := ⟨4, ![2, 6, 16384, 1]⟩

abbrev nBuf : Space → Nat
  | .hbm => 54
  | .vmem => 0
  | .smem => 0
  | _ => 0

abbrev bufTy : (tb : Table) → Fin (tcTables nBuf tb) → BufTy
  | .hbm, ⟨0, _⟩ => ⟨S32768x12544, .bf16⟩
  | .hbm, ⟨1, _⟩ => ⟨S32768x768, .bf16⟩
  | .hbm, ⟨2, _⟩ => ⟨S32768x768, .bf16⟩
  | .hbm, ⟨3, _⟩ => ⟨S32768x768, .bf16⟩
  | .hbm, ⟨4, _⟩ => ⟨S32768x768, .f32⟩
  | .hbm, ⟨5, _⟩ => ⟨S2x16384x6x128, .f32⟩
  | .hbm, ⟨6, _⟩ => ⟨S2x6x16384x128, .f32⟩
  | .hbm, ⟨7, _⟩ => ⟨S32768x768, .bf16⟩
  | .hbm, ⟨8, _⟩ => ⟨S32768x768, .f32⟩
  | .hbm, ⟨9, _⟩ => ⟨S2x16384x6x128, .f32⟩
  | .hbm, ⟨10, _⟩ => ⟨S2x6x16384x128, .f32⟩
  | .hbm, ⟨11, _⟩ => ⟨S32768x768, .bf16⟩
  | .hbm, ⟨12, _⟩ => ⟨S32768x768, .f32⟩
  | .hbm, ⟨13, _⟩ => ⟨S2x16384x6x128, .f32⟩
  | .hbm, ⟨14, _⟩ => ⟨S2x6x16384x128, .f32⟩
  | .hbm, ⟨15, _⟩ => ⟨S2x6x16384x16384, .f32⟩
  | .hbm, ⟨16, _⟩ => ⟨S32768x768, .f32⟩
  | .hbm, ⟨17, _⟩ => ⟨S2x16384x6x128, .f32⟩
  | .hbm, ⟨18, _⟩ => ⟨S2x6x16384x128, .f32⟩
  | .hbm, ⟨19, _⟩ => ⟨S32768x768, .f32⟩
  | .hbm, ⟨20, _⟩ => ⟨S2x16384x6x128, .f32⟩
  | .hbm, ⟨21, _⟩ => ⟨S2x6x16384x128, .f32⟩
  | .hbm, ⟨22, _⟩ => ⟨S2x6x16384x16384, .f32⟩
  | .hbm, ⟨23, _⟩ => ⟨S2x6x16384x16384, .f32⟩
  | .hbm, ⟨24, _⟩ => ⟨S16384, .i32⟩
  | .hbm, ⟨25, _⟩ => ⟨S1x16384, .i32⟩
  | .hbm, ⟨26, _⟩ => ⟨S16384x1, .i32⟩
  | .hbm, ⟨27, _⟩ => ⟨S16384x16384, .i32⟩
  | .hbm, ⟨28, _⟩ => ⟨S16384x16384, .i32⟩
  | .hbm, ⟨29, _⟩ => ⟨S16384x16384, .i1⟩
  | .hbm, ⟨30, _⟩ => ⟨S_, .f32⟩
  | .hbm, ⟨31, _⟩ => ⟨S_, .f32⟩
  | .hbm, ⟨32, _⟩ => ⟨S2x6x16384x16384, .i1⟩
  | .hbm, ⟨33, _⟩ => ⟨S2x6x16384x16384, .f32⟩
  | .hbm, ⟨34, _⟩ => ⟨S2x6x16384x16384, .f32⟩
  | .hbm, ⟨35, _⟩ => ⟨S_, .f32⟩
  | .hbm, ⟨36, _⟩ => ⟨S2x6x16384, .f32⟩
  | .hbm, ⟨37, _⟩ => ⟨S2x6x16384x1, .f32⟩
  | .hbm, ⟨38, _⟩ => ⟨S2x6x16384x16384, .f32⟩
  | .hbm, ⟨39, _⟩ => ⟨S2x6x16384x16384, .f32⟩
  | .hbm, ⟨40, _⟩ => ⟨S_, .f32⟩
  | .hbm, ⟨41, _⟩ => ⟨S2x6x16384x16384, .f32⟩
  | .hbm, ⟨42, _⟩ => ⟨S2x6x16384x16384, .f32⟩
  | .hbm, ⟨43, _⟩ => ⟨S_, .f32⟩
  | .hbm, ⟨44, _⟩ => ⟨S2x6x16384, .f32⟩
  | .hbm, ⟨45, _⟩ => ⟨S2x6x16384x1, .f32⟩
  | .hbm, ⟨46, _⟩ => ⟨S2x6x16384x16384, .f32⟩
  | .hbm, ⟨47, _⟩ => ⟨S2x6x16384x16384, .f32⟩
  | .hbm, ⟨48, _⟩ => ⟨S2x6x16384x16384, .bf16⟩
  | .hbm, ⟨49, _⟩ => ⟨S2x6x16384x16384, .f32⟩
  | .hbm, ⟨50, _⟩ => ⟨S2x6x16384x128, .f32⟩
  | .hbm, ⟨51, _⟩ => ⟨S2x16384x6x128, .f32⟩
  | .hbm, ⟨52, _⟩ => ⟨S32768x768, .f32⟩
  | .hbm, ⟨53, _⟩ => ⟨S32768x768, .bf16⟩
  | _, _ => ⟨S32768x12544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel2.lean ====
abbrev S32768x2048 : Shape := ⟨2, ![32768, 2048]⟩
abbrev S2x1x2048 : Shape := ⟨3, ![2, 1, 2048]⟩
abbrev S2048x11264 : Shape := ⟨2, ![2048, 11264]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S1x1x2048 : Shape := ⟨3, ![1, 1, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 11
  | .vmem => 19
  | .smem => 0
  | _ => 0

abbrev bufTy : (tb : Table) → Fin (tcTables nBuf tb) → BufTy
  | .hbm, ⟨0, _⟩ => ⟨S32768x2048, .f32⟩
  | .hbm, ⟨1, _⟩ => ⟨S2x1x2048, .f32⟩
  | .hbm, ⟨2, _⟩ => ⟨S2x1x2048, .f32⟩
  | .hbm, ⟨3, _⟩ => ⟨S2x1x2048, .f32⟩
  | .hbm, ⟨4, _⟩ => ⟨S2048x11264, .bf16⟩
  | .hbm, ⟨5, _⟩ => ⟨S5632x2048, .bf16⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S32768x2048 : Shape := ⟨2, ![32768, 2048]⟩
abbrev S2x1x2048 : Shape := ⟨3, ![2, 1, 2048]⟩
abbrev S2048x11264 : Shape := ⟨2, ![2048, 11264]⟩
abbrev S5632x2048 : Shape := ⟨2, ![5632, 2048]⟩
abbrev S2048 : Shape := ⟨1, ![2048]⟩
abbrev S2x16384x2048 : Shape := ⟨3, ![2, 16384, 2048]⟩
abbrev S_ : Shape := ⟨0, ![]⟩
abbrev S2x16384 : Shape := ⟨2, ![2, 16384]⟩
abbrev S2x16384x1 : Shape := ⟨3, ![2, 16384, 1]⟩
abbrev S2x16384x11264 : Shape := ⟨3, ![2, 16384, 11264]⟩
abbrev S2x16384x5632 : Shape := ⟨3, ![2, 16384, 5632]⟩
abbrev S1x1x2048 : Shape := ⟨3, ![1, 1, 2048]⟩

abbrev nBuf : Space → Nat
  | .hbm => 94
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x1x2048, .f32⟩
  | .hbm, ⟨2, _⟩ => ⟨S2x1x2048, .f32⟩
  | .hbm, ⟨3, _⟩ => ⟨S2x1x2048, .f32⟩
  | .hbm, ⟨4, _⟩ => ⟨S2048x11264, .bf16⟩
  | .hbm, ⟨5, _⟩ => ⟨S5632x2048, .bf16⟩
  | .hbm, ⟨6, _⟩ => ⟨S2048, .f32⟩
  | .hbm, ⟨7, _⟩ => ⟨S2048, .f32⟩
  | .hbm, ⟨8, _⟩ => ⟨S2x16384x2048, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x2048, .f32⟩
  | .hbm, ⟨16, _⟩ => ⟨S2x16384x2048, .f32⟩
  | .hbm, ⟨17, _⟩ => ⟨S2x16384x2048, .f32⟩
  | .hbm, ⟨18, _⟩ => ⟨S_, .f32⟩
  | .hbm, ⟨19, _⟩ => ⟨S2x16384, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x2048, .f32⟩
  | .hbm, ⟨25, _⟩ => ⟨S2x16384x2048, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S2x16384x1, .f32⟩
  | .hbm, ⟨30, _⟩ => ⟨S2x16384x2048, .f32⟩
  | .hbm, ⟨31, _⟩ => ⟨S2x16384x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x16384x2048, .f32⟩
  | .hbm, ⟨36, _⟩ => ⟨S2x16384x2048, .f32⟩
  | .hbm, ⟨37, _⟩ => ⟨S2x16384x2048, .f32⟩
  | .hbm, ⟨38, _⟩ => ⟨S2x16384x2048, .f32⟩
  | .hbm, ⟨39, _⟩ => ⟨S2048x11264, .f32⟩
  | .hbm, ⟨40, _⟩ => ⟨S2x16384x11264, .f32⟩
  | .hbm, ⟨41, _⟩ => ⟨S2x16384x5632, .f32⟩
  | .hbm, ⟨42, _⟩ => ⟨S2x16384x5632, .f32⟩
  | .hbm, ⟨43, _⟩ => ⟨S2x16384x5632, .f32⟩
  | .hbm, ⟨44, _⟩ => ⟨S2x16384x5632, .f32⟩
  | .hbm, ⟨45, _⟩ => ⟨S_, .f32⟩
  | .hbm, ⟨46, _⟩ => ⟨S2x16384x5632, .f32⟩
  | .hbm, ⟨47, _⟩ => ⟨S2x16384x5632, .f32⟩
  | .hbm, ⟨48, _⟩ => ⟨S_, .f32⟩
  | .hbm, ⟨49, _⟩ => ⟨S2x16384x5632, .f32⟩
  | .hbm, ⟨50, _⟩ => ⟨S2x16384x5632, .f32⟩
  | .hbm, ⟨51, _⟩ => ⟨S2x16384x5632, .f32⟩
  | .hbm, ⟨52, _⟩ => ⟨S2x16384x5632, .f32⟩
  | .hbm, ⟨53, _⟩ => ⟨S5632x2048, .f32⟩
  | .hbm, ⟨54, _⟩ => ⟨S2x16384x2048, .f32⟩
  | .hbm, ⟨55, _⟩ => ⟨S_, .f32⟩
  | .hbm, ⟨56, _⟩ => ⟨S2x16384x2048, .f32⟩
  | .hbm, ⟨57, _⟩ => ⟨S2x16384x2048, .f32⟩
  | .hbm, ⟨58, _⟩ => ⟨S_, .f32⟩
  | .hbm, ⟨59, _⟩ => ⟨S2x1x2048, .f32⟩
  | .hbm, ⟨60, _⟩ => ⟨S2x1x2048, .f32⟩
  | .hbm, ⟨61, _⟩ => ⟨S2x16384x2048, .f32⟩
  | .hbm, ⟨62, _⟩ => ⟨S2x16384x2048, .f32⟩
  | .hbm, ⟨63, _⟩ => ⟨S2x16384x2048, .f32⟩
  | .hbm, ⟨64, _⟩ => ⟨S_, .f32⟩
  | .hbm, ⟨65, _⟩ => ⟨S2x16384, .f32⟩
  | .hbm, ⟨66, _⟩ => ⟨S2x16384x1, .f32⟩
  | .hbm, ⟨67, _⟩ => ⟨S_, .f32⟩
  | .hbm, ⟨68, _⟩ => ⟨S2x16384x1, .f32⟩
  | .hbm, ⟨69, _⟩ => ⟨S2x16384x1, .f32⟩
  | .hbm, ⟨70, _⟩ => ⟨S2x16384x2048, .f32⟩
  | .hbm, ⟨71, _⟩ => ⟨S2x16384x2048, .f32⟩
  | .hbm, ⟨72, _⟩ => ⟨S2x16384x2048, .f32⟩
  | .hbm, ⟨73, _⟩ => ⟨S_, .f32⟩
  | .hbm, ⟨74, _⟩ => ⟨S2x16384, .f32⟩
  | .hbm, ⟨75, _⟩ => ⟨S2x16384x1, .f32⟩
  | .hbm, ⟨76, _⟩ => ⟨S_, .f32⟩
  | .hbm, ⟨77, _⟩ => ⟨S2x16384x1, .f32⟩
  | .hbm, ⟨78, _⟩ => ⟨S2x16384x1, .f32⟩
  | .hbm, ⟨79, _⟩ => ⟨S2x16384x2048, .f32⟩
  | .hbm, ⟨80, _⟩ => ⟨S2x16384x2048, .f32⟩
  | .hbm, ⟨81, _⟩ => ⟨S_, .f32⟩
  | .hbm, ⟨82, _⟩ => ⟨S2x16384x1, .f32⟩
  | .hbm, ⟨83, _⟩ => ⟨S2x16384x1, .f32⟩
  | .hbm, ⟨84, _⟩ => ⟨S2x16384x1, .f32⟩
  | .hbm, ⟨85, _⟩ => ⟨S2x16384x2048, .f32⟩
  | .hbm, ⟨86, _⟩ => ⟨S2x16384x2048, .f32⟩
  | .hbm, ⟨87, _⟩ => ⟨S1x1x2048, .f32⟩
  | .hbm, ⟨88, _⟩ => ⟨S2x16384x2048, .f32⟩
  | .hbm, ⟨89, _⟩ => ⟨S2x16384x2048, .f32⟩
  | .hbm, ⟨90, _⟩ => ⟨S1x1x2048, .f32⟩
  | .hbm, ⟨91, _⟩ => ⟨S2x16384x2048, .f32⟩
  | .hbm, ⟨92, _⟩ => ⟨S2x16384x2048, .f32⟩
  | .hbm, ⟨93, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]
-- ==== Kernel3.lean ====
abbrev S32768x2048 : Shape := ⟨2, ![32768, 2048]⟩
abbrev S2x1x2048 : Shape := ⟨3, ![2, 1, 2048]⟩
abbrev S2048x12544 : Shape := ⟨2, ![2048, 12544]⟩
abbrev S1x12544 : Shape := ⟨2, ![1, 12544]⟩
abbrev S2048x128 : Shape := ⟨2, ![2048, 128]⟩
abbrev S1x128 : Shape := ⟨2, ![1, 128]⟩
abbrev S32768x12544 : Shape := ⟨2, ![32768, 12544]⟩
abbrev S32768x128 : Shape := ⟨2, ![32768, 128]⟩
abbrev S1024x2048 : Shape := ⟨2, ![1024, 2048]⟩
abbrev S1x1x2048 : Shape := ⟨3, ![1, 1, 2048]⟩
abbrev S2048x1792 : Shape := ⟨2, ![2048, 1792]⟩
abbrev S1x1792 : Shape := ⟨2, ![1, 1792]⟩
abbrev S1024x1792 : Shape := ⟨2, ![1024, 1792]⟩
abbrev S1024x128 : Shape := ⟨2, ![1024, 128]⟩
abbrev S1024 : Shape := ⟨1, ![1024]⟩
abbrev S1024x1 : Shape := ⟨2, ![1024, 1]⟩
abbrev S1x2048 : Shape := ⟨2, ![1, 2048]⟩
abbrev S2048x256 : Shape := ⟨2, ![2048, 256]⟩
abbrev S1024x256 : Shape := ⟨2, ![1024, 256]⟩

abbrev nBuf : Space → Nat
  | .hbm => 9
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S2x1x2048, .f32⟩
  | .hbm, ⟨2, _⟩ => ⟨S2x1x2048, .f32⟩
  | .hbm, ⟨3, _⟩ => ⟨S2048x12544, .bf16⟩
  | .hbm, ⟨4, _⟩ => ⟨S1x12544, .f32⟩
  | .hbm, ⟨5, _⟩ => ⟨S2048x128, .f32⟩
  | .hbm, ⟨6, _⟩ => ⟨S1x128, .f32⟩
  | .hbm, ⟨7, _⟩ => ⟨S32768x12544, .bf16⟩
  | .hbm, ⟨8, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S2048x1792, .bf16⟩
  | .local _ .vmem, ⟨7, _⟩ => ⟨S2048x1792, .bf16⟩
  | .local _ .vmem, ⟨8, _⟩ => ⟨S1x1792, .f32⟩
  | .local _ .vmem, ⟨9, _⟩ => ⟨S1x1792, .f32⟩
  | .local _ .vmem, ⟨10, _⟩ => ⟨S2048x128, .f32⟩
  | .local _ .vmem, ⟨11, _⟩ => ⟨S1x128, .f32⟩
  | .local _ .vmem, ⟨12, _⟩ => ⟨S1024x1792, .bf16⟩
  | .local _ .vmem, ⟨13, _⟩ => ⟨S1024x1792, .bf16⟩
  | .local _ .vmem, ⟨14, _⟩ => ⟨S1024x128, .f32⟩
  | .local _ .vmem, ⟨15, _⟩ => ⟨S1024x128, .f32⟩
  | .local _ .vmem, ⟨16, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S32768x2048 : Shape := ⟨2, ![32768, 2048]⟩
abbrev S2x1x2048 : Shape := ⟨3, ![2, 1, 2048]⟩
abbrev S2048x12544 : Shape := ⟨2, ![2048, 12544]⟩
abbrev S1x12544 : Shape := ⟨2, ![1, 12544]⟩
abbrev S2048x128 : Shape := ⟨2, ![2048, 128]⟩
abbrev S1x128 : Shape := ⟨2, ![1, 128]⟩
abbrev S2x16384x2048 : Shape := ⟨3, ![2, 16384, 2048]⟩
abbrev S_ : Shape := ⟨0, ![]⟩
abbrev S2x16384 : Shape := ⟨2, ![2, 16384]⟩
abbrev S2x16384x1 : Shape := ⟨3, ![2, 16384, 1]⟩
abbrev S2x16384x12544 : Shape := ⟨3, ![2, 16384, 12544]⟩
abbrev S1x1x12544 : Shape := ⟨3, ![1, 1, 12544]⟩
abbrev S2x16384x128 : Shape := ⟨3, ![2, 16384, 128]⟩
abbrev S1x1x128 : Shape := ⟨3, ![1, 1, 128]⟩
abbrev S32768x12544 : Shape := ⟨2, ![32768, 12544]⟩
abbrev S32768x128 : Shape := ⟨2, ![32768, 128]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2x1x2048, .f32⟩
  | .hbm, ⟨2, _⟩ => ⟨S2x1x2048, .f32⟩
  | .hbm, ⟨3, _⟩ => ⟨S2048x12544, .bf16⟩
  | .hbm, ⟨4, _⟩ => ⟨S1x12544, .f32⟩
  | .hbm, ⟨5, _⟩ => ⟨S2048x128, .f32⟩
  | .hbm, ⟨6, _⟩ => ⟨S1x128, .f32⟩
  | .hbm, ⟨7, _⟩ => ⟨S2x16384x2048, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x2048, .f32⟩
  | .hbm, ⟨15, _⟩ => ⟨S2x16384x2048, .f32⟩
  | .hbm, ⟨16, _⟩ => ⟨S2x16384x2048, .f32⟩
  | .hbm, ⟨17, _⟩ => ⟨S_, .f32⟩
  | .hbm, ⟨18, _⟩ => ⟨S2x16384, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x2048, .f32⟩
  | .hbm, ⟨24, _⟩ => ⟨S2x16384x2048, .f32⟩
  | .hbm, ⟨25, _⟩ => ⟨S_, .f32⟩
  | .hbm, ⟨26, _⟩ => ⟨S2x16384x1, .f32⟩
  | .hbm, ⟨27, _⟩ => ⟨S2x16384x1, .f32⟩
  | .hbm, ⟨28, _⟩ => ⟨S2x16384x1, .f32⟩
  | .hbm, ⟨29, _⟩ => ⟨S2x16384x2048, .f32⟩
  | .hbm, ⟨30, _⟩ => ⟨S2x16384x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S2x16384x2048, .f32⟩
  | .hbm, ⟨38, _⟩ => ⟨S2048x12544, .f32⟩
  | .hbm, ⟨39, _⟩ => ⟨S2x16384x12544, .f32⟩
  | .hbm, ⟨40, _⟩ => ⟨S1x1x12544, .f32⟩
  | .hbm, ⟨41, _⟩ => ⟨S2x16384x12544, .f32⟩
  | .hbm, ⟨42, _⟩ => ⟨S2x16384x12544, .f32⟩
  | .hbm, ⟨43, _⟩ => ⟨S2x16384x128, .f32⟩
  | .hbm, ⟨44, _⟩ => ⟨S1x1x128, .f32⟩
  | .hbm, ⟨45, _⟩ => ⟨S2x16384x128, .f32⟩
  | .hbm, ⟨46, _⟩ => ⟨S2x16384x128, .f32⟩
  | .hbm, ⟨47, _⟩ => ⟨S32768x12544, .f32⟩
  | .hbm, ⟨48, _⟩ => ⟨S32768x12544, .bf16⟩
  | .hbm, ⟨49, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel4.lean ====
abbrev S32768x768 : Shape := ⟨2, ![32768, 768]⟩
abbrev S32768x512 : Shape := ⟨2, ![32768, 512]⟩
abbrev S32768x12544 : Shape := ⟨2, ![32768, 12544]⟩
abbrev S32768x2048 : Shape := ⟨2, ![32768, 2048]⟩
abbrev S2x1x2048 : Shape := ⟨3, ![2, 1, 2048]⟩
abbrev S2048x2048 : Shape := ⟨2, ![2048, 2048]⟩
abbrev S2048 : Shape := ⟨1, ![2048]⟩
abbrev S1x2048 : Shape := ⟨2, ![1, 2048]⟩
abbrev S512x768 : Shape := ⟨2, ![512, 768]⟩
abbrev S512x512 : Shape := ⟨2, ![512, 512]⟩
abbrev S512x6144 : Shape := ⟨2, ![512, 6144]⟩
abbrev S512x2048 : Shape := ⟨2, ![512, 2048]⟩
abbrev S1x1x2048 : Shape := ⟨3, ![1, 1, 2048]⟩
abbrev S256x2048 : Shape := ⟨2, ![256, 2048]⟩
abbrev S256x768 : Shape := ⟨2, ![256, 768]⟩
abbrev S768x2048 : Shape := ⟨2, ![768, 2048]⟩
abbrev S256x512 : Shape := ⟨2, ![256, 512]⟩
abbrev S256 : Shape := ⟨1, ![256]⟩
abbrev S256x1 : Shape := ⟨2, ![256, 1]⟩

abbrev nBuf : Space → Nat
  | .hbm => 13
  | .vmem => 18
  | .smem => 0
  | _ => 0

abbrev bufTy : (tb : Table) → Fin (tcTables nBuf tb) → BufTy
  | .hbm, ⟨0, _⟩ => ⟨S32768x768, .bf16⟩
  | .hbm, ⟨1, _⟩ => ⟨S32768x512, .bf16⟩
  | .hbm, ⟨2, _⟩ => ⟨S32768x768, .bf16⟩
  | .hbm, ⟨3, _⟩ => ⟨S32768x12544, .bf16⟩
  | .hbm, ⟨4, _⟩ => ⟨S32768x2048, .f32⟩
  | .hbm, ⟨5, _⟩ => ⟨S2x1x2048, .f32⟩
  | .hbm, ⟨6, _⟩ => ⟨S2048x2048, .bf16⟩
  | .hbm, ⟨7, _⟩ => ⟨S2048x2048, .bf16⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S32768x2048, .f32⟩
  | .local _ .vmem, ⟨0, _⟩ => ⟨S512x768, .bf16⟩
  | .local _ .vmem, ⟨1, _⟩ => ⟨S512x768, .bf16⟩
  | .local _ .vmem, ⟨2, _⟩ => ⟨S512x512, .bf16⟩
  | .local _ .vmem, ⟨3, _⟩ => ⟨S512x512, .bf16⟩
  | .local _ .vmem, ⟨4, _⟩ => ⟨S512x768, .bf16⟩
  | .local _ .vmem, ⟨5, _⟩ => ⟨S512x768, .bf16⟩
  | .local _ .vmem, ⟨6, _⟩ => ⟨S512x6144, .bf16⟩
  | .local _ .vmem, ⟨7, _⟩ => ⟨S512x6144, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S2048x2048, .bf16⟩
  | .local _ .vmem, ⟨13, _⟩ => ⟨S2048x2048, .bf16⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | _, _ => ⟨S32768x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S32768x768 : Shape := ⟨2, ![32768, 768]⟩
abbrev S32768x512 : Shape := ⟨2, ![32768, 512]⟩
abbrev S32768x12544 : Shape := ⟨2, ![32768, 12544]⟩
abbrev S32768x2048 : Shape := ⟨2, ![32768, 2048]⟩
abbrev S2x1x2048 : Shape := ⟨3, ![2, 1, 2048]⟩
abbrev S2048x2048 : Shape := ⟨2, ![2048, 2048]⟩
abbrev S2048 : Shape := ⟨1, ![2048]⟩
abbrev S2x16384x2048 : Shape := ⟨3, ![2, 16384, 2048]⟩
abbrev S2x16384x768 : Shape := ⟨3, ![2, 16384, 768]⟩
abbrev S2x16384x512 : Shape := ⟨3, ![2, 16384, 512]⟩
abbrev S32768x6144 : Shape := ⟨2, ![32768, 6144]⟩
abbrev S2x16384x6144 : Shape := ⟨3, ![2, 16384, 6144]⟩
abbrev S768x2048 : Shape := ⟨2, ![768, 2048]⟩
abbrev S512x2048 : Shape := ⟨2, ![512, 2048]⟩
abbrev S_ : Shape := ⟨0, ![]⟩
abbrev S2x16384x3x2048 : Shape := ⟨4, ![2, 16384, 3, 2048]⟩
abbrev S2x16384x1x2048 : Shape := ⟨4, ![2, 16384, 1, 2048]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 88
  | .vmem => 0
  | .smem => 0
  | _ => 0

abbrev bufTy : (tb : Table) → Fin (tcTables nBuf tb) → BufTy
  | .hbm, ⟨0, _⟩ => ⟨S32768x768, .bf16⟩
  | .hbm, ⟨1, _⟩ => ⟨S32768x512, .bf16⟩
  | .hbm, ⟨2, _⟩ => ⟨S32768x768, .bf16⟩
  | .hbm, ⟨3, _⟩ => ⟨S32768x12544, .bf16⟩
  | .hbm, ⟨4, _⟩ => ⟨S32768x2048, .f32⟩
  | .hbm, ⟨5, _⟩ => ⟨S2x1x2048, .f32⟩
  | .hbm, ⟨6, _⟩ => ⟨S2048x2048, .bf16⟩
  | .hbm, ⟨7, _⟩ => ⟨S2048x2048, .bf16⟩
  | .hbm, ⟨8, _⟩ => ⟨S2048, .f32⟩
  | .hbm, ⟨9, _⟩ => ⟨S2048, .f32⟩
  | .hbm, ⟨10, _⟩ => ⟨S2x16384x2048, .f32⟩
  | .hbm, ⟨11, _⟩ => ⟨S32768x768, .f32⟩
  | .hbm, ⟨12, _⟩ => ⟨S2x16384x768, .f32⟩
  | .hbm, ⟨13, _⟩ => ⟨S32768x512, .f32⟩
  | .hbm, ⟨14, _⟩ => ⟨S2x16384x512, .f32⟩
  | .hbm, ⟨15, _⟩ => ⟨S32768x768, .f32⟩
  | .hbm, ⟨16, _⟩ => ⟨S2x16384x768, .f32⟩
  | .hbm, ⟨17, _⟩ => ⟨S32768x6144, .bf16⟩
  | .hbm, ⟨18, _⟩ => ⟨S32768x6144, .f32⟩
  | .hbm, ⟨19, _⟩ => ⟨S2x16384x6144, .f32⟩
  | .hbm, ⟨20, _⟩ => ⟨S2048x2048, .f32⟩
  | .hbm, ⟨21, _⟩ => ⟨S768x2048, .f32⟩
  | .hbm, ⟨22, _⟩ => ⟨S512x2048, .f32⟩
  | .hbm, ⟨23, _⟩ => ⟨S768x2048, .f32⟩
  | .hbm, ⟨24, _⟩ => ⟨S2x16384x6144, .f32⟩
  | .hbm, ⟨25, _⟩ => ⟨S2x16384x6144, .f32⟩
  | .hbm, ⟨26, _⟩ => ⟨S_, .f32⟩
  | .hbm, ⟨27, _⟩ => ⟨S2x16384x6144, .f32⟩
  | .hbm, ⟨28, _⟩ => ⟨S2x16384x6144, .f32⟩
  | .hbm, ⟨29, _⟩ => ⟨S_, .f32⟩
  | .hbm, ⟨30, _⟩ => ⟨S2x16384x6144, .f32⟩
  | .hbm, ⟨31, _⟩ => ⟨S2x16384x6144, .f32⟩
  | .hbm, ⟨32, _⟩ => ⟨S2x16384x3x2048, .f32⟩
  | .hbm, ⟨33, _⟩ => ⟨S2x16384x1x2048, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S2x16384x1x2048, .f32⟩
  | .hbm, ⟨38, _⟩ => ⟨S2x16384x2048, .f32⟩
  | .hbm, ⟨39, _⟩ => ⟨S2x16384x2048, .f32⟩
  | .hbm, ⟨40, _⟩ => ⟨S2x16384x2048, .f32⟩
  | .hbm, ⟨41, _⟩ => ⟨S2x16384x2048, .f32⟩
  | .hbm, ⟨42, _⟩ => ⟨S2x16384x1x2048, .f32⟩
  | .hbm, ⟨43, _⟩ => ⟨S2x16384x2048, .f32⟩
  | .hbm, ⟨44, _⟩ => ⟨S2x16384x2048, .f32⟩
  | .hbm, ⟨45, _⟩ => ⟨S2x16384x2048, .f32⟩
  | .hbm, ⟨46, _⟩ => ⟨S2x16384x2048, .f32⟩
  | .hbm, ⟨47, _⟩ => ⟨S2048x2048, .f32⟩
  | .hbm, ⟨48, _⟩ => ⟨S2x16384x2048, .f32⟩
  | .hbm, ⟨49, _⟩ => ⟨S_, .f32⟩
  | .hbm, ⟨50, _⟩ => ⟨S2x16384x2048, .f32⟩
  | .hbm, ⟨51, _⟩ => ⟨S2x16384x2048, .f32⟩
  | .hbm, ⟨52, _⟩ => ⟨S_, .f32⟩
  | .hbm, ⟨53, _⟩ => ⟨S2x1x2048, .f32⟩
  | .hbm, ⟨54, _⟩ => ⟨S2x1x2048, .f32⟩
  | .hbm, ⟨55, _⟩ => ⟨S2x16384x2048, .f32⟩
  | .hbm, ⟨56, _⟩ => ⟨S2x16384x2048, .f32⟩
  | .hbm, ⟨57, _⟩ => ⟨S2x16384x2048, .f32⟩
  | .hbm, ⟨58, _⟩ => ⟨S_, .f32⟩
  | .hbm, ⟨59, _⟩ => ⟨S2x16384, .f32⟩
  | .hbm, ⟨60, _⟩ => ⟨S2x16384x1, .f32⟩
  | .hbm, ⟨61, _⟩ => ⟨S_, .f32⟩
  | .hbm, ⟨62, _⟩ => ⟨S2x16384x1, .f32⟩
  | .hbm, ⟨63, _⟩ => ⟨S2x16384x1, .f32⟩
  | .hbm, ⟨64, _⟩ => ⟨S2x16384x2048, .f32⟩
  | .hbm, ⟨65, _⟩ => ⟨S2x16384x2048, .f32⟩
  | .hbm, ⟨66, _⟩ => ⟨S2x16384x2048, .f32⟩
  | .hbm, ⟨67, _⟩ => ⟨S_, .f32⟩
  | .hbm, ⟨68, _⟩ => ⟨S2x16384, .f32⟩
  | .hbm, ⟨69, _⟩ => ⟨S2x16384x1, .f32⟩
  | .hbm, ⟨70, _⟩ => ⟨S_, .f32⟩
  | .hbm, ⟨71, _⟩ => ⟨S2x16384x1, .f32⟩
  | .hbm, ⟨72, _⟩ => ⟨S2x16384x1, .f32⟩
  | .hbm, ⟨73, _⟩ => ⟨S2x16384x2048, .f32⟩
  | .hbm, ⟨74, _⟩ => ⟨S2x16384x2048, .f32⟩
  | .hbm, ⟨75, _⟩ => ⟨S_, .f32⟩
  | .hbm, ⟨76, _⟩ => ⟨S2x16384x1, .f32⟩
  | .hbm, ⟨77, _⟩ => ⟨S2x16384x1, .f32⟩
  | .hbm, ⟨78, _⟩ => ⟨S2x16384x1, .f32⟩
  | .hbm, ⟨79, _⟩ => ⟨S2x16384x2048, .f32⟩
  | .hbm, ⟨80, _⟩ => ⟨S2x16384x2048, .f32⟩
  | .hbm, ⟨81, _⟩ => ⟨S1x1x2048, .f32⟩
  | .hbm, ⟨82, _⟩ => ⟨S2x16384x2048, .f32⟩
  | .hbm, ⟨83, _⟩ => ⟨S2x16384x2048, .f32⟩
  | .hbm, ⟨84, _⟩ => ⟨S1x1x2048, .f32⟩
  | .hbm, ⟨85, _⟩ => ⟨S2x16384x2048, .f32⟩
  | .hbm, ⟨86, _⟩ => ⟨S2x16384x2048, .f32⟩
  | .hbm, ⟨87, _⟩ => ⟨S32768x2048, .f32⟩
  | _, _ => ⟨S32768x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_1 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel5.lean ====
abbrev S32768x12544 : Shape := ⟨2, ![32768, 12544]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S128x4 : Shape := ⟨2, ![128, 4]⟩
abbrev S32768x512 : Shape := ⟨2, ![32768, 512]⟩
abbrev S512x512 : Shape := ⟨2, ![512, 512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 9
  | .vmem => 10
  | .smem => 0
  | _ => 0

abbrev bufTy : (tb : Table) → Fin (tcTables nBuf tb) → BufTy
  | .hbm, ⟨0, _⟩ => ⟨S32768x12544, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S1x512, .f32⟩
  | .hbm, ⟨7, _⟩ => ⟨S128x4, .f32⟩
  | .hbm, ⟨8, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S512x512, .bf16⟩
  | .local _ .vmem, ⟨9, _⟩ => ⟨S512x512, .bf16⟩
  | _, _ => ⟨S32768x12544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x12544 : Shape := ⟨2, ![32768, 12544]⟩
abbrev S512 : Shape := ⟨1, ![512]⟩
abbrev S4x128x128 : Shape := ⟨3, ![4, 128, 128]⟩
abbrev S4x128 : Shape := ⟨2, ![4, 128]⟩
abbrev S32768x1024 : Shape := ⟨2, ![32768, 1024]⟩
abbrev S2x16384x1024 : Shape := ⟨3, ![2, 16384, 1024]⟩
abbrev S_ : Shape := ⟨0, ![]⟩
abbrev S2x16384x512 : Shape := ⟨3, ![2, 16384, 512]⟩
abbrev S2x16384 : Shape := ⟨2, ![2, 16384]⟩
abbrev S2x16384x1 : Shape := ⟨3, ![2, 16384, 1]⟩
abbrev S1x1x512 : Shape := ⟨3, ![1, 1, 512]⟩
abbrev S2x128x128x4x128 : Shape := ⟨5, ![2, 128, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x2x128x128x128 : Shape := ⟨5, ![4, 2, 128, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S32768x512 : Shape := ⟨2, ![32768, 512]⟩

abbrev nBuf : Space → Nat
  | .hbm => 98
  | .vmem => 0
  | .smem => 0
  | _ => 0

abbrev bufTy : (tb : Table) → Fin (tcTables nBuf tb) → BufTy
  | .hbm, ⟨0, _⟩ => ⟨S32768x12544, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S32768x1024, .bf16⟩
  | .hbm, ⟨6, _⟩ => ⟨S32768x1024, .f32⟩
  | .hbm, ⟨7, _⟩ => ⟨S2x16384x1024, .f32⟩
  | .hbm, ⟨8, _⟩ => ⟨S2x16384x1024, .f32⟩
  | .hbm, ⟨9, _⟩ => ⟨S2x16384x1024, .f32⟩
  | .hbm, ⟨10, _⟩ => ⟨S_, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S_, .f32⟩
  | .hbm, ⟨15, _⟩ => ⟨S2x16384x1024, .f32⟩
  | .hbm, ⟨16, _⟩ => ⟨S2x16384x1024, .f32⟩
  | .hbm, ⟨17, _⟩ => ⟨S2x16384x1024, .f32⟩
  | .hbm, ⟨18, _⟩ => ⟨S_, .f32⟩
  | .hbm, ⟨19, _⟩ => ⟨S2x16384x1024, .f32⟩
  | .hbm, ⟨20, _⟩ => ⟨S2x16384x1024, .f32⟩
  | .hbm, ⟨21, _⟩ => ⟨S_, .f32⟩
  | .hbm, ⟨22, _⟩ => ⟨S2x16384x1024, .f32⟩
  | .hbm, ⟨23, _⟩ => ⟨S2x16384x1024, .f32⟩
  | .hbm, ⟨24, _⟩ => ⟨S2x16384x1024, .f32⟩
  | .hbm, ⟨25, _⟩ => ⟨S2x16384x512, .f32⟩
  | .hbm, ⟨26, _⟩ => ⟨S2x16384x512, .f32⟩
  | .hbm, ⟨27, _⟩ => ⟨S_, .f32⟩
  | .hbm, ⟨28, _⟩ => ⟨S2x16384, .f32⟩
  | .hbm, ⟨29, _⟩ => ⟨S2x16384x1, .f32⟩
  | .hbm, ⟨30, _⟩ => ⟨S_, .f32⟩
  | .hbm, ⟨31, _⟩ => ⟨S2x16384x1, .f32⟩
  | .hbm, ⟨32, _⟩ => ⟨S2x16384x1, .f32⟩
  | .hbm, ⟨33, _⟩ => ⟨S2x16384x512, .f32⟩
  | .hbm, ⟨34, _⟩ => ⟨S2x16384x512, .f32⟩
  | .hbm, ⟨35, _⟩ => ⟨S2x16384x512, .f32⟩
  | .hbm, ⟨36, _⟩ => ⟨S_, .f32⟩
  | .hbm, ⟨37, _⟩ => ⟨S2x16384, .f32⟩
  | .hbm, ⟨38, _⟩ => ⟨S2x16384x1, .f32⟩
  | .hbm, ⟨39, _⟩ => ⟨S_, .f32⟩
  | .hbm, ⟨40, _⟩ => ⟨S2x16384x1, .f32⟩
  | .hbm, ⟨41, _⟩ => ⟨S2x16384x1, .f32⟩
  | .hbm, ⟨42, _⟩ => ⟨S2x16384x512, .f32⟩
  | .hbm, ⟨43, _⟩ => ⟨S2x16384x512, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S2x16384x1, .f32⟩
  | .hbm, ⟨48, _⟩ => ⟨S2x16384x512, .f32⟩
  | .hbm, ⟨49, _⟩ => ⟨S2x16384x512, .f32⟩
  | .hbm, ⟨50, _⟩ => ⟨S1x1x512, .f32⟩
  | .hbm, ⟨51, _⟩ => ⟨S2x16384x512, .f32⟩
  | .hbm, ⟨52, _⟩ => ⟨S2x16384x512, .f32⟩
  | .hbm, ⟨53, _⟩ => ⟨S1x1x512, .f32⟩
  | .hbm, ⟨54, _⟩ => ⟨S2x16384x512, .f32⟩
  | .hbm, ⟨55, _⟩ => ⟨S2x16384x512, .f32⟩
  | .hbm, ⟨56, _⟩ => ⟨S2x128x128x4x128, .f32⟩
  | .hbm, ⟨57, _⟩ => ⟨S128, .i32⟩
  | .hbm, ⟨58, _⟩ => ⟨S_, .i32⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S128, .i32⟩
  | .hbm, ⟨63, _⟩ => ⟨S_, .i32⟩
  | .hbm, ⟨64, _⟩ => ⟨S128, .i32⟩
  | .hbm, ⟨65, _⟩ => ⟨S128, .i1⟩
  | .hbm, ⟨66, _⟩ => ⟨S128, .i32⟩
  | .hbm, ⟨67, _⟩ => ⟨S128, .i32⟩
  | .hbm, ⟨68, _⟩ => ⟨S_, .i32⟩
  | .hbm, ⟨69, _⟩ => ⟨S128, .i32⟩
  | .hbm, ⟨70, _⟩ => ⟨S128, .i1⟩
  | .hbm, ⟨71, _⟩ => ⟨S128, .i1⟩
  | .hbm, ⟨72, _⟩ => ⟨S_, .i32⟩
  | .hbm, ⟨73, _⟩ => ⟨S128, .i32⟩
  | .hbm, ⟨74, _⟩ => ⟨S128, .i32⟩
  | .hbm, ⟨75, _⟩ => ⟨S128, .i32⟩
  | .hbm, ⟨76, _⟩ => ⟨S128x1, .i32⟩
  | .hbm, ⟨77, _⟩ => ⟨S1x128, .i32⟩
  | .hbm, ⟨78, _⟩ => ⟨S128x128, .i32⟩
  | .hbm, ⟨79, _⟩ => ⟨S128x128, .i32⟩
  | .hbm, ⟨80, _⟩ => ⟨S128x128, .i1⟩
  | .hbm, ⟨81, _⟩ => ⟨S1x128x128, .i1⟩
  | .hbm, ⟨82, _⟩ => ⟨S_, .i32⟩
  | .hbm, ⟨83, _⟩ => ⟨S_, .f32⟩
  | .hbm, ⟨84, _⟩ => ⟨S4x128x128, .i1⟩
  | .hbm, ⟨85, _⟩ => ⟨S4x128x128, .f32⟩
  | .hbm, ⟨86, _⟩ => ⟨S4x128x128, .f32⟩
  | .hbm, ⟨87, _⟩ => ⟨S4x2x128x128x128, .f32⟩
  | .hbm, ⟨88, _⟩ => ⟨S2x128x128x4x128, .f32⟩
  | .hbm, ⟨89, _⟩ => ⟨S128x4, .f32⟩
  | .hbm, ⟨90, _⟩ => ⟨S128x4x1, .f32⟩
  | .hbm, ⟨91, _⟩ => ⟨S1x1x128x4x1, .f32⟩
  | .hbm, ⟨92, _⟩ => ⟨S2x128x128x4x128, .f32⟩
  | .hbm, ⟨93, _⟩ => ⟨S2x128x128x4x128, .f32⟩
  | .hbm, ⟨94, _⟩ => ⟨S2x16384x512, .f32⟩
  | .hbm, ⟨95, _⟩ => ⟨S2x16384x512, .f32⟩
  | .hbm, ⟨96, _⟩ => ⟨S32768x512, .f32⟩
  | .hbm, ⟨97, _⟩ => ⟨S32768x512, .bf16⟩
  | _, _ => ⟨S32768x12544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_c : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_0 : Ref sig .tc := ⟨.hbm, 72, rfl⟩
abbrev main_call0_v12 : Ref sig .tc := ⟨.hbm, 73, rfl⟩
abbrev main_call0_v13 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_8 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩

abbrev nD : Nat := 1
abbrev τ : Topo := Topo.v7x

variable {F : FTy → Type} [FloatOps F]
-- ==== Kernel6.lean ====
abbrev S2x2048 : Shape := ⟨2, ![2, 2048]⟩
abbrev S2x2048x12288 : Shape := ⟨3, ![2, 2048, 12288]⟩
abbrev S2x12288 : Shape := ⟨2, ![2, 12288]⟩
abbrev S_ : Shape := ⟨0, ![]⟩
abbrev S2048x128 : Shape := ⟨2, ![2048, 128]⟩
abbrev S2048x2 : Shape := ⟨2, ![2048, 2]⟩
abbrev S1 : Shape := ⟨1, ![1]⟩
abbrev S2x1x12288 : Shape := ⟨3, ![2, 1, 12288]⟩
abbrev S2x2x12288 : Shape := ⟨3, ![2, 2, 12288]⟩
abbrev S1x2048x2048 : Shape := ⟨3, ![1, 2048, 2048]⟩
abbrev S1x1x2048 : Shape := ⟨3, ![1, 1, 2048]⟩
abbrev S1x2x2048 : Shape := ⟨3, ![1, 2, 2048]⟩
abbrev S2048x2048 : Shape := ⟨2, ![2048, 2048]⟩
abbrev S2048x1 : Shape := ⟨2, ![2048, 1]⟩
abbrev S2048 : Shape := ⟨1, ![2048]⟩
abbrev S1x2048 : Shape := ⟨2, ![1, 2048]⟩

abbrev nBuf : Space → Nat
  | .hbm => 11
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048x12288, .f32⟩
  | .hbm, ⟨2, _⟩ => ⟨S2x12288, .f32⟩
  | .hbm, ⟨3, _⟩ => ⟨S_, .f32⟩
  | .hbm, ⟨4, _⟩ => ⟨S2048x128, .f32⟩
  | .hbm, ⟨5, _⟩ => ⟨S2048x2, .f32⟩
  | .hbm, ⟨6, _⟩ => ⟨S_, .i32⟩
  | .hbm, ⟨7, _⟩ => ⟨S1, .i32⟩
  | .hbm, ⟨8, _⟩ => ⟨S2048x128, .f32⟩
  | .hbm, ⟨9, _⟩ => ⟨S2x1x12288, .f32⟩
  | .hbm, ⟨10, _⟩ => ⟨S2x2x12288, .f32⟩
  | .local _ .vmem, ⟨0, _⟩ => ⟨S2048x128, .f32⟩
  | .local _ .vmem, ⟨1, _⟩ => ⟨S1x2048x2048, .f32⟩
  | .local _ .vmem, ⟨2, _⟩ => ⟨S1x2048x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x2x2048, .f32⟩
  | .local _ .vmem, ⟨6, _⟩ => ⟨S1x2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x2048 : Shape := ⟨2, ![2, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S1x12288 : Shape := ⟨2, ![1, 12288]⟩
abbrev S12288 : Shape := ⟨1, ![12288]⟩
abbrev S1x2x12288 : Shape := ⟨3, ![1, 2, 12288]⟩
abbrev S2x2x12288 : Shape := ⟨3, ![2, 2, 12288]⟩

abbrev nBuf : Space → Nat
  | .hbm => 40
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048x12288, .f32⟩
  | .hbm, ⟨2, _⟩ => ⟨S2x12288, .f32⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S1x2048x12288, .f32⟩
  | .hbm, ⟨13, _⟩ => ⟨S2048x12288, .f32⟩
  | .hbm, ⟨14, _⟩ => ⟨S2x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S2x12288, .f32⟩
  | .hbm, ⟨19, _⟩ => ⟨S2x12288, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S_, .f32⟩
  | .hbm, ⟨26, _⟩ => ⟨S2x2048, .f32⟩
  | .hbm, ⟨27, _⟩ => ⟨S2x2048, .f32⟩
  | .hbm, ⟨28, _⟩ => ⟨S2x2048, .f32⟩
  | .hbm, ⟨29, _⟩ => ⟨S1x2048x12288, .f32⟩
  | .hbm, ⟨30, _⟩ => ⟨S2048x12288, .f32⟩
  | .hbm, ⟨31, _⟩ => ⟨S2x12288, .f32⟩
  | .hbm, ⟨32, _⟩ => ⟨S1x12288, .f32⟩
  | .hbm, ⟨33, _⟩ => ⟨S12288, .f32⟩
  | .hbm, ⟨34, _⟩ => ⟨S1x12288, .f32⟩
  | .hbm, ⟨35, _⟩ => ⟨S2x12288, .f32⟩
  | .hbm, ⟨36, _⟩ => ⟨S2x12288, .f32⟩
  | .hbm, ⟨37, _⟩ => ⟨S1x2x12288, .f32⟩
  | .hbm, ⟨38, _⟩ => ⟨S1x2x12288, .f32⟩
  | .hbm, ⟨39, _⟩ => ⟨S2x2x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.Ref.lean ====
module

public import proofs.«01_k».proof.ReferenceIdeal
public import proofs.«01_k».proof.Pre_finite
public import Idealize.ShloMosaic.Lib.StableHlo.RunHlo
public import Idealize.ShloMosaic.Lib.Quiescent
public import Idealize.ShloMosaic.Lib.Claim

/-!
# The reference's run

The reference is a straight line of host operations: its result is their composition, named stage by stage.
-/

@[expose] public section

set_option maxRecDepth 16384

noncomputable section

instance Cert.Pre_finite.facts : Cert.Pre_finite.Facts where
  slices_S32768x12544_S32768x1536_0_10240 := by decide
  bitsLt_bf16_f32 := by decide
  bcast_S_S32768x1536 := by decide
  reducesTo_S32768x1536_S_d0_1 := by decide
  h_S_ := by decide
  bcast_S_S32768x768 := by decide
  reducesTo_S32768x768_S_d0_1 := by decide

namespace Cert.ReferenceIdeal.Ref

open Cert.ReferenceIdeal Idealize.ShloMosaic Idealize.ShloMosaic.TcCoe Idealize.ShloMosaic.StableHlo Idealize.SL.Sem

instance facts₀ : Facts₀ where
  slices_S32768x12544_S32768x768_0_10240 := by decide
  bitsLt_bf16_f32 := by decide
  shapeCasts_S32768x768_S2x16384x6x128 := by decide
  transposes_S2x16384x6x128_S2x6x16384x128_0_2_1_3 := by decide
  slices_S32768x12544_S32768x768_0_11008 := by decide
  slices_S32768x12544_S32768x768_0_11776 := by decide
  bcast_S16384_S1x16384_1 := by decide
  bcast_S16384_S16384x1_0 := by decide
  bcast_S1x16384_S16384x16384_0_1 := by decide
  bcast_S16384x1_S16384x16384_0_1 := by decide
  bcast_S16384x16384_S2x6x16384x16384_2_3 := by decide
  bcast_S_S2x6x16384x16384 := by decide
  reducesTo_S2x6x16384x16384_S2x6x16384_d3 := by decide
  h_S_ := by decide
  bcast_S2x6x16384_S2x6x16384x1_0_1_2 := by decide
  bcast_S2x6x16384x1_S2x6x16384x16384_0_1_2_3 := by decide
  transposes_S2x6x16384x128_S2x16384x6x128_0_2_1_3 := by decide
  shapeCasts_S2x16384x6x128_S32768x768 := by decide
  dot_S2x6x16384x128_S2x6x16384x128_S2x6x16384x16384_3_3_2_2_01_01_wf := by decide
  dot_S2x6x16384x16384_S2x6x16384x128_S2x6x16384x128_3_2_2_3_01_01_wf := by decide
instance facts : Facts where

open Facts₀ Facts

variable {F : FTy → Type} [FloatOps F]

/-! ## The stages -/

/-- One array's heads. -/
def heads (x : FVec F S32768x768 .bf16) : FVec F S2x6x16384x128 .f32 :=
  transpose S2x6x16384x128 [0, 2, 1, 3] (shapeCast S2x16384x6x128 (extf .f32 x bitsLt_bf16_f32) shapeCasts_S32768x768_S2x16384x6x128) transposes_S2x16384x6x128_S2x6x16384x128_0_2_1_3
/-- The queries, keys and values among the projections. -/
def colsQ (x : FVec F S32768x12544 .bf16) : FVec F S32768x768 .bf16 := extractStridedSlice S32768x768 ![0, 10240] x slices_S32768x12544_S32768x768_0_10240
def colsK (x : FVec F S32768x12544 .bf16) : FVec F S32768x768 .bf16 := extractStridedSlice S32768x768 ![0, 11008] x slices_S32768x12544_S32768x768_0_11008
def colsV (x : FVec F S32768x12544 .bf16) : FVec F S32768x768 .bf16 := extractStridedSlice S32768x768 ![0, 11776] x slices_S32768x12544_S32768x768_0_11776
/-- The products of queries and keys. -/
def prods (a b : FVec F S2x6x16384x128 .f32) : FVec F S2x6x16384x16384 .f32 :=
  Host.dotGeneral dot_S2x6x16384x128_S2x6x16384x128_S2x6x16384x16384_3_3_2_2_01_01 none a b
def logits (proj : FVec F S32768x12544 .bf16) (eq ek : FVec F S32768x768 .bf16) : FVec F S2x6x16384x16384 .f32 :=
  addf (prods (heads (colsQ proj)) (heads (colsK proj))) (prods (heads eq) (heads ek))
/-- Which keys come no later than which queries. -/
def causal : IVec S16384x16384 1 :=
  cmpi .sle (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0)))
def masked (l : FVec F S2x6x16384x16384 .f32) : FVec F S2x6x16384x16384 .f32 :=
  select (broadcastInDim S2x6x16384x16384 ![2, 3] bcast_S16384x16384_S2x6x16384x16384_2_3 causal) l
    (broadcastInDim S2x6x16384x16384 ![] bcast_S_S2x6x16384x16384 (constant S_ .f32 0xFF800000#32))
/-- A number per query, at every key. -/
def spread (x : FVec F S2x6x16384 .f32) : FVec F S2x6x16384x16384 .f32 :=
  broadcastInDim S2x6x16384x16384 ![0, 1, 2, 3] bcast_S2x6x16384x1_S2x6x16384x16384_0_1_2_3 (broadcastInDim S2x6x16384x1 ![0, 1, 2] bcast_S2x6x16384_S2x6x16384x1_0_1_2 x)
def peaks (l : FVec F S2x6x16384x16384 .f32) : FVec F S2x6x16384 .f32 :=
  Host.reduce FloatOps.maximumf l (constant S_ .f32 0xFF800000#32) reducesTo_S2x6x16384x16384_S2x6x16384_d3 h_S_
def powers (l : FVec F S2x6x16384x16384 .f32) : FVec F S2x6x16384x16384 .f32 :=
  Host.powf (broadcastInDim S2x6x16384x16384 ![] bcast_S_S2x6x16384x16384 (constant S_ .f32 0x40000000#32)) (subf l (spread (peaks l)))
def totals (p : FVec F S2x6x16384x16384 .f32) : FVec F S2x6x16384 .f32 :=
  Host.reduceAdd p (constant S_ .f32 0x00000000#32) reducesTo_S2x6x16384x16384_S2x6x16384_d3 h_S_
def weights (p : FVec F S2x6x16384x16384 .f32) : FVec F S2x6x16384x16384 .f32 :=
  extf .f32 (truncf .bf16 (Host.divf p (spread (totals p))) bitsLt_bf16_f32) bitsLt_bf16_f32
def mixed (w : FVec F S2x6x16384x16384 .f32) (v : FVec F S2x6x16384x128 .f32) : FVec F S2x6x16384x128 .f32 :=
  Host.dotGeneral dot_S2x6x16384x16384_S2x6x16384x128_S2x6x16384x128_3_2_2_3_01_01 none w v
def unheads (o : FVec F S2x6x16384x128 .f32) : FVec F S32768x768 .bf16 :=
  truncf .bf16 (shapeCast S32768x768 (transpose S2x16384x6x128 [0, 2, 1, 3] o transposes_S2x6x16384x128_S2x16384x6x128_0_2_1_3) shapeCasts_S2x16384x6x128_S32768x768) bitsLt_bf16_f32
/-- The reference's result. -/
def out (proj : FVec F S32768x12544 .bf16) (eq ek : FVec F S32768x768 .bf16) : FVec F S32768x768 .bf16 :=
  unheads (mixed (weights (powers (masked (logits proj eq ek)))) (heads (colsV proj)))

/-! ## The run -/

/-- The operations, in order. -/
abbrev ops : List (HloOp τ sig (Elt F)) :=
  [ unary main_arg0 main_v0 ((extractStridedSlice S32768x768 ![0, 10240] · slices_S32768x12544_S32768x768_0_10240) : (⟨S32768x12544, .bf16⟩ : BufTy).Contents (Elt F) → (⟨S32768x768, .bf16⟩ : BufTy).Contents (Elt F)),
    unary main_v0 main_v1 ((extf .f32 · bitsLt_bf16_f32) : (⟨S32768x768, .bf16⟩ : BufTy).Contents (Elt F) → (⟨S32768x768, .f32⟩ : BufTy).Contents (Elt F)),
    reshape main_v1 main_v2 (rfl : (.f32 : EltTy) = .f32) shapeCasts_S32768x768_S2x16384x6x128,
    unary main_v2 main_v3 ((transpose S2x6x16384x128 [0, 2, 1, 3] · transposes_S2x16384x6x128_S2x6x16384x128_0_2_1_3) : (⟨S2x16384x6x128, .f32⟩ : BufTy).Contents (Elt F) → (⟨S2x6x16384x128, .f32⟩ : BufTy).Contents (Elt F)),
    unary main_arg0 main_v4 ((extractStridedSlice S32768x768 ![0, 11008] · slices_S32768x12544_S32768x768_0_11008) : (⟨S32768x12544, .bf16⟩ : BufTy).Contents (Elt F) → (⟨S32768x768, .bf16⟩ : BufTy).Contents (Elt F)),
    unary main_v4 main_v5 ((extf .f32 · bitsLt_bf16_f32) : (⟨S32768x768, .bf16⟩ : BufTy).Contents (Elt F) → (⟨S32768x768, .f32⟩ : BufTy).Contents (Elt F)),
    reshape main_v5 main_v6 (rfl : (.f32 : EltTy) = .f32) shapeCasts_S32768x768_S2x16384x6x128,
    unary main_v6 main_v7 ((transpose S2x6x16384x128 [0, 2, 1, 3] · transposes_S2x16384x6x128_S2x6x16384x128_0_2_1_3) : (⟨S2x16384x6x128, .f32⟩ : BufTy).Contents (Elt F) → (⟨S2x6x16384x128, .f32⟩ : BufTy).Contents (Elt F)),
    unary main_arg0 main_v8 ((extractStridedSlice S32768x768 ![0, 11776] · slices_S32768x12544_S32768x768_0_11776) : (⟨S32768x12544, .bf16⟩ : BufTy).Contents (Elt F) → (⟨S32768x768, .bf16⟩ : BufTy).Contents (Elt F)),
    unary main_v8 main_v9 ((extf .f32 · bitsLt_bf16_f32) : (⟨S32768x768, .bf16⟩ : BufTy).Contents (Elt F) → (⟨S32768x768, .f32⟩ : BufTy).Contents (Elt F)),
    reshape main_v9 main_v10 (rfl : (.f32 : EltTy) = .f32) shapeCasts_S32768x768_S2x16384x6x128,
    unary main_v10 main_v11 ((transpose S2x6x16384x128 [0, 2, 1, 3] · transposes_S2x16384x6x128_S2x6x16384x128_0_2_1_3) : (⟨S2x16384x6x128, .f32⟩ : BufTy).Contents (Elt F) → (⟨S2x6x16384x128, .f32⟩ : BufTy).Contents (Elt F)),
    binary main_v3 main_v7 main_v12 ((fun l r => Host.dotGeneral dot_S2x6x16384x128_S2x6x16384x128_S2x6x16384x16384_3_3_2_2_01_01 none l r) : (⟨S2x6x16384x128, .f32⟩ : BufTy).Contents (Elt F) → (⟨S2x6x16384x128, .f32⟩ : BufTy).Contents (Elt F) → (⟨S2x6x16384x16384, .f32⟩ : BufTy).Contents (Elt F)),
    unary main_arg1 main_v13 ((extf .f32 · bitsLt_bf16_f32) : (⟨S32768x768, .bf16⟩ : BufTy).Contents (Elt F) → (⟨S32768x768, .f32⟩ : BufTy).Contents (Elt F)),
    reshape main_v13 main_v14 (rfl : (.f32 : EltTy) = .f32) shapeCasts_S32768x768_S2x16384x6x128,
    unary main_v14 main_v15 ((transpose S2x6x16384x128 [0, 2, 1, 3] · transposes_S2x16384x6x128_S2x6x16384x128_0_2_1_3) : (⟨S2x16384x6x128, .f32⟩ : BufTy).Contents (Elt F) → (⟨S2x6x16384x128, .f32⟩ : BufTy).Contents (Elt F)),
    unary main_arg2 main_v16 ((extf .f32 · bitsLt_bf16_f32) : (⟨S32768x768, .bf16⟩ : BufTy).Contents (Elt F) → (⟨S32768x768, .f32⟩ : BufTy).Contents (Elt F)),
    reshape main_v16 main_v17 (rfl : (.f32 : EltTy) = .f32) shapeCasts_S32768x768_S2x16384x6x128,
    unary main_v17 main_v18 ((transpose S2x6x16384x128 [0, 2, 1, 3] · transposes_S2x16384x6x128_S2x6x16384x128_0_2_1_3) : (⟨S2x16384x6x128, .f32⟩ : BufTy).Contents (Elt F) → (⟨S2x6x16384x128, .f32⟩ : BufTy).Contents (Elt F)),
    binary main_v15 main_v18 main_v19 ((fun l r => Host.dotGeneral dot_S2x6x16384x128_S2x6x16384x128_S2x6x16384x16384_3_3_2_2_01_01 none l r) : (⟨S2x6x16384x128, .f32⟩ : BufTy).Contents (Elt F) → (⟨S2x6x16384x128, .f32⟩ : BufTy).Contents (Elt F) → (⟨S2x6x16384x16384, .f32⟩ : BufTy).Contents (Elt F)),
    binary main_v12 main_v19 main_v20 (addf : (⟨S2x6x16384x16384, .f32⟩ : BufTy).Contents (Elt F) → (⟨S2x6x16384x16384, .f32⟩ : BufTy).Contents (Elt F) → (⟨S2x6x16384x16384, .f32⟩ : BufTy).Contents (Elt F)),
    nullary main_v21 (iotaInDim S16384 32 0),
    unary main_v21 main_v22 (broadcastInDim S1x16384 ![1] bcast_S16384_S1x16384_1 : (⟨S16384, .i32⟩ : BufTy).Contents (Elt F) → (⟨S1x16384, .i32⟩ : BufTy).Contents (Elt F)),
    unary main_v21 main_v23 (broadcastInDim S16384x1 ![0] bcast_S16384_S16384x1_0 : (⟨S16384, .i32⟩ : BufTy).Contents (Elt F) → (⟨S16384x1, .i32⟩ : BufTy).Contents (Elt F)),
    unary main_v22 main_v24 (broadcastInDim S16384x16384 ![0, 1] bcast_S1x16384_S16384x16384_0_1 : (⟨S1x16384, .i32⟩ : BufTy).Contents (Elt F) → (⟨S16384x16384, .i32⟩ : BufTy).Contents (Elt F)),
    unary main_v23 main_v25 (broadcastInDim S16384x16384 ![0, 1] bcast_S16384x1_S16384x16384_0_1 : (⟨S16384x1, .i32⟩ : BufTy).Contents (Elt F) → (⟨S16384x16384, .i32⟩ : BufTy).Contents (Elt F)),
    binary main_v24 main_v25 main_v26 (cmpi .sle : (⟨S16384x16384, .i32⟩ : BufTy).Contents (Elt F) → (⟨S16384x16384, .i32⟩ : BufTy).Contents (Elt F) → (⟨S16384x16384, .i1⟩ : BufTy).Contents (Elt F)),
    nullary main_cst (constant S_ .f32 0xFF800000#32),
    TRef.unary (.of main_cst : TRef sig ⟨S_, .f32⟩) main_call0.v0 id,
    TRef.unary (.of main_v26 : TRef sig ⟨S16384x16384, .i1⟩) main_call0.v1 (broadcastInDim S2x6x16384x16384 ![2, 3] bcast_S16384x16384_S2x6x16384x16384_2_3),
    TRef.unary main_call0.v0 main_call0.v2 (broadcastInDim S2x6x16384x16384 ![] bcast_S_S2x6x16384x16384),
    TRef.ternary main_call0.v1 (.of main_v20 : TRef sig ⟨S2x6x16384x16384, .f32⟩) main_call0.v2 main_call0.v3 select,
    nullary main_cst_0 (constant S_ .f32 0xFF800000#32),
    binary main_v27 main_cst_0 main_v28 ((fun x v => Host.reduce FloatOps.maximumf x v reducesTo_S2x6x16384x16384_S2x6x16384_d3 h_S_) : (⟨S2x6x16384x16384, .f32⟩ : BufTy).Contents (Elt F) → (⟨S_, .f32⟩ : BufTy).Contents (Elt F) → (⟨S2x6x16384, .f32⟩ : BufTy).Contents (Elt F)),
    unary main_v28 main_v29 (broadcastInDim S2x6x16384x1 ![0, 1, 2] bcast_S2x6x16384_S2x6x16384x1_0_1_2 : (⟨S2x6x16384, .f32⟩ : BufTy).Contents (Elt F) → (⟨S2x6x16384x1, .f32⟩ : BufTy).Contents (Elt F)),
    unary main_v29 main_v30 (broadcastInDim S2x6x16384x16384 ![0, 1, 2, 3] bcast_S2x6x16384x1_S2x6x16384x16384_0_1_2_3 : (⟨S2x6x16384x1, .f32⟩ : BufTy).Contents (Elt F) → (⟨S2x6x16384x16384, .f32⟩ : BufTy).Contents (Elt F)),
    binary main_v27 main_v30 main_v31 (subf : (⟨S2x6x16384x16384, .f32⟩ : BufTy).Contents (Elt F) → (⟨S2x6x16384x16384, .f32⟩ : BufTy).Contents (Elt F) → (⟨S2x6x16384x16384, .f32⟩ : BufTy).Contents (Elt F)),
    nullary main_cst_1 (constant S_ .f32 0x40000000#32),
    unary main_cst_1 main_v32 (broadcastInDim S2x6x16384x16384 ![] bcast_S_S2x6x16384x16384 : (⟨S_, .f32⟩ : BufTy).Contents (Elt F) → (⟨S2x6x16384x16384, .f32⟩ : BufTy).Contents (Elt F)),
    binary main_v32 main_v31 main_v33 (Host.powf : (⟨S2x6x16384x16384, .f32⟩ : BufTy).Contents (Elt F) → (⟨S2x6x16384x16384, .f32⟩ : BufTy).Contents (Elt F) → (⟨S2x6x16384x16384, .f32⟩ : BufTy).Contents (Elt F)),
    nullary main_cst_2 (constant S_ .f32 0x00000000#32),
    binary main_v33 main_cst_2 main_v34 ((fun x v => Host.reduceAdd x v reducesTo_S2x6x16384x16384_S2x6x16384_d3 h_S_) : (⟨S2x6x16384x16384, .f32⟩ : BufTy).Contents (Elt F) → (⟨S_, .f32⟩ : BufTy).Contents (Elt F) → (⟨S2x6x16384, .f32⟩ : BufTy).Contents (Elt F)),
    unary main_v34 main_v35 (broadcastInDim S2x6x16384x1 ![0, 1, 2] bcast_S2x6x16384_S2x6x16384x1_0_1_2 : (⟨S2x6x16384, .f32⟩ : BufTy).Contents (Elt F) → (⟨S2x6x16384x1, .f32⟩ : BufTy).Contents (Elt F)),
    unary main_v35 main_v36 (broadcastInDim S2x6x16384x16384 ![0, 1, 2, 3] bcast_S2x6x16384x1_S2x6x16384x16384_0_1_2_3 : (⟨S2x6x16384x1, .f32⟩ : BufTy).Contents (Elt F) → (⟨S2x6x16384x16384, .f32⟩ : BufTy).Contents (Elt F)),
    binary main_v33 main_v36 main_v37 (Host.divf : (⟨S2x6x16384x16384, .f32⟩ : BufTy).Contents (Elt F) → (⟨S2x6x16384x16384, .f32⟩ : BufTy).Contents (Elt F) → (⟨S2x6x16384x16384, .f32⟩ : BufTy).Contents (Elt F)),
    unary main_v37 main_v38 ((truncf .bf16 · bitsLt_bf16_f32) : (⟨S2x6x16384x16384, .f32⟩ : BufTy).Contents (Elt F) → (⟨S2x6x16384x16384, .bf16⟩ : BufTy).Contents (Elt F)),
    unary main_v38 main_v39 ((extf .f32 · bitsLt_bf16_f32) : (⟨S2x6x16384x16384, .bf16⟩ : BufTy).Contents (Elt F) → (⟨S2x6x16384x16384, .f32⟩ : BufTy).Contents (Elt F)),
    binary main_v39 main_v11 main_v40 ((fun l r => Host.dotGeneral dot_S2x6x16384x16384_S2x6x16384x128_S2x6x16384x128_3_2_2_3_01_01 none l r) : (⟨S2x6x16384x16384, .f32⟩ : BufTy).Contents (Elt F) → (⟨S2x6x16384x128, .f32⟩ : BufTy).Contents (Elt F) → (⟨S2x6x16384x128, .f32⟩ : BufTy).Contents (Elt F)),
    unary main_v40 main_v41 ((transpose S2x16384x6x128 [0, 2, 1, 3] · transposes_S2x6x16384x128_S2x16384x6x128_0_2_1_3) : (⟨S2x6x16384x128, .f32⟩ : BufTy).Contents (Elt F) → (⟨S2x16384x6x128, .f32⟩ : BufTy).Contents (Elt F)),
    reshape main_v41 main_v42 (rfl : (.f32 : EltTy) = .f32) shapeCasts_S2x16384x6x128_S32768x768,
    unary main_v42 main_v43 ((truncf .bf16 · bitsLt_bf16_f32) : (⟨S32768x768, .f32⟩ : BufTy).Contents (Elt F) → (⟨S32768x768, .bf16⟩ : BufTy).Contents (Elt F)) ]

theorem main_eq (c : Dev nD) : main (F := F) c = seq ops := rfl

theorem result_eq (V : Valuation τ sig (Elt F)) :
    after ops V (main_v43 : DevRef τ sig) = out (V (main_arg0 : DevRef τ sig)) (V (main_arg1 : DevRef τ sig)) (V (main_arg2 : DevRef τ sig)) := by
  after_results
  rfl
theorem arg0_eq (V : Valuation τ sig (Elt F)) : after ops V (main_arg0 : DevRef τ sig) = V (main_arg0 : DevRef τ sig) := by after_results
theorem arg1_eq (V : Valuation τ sig (Elt F)) : after ops V (main_arg1 : DevRef τ sig) = V (main_arg1 : DevRef τ sig) := by after_results
theorem arg2_eq (V : Valuation τ sig (Elt F)) : after ops V (main_arg2 : DevRef τ sig) = V (main_arg2 : DevRef τ sig) := by after_results

theorem no_refs : (Finset.univ.filter fun b : Ref sig .tc => b.isScoped) = ∅ := by decide
theorem no_sems : (Finset.univ.filter fun sm : SemLoc sig => sm.isScoped .tc) = ∅ := by decide

theorem ops_sub : (ops : List (HloOp τ sig (Elt F))).Forall fun op => op.bufs ⊆ tcRefs τ sig := by
  exact ⟨unary_bufs_sub .., unary_bufs_sub .., reshape_bufs_sub .., unary_bufs_sub .., unary_bufs_sub .., unary_bufs_sub .., reshape_bufs_sub .., unary_bufs_sub .., unary_bufs_sub .., unary_bufs_sub .., reshape_bufs_sub .., unary_bufs_sub .., binary_bufs_sub .., unary_bufs_sub .., reshape_bufs_sub .., unary_bufs_sub .., unary_bufs_sub .., reshape_bufs_sub .., unary_bufs_sub .., binary_bufs_sub .., binary_bufs_sub .., nullary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., unary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., unary_bufs_sub .., binary_bufs_sub .., unary_bufs_sub .., reshape_bufs_sub .., unary_bufs_sub ..⟩

theorem ops_fresh : ∀ op ∈ (ops : List (HloOp τ sig (Elt F))), op.fresh = ∅ := by
  intro _ h; (repeat (cases h with | head => rfl | tail _ h => ?_)); exact nomatch h

theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v43)
          = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  θ_run_mono (run_seq no_refs no_sems defs main (fun _ => ops) main_eq (fun _ => ops_sub) m ρ (fun _ => ops_fresh)) (fun r h => ⟨fun c => ⟨(h c main_v43).trans (result_eq _), (h c main_arg0).trans (arg0_eq _),
      (h c main_arg1).trans (arg1_eq _), (h c main_arg2).trans (arg2_eq _)⟩, sem_eq_zero_of_no_sems (by decide) r.2⟩)

end Cert.ReferenceIdeal.Ref
-- ==== Proof.Canon.lean ====
module

public import proofs.«01_k».proof.Proof.Gen.KernelIdeal.Skeleton
public import Idealize.ShloMosaic.Lib.Pipeline.Value
public import Idealize.ShloMosaic.Lib.Pointwise

/-!
# The attention body's arithmetic, by name

The attention kernel works on one head at a time with the scores laid out keys × queries. This module names the few
vector operations it is made of — the score product, the running maximum, the rescaling, the accumulation — and says
of every value the printed body stores or carries which combination of them it is.
-/

@[expose] public section

set_option maxRecDepth 16384

noncomputable section

namespace Cert.KernelIdeal.Gen

open Idealize.ShloMosaic Idealize.ShloMosaic.TcCoe

variable {F : FTy → Type} [FloatOps F]

/-! ## Changes of shape between a buffer's slice and the matrix it holds -/

def row (x : FVec F S1024 .f32) : FVec F S1x1024 .f32 := shapeCast S1x1024 x shapeCasts_S1024_S1x1024
def up3 (x : FVec F S1x1024 .f32) : FVec F S1x1x1024 .f32 := shapeCast S1x1x1024 x shapeCasts_S1x1024_S1x1x1024
def dn3 (x : FVec F S1x1x1024 .f32) : FVec F S1x1024 .f32 := shapeCast S1x1024 x shapeCasts_S1x1x1024_S1x1024
def accU (x : FVec F S144x1024 .f32) : FVec F S1x144x1024 .f32 := shapeCast S1x144x1024 x shapeCasts_S144x1024_S1x144x1024
def accD (x : FVec F S1x144x1024 .f32) : FVec F S144x1024 .f32 := shapeCast S144x1024 x shapeCasts_S1x144x1024_S144x1024
def scU (x : FVec F S512x1024 .f32) : FVec F S1x1x512x1024 .f32 := shapeCast S1x1x512x1024 x shapeCasts_S512x1024_S1x1x512x1024
def scD (x : FVec F S1x1x512x1024 .f32) : FVec F S512x1024 .f32 := shapeCast S512x1024 x shapeCasts_S1x1x512x1024_S512x1024
def prU (x : FVec F S512x1024 .bf16) : FVec F S1x512x1024 .bf16 := shapeCast S1x512x1024 x shapeCasts_S512x1024_S1x512x1024
def prD (x : FVec F S1x512x1024 .bf16) : FVec F S512x1024 .bf16 := shapeCast S512x1024 x shapeCasts_S1x512x1024_S512x1024
def vD (x : FVec F S1x1x144x512 .bf16) : FVec F S144x512 .bf16 := shapeCast S144x512 x shapeCasts_S1x1x144x512_S144x512
def topD (x : FVec F S1x128x1024 .f32) : FVec F S128x1024 .f32 := shapeCast S128x1024 x shapeCasts_S1x128x1024_S128x1024

theorem dn3_up3 (x : FVec F S1x1024 .f32) : dn3 (up3 x) = x := by
  unfold dn3 up3; rw [shapeCast_shapeCast]
theorem accD_accU (x : FVec F S144x1024 .f32) : accD (accU x) = x := by
  unfold accD accU; rw [shapeCast_shapeCast]
theorem scD_scU (x : FVec F S512x1024 .f32) : scD (scU x) = x := by
  unfold scD scU; rw [shapeCast_shapeCast]
theorem prD_prU (x : FVec F S512x1024 .bf16) : prD (prU x) = x := by
  unfold prD prU; rw [shapeCast_shapeCast]

/-! ## The operations -/

/-- Each query's largest score in a block of keys. -/
def rowMax (s : FVec F S512x1024 .f32) : FVec F S1024 .f32 := multiReduction .maximumf [0] S1024 s 0xFF800000#32 reduces_S512x1024_S1024 (.inl rfl) rfl
def overKeys (x : FVec F S1x1024 .f32) : FVec F S512x1024 .f32 := broadcastTo S512x1024 x broadcasts_S1x1024_S512x1024
def overAcc (x : FVec F S1x1024 .f32) : FVec F S144x1024 .f32 := broadcastTo S144x1024 x broadcasts_S1x1024_S144x1024
def overOut (x : FVec F S1x1024 .f32) : FVec F S128x1024 .f32 := broadcastTo S128x1024 x broadcasts_S1x1024_S128x1024
def joinK (x y : FVec F S512x128 .bf16) : FVec F S512x256 .bf16 := concatenate S512x256 1 [⟨S512x128, x⟩, ⟨S512x128, y⟩] concatenates_S512x128_S512x128_S512x256_d1
def joinQ (x y : FVec F S1024x128 .bf16) : FVec F S1024x256 .bf16 := concatenate S1024x256 1 [⟨S1024x128, x⟩, ⟨S1024x128, y⟩] concatenates_S1024x128_S1024x128_S1024x256_d1
def mScore (k : FVec F S512x256 .bf16) (q : FVec F S1024x256 .bf16) : FVec F S512x1024 .f32 :=
  matmul dot_S512x256_S1024x256_S512x1024_1_1_0_0_n_n none k q (constant S512x1024 .f32 0x00000000#32)
def mPV (v : FVec F S144x512 .bf16) (p : FVec F S512x1024 .bf16) : FVec F S144x1024 .f32 :=
  matmul dot_S144x512_S512x1024_S144x1024_1_0_0_1_n_n none v p (constant S144x1024 .f32 0x00000000#32)
def toBf {s : Shape} (x : FVec F s .f32) : FVec F s .bf16 := truncf .bf16 x bitsLt_bf16_f32
def flip (x : FVec F S128x1024 .f32) : FVec F S1024x128 .f32 := transpose S1024x128 [1, 0] x transposes_S128x1024_p1_0_S1024x128
def keyPos : IVec S512x1024 32 := iota .tc S512x1024 32 [0] iota_S512x1024_d0_w32
def qryPos : IVec S512x1024 32 := iota .tc S512x1024 32 [1] iota_S512x1024_d1_w32
/-- The causal mask on a block of keys that starts `off` rows after the block of queries does. -/
def hide (off : BitVec 32) (s : FVec F S512x1024 .f32) : FVec F S512x1024 .f32 :=
  select (cmpi .sle (addi keyPos (broadcast S512x1024 off)) qryPos) s (broadcast S512x1024 (Scalar.ofBits .f32 0xFF800000#32))

/-- One block's scores. -/
def sc (q e : FVec F S1024x128 .bf16) (k x : FVec F S512x128 .bf16) : FVec F S512x1024 .f32 := mScore (joinK k x) (joinQ q e)
/-- The running maximum after a block, -/
def mx (m : FVec F S1x1024 .f32) (s : FVec F S512x1024 .f32) : FVec F S1x1024 .f32 := maximumf m (row (rowMax s))
/-- the factor that rescales what was accumulated before it, -/
def al (m : FVec F S1x1024 .f32) (s : FVec F S512x1024 .f32) : FVec F S1x1024 .f32 := exp2 (subf m (mx m s))
/-- the block's weights, -/
def pr (m : FVec F S1x1024 .f32) (s : FVec F S512x1024 .f32) : FVec F S512x1024 .bf16 := toBf (exp2 (subf s (overKeys (mx m s))))
/-- and the accumulation. -/
def ac (a : FVec F S1x1024 .f32) (acc : FVec F S144x1024 .f32) (v : FVec F S144x512 .bf16) (p : FVec F S512x1024 .bf16) : FVec F S144x1024 .f32 :=
  addf (mulf (overAcc a) acc) (mPV v p)
/-- What is stored at the end: the weighted sums over the sum of the weights. -/
def outOf (acc : FVec F S128x1024 .f32) (l : FVec F S1x1024 .f32) : FVec F S1024x128 .bf16 := toBf (flip (divf acc (overOut l)))

/-! ## The printed values -/

theorem k1_pay1_eq : ∀ x0 x1, k1_pay1 (F := F) x0 x1 = (toBf (flip (divf x0 (overOut (dn3 x1))))) := by intros; rfl
theorem k1_pay2_eq : ∀ x0 x1 x2 x3, k1_pay2 (F := F) x0 x1 x2 x3 = (scU (mScore (joinK x2 x3) (joinQ x0 x1))) := by intros; rfl
theorem k1_pay116_eq : ∀ x0 x1 x2 x3, k1_pay116 (F := F) x0 x1 x2 x3 = (scU (mScore (joinK x2 x3) (joinQ x0 x1))) := by intros; rfl
theorem k1_pay3_eq : ∀ x0 x1 x2 x3, k1_pay3 (F := F) x0 x1 x2 x3 = (scU (mScore (joinK x2 x3) (joinQ x0 x1))) := by intros; rfl
theorem k1_pay117_eq : ∀ x0 x1 x2 x3, k1_pay117 (F := F) x0 x1 x2 x3 = (scU (mScore (joinK x2 x3) (joinQ x0 x1))) := by intros; rfl
theorem k1_pay4_eq : ∀ x0 x1, k1_pay4 (F := F) x0 x1 = (joinQ x0 x1) := by intros; rfl
theorem k1_pay61_eq : ∀ x0 x1, k1_pay61 (F := F) x0 x1 = (joinQ x0 x1) := by intros; rfl
theorem k1_pay100_eq : ∀ x0 x1, k1_pay100 (F := F) x0 x1 = (joinQ x0 x1) := by intros; rfl
theorem k1_pay5_eq : ∀ x0 x1 x2, k1_pay5 (F := F) x0 x1 x2 = (scU (mScore (joinK x1 x2) x0)) := by intros; rfl
theorem k1_pay6_eq : ∀ x0 x1 x2 x3, k1_pay6 (F := F) x0 x1 x2 x3 = (scU (mScore (joinK x2 x3) (joinQ x0 x1))) := by intros; rfl
theorem k1_pay7_eq : ∀ x0, k1_pay7 (F := F) x0 = (hide 0#32 (scD x0)) := by intros; rfl
theorem k1_pay8_eq : ∀ x0, k1_pay8 (F := F) x0 = (dn3 x0) := by intros; rfl
theorem k1_pay14_eq : ∀ x0, k1_pay14 (F := F) x0 = (dn3 x0) := by intros; rfl
theorem k1_pay23_eq : ∀ x0, k1_pay23 (F := F) x0 = (dn3 x0) := by intros; rfl
theorem k1_pay30_eq : ∀ x0, k1_pay30 (F := F) x0 = (dn3 x0) := by intros; rfl
theorem k1_pay46_eq : ∀ x0, k1_pay46 (F := F) x0 = (dn3 x0) := by intros; rfl
theorem k1_pay52_eq : ∀ x0, k1_pay52 (F := F) x0 = (dn3 x0) := by intros; rfl
theorem k1_pay66_eq : ∀ x0, k1_pay66 (F := F) x0 = (dn3 x0) := by intros; rfl
theorem k1_pay73_eq : ∀ x0, k1_pay73 (F := F) x0 = (dn3 x0) := by intros; rfl
theorem k1_pay85_eq : ∀ x0, k1_pay85 (F := F) x0 = (dn3 x0) := by intros; rfl
theorem k1_pay91_eq : ∀ x0, k1_pay91 (F := F) x0 = (dn3 x0) := by intros; rfl
theorem k1_pay105_eq : ∀ x0, k1_pay105 (F := F) x0 = (dn3 x0) := by intros; rfl
theorem k1_pay112_eq : ∀ x0, k1_pay112 (F := F) x0 = (dn3 x0) := by intros; rfl
theorem k1_pay119_eq : ∀ x0, k1_pay119 (F := F) x0 = (dn3 x0) := by intros; rfl
theorem k1_pay125_eq : ∀ x0, k1_pay125 (F := F) x0 = (dn3 x0) := by intros; rfl
theorem k1_pay141_eq : ∀ x0, k1_pay141 (F := F) x0 = (dn3 x0) := by intros; rfl
theorem k1_pay147_eq : ∀ x0, k1_pay147 (F := F) x0 = (dn3 x0) := by intros; rfl
theorem k1_pay152_eq : ∀ x0, k1_pay152 (F := F) x0 = (dn3 x0) := by intros; rfl
theorem k1_pay160_eq : ∀ x0, k1_pay160 (F := F) x0 = (dn3 x0) := by intros; rfl
theorem k1_pay166_eq : ∀ x0, k1_pay166 (F := F) x0 = (dn3 x0) := by intros; rfl
theorem k1_pay176_eq : ∀ x0, k1_pay176 (F := F) x0 = (dn3 x0) := by intros; rfl
theorem k1_pay182_eq : ∀ x0, k1_pay182 (F := F) x0 = (dn3 x0) := by intros; rfl
theorem k1_pay9_eq : ∀ x0 x1, k1_pay9 (F := F) x0 x1 = (maximumf x1 (row (rowMax x0))) := by intros; rfl
theorem k1_pay10_eq : ∀ x0 x1, k1_pay10 (F := F) x0 x1 = (up3 (exp2 (subf x1 (k1_pay9 x0 x1)))) := by intros; rfl
theorem k1_pay11_eq : ∀ x0 x1, k1_pay11 (F := F) x0 x1 = (prU (toBf (exp2 (subf x0 (overKeys (k1_pay9 x0 x1)))))) := by intros; rfl
theorem k1_pay12_eq : ∀ x0 x1, k1_pay12 (F := F) x0 x1 = (up3 (k1_pay9 x0 x1)) := by intros; rfl
theorem k1_pay13_eq : ∀ x0, k1_pay13 (F := F) x0 = (hide 0#32 (scD x0)) := by intros; rfl
theorem k1_pay15_eq : ∀ x0 x1, k1_pay15 (F := F) x0 x1 = (maximumf (k1_pay14 x1) (row (rowMax (k1_pay13 x0)))) := by intros; rfl
theorem k1_pay16_eq : ∀ x0 x1, k1_pay16 (F := F) x0 x1 = (exp2 (subf (k1_pay14 x1) (k1_pay15 x0 x1))) := by intros; rfl
theorem k1_pay17_eq : ∀ x0, k1_pay17 (F := F) x0 = (up3 x0) := by intros; rfl
theorem k1_pay19_eq : ∀ x0, k1_pay19 (F := F) x0 = (up3 x0) := by intros; rfl
theorem k1_pay26_eq : ∀ x0, k1_pay26 (F := F) x0 = (up3 x0) := by intros; rfl
theorem k1_pay28_eq : ∀ x0, k1_pay28 (F := F) x0 = (up3 x0) := by intros; rfl
theorem k1_pay35_eq : ∀ x0, k1_pay35 (F := F) x0 = (up3 x0) := by intros; rfl
theorem k1_pay71_eq : ∀ x0, k1_pay71 (F := F) x0 = (up3 x0) := by intros; rfl
theorem k1_pay110_eq : ∀ x0, k1_pay110 (F := F) x0 = (up3 x0) := by intros; rfl
theorem k1_pay130_eq : ∀ x0, k1_pay130 (F := F) x0 = (up3 x0) := by intros; rfl
theorem k1_pay134_eq : ∀ x0, k1_pay134 (F := F) x0 = (up3 x0) := by intros; rfl
theorem k1_pay135_eq : ∀ x0, k1_pay135 (F := F) x0 = (up3 x0) := by intros; rfl
theorem k1_pay145_eq : ∀ x0, k1_pay145 (F := F) x0 = (up3 x0) := by intros; rfl
theorem k1_pay185_eq : ∀ x0, k1_pay185 (F := F) x0 = (up3 x0) := by intros; rfl
theorem k1_pay187_eq : ∀ x0, k1_pay187 (F := F) x0 = (up3 x0) := by intros; rfl
theorem k1_pay18_eq : ∀ x0 x1, k1_pay18 (F := F) x0 x1 = (prU (toBf (exp2 (subf x0 (overKeys x1))))) := by intros; rfl
theorem k1_pay27_eq : ∀ x0 x1, k1_pay27 (F := F) x0 x1 = (prU (toBf (exp2 (subf x0 (overKeys x1))))) := by intros; rfl
theorem k1_pay186_eq : ∀ x0 x1, k1_pay186 (F := F) x0 x1 = (prU (toBf (exp2 (subf x0 (overKeys x1))))) := by intros; rfl
theorem k1_pay20_eq : ∀ x0 x1 x2 x3, k1_pay20 (F := F) x0 x1 x2 x3 = (accU (addf (mulf (overAcc (dn3 x0)) (accD x1)) (mPV (vD x2) (prD x3)))) := by intros; rfl
theorem k1_pay21_eq : ∀ x0 x1 x2 x3, k1_pay21 (F := F) x0 x1 x2 x3 = (accU (addf (mulf (overAcc (dn3 x0)) (accD x1)) (mPV (vD x2) (prD x3)))) := by intros; rfl
theorem k1_pay22_eq : ∀ x0, k1_pay22 (F := F) x0 = (hide 512#32 (scD x0)) := by intros; rfl
theorem k1_pay24_eq : ∀ x0 x1, k1_pay24 (F := F) x0 x1 = (maximumf (k1_pay23 x1) (row (rowMax (k1_pay22 x0)))) := by intros; rfl
theorem k1_pay25_eq : ∀ x0 x1, k1_pay25 (F := F) x0 x1 = (exp2 (subf (k1_pay23 x1) (k1_pay24 x0 x1))) := by intros; rfl
theorem k1_pay29_eq : ∀ x0, k1_pay29 (F := F) x0 = (hide 512#32 (scD x0)) := by intros; rfl
theorem k1_pay31_eq : ∀ x0 x1, k1_pay31 (F := F) x0 x1 = (maximumf (k1_pay30 x1) (row (rowMax (k1_pay29 x0)))) := by intros; rfl
theorem k1_pay32_eq : ∀ x0 x1, k1_pay32 (F := F) x0 x1 = (up3 (exp2 (subf (k1_pay30 x1) (k1_pay31 x0 x1)))) := by intros; rfl
theorem k1_pay33_eq : ∀ x0 x1, k1_pay33 (F := F) x0 x1 = (toBf (exp2 (subf (k1_pay29 x0) (overKeys (k1_pay31 x0 x1))))) := by intros; rfl
theorem k1_pay34_eq : ∀ x0, k1_pay34 (F := F) x0 = (prU x0) := by intros; rfl
theorem k1_pay36_eq : ∀ x0 x1 x2 x3, k1_pay36 (F := F) x0 x1 x2 x3 = (accU (addf (mulf (overAcc (dn3 x0)) (accD x1)) (mPV (vD x2) (prD x3)))) := by intros; rfl
theorem k1_pay37_eq : ∀ x0 x1, k1_pay37 (F := F) x0 x1 = (mulf (overAcc (dn3 x0)) (accD x1)) := by intros; rfl
theorem k1_pay39_eq : ∀ x0 x1, k1_pay39 (F := F) x0 x1 = (mulf (overAcc (dn3 x0)) (accD x1)) := by intros; rfl
theorem k1_pay78_eq : ∀ x0 x1, k1_pay78 (F := F) x0 x1 = (mulf (overAcc (dn3 x0)) (accD x1)) := by intros; rfl
theorem k1_pay171_eq : ∀ x0 x1, k1_pay171 (F := F) x0 x1 = (mulf (overAcc (dn3 x0)) (accD x1)) := by intros; rfl
theorem k1_pay38_eq : ∀ x0 x1 x2 x3, k1_pay38 (F := F) x0 x1 x2 x3 = (accU (addf (mulf (overAcc (dn3 x0)) (accD x1)) (mPV (vD x2) (prD x3)))) := by intros; rfl
theorem k1_pay77_eq : ∀ x0 x1 x2 x3, k1_pay77 (F := F) x0 x1 x2 x3 = (accU (addf (mulf (overAcc (dn3 x0)) (accD x1)) (mPV (vD x2) (prD x3)))) := by intros; rfl
theorem k1_pay40_eq : ∀ x0, k1_pay40 (F := F) x0 = (vD x0) := by intros; rfl
theorem k1_pay79_eq : ∀ x0, k1_pay79 (F := F) x0 = (vD x0) := by intros; rfl
theorem k1_pay41_eq : ∀ x0 x1 x2, k1_pay41 (F := F) x0 x1 x2 = (accU (addf x0 (mPV x1 (prD x2)))) := by intros; rfl
theorem k1_pay80_eq : ∀ x0 x1 x2, k1_pay80 (F := F) x0 x1 x2 = (accU (addf x0 (mPV x1 (prD x2)))) := by intros; rfl
theorem k1_pay42_eq : ∀ x0 x1 x2 x3, k1_pay42 (F := F) x0 x1 x2 x3 = (scU (mScore (joinK x2 x3) (joinQ x0 x1))) := by intros; rfl
theorem k1_pay81_eq : ∀ x0 x1 x2 x3, k1_pay81 (F := F) x0 x1 x2 x3 = (scU (mScore (joinK x2 x3) (joinQ x0 x1))) := by intros; rfl
theorem k1_pay43_eq : ∀ x0 x1 x2 x3, k1_pay43 (F := F) x0 x1 x2 x3 = (mScore (joinK x2 x3) (joinQ x0 x1)) := by intros; rfl
theorem k1_pay82_eq : ∀ x0 x1 x2 x3, k1_pay82 (F := F) x0 x1 x2 x3 = (mScore (joinK x2 x3) (joinQ x0 x1)) := by intros; rfl
theorem k1_pay44_eq : ∀ x0, k1_pay44 (F := F) x0 = (scU x0) := by intros; rfl
theorem k1_pay83_eq : ∀ x0, k1_pay83 (F := F) x0 = (scU x0) := by intros; rfl
theorem k1_pay133_eq : ∀ x0, k1_pay133 (F := F) x0 = (scU x0) := by intros; rfl
theorem k1_pay45_eq : ∀ x0, k1_pay45 (F := F) x0 = (scD x0) := by intros; rfl
theorem k1_pay51_eq : ∀ x0, k1_pay51 (F := F) x0 = (scD x0) := by intros; rfl
theorem k1_pay65_eq : ∀ x0, k1_pay65 (F := F) x0 = (scD x0) := by intros; rfl
theorem k1_pay72_eq : ∀ x0, k1_pay72 (F := F) x0 = (scD x0) := by intros; rfl
theorem k1_pay84_eq : ∀ x0, k1_pay84 (F := F) x0 = (scD x0) := by intros; rfl
theorem k1_pay90_eq : ∀ x0, k1_pay90 (F := F) x0 = (scD x0) := by intros; rfl
theorem k1_pay104_eq : ∀ x0, k1_pay104 (F := F) x0 = (scD x0) := by intros; rfl
theorem k1_pay111_eq : ∀ x0, k1_pay111 (F := F) x0 = (scD x0) := by intros; rfl
theorem k1_pay118_eq : ∀ x0, k1_pay118 (F := F) x0 = (scD x0) := by intros; rfl
theorem k1_pay124_eq : ∀ x0, k1_pay124 (F := F) x0 = (scD x0) := by intros; rfl
theorem k1_pay140_eq : ∀ x0, k1_pay140 (F := F) x0 = (scD x0) := by intros; rfl
theorem k1_pay146_eq : ∀ x0, k1_pay146 (F := F) x0 = (scD x0) := by intros; rfl
theorem k1_pay157_eq : ∀ x0, k1_pay157 (F := F) x0 = (scD x0) := by intros; rfl
theorem k1_pay47_eq : ∀ x0 x1, k1_pay47 (F := F) x0 x1 = (maximumf (k1_pay46 x1) (row (rowMax (k1_pay45 x0)))) := by intros; rfl
theorem k1_pay48_eq : ∀ x0 x1, k1_pay48 (F := F) x0 x1 = (up3 (exp2 (subf (k1_pay46 x1) (k1_pay47 x0 x1)))) := by intros; rfl
theorem k1_pay49_eq : ∀ x0 x1, k1_pay49 (F := F) x0 x1 = (prU (toBf (exp2 (subf (k1_pay45 x0) (overKeys (k1_pay47 x0 x1)))))) := by intros; rfl
theorem k1_pay50_eq : ∀ x0 x1, k1_pay50 (F := F) x0 x1 = (up3 (k1_pay47 x0 x1)) := by intros; rfl
theorem k1_pay53_eq : ∀ x0, k1_pay53 (F := F) x0 = (rowMax (k1_pay51 x0)) := by intros; rfl
theorem k1_pay54_eq : ∀ x0 x1, k1_pay54 (F := F) x0 x1 = (maximumf x0 (row x1)) := by intros; rfl
theorem k1_pay93_eq : ∀ x0 x1, k1_pay93 (F := F) x0 x1 = (maximumf x0 (row x1)) := by intros; rfl
theorem k1_pay55_eq : ∀ x0 x1, k1_pay55 (F := F) x0 x1 = (up3 (exp2 (subf x0 (k1_pay54 x0 x1)))) := by intros; rfl
theorem k1_pay56_eq : ∀ x0 x1 x2, k1_pay56 (F := F) x0 x1 x2 = (prU (toBf (exp2 (subf x0 (overKeys (k1_pay54 x1 x2)))))) := by intros; rfl
theorem k1_pay57_eq : ∀ x0 x1, k1_pay57 (F := F) x0 x1 = (up3 (k1_pay54 x0 x1)) := by intros; rfl
theorem k1_pay58_eq : ∀ x0 x1 x2 x3, k1_pay58 (F := F) x0 x1 x2 x3 = (addf (mulf (overAcc (dn3 x0)) (accD x1)) (mPV (vD x2) (prD x3))) := by intros; rfl
theorem k1_pay97_eq : ∀ x0 x1 x2 x3, k1_pay97 (F := F) x0 x1 x2 x3 = (addf (mulf (overAcc (dn3 x0)) (accD x1)) (mPV (vD x2) (prD x3))) := by intros; rfl
theorem k1_pay59_eq : ∀ x0, k1_pay59 (F := F) x0 = (accU x0) := by intros; rfl
theorem k1_pay98_eq : ∀ x0, k1_pay98 (F := F) x0 = (accU x0) := by intros; rfl
theorem k1_pay60_eq : ∀ x0 x1 x2 x3, k1_pay60 (F := F) x0 x1 x2 x3 = (accU (addf (mulf (overAcc (dn3 x0)) (accD x1)) (mPV (vD x2) (prD x3)))) := by intros; rfl
theorem k1_pay99_eq : ∀ x0 x1 x2 x3, k1_pay99 (F := F) x0 x1 x2 x3 = (accU (addf (mulf (overAcc (dn3 x0)) (accD x1)) (mPV (vD x2) (prD x3)))) := by intros; rfl
theorem k1_pay62_eq : ∀ x0 x1, k1_pay62 (F := F) x0 x1 = (joinK x0 x1) := by intros; rfl
theorem k1_pay101_eq : ∀ x0 x1, k1_pay101 (F := F) x0 x1 = (joinK x0 x1) := by intros; rfl
theorem k1_pay63_eq : ∀ x0 x1 cst_532, k1_pay63 (F := F) x0 x1 cst_532 = (scU (matmul dot_S512x256_S1024x256_S512x1024_1_1_0_0_n_n none x1 x0 cst_532)) := by intros; rfl
theorem k1_pay102_eq : ∀ x0 x1 cst_532, k1_pay102 (F := F) x0 x1 cst_532 = (scU (matmul dot_S512x256_S1024x256_S512x1024_1_1_0_0_n_n none x1 x0 cst_532)) := by intros; rfl
theorem k1_pay64_eq : ∀ x0 x1 x2 x3, k1_pay64 (F := F) x0 x1 x2 x3 = (scU (mScore (joinK x2 x3) (joinQ x0 x1))) := by intros; rfl
theorem k1_pay103_eq : ∀ x0 x1 x2 x3, k1_pay103 (F := F) x0 x1 x2 x3 = (scU (mScore (joinK x2 x3) (joinQ x0 x1))) := by intros; rfl
theorem k1_pay67_eq : ∀ x0 x1, k1_pay67 (F := F) x0 x1 = (maximumf (k1_pay66 x1) (row (rowMax (k1_pay65 x0)))) := by intros; rfl
theorem k1_pay68_eq : ∀ x0 x1, k1_pay68 (F := F) x0 x1 = (up3 (exp2 (subf (k1_pay66 x1) (k1_pay67 x0 x1)))) := by intros; rfl
theorem k1_pay69_eq : ∀ x0 x1, k1_pay69 (F := F) x0 x1 = (exp2 (subf (k1_pay65 x0) (overKeys (k1_pay67 x0 x1)))) := by intros; rfl
theorem k1_pay70_eq : ∀ x0, k1_pay70 (F := F) x0 = (prU (toBf x0)) := by intros; rfl
theorem k1_pay109_eq : ∀ x0, k1_pay109 (F := F) x0 = (prU (toBf x0)) := by intros; rfl
theorem k1_pay74_eq : ∀ x0 x1, k1_pay74 (F := F) x0 x1 = (maximumf (k1_pay73 x1) (row (rowMax (k1_pay72 x0)))) := by intros; rfl
theorem k1_pay75_eq : ∀ x0 x1, k1_pay75 (F := F) x0 x1 = (up3 (exp2 (subf (k1_pay73 x1) (k1_pay74 x0 x1)))) := by intros; rfl
theorem k1_pay76_eq : ∀ x0 x1, k1_pay76 (F := F) x0 x1 = (prU (toBf (exp2 (subf (k1_pay72 x0) (overKeys (k1_pay74 x0 x1)))))) := by intros; rfl
theorem k1_pay86_eq : ∀ x0 x1, k1_pay86 (F := F) x0 x1 = (maximumf (k1_pay85 x1) (row (rowMax (k1_pay84 x0)))) := by intros; rfl
theorem k1_pay87_eq : ∀ x0 x1, k1_pay87 (F := F) x0 x1 = (up3 (exp2 (subf (k1_pay85 x1) (k1_pay86 x0 x1)))) := by intros; rfl
theorem k1_pay88_eq : ∀ x0 x1, k1_pay88 (F := F) x0 x1 = (prU (toBf (exp2 (subf (k1_pay84 x0) (overKeys (k1_pay86 x0 x1)))))) := by intros; rfl
theorem k1_pay89_eq : ∀ x0 x1, k1_pay89 (F := F) x0 x1 = (up3 (k1_pay86 x0 x1)) := by intros; rfl
theorem k1_pay92_eq : ∀ x0, k1_pay92 (F := F) x0 = (rowMax (k1_pay90 x0)) := by intros; rfl
theorem k1_pay94_eq : ∀ x0 x1, k1_pay94 (F := F) x0 x1 = (up3 (exp2 (subf x0 (k1_pay93 x0 x1)))) := by intros; rfl
theorem k1_pay95_eq : ∀ x0 x1 x2, k1_pay95 (F := F) x0 x1 x2 = (prU (toBf (exp2 (subf x0 (overKeys (k1_pay93 x1 x2)))))) := by intros; rfl
theorem k1_pay96_eq : ∀ x0 x1, k1_pay96 (F := F) x0 x1 = (up3 (k1_pay93 x0 x1)) := by intros; rfl
theorem k1_pay106_eq : ∀ x0 x1, k1_pay106 (F := F) x0 x1 = (maximumf (k1_pay105 x1) (row (rowMax (k1_pay104 x0)))) := by intros; rfl
theorem k1_pay107_eq : ∀ x0 x1, k1_pay107 (F := F) x0 x1 = (up3 (exp2 (subf (k1_pay105 x1) (k1_pay106 x0 x1)))) := by intros; rfl
theorem k1_pay108_eq : ∀ x0 x1, k1_pay108 (F := F) x0 x1 = (exp2 (subf (k1_pay104 x0) (overKeys (k1_pay106 x0 x1)))) := by intros; rfl
theorem k1_pay113_eq : ∀ x0 x1, k1_pay113 (F := F) x0 x1 = (maximumf (k1_pay112 x1) (row (rowMax (k1_pay111 x0)))) := by intros; rfl
theorem k1_pay114_eq : ∀ x0 x1, k1_pay114 (F := F) x0 x1 = (up3 (exp2 (subf (k1_pay112 x1) (k1_pay113 x0 x1)))) := by intros; rfl
theorem k1_pay115_eq : ∀ x0 x1, k1_pay115 (F := F) x0 x1 = (prU (toBf (exp2 (subf (k1_pay111 x0) (overKeys (k1_pay113 x0 x1)))))) := by intros; rfl
theorem k1_pay120_eq : ∀ x0 x1, k1_pay120 (F := F) x0 x1 = (maximumf (k1_pay119 x1) (row (rowMax x0))) := by intros; rfl
theorem k1_pay121_eq : ∀ x0 x1, k1_pay121 (F := F) x0 x1 = (up3 (exp2 (subf (k1_pay119 x1) (k1_pay120 x0 x1)))) := by intros; rfl
theorem k1_pay122_eq : ∀ x0 x1, k1_pay122 (F := F) x0 x1 = (prU (toBf (exp2 (subf x0 (overKeys (k1_pay120 x0 x1)))))) := by intros; rfl
theorem k1_pay123_eq : ∀ x0 x1, k1_pay123 (F := F) x0 x1 = (up3 (k1_pay120 x0 x1)) := by intros; rfl
theorem k1_pay126_eq : ∀ x0 x1, k1_pay126 (F := F) x0 x1 = (maximumf (k1_pay125 x1) (row (rowMax (k1_pay124 x0)))) := by intros; rfl
theorem k1_pay127_eq : ∀ x0 x1, k1_pay127 (F := F) x0 x1 = (up3 (exp2 (subf (k1_pay125 x1) (k1_pay126 x0 x1)))) := by intros; rfl
theorem k1_pay128_eq : ∀ x0 x1, k1_pay128 (F := F) x0 x1 = (subf (k1_pay124 x0) (overKeys (k1_pay126 x0 x1))) := by intros; rfl
theorem k1_pay129_eq : ∀ x0, k1_pay129 (F := F) x0 = (prU (toBf (exp2 x0))) := by intros; rfl
theorem k1_pay131_eq : ∀ x0 x1 x2 x3, k1_pay131 (F := F) x0 x1 x2 x3 = (scU (mScore (joinK x2 x3) (joinQ x0 x1))) := by intros; rfl
theorem k1_pay132_eq : ∀ x0 x1 x2 x3, k1_pay132 (F := F) x0 x1 x2 x3 = (mScore (joinK x2 x3) (joinQ x0 x1)) := by intros; rfl
theorem k1_pay136_eq : ∀ x0 x1 x2 x3, k1_pay136 (F := F) x0 x1 x2 x3 = (accU (addf (mulf (overAcc (dn3 x0)) (accD x1)) (mPV (vD x2) (prD x3)))) := by intros; rfl
theorem k1_pay137_eq : ∀ x0 x1 x2 x3, k1_pay137 (F := F) x0 x1 x2 x3 = (accU (addf (mulf (overAcc (dn3 x0)) (accD x1)) (mPV (vD x2) (prD x3)))) := by intros; rfl
theorem k1_pay138_eq : ∀ x0 x1 x2 x3, k1_pay138 (F := F) x0 x1 x2 x3 = (scU (mScore (joinK x2 x3) (joinQ x0 x1))) := by intros; rfl
theorem k1_pay139_eq : ∀ x0 x1 x2 x3, k1_pay139 (F := F) x0 x1 x2 x3 = (scU (mScore (joinK x2 x3) (joinQ x0 x1))) := by intros; rfl
theorem k1_pay142_eq : ∀ x0 x1, k1_pay142 (F := F) x0 x1 = (maximumf (k1_pay141 x1) (row (rowMax (k1_pay140 x0)))) := by intros; rfl
theorem k1_pay143_eq : ∀ x0 x1, k1_pay143 (F := F) x0 x1 = (up3 (exp2 (subf (k1_pay141 x1) (k1_pay142 x0 x1)))) := by intros; rfl
theorem k1_pay144_eq : ∀ x0 x1, k1_pay144 (F := F) x0 x1 = (prU (toBf (exp2 (subf (k1_pay140 x0) (overKeys (k1_pay142 x0 x1)))))) := by intros; rfl
theorem k1_pay148_eq : ∀ x0 x1, k1_pay148 (F := F) x0 x1 = (maximumf (k1_pay147 x1) (row (rowMax (k1_pay146 x0)))) := by intros; rfl
theorem k1_pay149_eq : ∀ x0 x1, k1_pay149 (F := F) x0 x1 = (up3 (exp2 (subf (k1_pay147 x1) (k1_pay148 x0 x1)))) := by intros; rfl
theorem k1_pay150_eq : ∀ x0 x1, k1_pay150 (F := F) x0 x1 = (prU (toBf (exp2 (subf (k1_pay146 x0) (overKeys (k1_pay148 x0 x1)))))) := by intros; rfl
theorem k1_pay151_eq : ∀ x0 x1, k1_pay151 (F := F) x0 x1 = (up3 (k1_pay148 x0 x1)) := by intros; rfl
theorem k1_pay153_eq : ∀ x0 x1 x2 x3, k1_pay153 (F := F) x0 x1 x2 x3 = (accU (addf (mulf (overAcc x0) (accD x1)) (mPV (vD x2) (prD x3)))) := by intros; rfl
theorem k1_pay154_eq : ∀ x0 x1 x2 x3, k1_pay154 (F := F) x0 x1 x2 x3 = (accU (addf (mulf (overAcc (dn3 x0)) (accD x1)) (mPV (vD x2) (prD x3)))) := by intros; rfl
theorem k1_pay155_eq : ∀ x0 x1 x2 x3, k1_pay155 (F := F) x0 x1 x2 x3 = (scU (mScore (joinK x2 x3) (joinQ x0 x1))) := by intros; rfl
theorem k1_pay156_eq : ∀ x0 x1 x2 x3, k1_pay156 (F := F) x0 x1 x2 x3 = (scU (mScore (joinK x2 x3) (joinQ x0 x1))) := by intros; rfl
theorem k1_pay158_eq : k1_pay158 = (broadcast S512x1024 0#32) := rfl
theorem k1_pay159_eq : ∀ x0 x1 x2 x3, k1_pay159 (F := F) x0 x1 x2 x3 = (select (cmpi .sle (addi x1 x3) x2) x0 (broadcast S512x1024 (Scalar.ofBits .f32 0xFF800000#32))) := by intros; rfl
theorem k1_pay161_eq : ∀ x0 x1 x2 x3 x4, k1_pay161 (F := F) x0 x1 x2 x3 x4 = (maximumf (k1_pay160 x4) (row (rowMax (k1_pay159 x0 x1 x2 x3)))) := by intros; rfl
theorem k1_pay162_eq : ∀ x0 x1 x2 x3 x4, k1_pay162 (F := F) x0 x1 x2 x3 x4 = (up3 (exp2 (subf (k1_pay160 x4) (k1_pay161 x0 x1 x2 x3 x4)))) := by intros; rfl
theorem k1_pay163_eq : ∀ x0 x1 x2 x3 x4, k1_pay163 (F := F) x0 x1 x2 x3 x4 = (prU (toBf (exp2 (subf (k1_pay159 x0 x1 x2 x3) (overKeys (k1_pay161 x0 x1 x2 x3 x4)))))) := by intros; rfl
theorem k1_pay164_eq : ∀ x0 x1 x2 x3 x4, k1_pay164 (F := F) x0 x1 x2 x3 x4 = (up3 (k1_pay161 x0 x1 x2 x3 x4)) := by intros; rfl
theorem k1_pay165_eq : ∀ x0, k1_pay165 (F := F) x0 = (hide 0#32 (scD x0)) := by intros; rfl
theorem k1_pay167_eq : ∀ x0 x1, k1_pay167 (F := F) x0 x1 = (maximumf (k1_pay166 x1) (row (rowMax x0))) := by intros; rfl
theorem k1_pay168_eq : ∀ x0 x1, k1_pay168 (F := F) x0 x1 = (up3 (exp2 (subf (k1_pay166 x1) (k1_pay167 x0 x1)))) := by intros; rfl
theorem k1_pay169_eq : ∀ x0 x1, k1_pay169 (F := F) x0 x1 = (prU (toBf (exp2 (subf x0 (overKeys (k1_pay167 x0 x1)))))) := by intros; rfl
theorem k1_pay170_eq : ∀ x0 x1, k1_pay170 (F := F) x0 x1 = (up3 (k1_pay167 x0 x1)) := by intros; rfl
theorem k1_pay172_eq : ∀ x0 x1, k1_pay172 (F := F) x0 x1 = (mPV (vD x0) (prD x1)) := by intros; rfl
theorem k1_pay173_eq : ∀ x0 x1, k1_pay173 (F := F) x0 x1 = (accU (addf x0 x1)) := by intros; rfl
theorem k1_pay174_eq : ∀ x0 x1 x2 x3, k1_pay174 (F := F) x0 x1 x2 x3 = (accU (addf (mulf (overAcc (dn3 x0)) (accD x1)) (mPV (vD x2) (prD x3)))) := by intros; rfl
theorem k1_pay175_eq : ∀ x0, k1_pay175 (F := F) x0 = (hide 512#32 (scD x0)) := by intros; rfl
theorem k1_pay177_eq : ∀ x0 x1, k1_pay177 (F := F) x0 x1 = (maximumf (k1_pay176 x1) (row (rowMax x0))) := by intros; rfl
theorem k1_pay178_eq : ∀ x0 x1, k1_pay178 (F := F) x0 x1 = (up3 (exp2 (subf (k1_pay176 x1) (k1_pay177 x0 x1)))) := by intros; rfl
theorem k1_pay179_eq : ∀ x0 x1, k1_pay179 (F := F) x0 x1 = (prU (toBf (exp2 (subf x0 (overKeys (k1_pay177 x0 x1)))))) := by intros; rfl
theorem k1_pay180_eq : ∀ x0 x1, k1_pay180 (F := F) x0 x1 = (up3 (k1_pay177 x0 x1)) := by intros; rfl
theorem k1_pay181_eq : ∀ x0, k1_pay181 (F := F) x0 = (hide 512#32 (scD x0)) := by intros; rfl
theorem k1_pay183_eq : ∀ x0 x1, k1_pay183 (F := F) x0 x1 = (maximumf (k1_pay182 x1) (row (rowMax (k1_pay181 x0)))) := by intros; rfl
theorem k1_pay184_eq : ∀ x0 x1, k1_pay184 (F := F) x0 x1 = (exp2 (subf (k1_pay182 x1) (k1_pay183 x0 x1))) := by intros; rfl
theorem k1_pay188_eq : ∀ x0 x1 x2 x3, k1_pay188 (F := F) x0 x1 x2 x3 = (accU (addf (mulf (overAcc (dn3 x0)) (accD x1)) (mPV (vD x2) (prD x3)))) := by intros; rfl
theorem k1_pay189_eq : k1_pay189 (F := F) = (broadcast S2x1x1024 (Scalar.ofBits .f32 0xFF800000#32)) := by
  unfold k1_pay189; exact shapeCast_self _ _
theorem k1_pay190_eq : k1_pay190 (F := F) = (broadcast S2x144x1024 (Scalar.ofBits .f32 0x00000000#32)) := by
  unfold k1_pay190; exact shapeCast_self _ _
theorem k1_pay191_eq : ∀ x0 x1 x2, k1_pay191 (F := F) x0 x1 x2 = (accU (addf x0 (mPV (vD x1) (prD x2)))) := by intros; rfl
theorem k1_pay192_eq : ∀ x0 x1 x2 x3, k1_pay192 (F := F) x0 x1 x2 x3 = (accU (addf (mulf (overAcc (dn3 x0)) (accD x1)) (mPV (vD x2) (prD x3)))) := by intros; rfl
theorem k1_pay193_eq : ∀ x0 x1, k1_pay193 (F := F) x0 x1 = (toBf (flip (divf (topD x0) (overOut (dn3 x1))))) := by intros; rfl
theorem k1_pay194_eq : ∀ x0, k1_pay194 (F := F) x0 = (topD x0) := by intros; rfl

end Cert.KernelIdeal.Gen

end
-- ==== Proof.Reads.lean ====
module

public import proofs.«01_k».proof.Proof.Canon
public import Idealize.ShloMosaic.Lib.WholeRead
public import Idealize.ShloMosaic.Lib.WritesUnit
public import Idealize.ShloMosaic.Lib.Writes

/-!
# What the attention body's loads read

Two kinds of load. From a scratch buffer: the newest store that covers the box, past the stores that miss it. From an
input block: a tile of 512 keys (or the 1024 queries) of one of the two heads.
-/

@[expose] public section

set_option maxRecDepth 16384

noncomputable section

namespace Cert.KernelIdeal.Gen

open Idealize.ShloMosaic Idealize.ShloMosaic.TcCoe

/-! ## Loads from scratch -/

section Scratch
variable {sg : RefSig} {κ : Kind} {sp : Space} {s : Shape} {e : EltTy} {Val : EltTy → Type}

/-- A load of the rectangle just stored reads what was stored. -/
theorem rd_hit (v : View sg κ sp s e) (f : v.ty.Contents Val) (r : Rect s) (w : r.shape.Idx → Val e)
    (L : List (View.Piece Val s e)) :
    v.readAt Val r.toLoadRect (v.writes Val f (⟨r, w⟩ :: L)) = w :=
  funext fun x => View.read_writes_cons_emb v f r w L x

/-- A load apart from the newest store on some axis reads what the earlier stores left. -/
theorem rd_skip (v : View sg κ sp s e) (f : v.ty.Contents Val) {off size off' size' : Fin s.rank → ℕ}
    (inb : ∀ a, off a + size a ≤ s.size a) (inb' : ∀ a, off' a + size' a ≤ s.size a)
    (w : (Rect.unit off' size' inb').shape.Idx → Val e) (L : List (View.Piece Val s e))
    (h : ∃ a, off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  obtain ⟨a, ha⟩ := h
  funext x
  refine View.read_writes_cons_unit_of_not_mem v f inb' w L _ rfl a ?_
  have h1 : ((Rect.unit off size inb).toLoadRect.idx x a).val = off a + 1 * (x a).val := rfl
  have h2 : (x a).val < size a := (x a).isLt
  omega

/-- A load inside the newest store reads that part of it. -/
theorem rd_sub (v : View sg κ sp s e) (f : v.ty.Contents Val) {off size off' size' : Fin s.rank → ℕ}
    (inb : ∀ a, off a + size a ≤ s.size a) (inb' : ∀ a, off' a + size' a ≤ s.size a)
    (w : (Rect.unit off' size' inb').shape.Idx → Val e) (L : List (View.Piece Val s e))
    (h : ∀ a, off' a ≤ off a ∧ off a + size a ≤ off' a + size' a) :
    v.readAt Val (Rect.unit off size inb).toLoadRect (v.writes Val f (⟨Rect.unit off' size' inb', w⟩ :: L))
      = fun x => w fun a => ⟨off a - off' a + (x a).val, by
          have h1 := h a
          have h2 : (x a).val < size a := (x a).isLt
          show _ < size' a
          omega⟩ := by
  funext x
  refine View.read_writes_cons_unit_of_mem v f inb' w L _ _ rfl fun a => ?_
  have h1 := h a
  show off a + 1 * (x a).val = off' a + (off a - off' a + (x a).val)
  omega

theorem readCov_eq (v : View sg κ sp s e) [∀ e, Nonempty (Val e)] (L : List (View.Piece Val s e)) (B : LoadRect s) :
    v.readCov L B = v.readAt Val B (v.writes Val v.junk L) := rfl

end Scratch

/-! ## The tiles of the inputs -/

variable {F : FTy → Type} [FloatOps F]

/-- Keys `512 n …` of head `h`. -/
def kTile (x : FVec F S16384x256 .bf16) (h n : ℕ) : FVec F S512x128 .bf16 := fun j =>
  x (ix2 (⟨(n * 512 + (j 0).val) % 16384, Nat.mod_lt _ (by decide)⟩ : Fin 16384)
    (⟨(h * 128 + (j 1).val) % 256, Nat.mod_lt _ (by decide)⟩ : Fin 256))
/-- The queries of head `h`. -/
def qTile (x : FVec F S1024x256 .bf16) (h : ℕ) : FVec F S1024x128 .bf16 := fun j =>
  x (ix2 (⟨(j 0).val % 1024, Nat.mod_lt _ (by decide)⟩ : Fin 1024)
    (⟨(h * 128 + (j 1).val) % 256, Nat.mod_lt _ (by decide)⟩ : Fin 256))
/-- The transposed values of head `h` at keys `512 n …`. -/
def vTile (x : FVec F S1x2x144x16384 .bf16) (h n : ℕ) : FVec F S1x1x144x512 .bf16 := fun j =>
  x (ix4 (0 : Fin 1) (⟨h % 2, Nat.mod_lt _ (by decide)⟩ : Fin 2) (⟨(j 2).val % 144, Nat.mod_lt _ (by decide)⟩ : Fin 144)
    (⟨(n * 512 + (j 3).val) % 16384, Nat.mod_lt _ (by decide)⟩ : Fin 16384))

theorem rd_k (m : Memref sig .tc .vmem S16384x256 .bf16) (hm : m.IsWhole) (x : FVec F S16384x256 .bf16)
    {off : Fin 2 → ℕ} (inb : ∀ a, off a + S512x128.size a ≤ S16384x256.size a) (h n : ℕ) (ho : off = ![n * 512, h * 128]) :
    View.readAt (Elt F) m.view (Rect.unit (s := S16384x256) off S512x128.size inb).toLoadRect (hm.unread x) = kTile x h n := by
  subst ho
  funext j
  refine (Memref.IsWhole.readAt_unread (Val := Elt F) hm (X := x) (B := (Rect.unit _ _ inb).toLoadRect) (x := j)).trans (congrArg x (funext fun a => Fin.ext ?_))
  have i0 := inb 0; have i1 := inb 1
  have j0 : (j 0).val < 512 := (j 0).isLt
  have j1 : (j 1).val < 128 := (j 1).isLt
  change n * 512 + 512 ≤ 16384 at i0
  change h * 128 + 128 ≤ 256 at i1
  fin_cases a
  · show n * 512 + 1 * (j 0).val = (n * 512 + (j 0).val) % 16384; omega
  · show h * 128 + 1 * (j 1).val = (h * 128 + (j 1).val) % 256; omega

theorem rd_q (m : Memref sig .tc .vmem S1024x256 .bf16) (hm : m.IsWhole) (x : FVec F S1024x256 .bf16)
    {off : Fin 2 → ℕ} (inb : ∀ a, off a + S1024x128.size a ≤ S1024x256.size a) (h : ℕ) (ho : off = ![0, h * 128]) :
    View.readAt (Elt F) m.view (Rect.unit (s := S1024x256) off S1024x128.size inb).toLoadRect (hm.unread x) = qTile x h := by
  subst ho
  funext j
  refine (Memref.IsWhole.readAt_unread (Val := Elt F) hm (X := x) (B := (Rect.unit _ _ inb).toLoadRect) (x := j)).trans (congrArg x (funext fun a => Fin.ext ?_))
  have i1 := inb 1
  have j0 : (j 0).val < 1024 := (j 0).isLt
  have j1 : (j 1).val < 128 := (j 1).isLt
  change h * 128 + 128 ≤ 256 at i1
  fin_cases a
  · show 0 + 1 * (j 0).val = (j 0).val % 1024; omega
  · show h * 128 + 1 * (j 1).val = (h * 128 + (j 1).val) % 256; omega

theorem rd_v (m : Memref sig .tc .vmem S1x2x144x16384 .bf16) (hm : m.IsWhole) (x : FVec F S1x2x144x16384 .bf16)
    {off : Fin 4 → ℕ} (inb : ∀ a, off a + S1x1x144x512.size a ≤ S1x2x144x16384.size a) (h n : ℕ)
    (ho : off = ![0, h, 0, n * 512]) :
    View.readAt (Elt F) m.view (Rect.unit (s := S1x2x144x16384) off S1x1x144x512.size inb).toLoadRect (hm.unread x) = vTile x h n := by
  subst ho
  funext j
  refine (Memref.IsWhole.readAt_unread (Val := Elt F) hm (X := x) (B := (Rect.unit _ _ inb).toLoadRect) (x := j)).trans (congrArg x (funext fun a => Fin.ext ?_))
  have i1 := inb 1; have i3 := inb 3
  have j0 : (j 0).val < 1 := (j 0).isLt
  have j1 : (j 1).val < 1 := (j 1).isLt
  have j2 : (j 2).val < 144 := (j 2).isLt
  have j3 : (j 3).val < 512 := (j 3).isLt
  change h + 1 ≤ 2 at i1
  change n * 512 + 512 ≤ 16384 at i3
  fin_cases a
  · show 0 + 1 * (j 0).val = 0; omega
  · show h + 1 * (j 1).val = h % 2; omega
  · show 0 + 1 * (j 2).val = (j 2).val % 144; omega
  · show n * 512 + 1 * (j 3).val = (n * 512 + (j 3).val) % 16384; omega

/-! ## Where the loads start -/

theorem trips_eq (i : grid1.Coords) : (k1_t1_loop i).trips = (i 2).val - 1 := by
  have h : ∀ n : Fin 16, (Scf.Loop.trips ⟨0#32, Scalar.addi 0#32 (Scalar.muli (Scalar.divsi (Scalar.subi (Scalar.subi (BitVec.ofNat 32 n.val) 1#32) 0#32) 1#32) 1#32), 1#32⟩ : ℕ) = n.val - 1 := by decide +kernel
  exact h (i 2)

theorem vec2 {a b c d : ℕ} (h : a = c) (h' : b = d) : (![a, b] : Fin 2 → ℕ) = ![c, d] := by rw [h, h']
theorem vec4 {p q r a d : ℕ} (h : a = d) : (![p, q, r, a] : Fin 4 → ℕ) = ![p, q, r, d] := by rw [h]

theorem trip_lt (i : grid1.Coords) (k : Fin (k1_t1_loop i).trips) : k.val < 16 := by
  have h1 := lt_of_lt_of_eq k.isLt (trips_eq i)
  have h2 : (i 2).val < 16 := (i 2).isLt
  omega

section Trip
variable (i : grid1.Coords) (k : Fin (k1_t1_loop i).trips)

theorem w_even : ∀ k : Fin 16, (Scalar.indexCast (Scalar.muli (Scalar.muli 2#32 (Scf.iv 0#32 1#32 k.val)) 512#32) : Index).toNat = (2 * k.val) * 512 := by decide +kernel
theorem w_odd : ∀ k : Fin 16, (Scalar.indexCast (Scalar.muli (Scalar.addi (Scalar.muli 2#32 (Scf.iv 0#32 1#32 k.val)) 1#32) 512#32) : Index).toNat = (2 * k.val + 1) * 512 := by decide +kernel
theorem w_two : ∀ k : Fin 16, (Scalar.indexCast (Scalar.muli (Scalar.addi (Scalar.muli 2#32 (Scf.iv 0#32 1#32 k.val)) 2#32) 512#32) : Index).toNat = (2 * k.val + 2) * 512 := by decide +kernel
theorem w_three : ∀ k : Fin 16, (Scalar.indexCast (Scalar.muli (Scalar.addi (Scalar.muli 2#32 (Scf.iv 0#32 1#32 k.val)) 3#32) 512#32) : Index).toNat = (2 * k.val + 3) * 512 := by decide +kernel

theorem off1_eq : k1_off1 i k = ![0, 0, 0, (2 * k.val) * 512] := vec4 (w_even ⟨k.val, trip_lt i k⟩)
theorem off2_eq : k1_off2 i k = ![0, 1, 0, (2 * k.val) * 512] := vec4 (w_even ⟨k.val, trip_lt i k⟩)
theorem off3_2_eq : k1_off3 i k 2#32 = ![(2 * k.val + 2) * 512, 0 * 128] := vec2 (w_two ⟨k.val, trip_lt i k⟩) rfl
theorem off3_3_eq : k1_off3 i k 3#32 = ![(2 * k.val + 3) * 512, 0 * 128] := vec2 (w_three ⟨k.val, trip_lt i k⟩) rfl
theorem off4_2_eq : k1_off4 i k 2#32 = ![(2 * k.val + 2) * 512, 1 * 128] := vec2 (w_two ⟨k.val, trip_lt i k⟩) rfl
theorem off4_3_eq : k1_off4 i k 3#32 = ![(2 * k.val + 3) * 512, 1 * 128] := vec2 (w_three ⟨k.val, trip_lt i k⟩) rfl
theorem off5_eq : k1_off5 i k = ![0, 0, 0, (2 * k.val + 1) * 512] := vec4 (w_odd ⟨k.val, trip_lt i k⟩)
theorem off6_eq : k1_off6 i k = ![0, 1, 0, (2 * k.val + 1) * 512] := vec4 (w_odd ⟨k.val, trip_lt i k⟩)
end Trip

section Point
variable (i : grid1.Coords)

theorem w_base : ∀ n : Fin 16, (Scalar.indexCast (Scalar.muli (Scalar.muli 2#32 (BitVec.ofNat 32 n.val)) 512#32) : Index).toNat = (2 * n.val) * 512 := by decide +kernel
theorem w_next : ∀ n : Fin 16, (Scalar.indexCast (Scalar.muli (Scalar.addi (Scalar.muli 2#32 (BitVec.ofNat 32 n.val)) 1#32) 512#32) : Index).toNat = (2 * n.val + 1) * 512 := by decide +kernel
theorem w_back2 : ∀ n : Fin 16, 0 < n.val → (Scalar.indexCast (Scalar.muli (Scalar.subi (Scalar.muli 2#32 (BitVec.ofNat 32 n.val)) 2#32) 512#32) : Index).toNat = (2 * (n.val - 1)) * 512 := by decide +kernel
theorem w_back1 : ∀ n : Fin 16, 0 < n.val → (Scalar.indexCast (Scalar.muli (Scalar.subi (Scalar.muli 2#32 (BitVec.ofNat 32 n.val)) 1#32) 512#32) : Index).toNat = (2 * (n.val - 1) + 1) * 512 := by decide +kernel

theorem off13_2_eq (h : 0 < (i 2).val) : k1_off13 i 2#32 = ![0, 0, 0, (2 * ((i 2).val - 1)) * 512] := vec4 (w_back2 (i 2) h)
theorem off13_1_eq (h : 0 < (i 2).val) : k1_off13 i 1#32 = ![0, 0, 0, (2 * ((i 2).val - 1) + 1) * 512] := vec4 (w_back1 (i 2) h)
theorem off14_2_eq (h : 0 < (i 2).val) : k1_off14 i 2#32 = ![0, 1, 0, (2 * ((i 2).val - 1)) * 512] := vec4 (w_back2 (i 2) h)
theorem off14_1_eq (h : 0 < (i 2).val) : k1_off14 i 1#32 = ![0, 1, 0, (2 * ((i 2).val - 1) + 1) * 512] := vec4 (w_back1 (i 2) h)
theorem off15_eq : k1_off15 i = ![(2 * (i 2).val) * 512, 0 * 128] := vec2 (w_base (i 2)) rfl
theorem off16_eq : k1_off16 i = ![(2 * (i 2).val) * 512, 1 * 128] := vec2 (w_base (i 2)) rfl
theorem off17_eq : k1_off17 i = ![(2 * (i 2).val + 1) * 512, 0 * 128] := vec2 (w_next (i 2)) rfl
theorem off18_eq : k1_off18 i = ![(2 * (i 2).val + 1) * 512, 1 * 128] := vec2 (w_next (i 2)) rfl
theorem off19_eq : k1_off19 i = ![0, 0, 0, (2 * (i 2).val) * 512] := vec4 (w_base (i 2))
theorem off20_eq : k1_off20 i = ![0, 1, 0, (2 * (i 2).val) * 512] := vec4 (w_base (i 2))
theorem off21_eq : k1_off21 i = ![0, 0, 0, (2 * (i 2).val + 1) * 512] := vec4 (w_next (i 2))
theorem off22_eq : k1_off22 i = ![0, 1, 0, (2 * (i 2).val + 1) * 512] := vec4 (w_next (i 2))
end Point

/-! ## The loads, one by one -/

theorem rd_q0 (m : Memref sig .tc .vmem S1024x256 .bf16) (hm : m.IsWhole) (x : FVec F S1024x256 .bf16) (inb : ∀ a, (![0, 0] : Fin 2 → ℕ) a + (![1024, 128] : Fin 2 → ℕ) a ≤ S1024x256.size a) :
    View.readAt (Elt F) m.view (Rect.unit (s := S1024x256) (![0, 0]) ![1024, 128] inb).toLoadRect (hm.unread x) = qTile x 0 := rd_q m hm x inb 0 rfl
theorem rd_k00 (m : Memref sig .tc .vmem S16384x256 .bf16) (hm : m.IsWhole) (x : FVec F S16384x256 .bf16) (inb : ∀ a, (![0, 0] : Fin 2 → ℕ) a + (![512, 128] : Fin 2 → ℕ) a ≤ S16384x256.size a) :
    View.readAt (Elt F) m.view (Rect.unit (s := S16384x256) (![0, 0]) ![512, 128] inb).toLoadRect (hm.unread x) = kTile x 0 (0) := rd_k m hm x inb 0 (0) rfl
theorem rd_v00 (m : Memref sig .tc .vmem S1x2x144x16384 .bf16) (hm : m.IsWhole) (x : FVec F S1x2x144x16384 .bf16) (inb : ∀ a, (![0, 0, 0, 0] : Fin 4 → ℕ) a + (![1, 1, 144, 512] : Fin 4 → ℕ) a ≤ S1x2x144x16384.size a) :
    View.readAt (Elt F) m.view (Rect.unit (s := S1x2x144x16384) (![0, 0, 0, 0]) ![1, 1, 144, 512] inb).toLoadRect (hm.unread x) = vTile x 0 (0) := rd_v m hm x inb 0 (0) rfl
theorem rd_k01 (m : Memref sig .tc .vmem S16384x256 .bf16) (hm : m.IsWhole) (x : FVec F S16384x256 .bf16) (inb : ∀ a, (![512, 0] : Fin 2 → ℕ) a + (![512, 128] : Fin 2 → ℕ) a ≤ S16384x256.size a) :
    View.readAt (Elt F) m.view (Rect.unit (s := S16384x256) (![512, 0]) ![512, 128] inb).toLoadRect (hm.unread x) = kTile x 0 (1) := rd_k m hm x inb 0 (1) rfl
theorem rd_v01 (m : Memref sig .tc .vmem S1x2x144x16384 .bf16) (hm : m.IsWhole) (x : FVec F S1x2x144x16384 .bf16) (inb : ∀ a, (![0, 0, 0, 512] : Fin 4 → ℕ) a + (![1, 1, 144, 512] : Fin 4 → ℕ) a ≤ S1x2x144x16384.size a) :
    View.readAt (Elt F) m.view (Rect.unit (s := S1x2x144x16384) (![0, 0, 0, 512]) ![1, 1, 144, 512] inb).toLoadRect (hm.unread x) = vTile x 0 (1) := rd_v m hm x inb 0 (1) rfl
theorem rd_q1 (m : Memref sig .tc .vmem S1024x256 .bf16) (hm : m.IsWhole) (x : FVec F S1024x256 .bf16) (inb : ∀ a, (![0, 128] : Fin 2 → ℕ) a + (![1024, 128] : Fin 2 → ℕ) a ≤ S1024x256.size a) :
    View.readAt (Elt F) m.view (Rect.unit (s := S1024x256) (![0, 128]) ![1024, 128] inb).toLoadRect (hm.unread x) = qTile x 1 := rd_q m hm x inb 1 rfl
theorem rd_k10 (m : Memref sig .tc .vmem S16384x256 .bf16) (hm : m.IsWhole) (x : FVec F S16384x256 .bf16) (inb : ∀ a, (![0, 128] : Fin 2 → ℕ) a + (![512, 128] : Fin 2 → ℕ) a ≤ S16384x256.size a) :
    View.readAt (Elt F) m.view (Rect.unit (s := S16384x256) (![0, 128]) ![512, 128] inb).toLoadRect (hm.unread x) = kTile x 1 (0) := rd_k m hm x inb 1 (0) rfl
theorem rd_v10 (m : Memref sig .tc .vmem S1x2x144x16384 .bf16) (hm : m.IsWhole) (x : FVec F S1x2x144x16384 .bf16) (inb : ∀ a, (![0, 1, 0, 0] : Fin 4 → ℕ) a + (![1, 1, 144, 512] : Fin 4 → ℕ) a ≤ S1x2x144x16384.size a) :
    View.readAt (Elt F) m.view (Rect.unit (s := S1x2x144x16384) (![0, 1, 0, 0]) ![1, 1, 144, 512] inb).toLoadRect (hm.unread x) = vTile x 1 (0) := rd_v m hm x inb 1 (0) rfl
theorem rd_k11 (m : Memref sig .tc .vmem S16384x256 .bf16) (hm : m.IsWhole) (x : FVec F S16384x256 .bf16) (inb : ∀ a, (![512, 128] : Fin 2 → ℕ) a + (![512, 128] : Fin 2 → ℕ) a ≤ S16384x256.size a) :
    View.readAt (Elt F) m.view (Rect.unit (s := S16384x256) (![512, 128]) ![512, 128] inb).toLoadRect (hm.unread x) = kTile x 1 (1) := rd_k m hm x inb 1 (1) rfl
theorem rd_v11 (m : Memref sig .tc .vmem S1x2x144x16384 .bf16) (hm : m.IsWhole) (x : FVec F S1x2x144x16384 .bf16) (inb : ∀ a, (![0, 1, 0, 512] : Fin 4 → ℕ) a + (![1, 1, 144, 512] : Fin 4 → ℕ) a ≤ S1x2x144x16384.size a) :
    View.readAt (Elt F) m.view (Rect.unit (s := S1x2x144x16384) (![0, 1, 0, 512]) ![1, 1, 144, 512] inb).toLoadRect (hm.unread x) = vTile x 1 (1) := rd_v m hm x inb 1 (1) rfl
theorem rd_o1 (i : grid1.Coords) (k : Fin (k1_t1_loop i).trips) (m : Memref sig .tc .vmem S1x2x144x16384 .bf16) (hm : m.IsWhole) (x : FVec F S1x2x144x16384 .bf16) (inb : ∀ a, (k1_off1 i k : Fin 4 → ℕ) a + (![1, 1, 144, 512] : Fin 4 → ℕ) a ≤ S1x2x144x16384.size a) :
    View.readAt (Elt F) m.view (Rect.unit (s := S1x2x144x16384) (k1_off1 i k) ![1, 1, 144, 512] inb).toLoadRect (hm.unread x) = vTile x 0 (2 * k.val) := rd_v m hm x inb 0 (2 * k.val) (off1_eq i k)
theorem rd_o2 (i : grid1.Coords) (k : Fin (k1_t1_loop i).trips) (m : Memref sig .tc .vmem S1x2x144x16384 .bf16) (hm : m.IsWhole) (x : FVec F S1x2x144x16384 .bf16) (inb : ∀ a, (k1_off2 i k : Fin 4 → ℕ) a + (![1, 1, 144, 512] : Fin 4 → ℕ) a ≤ S1x2x144x16384.size a) :
    View.readAt (Elt F) m.view (Rect.unit (s := S1x2x144x16384) (k1_off2 i k) ![1, 1, 144, 512] inb).toLoadRect (hm.unread x) = vTile x 1 (2 * k.val) := rd_v m hm x inb 1 (2 * k.val) (off2_eq i k)
theorem rd_o5 (i : grid1.Coords) (k : Fin (k1_t1_loop i).trips) (m : Memref sig .tc .vmem S1x2x144x16384 .bf16) (hm : m.IsWhole) (x : FVec F S1x2x144x16384 .bf16) (inb : ∀ a, (k1_off5 i k : Fin 4 → ℕ) a + (![1, 1, 144, 512] : Fin 4 → ℕ) a ≤ S1x2x144x16384.size a) :
    View.readAt (Elt F) m.view (Rect.unit (s := S1x2x144x16384) (k1_off5 i k) ![1, 1, 144, 512] inb).toLoadRect (hm.unread x) = vTile x 0 (2 * k.val + 1) := rd_v m hm x inb 0 (2 * k.val + 1) (off5_eq i k)
theorem rd_o6 (i : grid1.Coords) (k : Fin (k1_t1_loop i).trips) (m : Memref sig .tc .vmem S1x2x144x16384 .bf16) (hm : m.IsWhole) (x : FVec F S1x2x144x16384 .bf16) (inb : ∀ a, (k1_off6 i k : Fin 4 → ℕ) a + (![1, 1, 144, 512] : Fin 4 → ℕ) a ≤ S1x2x144x16384.size a) :
    View.readAt (Elt F) m.view (Rect.unit (s := S1x2x144x16384) (k1_off6 i k) ![1, 1, 144, 512] inb).toLoadRect (hm.unread x) = vTile x 1 (2 * k.val + 1) := rd_v m hm x inb 1 (2 * k.val + 1) (off6_eq i k)
theorem rd_o3_2 (i : grid1.Coords) (k : Fin (k1_t1_loop i).trips) (m : Memref sig .tc .vmem S16384x256 .bf16) (hm : m.IsWhole) (x : FVec F S16384x256 .bf16) (inb : ∀ a, (k1_off3 i k 2#32 : Fin 2 → ℕ) a + (![512, 128] : Fin 2 → ℕ) a ≤ S16384x256.size a) :
    View.readAt (Elt F) m.view (Rect.unit (s := S16384x256) (k1_off3 i k 2#32) ![512, 128] inb).toLoadRect (hm.unread x) = kTile x 0 (2 * k.val + 2) := rd_k m hm x inb 0 (2 * k.val + 2) (off3_2_eq i k)
theorem rd_o3_3 (i : grid1.Coords) (k : Fin (k1_t1_loop i).trips) (m : Memref sig .tc .vmem S16384x256 .bf16) (hm : m.IsWhole) (x : FVec F S16384x256 .bf16) (inb : ∀ a, (k1_off3 i k 3#32 : Fin 2 → ℕ) a + (![512, 128] : Fin 2 → ℕ) a ≤ S16384x256.size a) :
    View.readAt (Elt F) m.view (Rect.unit (s := S16384x256) (k1_off3 i k 3#32) ![512, 128] inb).toLoadRect (hm.unread x) = kTile x 0 (2 * k.val + 3) := rd_k m hm x inb 0 (2 * k.val + 3) (off3_3_eq i k)
theorem rd_o4_2 (i : grid1.Coords) (k : Fin (k1_t1_loop i).trips) (m : Memref sig .tc .vmem S16384x256 .bf16) (hm : m.IsWhole) (x : FVec F S16384x256 .bf16) (inb : ∀ a, (k1_off4 i k 2#32 : Fin 2 → ℕ) a + (![512, 128] : Fin 2 → ℕ) a ≤ S16384x256.size a) :
    View.readAt (Elt F) m.view (Rect.unit (s := S16384x256) (k1_off4 i k 2#32) ![512, 128] inb).toLoadRect (hm.unread x) = kTile x 1 (2 * k.val + 2) := rd_k m hm x inb 1 (2 * k.val + 2) (off4_2_eq i k)
theorem rd_o4_3 (i : grid1.Coords) (k : Fin (k1_t1_loop i).trips) (m : Memref sig .tc .vmem S16384x256 .bf16) (hm : m.IsWhole) (x : FVec F S16384x256 .bf16) (inb : ∀ a, (k1_off4 i k 3#32 : Fin 2 → ℕ) a + (![512, 128] : Fin 2 → ℕ) a ≤ S16384x256.size a) :
    View.readAt (Elt F) m.view (Rect.unit (s := S16384x256) (k1_off4 i k 3#32) ![512, 128] inb).toLoadRect (hm.unread x) = kTile x 1 (2 * k.val + 3) := rd_k m hm x inb 1 (2 * k.val + 3) (off4_3_eq i k)
theorem rd_o13_2 (i : grid1.Coords) (hi : 0 < (i 2).val) (m : Memref sig .tc .vmem S1x2x144x16384 .bf16) (hm : m.IsWhole) (x : FVec F S1x2x144x16384 .bf16) (inb : ∀ a, (k1_off13 i 2#32 : Fin 4 → ℕ) a + (![1, 1, 144, 512] : Fin 4 → ℕ) a ≤ S1x2x144x16384.size a) :
    View.readAt (Elt F) m.view (Rect.unit (s := S1x2x144x16384) (k1_off13 i 2#32) ![1, 1, 144, 512] inb).toLoadRect (hm.unread x) = vTile x 0 (2 * ((i 2).val - 1)) := rd_v m hm x inb 0 (2 * ((i 2).val - 1)) (off13_2_eq i hi)
theorem rd_o13_1 (i : grid1.Coords) (hi : 0 < (i 2).val) (m : Memref sig .tc .vmem S1x2x144x16384 .bf16) (hm : m.IsWhole) (x : FVec F S1x2x144x16384 .bf16) (inb : ∀ a, (k1_off13 i 1#32 : Fin 4 → ℕ) a + (![1, 1, 144, 512] : Fin 4 → ℕ) a ≤ S1x2x144x16384.size a) :
    View.readAt (Elt F) m.view (Rect.unit (s := S1x2x144x16384) (k1_off13 i 1#32) ![1, 1, 144, 512] inb).toLoadRect (hm.unread x) = vTile x 0 (2 * ((i 2).val - 1) + 1) := rd_v m hm x inb 0 (2 * ((i 2).val - 1) + 1) (off13_1_eq i hi)
theorem rd_o14_2 (i : grid1.Coords) (hi : 0 < (i 2).val) (m : Memref sig .tc .vmem S1x2x144x16384 .bf16) (hm : m.IsWhole) (x : FVec F S1x2x144x16384 .bf16) (inb : ∀ a, (k1_off14 i 2#32 : Fin 4 → ℕ) a + (![1, 1, 144, 512] : Fin 4 → ℕ) a ≤ S1x2x144x16384.size a) :
    View.readAt (Elt F) m.view (Rect.unit (s := S1x2x144x16384) (k1_off14 i 2#32) ![1, 1, 144, 512] inb).toLoadRect (hm.unread x) = vTile x 1 (2 * ((i 2).val - 1)) := rd_v m hm x inb 1 (2 * ((i 2).val - 1)) (off14_2_eq i hi)
theorem rd_o14_1 (i : grid1.Coords) (hi : 0 < (i 2).val) (m : Memref sig .tc .vmem S1x2x144x16384 .bf16) (hm : m.IsWhole) (x : FVec F S1x2x144x16384 .bf16) (inb : ∀ a, (k1_off14 i 1#32 : Fin 4 → ℕ) a + (![1, 1, 144, 512] : Fin 4 → ℕ) a ≤ S1x2x144x16384.size a) :
    View.readAt (Elt F) m.view (Rect.unit (s := S1x2x144x16384) (k1_off14 i 1#32) ![1, 1, 144, 512] inb).toLoadRect (hm.unread x) = vTile x 1 (2 * ((i 2).val - 1) + 1) := rd_v m hm x inb 1 (2 * ((i 2).val - 1) + 1) (off14_1_eq i hi)
theorem rd_o15 (i : grid1.Coords) (m : Memref sig .tc .vmem S16384x256 .bf16) (hm : m.IsWhole) (x : FVec F S16384x256 .bf16) (inb : ∀ a, (k1_off15 i : Fin 2 → ℕ) a + (![512, 128] : Fin 2 → ℕ) a ≤ S16384x256.size a) :
    View.readAt (Elt F) m.view (Rect.unit (s := S16384x256) (k1_off15 i) ![512, 128] inb).toLoadRect (hm.unread x) = kTile x 0 (2 * (i 2).val) := rd_k m hm x inb 0 (2 * (i 2).val) (off15_eq i)
theorem rd_o16 (i : grid1.Coords) (m : Memref sig .tc .vmem S16384x256 .bf16) (hm : m.IsWhole) (x : FVec F S16384x256 .bf16) (inb : ∀ a, (k1_off16 i : Fin 2 → ℕ) a + (![512, 128] : Fin 2 → ℕ) a ≤ S16384x256.size a) :
    View.readAt (Elt F) m.view (Rect.unit (s := S16384x256) (k1_off16 i) ![512, 128] inb).toLoadRect (hm.unread x) = kTile x 1 (2 * (i 2).val) := rd_k m hm x inb 1 (2 * (i 2).val) (off16_eq i)
theorem rd_o17 (i : grid1.Coords) (m : Memref sig .tc .vmem S16384x256 .bf16) (hm : m.IsWhole) (x : FVec F S16384x256 .bf16) (inb : ∀ a, (k1_off17 i : Fin 2 → ℕ) a + (![512, 128] : Fin 2 → ℕ) a ≤ S16384x256.size a) :
    View.readAt (Elt F) m.view (Rect.unit (s := S16384x256) (k1_off17 i) ![512, 128] inb).toLoadRect (hm.unread x) = kTile x 0 (2 * (i 2).val + 1) := rd_k m hm x inb 0 (2 * (i 2).val + 1) (off17_eq i)
theorem rd_o18 (i : grid1.Coords) (m : Memref sig .tc .vmem S16384x256 .bf16) (hm : m.IsWhole) (x : FVec F S16384x256 .bf16) (inb : ∀ a, (k1_off18 i : Fin 2 → ℕ) a + (![512, 128] : Fin 2 → ℕ) a ≤ S16384x256.size a) :
    View.readAt (Elt F) m.view (Rect.unit (s := S16384x256) (k1_off18 i) ![512, 128] inb).toLoadRect (hm.unread x) = kTile x 1 (2 * (i 2).val + 1) := rd_k m hm x inb 1 (2 * (i 2).val + 1) (off18_eq i)
theorem rd_o19 (i : grid1.Coords) (m : Memref sig .tc .vmem S1x2x144x16384 .bf16) (hm : m.IsWhole) (x : FVec F S1x2x144x16384 .bf16) (inb : ∀ a, (k1_off19 i : Fin 4 → ℕ) a + (![1, 1, 144, 512] : Fin 4 → ℕ) a ≤ S1x2x144x16384.size a) :
    View.readAt (Elt F) m.view (Rect.unit (s := S1x2x144x16384) (k1_off19 i) ![1, 1, 144, 512] inb).toLoadRect (hm.unread x) = vTile x 0 (2 * (i 2).val) := rd_v m hm x inb 0 (2 * (i 2).val) (off19_eq i)
theorem rd_o20 (i : grid1.Coords) (m : Memref sig .tc .vmem S1x2x144x16384 .bf16) (hm : m.IsWhole) (x : FVec F S1x2x144x16384 .bf16) (inb : ∀ a, (k1_off20 i : Fin 4 → ℕ) a + (![1, 1, 144, 512] : Fin 4 → ℕ) a ≤ S1x2x144x16384.size a) :
    View.readAt (Elt F) m.view (Rect.unit (s := S1x2x144x16384) (k1_off20 i) ![1, 1, 144, 512] inb).toLoadRect (hm.unread x) = vTile x 1 (2 * (i 2).val) := rd_v m hm x inb 1 (2 * (i 2).val) (off20_eq i)
theorem rd_o21 (i : grid1.Coords) (m : Memref sig .tc .vmem S1x2x144x16384 .bf16) (hm : m.IsWhole) (x : FVec F S1x2x144x16384 .bf16) (inb : ∀ a, (k1_off21 i : Fin 4 → ℕ) a + (![1, 1, 144, 512] : Fin 4 → ℕ) a ≤ S1x2x144x16384.size a) :
    View.readAt (Elt F) m.view (Rect.unit (s := S1x2x144x16384) (k1_off21 i) ![1, 1, 144, 512] inb).toLoadRect (hm.unread x) = vTile x 0 (2 * (i 2).val + 1) := rd_v m hm x inb 0 (2 * (i 2).val + 1) (off21_eq i)
theorem rd_o22 (i : grid1.Coords) (m : Memref sig .tc .vmem S1x2x144x16384 .bf16) (hm : m.IsWhole) (x : FVec F S1x2x144x16384 .bf16) (inb : ∀ a, (k1_off22 i : Fin 4 → ℕ) a + (![1, 1, 144, 512] : Fin 4 → ℕ) a ≤ S1x2x144x16384.size a) :
    View.readAt (Elt F) m.view (Rect.unit (s := S1x2x144x16384) (k1_off22 i) ![1, 1, 144, 512] inb).toLoadRect (hm.unread x) = vTile x 1 (2 * (i 2).val + 1) := rd_v m hm x inb 1 (2 * (i 2).val + 1) (off22_eq i)

end Cert.KernelIdeal.Gen

end
-- ==== Proof.Trip.lean ====
module

public import proofs.«01_k».proof.Proof.Reads
public import proofs.«01_k».proof.Proof.Gen.KernelIdeal.Loops

/-!
# One trip of the attention body's loop

The loop takes two blocks of keys a trip. Before a trip the scratch holds, of each of the two heads: the running
maximum, the last block's rescaling factor and weights (not yet accumulated), the accumulator, and the raw scores of
the next block. `Held` says so, and `trip_held` says what it holds after the trip.
-/

@[expose] public section

set_option maxRecDepth 16384

noncomputable section

namespace Cert.KernelIdeal.Gen

open Idealize.ShloMosaic Idealize.ShloMosaic.TcCoe

variable {F : FTy → Type} [FloatOps F]

/-- What one head's scratch holds between blocks. -/
structure Head (F : FTy → Type) where
  m : FVec F S1x1024 .f32
  a : FVec F S1x1024 .f32
  p : FVec F S512x1024 .bf16
  acc : FVec F S144x1024 .f32
  s : FVec F S512x1024 .f32

/-- The scratch buffers hold the two heads' states, the raw scores in the second slot. -/
structure Held (arg9 : Memref sig .tc .vmem S2x1x1024 .f32) (arg10 : Memref sig .tc .vmem S2x144x1024 .f32) (arg11 : Memref sig .tc .vmem S2x2x512x1024 .f32) (arg12 : Memref sig .tc .vmem S2x512x1024 .bf16) (arg13 : Memref sig .tc .vmem S2x1x1024 .f32)
    (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (X Y : Head F) : Prop where
  m0 : View.readAt (Elt F) arg9.view (Rect.unit (s := S2x1x1024) ![0, 0, 0] S1x1x1024.size inb_S2x1x1024_S1x1x1024_0_0_0).toLoadRect f9 = up3 X.m
  m1 : View.readAt (Elt F) arg9.view (Rect.unit (s := S2x1x1024) ![1, 0, 0] S1x1x1024.size inb_S2x1x1024_S1x1x1024_1_0_0).toLoadRect f9 = up3 Y.m
  a0 : View.readAt (Elt F) arg13.view (Rect.unit (s := S2x1x1024) ![0, 0, 0] S1x1x1024.size inb_S2x1x1024_S1x1x1024_0_0_0).toLoadRect f13 = up3 X.a
  a1 : View.readAt (Elt F) arg13.view (Rect.unit (s := S2x1x1024) ![1, 0, 0] S1x1x1024.size inb_S2x1x1024_S1x1x1024_1_0_0).toLoadRect f13 = up3 Y.a
  p0 : View.readAt (Elt F) arg12.view (Rect.unit (s := S2x512x1024) ![0, 0, 0] S1x512x1024.size inb_S2x512x1024_S1x512x1024_0_0_0).toLoadRect f12 = prU X.p
  p1 : View.readAt (Elt F) arg12.view (Rect.unit (s := S2x512x1024) ![1, 0, 0] S1x512x1024.size inb_S2x512x1024_S1x512x1024_1_0_0).toLoadRect f12 = prU Y.p
  acc0 : View.readAt (Elt F) arg10.view (Rect.unit (s := S2x144x1024) ![0, 0, 0] S1x144x1024.size inb_S2x144x1024_S1x144x1024_0_0_0).toLoadRect f10 = accU X.acc
  acc1 : View.readAt (Elt F) arg10.view (Rect.unit (s := S2x144x1024) ![1, 0, 0] S1x144x1024.size inb_S2x144x1024_S1x144x1024_1_0_0).toLoadRect f10 = accU Y.acc
  s0 : View.readAt (Elt F) arg11.view (Rect.unit (s := S2x2x512x1024) ![1, 0, 0, 0] S1x1x512x1024.size inb_S2x2x512x1024_S1x1x512x1024_1_0_0_0).toLoadRect f11 = scU X.s
  s1 : View.readAt (Elt F) arg11.view (Rect.unit (s := S2x2x512x1024) ![1, 1, 0, 0] S1x1x512x1024.size inb_S2x2x512x1024_S1x1x512x1024_1_1_0_0).toLoadRect f11 = scU Y.s

/-- One block done: its scores `s` meet the running maximum, the block before (values `v`) is accumulated, and the next
    block's raw scores `t` take the place of `s`. -/
def Head.next (H : Head F) (v : FVec F S144x512 .bf16) (t : FVec F S512x1024 .f32) : Head F where
  m := mx H.m H.s
  a := al H.m H.s
  p := pr H.m H.s
  acc := ac H.a H.acc v H.p
  s := t

/-- The raw scores of block `n` of head `h`. -/
def rawScore (x0 x1 : FVec F S16384x256 .bf16) (x3 x4 : FVec F S1024x256 .bf16) (h n : ℕ) : FVec F S512x1024 .f32 :=
  sc (qTile x3 h) (qTile x4 h) (kTile x0 h n) (kTile x1 h n)

theorem trip_held (𝒱 : Variants) (c : Dev nD) (bd : Option 𝒱.V) (i : grid1.Coords) (arg3 : Memref sig .tc .vmem S16384x256 .bf16) (harg3 : arg3.IsWhole) (arg4 : Memref sig .tc .vmem S16384x256 .bf16) (harg4 : arg4.IsWhole) (arg5 : Memref sig .tc .vmem S1x2x144x16384 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S2x144x1024 .f32) (harg10 : arg10.IsWhole) (arg11 : Memref sig .tc .vmem S2x2x512x1024 .f32) (harg11 : arg11.IsWhole) (arg12 : Memref sig .tc .vmem S2x512x1024 .bf16) (harg12 : arg12.IsWhole) (arg13 : Memref sig .tc .vmem S2x1x1024 .f32) (harg13 : arg13.IsWhole) (arg2 : BitVec 32) (k1_h2 : k1_cond2 i = 1#1) (v32 : BitVec 32) (v123 : FVec F S512x1024 .f32)
    (x0 x1 : FVec F S16384x256 .bf16) (x2 : FVec F S1x2x144x16384 .bf16) (x3 x4 : FVec F S1024x256 .bf16)
    (k : Fin (k1_t1_loop i).trips)
    (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (X Y : Head F) (H : Held arg9 arg10 arg11 arg12 arg13 f9 f10 f11 f12 f13 X Y) :
    let T := trip_k1_t1 (F := F) 𝒱 c bd i arg3 harg3 arg4 harg4 arg5 harg5 arg6 harg6 arg7 harg7 arg8 harg8 arg9 harg9 arg10 harg10 arg11 harg11 arg12 harg12 arg13 harg13 arg2 k1_h2 v32 v123 (harg3.unread x0) (harg4.unread x1) (harg5.unread x2) (harg6.unread x3) (harg7.unread x4) k
    Held arg9 arg10 arg11 arg12 arg13 (arg9.view.writes (Elt F) f9 (T.1 f9 f10 f11 f12 f13)) (arg10.view.writes (Elt F) f10 (T.2.1 f9 f10 f11 f12 f13))
      (arg11.view.writes (Elt F) f11 (T.2.2.1 f9 f10 f11 f12 f13)) (arg12.view.writes (Elt F) f12 (T.2.2.2.1 f9 f10 f11 f12 f13)) (arg13.view.writes (Elt F) f13 (T.2.2.2.2.1 f9 f10 f11 f12 f13))
      ((X.next (vD (vTile x2 0 (2 * k.val))) (rawScore x0 x1 x3 x4 0 (2 * k.val + 2))).next (vD (vTile x2 0 (2 * k.val + 1))) (rawScore x0 x1 x3 x4 0 (2 * k.val + 3)))
      ((Y.next (vD (vTile x2 1 (2 * k.val))) (rawScore x0 x1 x3 x4 1 (2 * k.val + 2))).next (vD (vTile x2 1 (2 * k.val + 1))) (rawScore x0 x1 x3 x4 1 (2 * k.val + 3))) := by
  intro T
  obtain ⟨m0, m1, a0, a1, p0, p1, c0, c1, s0, s1⟩ := H
  unfold T trip_k1_t1
  dsimp only
  constructor <;>
  simp (disch := decide) only [trip_k1_t1.sl.HW_arg10_2, trip_k1_t1.sl.HW_arg10_3, trip_k1_t1.sl.HW_arg11_4, trip_k1_t1.sl.HW_arg12_2, trip_k1_t1.sl.HW_arg13_2, trip_k1_t1.sl.HW_arg9_2, trip_k1_t1.sl.HW_arg9_3, trip_k1_t1.sl.arg14, trip_k1_t1.sl.cst_532, trip_k1_t1.sl.r, trip_k1_t1.sl.r_1, trip_k1_t1.sl.r_10, trip_k1_t1.sl.r_11, trip_k1_t1.sl.r_2, trip_k1_t1.sl.r_3, trip_k1_t1.sl.r_4, trip_k1_t1.sl.r_5, trip_k1_t1.sl.r_6, trip_k1_t1.sl.r_7, trip_k1_t1.sl.r_8, trip_k1_t1.sl.r_9, trip_k1_t1.sl.v485, trip_k1_t1.sl.v506, trip_k1_t1.sl.v547, trip_k1_t1.sl.v569, trip_k1_t1.sl.v571, trip_k1_t1.sl.v591, trip_k1_t1.sl.v592, trip_k1_t1.sl.v594, trip_k1_t1.sl.v596, trip_k1_t1.sl.v603, trip_k1_t1.sl.v610, trip_k1_t1.sl.v612, trip_k1_t1.sl.v619, trip_k1_t1.sl.v626, trip_k1_t1.sl.v627, trip_k1_t1.sl.v653, trip_k1_t1.sl.v655, trip_k1_t1.sl.v675, trip_k1_t1.sl.v677, readCov_eq, rd_hit, rd_skip, m0, m1, a0, a1, p0, p1, c0, c1, s0, s1,
    rd_q0, rd_k00, rd_v00, rd_k01, rd_v01, rd_q1, rd_k10, rd_v10, rd_k11, rd_v11, rd_o1, rd_o2, rd_o5, rd_o6, rd_o3_2, rd_o3_3, rd_o4_2, rd_o4_3,
    k1_pay1_eq, k1_pay2_eq, k1_pay116_eq, k1_pay3_eq, k1_pay117_eq, k1_pay4_eq, k1_pay61_eq, k1_pay100_eq, k1_pay5_eq, k1_pay6_eq, k1_pay7_eq, k1_pay8_eq, k1_pay14_eq, k1_pay23_eq, k1_pay30_eq, k1_pay46_eq, k1_pay52_eq, k1_pay66_eq, k1_pay73_eq, k1_pay85_eq, k1_pay91_eq, k1_pay105_eq, k1_pay112_eq, k1_pay119_eq, k1_pay125_eq, k1_pay141_eq, k1_pay147_eq, k1_pay152_eq, k1_pay160_eq, k1_pay166_eq, k1_pay176_eq, k1_pay182_eq, k1_pay9_eq, k1_pay10_eq, k1_pay11_eq, k1_pay12_eq, k1_pay13_eq, k1_pay15_eq, k1_pay16_eq, k1_pay17_eq, k1_pay19_eq, k1_pay26_eq, k1_pay28_eq, k1_pay35_eq, k1_pay71_eq, k1_pay110_eq, k1_pay130_eq, k1_pay134_eq, k1_pay135_eq, k1_pay145_eq, k1_pay185_eq, k1_pay187_eq, k1_pay18_eq, k1_pay27_eq, k1_pay186_eq, k1_pay20_eq, k1_pay21_eq, k1_pay22_eq, k1_pay24_eq, k1_pay25_eq, k1_pay29_eq, k1_pay31_eq, k1_pay32_eq, k1_pay33_eq, k1_pay34_eq, k1_pay36_eq, k1_pay37_eq, k1_pay39_eq, k1_pay78_eq, k1_pay171_eq, k1_pay38_eq, k1_pay77_eq, k1_pay40_eq, k1_pay79_eq, k1_pay41_eq, k1_pay80_eq, k1_pay42_eq, k1_pay81_eq, k1_pay43_eq, k1_pay82_eq, k1_pay44_eq, k1_pay83_eq, k1_pay133_eq, k1_pay45_eq, k1_pay51_eq, k1_pay65_eq, k1_pay72_eq, k1_pay84_eq, k1_pay90_eq, k1_pay104_eq, k1_pay111_eq, k1_pay118_eq, k1_pay124_eq, k1_pay140_eq, k1_pay146_eq, k1_pay157_eq, k1_pay47_eq, k1_pay48_eq, k1_pay49_eq, k1_pay50_eq, k1_pay53_eq, k1_pay54_eq, k1_pay93_eq, k1_pay55_eq, k1_pay56_eq, k1_pay57_eq, k1_pay58_eq, k1_pay97_eq, k1_pay59_eq, k1_pay98_eq, k1_pay60_eq, k1_pay99_eq, k1_pay62_eq, k1_pay101_eq, k1_pay63_eq, k1_pay102_eq, k1_pay64_eq, k1_pay103_eq, k1_pay67_eq, k1_pay68_eq, k1_pay69_eq, k1_pay70_eq, k1_pay109_eq, k1_pay74_eq, k1_pay75_eq, k1_pay76_eq, k1_pay86_eq, k1_pay87_eq, k1_pay88_eq, k1_pay89_eq, k1_pay92_eq, k1_pay94_eq, k1_pay95_eq, k1_pay96_eq, k1_pay106_eq, k1_pay107_eq, k1_pay108_eq, k1_pay113_eq, k1_pay114_eq, k1_pay115_eq, k1_pay120_eq, k1_pay121_eq, k1_pay122_eq, k1_pay123_eq, k1_pay126_eq, k1_pay127_eq, k1_pay128_eq, k1_pay129_eq, k1_pay131_eq, k1_pay132_eq, k1_pay136_eq, k1_pay137_eq, k1_pay138_eq, k1_pay139_eq, k1_pay142_eq, k1_pay143_eq, k1_pay144_eq, k1_pay148_eq, k1_pay149_eq, k1_pay150_eq, k1_pay151_eq, k1_pay153_eq, k1_pay154_eq, k1_pay155_eq, k1_pay156_eq, k1_pay158_eq, k1_pay159_eq, k1_pay161_eq, k1_pay162_eq, k1_pay163_eq, k1_pay164_eq, k1_pay165_eq, k1_pay167_eq, k1_pay168_eq, k1_pay169_eq, k1_pay170_eq, k1_pay172_eq, k1_pay173_eq, k1_pay174_eq, k1_pay175_eq, k1_pay177_eq, k1_pay178_eq, k1_pay179_eq, k1_pay180_eq, k1_pay181_eq, k1_pay183_eq, k1_pay184_eq, k1_pay188_eq, k1_pay189_eq, k1_pay190_eq, k1_pay191_eq, k1_pay192_eq, k1_pay193_eq, k1_pay194_eq,
    dn3_up3, accD_accU, scD_scU, prD_prU, Head.next, rawScore, sc, mx, al, pr, ac, mScore]

end Cert.KernelIdeal.Gen

end
-- ==== Proof.Loop.lean ====
module

public import proofs.«01_k».proof.Proof.Trip

/-!
# The scratch after any number of blocks

One head's state after a number of blocks, from the sequence of its score blocks and value blocks; the loop carries the
state two blocks a trip.
-/

@[expose] public section

set_option maxRecDepth 16384

noncomputable section

namespace Cert.KernelIdeal.Gen

open Idealize.ShloMosaic Idealize.ShloMosaic.TcCoe

variable {F : FTy → Type} [FloatOps F]

/-- Minus infinity for every query: the running maximum before any block. -/
def noMax : FVec F S1x1024 .f32 := broadcast S1x1024 (Scalar.ofBits .f32 0xFF800000#32)
/-- The empty accumulator. -/
def noAcc : FVec F S144x1024 .f32 := broadcast S144x1024 (Scalar.ofBits .f32 0x00000000#32)

/-- The running maximum before block `n`. -/
def maxAt (s : ℕ → FVec F S512x1024 .f32) : ℕ → FVec F S1x1024 .f32
  | 0 => noMax
  | n + 1 => mx (maxAt s n) (s n)
/-- The accumulator before block `n`. -/
def accAt (s : ℕ → FVec F S512x1024 .f32) (v : ℕ → FVec F S144x512 .bf16) : ℕ → FVec F S144x1024 .f32
  | 0 => noAcc
  | n + 1 => ac (al (maxAt s n) (s n)) (accAt s v n) (v n) (pr (maxAt s n) (s n))
/-- The head's scratch once block `n`'s scores have met the maximum: the block itself is not accumulated yet, and the
    next block's scores wait. -/
def headAt (s : ℕ → FVec F S512x1024 .f32) (v : ℕ → FVec F S144x512 .bf16) (n : ℕ) : Head F :=
  ⟨maxAt s (n + 1), al (maxAt s n) (s n), pr (maxAt s n) (s n), accAt s v n, s (n + 1)⟩

theorem headAt_next (s : ℕ → FVec F S512x1024 .f32) (v : ℕ → FVec F S144x512 .bf16) (n : ℕ) :
    (headAt s v n).next (v n) (s (n + 2)) = headAt s v (n + 1) := rfl

theorem loop_held (𝒱 : Variants) (c : Dev nD) (bd : Option 𝒱.V) (i : grid1.Coords) (arg3 : Memref sig .tc .vmem S16384x256 .bf16) (harg3 : arg3.IsWhole) (arg4 : Memref sig .tc .vmem S16384x256 .bf16) (harg4 : arg4.IsWhole) (arg5 : Memref sig .tc .vmem S1x2x144x16384 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S2x144x1024 .f32) (harg10 : arg10.IsWhole) (arg11 : Memref sig .tc .vmem S2x2x512x1024 .f32) (harg11 : arg11.IsWhole) (arg12 : Memref sig .tc .vmem S2x512x1024 .bf16) (harg12 : arg12.IsWhole) (arg13 : Memref sig .tc .vmem S2x1x1024 .f32) (harg13 : arg13.IsWhole)  (arg2 : BitVec 32) (k1_h2 : k1_cond2 i = 1#1) (v32 : BitVec 32) (v123 : FVec F S512x1024 .f32)
    (x0 x1 : FVec F S16384x256 .bf16) (x2 : FVec F S1x2x144x16384 .bf16) (x3 x4 : FVec F S1024x256 .bf16)
    (G9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty)
    (s0 s1 : ℕ → FVec F S512x1024 .f32)
    (hs : ∀ n, n < 2 * (i 2).val → s0 n = rawScore x0 x1 x3 x4 0 n ∧ s1 n = rawScore x0 x1 x3 x4 1 n)
    (H : Held arg9 arg10 arg11 arg12 arg13 G9 G10 G11 G12 G13 (headAt s0 (fun n => vD (vTile x2 0 n)) 0) (headAt s1 (fun n => vD (vTile x2 1 n)) 0))
    (k : ℕ) (hk : k ≤ (k1_t1_loop i).trips) :
    Held arg9 arg10 arg11 arg12 arg13 (arg9.view.writes (Elt F) G9 (pb_k1_t1 (F := F) 𝒱 c bd i arg3 harg3 arg4 harg4 arg5 harg5 arg6 harg6 arg7 harg7 arg8 harg8 arg9 harg9 arg10 harg10 arg11 harg11 arg12 harg12 arg13 harg13 arg2 k1_h2 v32 v123 (harg3.unread x0) (harg4.unread x1) (harg5.unread x2) (harg6.unread x3) (harg7.unread x4) G9 G10 G11 G12 G13 k).1) (arg10.view.writes (Elt F) G10 (pb_k1_t1 (F := F) 𝒱 c bd i arg3 harg3 arg4 harg4 arg5 harg5 arg6 harg6 arg7 harg7 arg8 harg8 arg9 harg9 arg10 harg10 arg11 harg11 arg12 harg12 arg13 harg13 arg2 k1_h2 v32 v123 (harg3.unread x0) (harg4.unread x1) (harg5.unread x2) (harg6.unread x3) (harg7.unread x4) G9 G10 G11 G12 G13 k).2.1) (arg11.view.writes (Elt F) G11 (pb_k1_t1 (F := F) 𝒱 c bd i arg3 harg3 arg4 harg4 arg5 harg5 arg6 harg6 arg7 harg7 arg8 harg8 arg9 harg9 arg10 harg10 arg11 harg11 arg12 harg12 arg13 harg13 arg2 k1_h2 v32 v123 (harg3.unread x0) (harg4.unread x1) (harg5.unread x2) (harg6.unread x3) (harg7.unread x4) G9 G10 G11 G12 G13 k).2.2.1) (arg12.view.writes (Elt F) G12 (pb_k1_t1 (F := F) 𝒱 c bd i arg3 harg3 arg4 harg4 arg5 harg5 arg6 harg6 arg7 harg7 arg8 harg8 arg9 harg9 arg10 harg10 arg11 harg11 arg12 harg12 arg13 harg13 arg2 k1_h2 v32 v123 (harg3.unread x0) (harg4.unread x1) (harg5.unread x2) (harg6.unread x3) (harg7.unread x4) G9 G10 G11 G12 G13 k).2.2.2.1) (arg13.view.writes (Elt F) G13 (pb_k1_t1 (F := F) 𝒱 c bd i arg3 harg3 arg4 harg4 arg5 harg5 arg6 harg6 arg7 harg7 arg8 harg8 arg9 harg9 arg10 harg10 arg11 harg11 arg12 harg12 arg13 harg13 arg2 k1_h2 v32 v123 (harg3.unread x0) (harg4.unread x1) (harg5.unread x2) (harg6.unread x3) (harg7.unread x4) G9 G10 G11 G12 G13 k).2.2.2.2) (headAt s0 (fun n => vD (vTile x2 0 n)) (2 * k)) (headAt s1 (fun n => vD (vTile x2 1 n)) (2 * k)) := by
  induction k with
  | zero => exact H
  | succ k ih =>
    have hk' : k < (k1_t1_loop i).trips := hk
    have hr := lt_of_lt_of_eq hk' (trips_eq i)
    have ih := ih hk'.le
    have T := trip_held 𝒱 c bd i arg3 harg3 arg4 harg4 arg5 harg5 arg6 harg6 arg7 harg7 arg8 harg8 arg9 harg9 arg10 harg10 arg11 harg11 arg12 harg12 arg13 harg13 arg2 k1_h2 v32 v123 x0 x1 x2 x3 x4 ⟨k, hk'⟩ _ _ _ _ _ _ _ ih
    have e := pb_k1_t1_succ (F := F) 𝒱 c bd i arg3 harg3 arg4 harg4 arg5 harg5 arg6 harg6 arg7 harg7 arg8 harg8 arg9 harg9 arg10 harg10 arg11 harg11 arg12 harg12 arg13 harg13 arg2 k1_h2 v32 v123 (harg3.unread x0) (harg4.unread x1) (harg5.unread x2) (harg6.unread x3) (harg7.unread x4) G9 G10 G11 G12 G13 ⟨k, hk'⟩
    rw [show k + 1 = (⟨k, hk'⟩ : Fin (k1_t1_loop i).trips).val + 1 from rfl, e]
    simp only [View.writes_append]
    have h0 := (hs (2 * k + 2) (by omega)).1
    have h1 := (hs (2 * k + 3) (by omega)).1
    have g0 := (hs (2 * k + 2) (by omega)).2
    have g1 := (hs (2 * k + 3) (by omega)).2
    rw [← h0, ← h1, ← g0, ← g1] at T
    exact T

theorem rd_fill_m0 (m : Memref sig .tc .vmem S2x1x1024 .f32) (f : BufTy.Contents (Elt F) m.view.ty) (inb : ∀ a, (![0, 0, 0] : Fin 3 → ℕ) a + (![1, 1, 1024] : Fin 3 → ℕ) a ≤ S2x1x1024.size a) (inb' : ∀ a, (![0, 0, 0] : Fin 3 → ℕ) a + (![2, 1, 1024] : Fin 3 → ℕ) a ≤ S2x1x1024.size a) (L : List (View.Piece (Elt F) S2x1x1024 .f32)) :
    View.readAt (Elt F) m.view (Rect.unit (s := S2x1x1024) ![0, 0, 0] ![1, 1, 1024] inb).toLoadRect (m.view.writes (Elt F) f (⟨Rect.unit (s := S2x1x1024) ![0, 0, 0] ![2, 1, 1024] inb', k1_pay189⟩ :: L)) = up3 noMax := by
  rw [rd_sub (h := by decide), k1_pay189_eq]; rfl
theorem rd_fill_m1 (m : Memref sig .tc .vmem S2x1x1024 .f32) (f : BufTy.Contents (Elt F) m.view.ty) (inb : ∀ a, (![1, 0, 0] : Fin 3 → ℕ) a + (![1, 1, 1024] : Fin 3 → ℕ) a ≤ S2x1x1024.size a) (inb' : ∀ a, (![0, 0, 0] : Fin 3 → ℕ) a + (![2, 1, 1024] : Fin 3 → ℕ) a ≤ S2x1x1024.size a) (L : List (View.Piece (Elt F) S2x1x1024 .f32)) :
    View.readAt (Elt F) m.view (Rect.unit (s := S2x1x1024) ![1, 0, 0] ![1, 1, 1024] inb).toLoadRect (m.view.writes (Elt F) f (⟨Rect.unit (s := S2x1x1024) ![0, 0, 0] ![2, 1, 1024] inb', k1_pay189⟩ :: L)) = up3 noMax := by
  rw [rd_sub (h := by decide), k1_pay189_eq]; rfl
theorem rd_fill_a0 (m : Memref sig .tc .vmem S2x144x1024 .f32) (f : BufTy.Contents (Elt F) m.view.ty) (inb : ∀ a, (![0, 0, 0] : Fin 3 → ℕ) a + (![1, 144, 1024] : Fin 3 → ℕ) a ≤ S2x144x1024.size a) (inb' : ∀ a, (![0, 0, 0] : Fin 3 → ℕ) a + (![2, 144, 1024] : Fin 3 → ℕ) a ≤ S2x144x1024.size a) (L : List (View.Piece (Elt F) S2x144x1024 .f32)) :
    View.readAt (Elt F) m.view (Rect.unit (s := S2x144x1024) ![0, 0, 0] ![1, 144, 1024] inb).toLoadRect (m.view.writes (Elt F) f (⟨Rect.unit (s := S2x144x1024) ![0, 0, 0] ![2, 144, 1024] inb', k1_pay190⟩ :: L)) = accU noAcc := by
  rw [rd_sub (h := by decide), k1_pay190_eq]; rfl
theorem rd_fill_a1 (m : Memref sig .tc .vmem S2x144x1024 .f32) (f : BufTy.Contents (Elt F) m.view.ty) (inb : ∀ a, (![1, 0, 0] : Fin 3 → ℕ) a + (![1, 144, 1024] : Fin 3 → ℕ) a ≤ S2x144x1024.size a) (inb' : ∀ a, (![0, 0, 0] : Fin 3 → ℕ) a + (![2, 144, 1024] : Fin 3 → ℕ) a ≤ S2x144x1024.size a) (L : List (View.Piece (Elt F) S2x144x1024 .f32)) :
    View.readAt (Elt F) m.view (Rect.unit (s := S2x144x1024) ![1, 0, 0] ![1, 144, 1024] inb).toLoadRect (m.view.writes (Elt F) f (⟨Rect.unit (s := S2x144x1024) ![0, 0, 0] ![2, 144, 1024] inb', k1_pay190⟩ :: L)) = accU noAcc := by
  rw [rd_sub (h := by decide), k1_pay190_eq]; rfl

/-- The weighted sums of an accumulator, and the row of the sums of the weights, as they are loaded at the end. -/
def top3 (A : FVec F S144x1024 .f32) : FVec F S1x128x1024 .f32 := fun x => accU A (ix3 (⟨(x 0).val % 1, Nat.mod_lt _ (by decide)⟩ : Fin 1) (⟨(x 1).val % 144, Nat.mod_lt _ (by decide)⟩ : Fin 144) (⟨(x 2).val % 1024, Nat.mod_lt _ (by decide)⟩ : Fin 1024))
def low3 (A : FVec F S144x1024 .f32) : FVec F S1x1x1024 .f32 := fun x => accU A (ix3 (⟨(x 0).val % 1, Nat.mod_lt _ (by decide)⟩ : Fin 1) (⟨(128 + (x 1).val) % 144, Nat.mod_lt _ (by decide)⟩ : Fin 144) (⟨(x 2).val % 1024, Nat.mod_lt _ (by decide)⟩ : Fin 1024))

theorem rd_top0 (m : Memref sig .tc .vmem S2x144x1024 .f32) (f : BufTy.Contents (Elt F) m.view.ty) (inb : ∀ a, (![0, 0, 0] : Fin 3 → ℕ) a + (![1, 128, 1024] : Fin 3 → ℕ) a ≤ S2x144x1024.size a) (inb' : ∀ a, (![0, 0, 0] : Fin 3 → ℕ) a + (![1, 144, 1024] : Fin 3 → ℕ) a ≤ S2x144x1024.size a) (A : FVec F S144x1024 .f32) (L : List (View.Piece (Elt F) S2x144x1024 .f32)) :
    View.readAt (Elt F) m.view (Rect.unit (s := S2x144x1024) ![0, 0, 0] ![1, 128, 1024] inb).toLoadRect (m.view.writes (Elt F) f (⟨Rect.unit (s := S2x144x1024) ![0, 0, 0] ![1, 144, 1024] inb', accU A⟩ :: L)) = top3 A := by
  rw [rd_sub (h := by decide)]
  funext x
  refine congrArg (accU A) (funext fun a => Fin.ext ?_)
  have x0 : (x 0).val < 1 := (x 0).isLt
  have x1 : (x 1).val < 128 := (x 1).isLt
  have x2 : (x 2).val < 1024 := (x 2).isLt
  fin_cases a
  · show 0 - 0 + (x 0).val = (x 0).val % 1; omega
  · show 0 - 0 + (x 1).val = ((x 1).val) % 144; omega
  · show 0 - 0 + (x 2).val = (x 2).val % 1024; omega
theorem rd_low0 (m : Memref sig .tc .vmem S2x144x1024 .f32) (f : BufTy.Contents (Elt F) m.view.ty) (inb : ∀ a, (![0, 128, 0] : Fin 3 → ℕ) a + (![1, 1, 1024] : Fin 3 → ℕ) a ≤ S2x144x1024.size a) (inb' : ∀ a, (![0, 0, 0] : Fin 3 → ℕ) a + (![1, 144, 1024] : Fin 3 → ℕ) a ≤ S2x144x1024.size a) (A : FVec F S144x1024 .f32) (L : List (View.Piece (Elt F) S2x144x1024 .f32)) :
    View.readAt (Elt F) m.view (Rect.unit (s := S2x144x1024) ![0, 128, 0] ![1, 1, 1024] inb).toLoadRect (m.view.writes (Elt F) f (⟨Rect.unit (s := S2x144x1024) ![0, 0, 0] ![1, 144, 1024] inb', accU A⟩ :: L)) = low3 A := by
  rw [rd_sub (h := by decide)]
  funext x
  refine congrArg (accU A) (funext fun a => Fin.ext ?_)
  have x0 : (x 0).val < 1 := (x 0).isLt
  have x1 : (x 1).val < 1 := (x 1).isLt
  have x2 : (x 2).val < 1024 := (x 2).isLt
  fin_cases a
  · show 0 - 0 + (x 0).val = (x 0).val % 1; omega
  · show 128 - 0 + (x 1).val = (128 + (x 1).val) % 144; omega
  · show 0 - 0 + (x 2).val = (x 2).val % 1024; omega
theorem rd_top1 (m : Memref sig .tc .vmem S2x144x1024 .f32) (f : BufTy.Contents (Elt F) m.view.ty) (inb : ∀ a, (![1, 0, 0] : Fin 3 → ℕ) a + (![1, 128, 1024] : Fin 3 → ℕ) a ≤ S2x144x1024.size a) (inb' : ∀ a, (![1, 0, 0] : Fin 3 → ℕ) a + (![1, 144, 1024] : Fin 3 → ℕ) a ≤ S2x144x1024.size a) (A : FVec F S144x1024 .f32) (L : List (View.Piece (Elt F) S2x144x1024 .f32)) :
    View.readAt (Elt F) m.view (Rect.unit (s := S2x144x1024) ![1, 0, 0] ![1, 128, 1024] inb).toLoadRect (m.view.writes (Elt F) f (⟨Rect.unit (s := S2x144x1024) ![1, 0, 0] ![1, 144, 1024] inb', accU A⟩ :: L)) = top3 A := by
  rw [rd_sub (h := by decide)]
  funext x
  refine congrArg (accU A) (funext fun a => Fin.ext ?_)
  have x0 : (x 0).val < 1 := (x 0).isLt
  have x1 : (x 1).val < 128 := (x 1).isLt
  have x2 : (x 2).val < 1024 := (x 2).isLt
  fin_cases a
  · show 1 - 1 + (x 0).val = (x 0).val % 1; omega
  · show 0 - 0 + (x 1).val = ((x 1).val) % 144; omega
  · show 0 - 0 + (x 2).val = (x 2).val % 1024; omega
theorem rd_low1 (m : Memref sig .tc .vmem S2x144x1024 .f32) (f : BufTy.Contents (Elt F) m.view.ty) (inb : ∀ a, (![1, 128, 0] : Fin 3 → ℕ) a + (![1, 1, 1024] : Fin 3 → ℕ) a ≤ S2x144x1024.size a) (inb' : ∀ a, (![1, 0, 0] : Fin 3 → ℕ) a + (![1, 144, 1024] : Fin 3 → ℕ) a ≤ S2x144x1024.size a) (A : FVec F S144x1024 .f32) (L : List (View.Piece (Elt F) S2x144x1024 .f32)) :
    View.readAt (Elt F) m.view (Rect.unit (s := S2x144x1024) ![1, 128, 0] ![1, 1, 1024] inb).toLoadRect (m.view.writes (Elt F) f (⟨Rect.unit (s := S2x144x1024) ![1, 0, 0] ![1, 144, 1024] inb', accU A⟩ :: L)) = low3 A := by
  rw [rd_sub (h := by decide)]
  funext x
  refine congrArg (accU A) (funext fun a => Fin.ext ?_)
  have x0 : (x 0).val < 1 := (x 0).isLt
  have x1 : (x 1).val < 1 := (x 1).isLt
  have x2 : (x 2).val < 1024 := (x 2).isLt
  fin_cases a
  · show 1 - 1 + (x 0).val = (x 0).val % 1; omega
  · show 128 - 0 + (x 1).val = (128 + (x 1).val) % 144; omega
  · show 0 - 0 + (x 2).val = (x 2).val % 1024; omega

end Cert.KernelIdeal.Gen

end
-- ==== Proof.CaseB.lean ====
module

public import proofs.«01_k».proof.Proof.Loop
public import proofs.«01_k».proof.Proof.Gen.KernelIdeal.Frame

/-!
# The attention body past the first block of queries

The first two blocks are scored and the first one's weights taken before the loop; after the loop come the last
unmasked blocks and the two masked ones. What is stored is the two heads' outputs.
-/

@[expose] public section

set_option maxRecDepth 16384

noncomputable section

namespace Cert.KernelIdeal.Gen

open Idealize.ShloMosaic Idealize.ShloMosaic.TcCoe

variable {F : FTy → Type} [FloatOps F]

/-- One head's share of the output block, from its final accumulator. -/
def outAcc (A : FVec F S144x1024 .f32) : FVec F S1024x128 .bf16 := outOf (topD (top3 A)) (dn3 (low3 A))

/-- The score blocks of head `h` for the block of queries `q`: raw below it, causally masked where the keys are the
    queries' own. -/
def scores (x0 x1 : FVec F S16384x256 .bf16) (x3 x4 : FVec F S1024x256 .bf16) (q h n : ℕ) : FVec F S512x1024 .f32 :=
  if n < 2 * q then rawScore x0 x1 x3 x4 h n
  else if n = 2 * q then hide 0#32 (rawScore x0 x1 x3 x4 h n)
  else hide 512#32 (rawScore x0 x1 x3 x4 h n)

theorem scores_lo {x0 x1 : FVec F S16384x256 .bf16} {x3 x4 : FVec F S1024x256 .bf16} {q h n : ℕ} (hn : n < 2 * q) :
    scores x0 x1 x3 x4 q h n = rawScore x0 x1 x3 x4 h n := if_pos hn
theorem scores_mid (x0 x1 : FVec F S16384x256 .bf16) (x3 x4 : FVec F S1024x256 .bf16) (q h : ℕ) :
    scores x0 x1 x3 x4 q h (2 * q) = hide 0#32 (rawScore x0 x1 x3 x4 h (2 * q)) := by
  unfold scores; rw [if_neg (by omega), if_pos rfl]
theorem scores_hi (x0 x1 : FVec F S16384x256 .bf16) (x3 x4 : FVec F S1024x256 .bf16) (q h : ℕ) :
    scores x0 x1 x3 x4 q h (2 * q + 1) = hide 512#32 (rawScore x0 x1 x3 x4 h (2 * q + 1)) := by
  unfold scores; rw [if_neg (by omega), if_neg (by omega)]

/-- What the body stores of one head. -/
def headOut (x0 x1 : FVec F S16384x256 .bf16) (x2 : FVec F S1x2x144x16384 .bf16) (x3 x4 : FVec F S1024x256 .bf16) (q h : ℕ) : FVec F S1024x128 .bf16 :=
  outAcc (accAt (scores x0 x1 x3 x4 q h) (fun n => vD (vTile x2 h n)) (2 * q + 2))

section B
variable (c : Dev nD) (i : grid1.Coords) (arg3 : Memref sig .tc .vmem S16384x256 .bf16) (harg3 : arg3.IsWhole) (arg4 : Memref sig .tc .vmem S16384x256 .bf16) (harg4 : arg4.IsWhole) (arg5 : Memref sig .tc .vmem S1x2x144x16384 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S2x144x1024 .f32) (harg10 : arg10.IsWhole) (arg11 : Memref sig .tc .vmem S2x2x512x1024 .f32) (harg11 : arg11.IsWhole) (arg12 : Memref sig .tc .vmem S2x512x1024 .bf16) (harg12 : arg12.IsWhole) (arg13 : Memref sig .tc .vmem S2x1x1024 .f32) (harg13 : arg13.IsWhole) (hc0 : ¬cond1_0 i) (hc1 : cond1_1 i)
    (x0 x1 : FVec F S16384x256 .bf16) (x2 : FVec F S1x2x144x16384 .bf16) (x3 x4 : FVec F S1024x256 .bf16)

include hc1 in
theorem pos_of_later : 0 < (i 2).val := by
  have h : ∀ n : Fin 16, Scalar.cmpi .ne (Scalar.extui (Scalar.cmpi .sgt (BitVec.ofNat 32 n.val) 0#32) : BitVec 32) 0#32 = 1#1 → 0 < n.val := by decide +kernel
  exact h (i 2) hc1

section Start
include c arg3 harg3 arg4 harg4 arg5 harg5 arg6 harg6 arg7 harg7 arg8 harg8 arg9 harg9 arg10 harg10 arg11 harg11 arg12 harg12 arg13 harg13 x0 x1 x2 x3 x4

theorem held_start (hi : 0 < (i 2).val) : Held arg9 arg10 arg11 arg12 arg13
    (arg9.view.writes (Elt F) arg9.view.junk (kernelRun1_B.sl.HS0_3 (F := F) c arg3 harg3 arg4 harg4 arg6 harg6 arg7 harg7 arg9 arg11 x0 x1 x3 x4))
    (arg10.view.writes (Elt F) arg10.view.junk (kernelRun1_B.sl.HS1_1 (F := F)))
    (arg11.view.writes (Elt F) arg11.view.junk (kernelRun1_B.sl.HS2_4 (F := F) c arg3 harg3 arg4 harg4 arg6 harg6 arg7 harg7 x0 x1 x3 x4))
    (arg12.view.writes (Elt F) arg12.view.junk (kernelRun1_B.sl.HS3_2 (F := F) c arg3 harg3 arg4 harg4 arg6 harg6 arg7 harg7 arg9 arg11 x0 x1 x3 x4))
    (arg13.view.writes (Elt F) arg13.view.junk (kernelRun1_B.sl.HS4_2 (F := F) c arg3 harg3 arg4 harg4 arg6 harg6 arg7 harg7 arg9 arg11 x0 x1 x3 x4))
    (headAt (scores x0 x1 x3 x4 (i 2).val 0) (fun n => vD (vTile x2 0 n)) 0) (headAt (scores x0 x1 x3 x4 (i 2).val 1) (fun n => vD (vTile x2 1 n)) 0) := by
  have e0 : ∀ h, scores x0 x1 x3 x4 (i 2).val h 0 = rawScore x0 x1 x3 x4 h 0 := fun h => scores_lo (by omega)
  have e1 : ∀ h, scores x0 x1 x3 x4 (i 2).val h 1 = rawScore x0 x1 x3 x4 h 1 := fun h => scores_lo (by omega)
  have a1 : ∀ (s : ℕ → FVec F S512x1024 .f32), maxAt s (0 + 1) = mx noMax (s 0) := fun _ => rfl
  have a0 : ∀ (s : ℕ → FVec F S512x1024 .f32), maxAt s 0 = noMax := fun _ => rfl
  have a2 : ∀ (s : ℕ → FVec F S512x1024 .f32) (v : ℕ → FVec F S144x512 .bf16), accAt s v 0 = noAcc := fun _ _ => rfl
  constructor <;>
  simp (disch := decide) only [kernelRun1_B.sl.HS0_1, kernelRun1_B.sl.HS0_2, kernelRun1_B.sl.HS0_3, kernelRun1_B.sl.HS1_1, kernelRun1_B.sl.HS2_2, kernelRun1_B.sl.HS2_4, kernelRun1_B.sl.HS3_2, kernelRun1_B.sl.HS4_2, kernelRun1_B.sl.r, kernelRun1_B.sl.r_1, kernelRun1_B.sl.r_2, kernelRun1_B.sl.r_3, kernelRun1_B.sl.v58, kernelRun1_B.sl.v60, kernelRun1_B.sl.v80, kernelRun1_B.sl.v82, readCov_eq, rd_hit, rd_skip, rd_fill_m0, rd_fill_m1, rd_fill_a0, rd_fill_a1,
    rd_q0, rd_k00, rd_v00, rd_k01, rd_v01, rd_q1, rd_k10, rd_v10, rd_k11, rd_v11,
    k1_pay1_eq, k1_pay2_eq, k1_pay116_eq, k1_pay3_eq, k1_pay117_eq, k1_pay4_eq, k1_pay61_eq, k1_pay100_eq, k1_pay5_eq, k1_pay6_eq, k1_pay7_eq, k1_pay8_eq, k1_pay14_eq, k1_pay23_eq, k1_pay30_eq, k1_pay46_eq, k1_pay52_eq, k1_pay66_eq, k1_pay73_eq, k1_pay85_eq, k1_pay91_eq, k1_pay105_eq, k1_pay112_eq, k1_pay119_eq, k1_pay125_eq, k1_pay141_eq, k1_pay147_eq, k1_pay152_eq, k1_pay160_eq, k1_pay166_eq, k1_pay176_eq, k1_pay182_eq, k1_pay9_eq, k1_pay10_eq, k1_pay11_eq, k1_pay12_eq, k1_pay13_eq, k1_pay15_eq, k1_pay16_eq, k1_pay17_eq, k1_pay19_eq, k1_pay26_eq, k1_pay28_eq, k1_pay35_eq, k1_pay71_eq, k1_pay110_eq, k1_pay130_eq, k1_pay134_eq, k1_pay135_eq, k1_pay145_eq, k1_pay185_eq, k1_pay187_eq, k1_pay18_eq, k1_pay27_eq, k1_pay186_eq, k1_pay20_eq, k1_pay21_eq, k1_pay22_eq, k1_pay24_eq, k1_pay25_eq, k1_pay29_eq, k1_pay31_eq, k1_pay32_eq, k1_pay33_eq, k1_pay34_eq, k1_pay36_eq, k1_pay37_eq, k1_pay39_eq, k1_pay78_eq, k1_pay171_eq, k1_pay38_eq, k1_pay77_eq, k1_pay40_eq, k1_pay79_eq, k1_pay41_eq, k1_pay80_eq, k1_pay42_eq, k1_pay81_eq, k1_pay43_eq, k1_pay82_eq, k1_pay44_eq, k1_pay83_eq, k1_pay133_eq, k1_pay45_eq, k1_pay51_eq, k1_pay65_eq, k1_pay72_eq, k1_pay84_eq, k1_pay90_eq, k1_pay104_eq, k1_pay111_eq, k1_pay118_eq, k1_pay124_eq, k1_pay140_eq, k1_pay146_eq, k1_pay157_eq, k1_pay47_eq, k1_pay48_eq, k1_pay49_eq, k1_pay50_eq, k1_pay53_eq, k1_pay54_eq, k1_pay93_eq, k1_pay55_eq, k1_pay56_eq, k1_pay57_eq, k1_pay58_eq, k1_pay97_eq, k1_pay59_eq, k1_pay98_eq, k1_pay60_eq, k1_pay99_eq, k1_pay62_eq, k1_pay101_eq, k1_pay63_eq, k1_pay102_eq, k1_pay64_eq, k1_pay103_eq, k1_pay67_eq, k1_pay68_eq, k1_pay69_eq, k1_pay70_eq, k1_pay109_eq, k1_pay74_eq, k1_pay75_eq, k1_pay76_eq, k1_pay86_eq, k1_pay87_eq, k1_pay88_eq, k1_pay89_eq, k1_pay92_eq, k1_pay94_eq, k1_pay95_eq, k1_pay96_eq, k1_pay106_eq, k1_pay107_eq, k1_pay108_eq, k1_pay113_eq, k1_pay114_eq, k1_pay115_eq, k1_pay120_eq, k1_pay121_eq, k1_pay122_eq, k1_pay123_eq, k1_pay126_eq, k1_pay127_eq, k1_pay128_eq, k1_pay129_eq, k1_pay131_eq, k1_pay132_eq, k1_pay136_eq, k1_pay137_eq, k1_pay138_eq, k1_pay139_eq, k1_pay142_eq, k1_pay143_eq, k1_pay144_eq, k1_pay148_eq, k1_pay149_eq, k1_pay150_eq, k1_pay151_eq, k1_pay153_eq, k1_pay154_eq, k1_pay155_eq, k1_pay156_eq, k1_pay158_eq, k1_pay159_eq, k1_pay161_eq, k1_pay162_eq, k1_pay163_eq, k1_pay164_eq, k1_pay165_eq, k1_pay167_eq, k1_pay168_eq, k1_pay169_eq, k1_pay170_eq, k1_pay172_eq, k1_pay173_eq, k1_pay174_eq, k1_pay175_eq, k1_pay177_eq, k1_pay178_eq, k1_pay179_eq, k1_pay180_eq, k1_pay181_eq, k1_pay183_eq, k1_pay184_eq, k1_pay188_eq, k1_pay191_eq, k1_pay192_eq, k1_pay193_eq, k1_pay194_eq,
    dn3_up3, accD_accU, scD_scU, prD_prU, headAt, e0, e1, a0, a1, a2, Nat.zero_add, rawScore, sc, mx, al, pr, ac, mScore]

end Start

theorem held_loop (hi : 0 < (i 2).val) :
    Held arg9 arg10 arg11 arg12 arg13 (arg9.view.writes (Elt F) (arg9.view.writes (Elt F) arg9.view.junk (kernelRun1_B.sl.HS0_3 (F := F) c arg3 harg3 arg4 harg4 arg6 harg6 arg7 harg7 arg9 arg11 x0 x1 x3 x4)) (pb_k1_t1 (F := F) Variants.none c none i arg3 harg3 arg4 harg4 arg5 harg5 arg6 harg6 arg7 harg7 arg8 harg8 arg9 harg9 arg10 harg10 arg11 harg11 arg12 harg12 arg13 harg13 (BitVec.ofNat 32 (i 2).val) hc1 (kernelRun1_B.sl.v32 i) (kernelRun1_B.sl.r_3 (F := F) c arg3 harg3 arg4 harg4 arg6 harg6 arg7 harg7 x0 x1 x3 x4) (harg3.unread x0) (harg4.unread x1) (harg5.unread x2) (harg6.unread x3) (harg7.unread x4) (arg9.view.writes (Elt F) arg9.view.junk (kernelRun1_B.sl.HS0_3 (F := F) c arg3 harg3 arg4 harg4 arg6 harg6 arg7 harg7 arg9 arg11 x0 x1 x3 x4)) (arg10.view.writes (Elt F) arg10.view.junk (kernelRun1_B.sl.HS1_1 (F := F))) (arg11.view.writes (Elt F) arg11.view.junk (kernelRun1_B.sl.HS2_4 (F := F) c arg3 harg3 arg4 harg4 arg6 harg6 arg7 harg7 x0 x1 x3 x4)) (arg12.view.writes (Elt F) arg12.view.junk (kernelRun1_B.sl.HS3_2 (F := F) c arg3 harg3 arg4 harg4 arg6 harg6 arg7 harg7 arg9 arg11 x0 x1 x3 x4)) (arg13.view.writes (Elt F) arg13.view.junk (kernelRun1_B.sl.HS4_2 (F := F) c arg3 harg3 arg4 harg4 arg6 harg6 arg7 harg7 arg9 arg11 x0 x1 x3 x4)) (Scf.trips (k1_t1_loop i).lb (k1_t1_loop i).ub (k1_t1_loop i).st)).1) (arg10.view.writes (Elt F) (arg10.view.writes (Elt F) arg10.view.junk (kernelRun1_B.sl.HS1_1 (F := F))) (pb_k1_t1 (F := F) Variants.none c none i arg3 harg3 arg4 harg4 arg5 harg5 arg6 harg6 arg7 harg7 arg8 harg8 arg9 harg9 arg10 harg10 arg11 harg11 arg12 harg12 arg13 harg13 (BitVec.ofNat 32 (i 2).val) hc1 (kernelRun1_B.sl.v32 i) (kernelRun1_B.sl.r_3 (F := F) c arg3 harg3 arg4 harg4 arg6 harg6 arg7 harg7 x0 x1 x3 x4) (harg3.unread x0) (harg4.unread x1) (harg5.unread x2) (harg6.unread x3) (harg7.unread x4) (arg9.view.writes (Elt F) arg9.view.junk (kernelRun1_B.sl.HS0_3 (F := F) c arg3 harg3 arg4 harg4 arg6 harg6 arg7 harg7 arg9 arg11 x0 x1 x3 x4)) (arg10.view.writes (Elt F) arg10.view.junk (kernelRun1_B.sl.HS1_1 (F := F))) (arg11.view.writes (Elt F) arg11.view.junk (kernelRun1_B.sl.HS2_4 (F := F) c arg3 harg3 arg4 harg4 arg6 harg6 arg7 harg7 x0 x1 x3 x4)) (arg12.view.writes (Elt F) arg12.view.junk (kernelRun1_B.sl.HS3_2 (F := F) c arg3 harg3 arg4 harg4 arg6 harg6 arg7 harg7 arg9 arg11 x0 x1 x3 x4)) (arg13.view.writes (Elt F) arg13.view.junk (kernelRun1_B.sl.HS4_2 (F := F) c arg3 harg3 arg4 harg4 arg6 harg6 arg7 harg7 arg9 arg11 x0 x1 x3 x4)) (Scf.trips (k1_t1_loop i).lb (k1_t1_loop i).ub (k1_t1_loop i).st)).2.1) (arg11.view.writes (Elt F) (arg11.view.writes (Elt F) arg11.view.junk (kernelRun1_B.sl.HS2_4 (F := F) c arg3 harg3 arg4 harg4 arg6 harg6 arg7 harg7 x0 x1 x3 x4)) (pb_k1_t1 (F := F) Variants.none c none i arg3 harg3 arg4 harg4 arg5 harg5 arg6 harg6 arg7 harg7 arg8 harg8 arg9 harg9 arg10 harg10 arg11 harg11 arg12 harg12 arg13 harg13 (BitVec.ofNat 32 (i 2).val) hc1 (kernelRun1_B.sl.v32 i) (kernelRun1_B.sl.r_3 (F := F) c arg3 harg3 arg4 harg4 arg6 harg6 arg7 harg7 x0 x1 x3 x4) (harg3.unread x0) (harg4.unread x1) (harg5.unread x2) (harg6.unread x3) (harg7.unread x4) (arg9.view.writes (Elt F) arg9.view.junk (kernelRun1_B.sl.HS0_3 (F := F) c arg3 harg3 arg4 harg4 arg6 harg6 arg7 harg7 arg9 arg11 x0 x1 x3 x4)) (arg10.view.writes (Elt F) arg10.view.junk (kernelRun1_B.sl.HS1_1 (F := F))) (arg11.view.writes (Elt F) arg11.view.junk (kernelRun1_B.sl.HS2_4 (F := F) c arg3 harg3 arg4 harg4 arg6 harg6 arg7 harg7 x0 x1 x3 x4)) (arg12.view.writes (Elt F) arg12.view.junk (kernelRun1_B.sl.HS3_2 (F := F) c arg3 harg3 arg4 harg4 arg6 harg6 arg7 harg7 arg9 arg11 x0 x1 x3 x4)) (arg13.view.writes (Elt F) arg13.view.junk (kernelRun1_B.sl.HS4_2 (F := F) c arg3 harg3 arg4 harg4 arg6 harg6 arg7 harg7 arg9 arg11 x0 x1 x3 x4)) (Scf.trips (k1_t1_loop i).lb (k1_t1_loop i).ub (k1_t1_loop i).st)).2.2.1) (arg12.view.writes (Elt F) (arg12.view.writes (Elt F) arg12.view.junk (kernelRun1_B.sl.HS3_2 (F := F) c arg3 harg3 arg4 harg4 arg6 harg6 arg7 harg7 arg9 arg11 x0 x1 x3 x4)) (pb_k1_t1 (F := F) Variants.none c none i arg3 harg3 arg4 harg4 arg5 harg5 arg6 harg6 arg7 harg7 arg8 harg8 arg9 harg9 arg10 harg10 arg11 harg11 arg12 harg12 arg13 harg13 (BitVec.ofNat 32 (i 2).val) hc1 (kernelRun1_B.sl.v32 i) (kernelRun1_B.sl.r_3 (F := F) c arg3 harg3 arg4 harg4 arg6 harg6 arg7 harg7 x0 x1 x3 x4) (harg3.unread x0) (harg4.unread x1) (harg5.unread x2) (harg6.unread x3) (harg7.unread x4) (arg9.view.writes (Elt F) arg9.view.junk (kernelRun1_B.sl.HS0_3 (F := F) c arg3 harg3 arg4 harg4 arg6 harg6 arg7 harg7 arg9 arg11 x0 x1 x3 x4)) (arg10.view.writes (Elt F) arg10.view.junk (kernelRun1_B.sl.HS1_1 (F := F))) (arg11.view.writes (Elt F) arg11.view.junk (kernelRun1_B.sl.HS2_4 (F := F) c arg3 harg3 arg4 harg4 arg6 harg6 arg7 harg7 x0 x1 x3 x4)) (arg12.view.writes (Elt F) arg12.view.junk (kernelRun1_B.sl.HS3_2 (F := F) c arg3 harg3 arg4 harg4 arg6 harg6 arg7 harg7 arg9 arg11 x0 x1 x3 x4)) (arg13.view.writes (Elt F) arg13.view.junk (kernelRun1_B.sl.HS4_2 (F := F) c arg3 harg3 arg4 harg4 arg6 harg6 arg7 harg7 arg9 arg11 x0 x1 x3 x4)) (Scf.trips (k1_t1_loop i).lb (k1_t1_loop i).ub (k1_t1_loop i).st)).2.2.2.1) (arg13.view.writes (Elt F) (arg13.view.writes (Elt F) arg13.view.junk (kernelRun1_B.sl.HS4_2 (F := F) c arg3 harg3 arg4 harg4 arg6 harg6 arg7 harg7 arg9 arg11 x0 x1 x3 x4)) (pb_k1_t1 (F := F) Variants.none c none i arg3 harg3 arg4 harg4 arg5 harg5 arg6 harg6 arg7 harg7 arg8 harg8 arg9 harg9 arg10 harg10 arg11 harg11 arg12 harg12 arg13 harg13 (BitVec.ofNat 32 (i 2).val) hc1 (kernelRun1_B.sl.v32 i) (kernelRun1_B.sl.r_3 (F := F) c arg3 harg3 arg4 harg4 arg6 harg6 arg7 harg7 x0 x1 x3 x4) (harg3.unread x0) (harg4.unread x1) (harg5.unread x2) (harg6.unread x3) (harg7.unread x4) (arg9.view.writes (Elt F) arg9.view.junk (kernelRun1_B.sl.HS0_3 (F := F) c arg3 harg3 arg4 harg4 arg6 harg6 arg7 harg7 arg9 arg11 x0 x1 x3 x4)) (arg10.view.writes (Elt F) arg10.view.junk (kernelRun1_B.sl.HS1_1 (F := F))) (arg11.view.writes (Elt F) arg11.view.junk (kernelRun1_B.sl.HS2_4 (F := F) c arg3 harg3 arg4 harg4 arg6 harg6 arg7 harg7 x0 x1 x3 x4)) (arg12.view.writes (Elt F) arg12.view.junk (kernelRun1_B.sl.HS3_2 (F := F) c arg3 harg3 arg4 harg4 arg6 harg6 arg7 harg7 arg9 arg11 x0 x1 x3 x4)) (arg13.view.writes (Elt F) arg13.view.junk (kernelRun1_B.sl.HS4_2 (F := F) c arg3 harg3 arg4 harg4 arg6 harg6 arg7 harg7 arg9 arg11 x0 x1 x3 x4)) (Scf.trips (k1_t1_loop i).lb (k1_t1_loop i).ub (k1_t1_loop i).st)).2.2.2.2) (headAt (scores x0 x1 x3 x4 (i 2).val 0) (fun n => vD (vTile x2 0 n)) (2 * ((i 2).val - 1))) (headAt (scores x0 x1 x3 x4 (i 2).val 1) (fun n => vD (vTile x2 1 n)) (2 * ((i 2).val - 1))) := by
  have e := loop_held Variants.none c none i arg3 harg3 arg4 harg4 arg5 harg5 arg6 harg6 arg7 harg7 arg8 harg8 arg9 harg9 arg10 harg10 arg11 harg11 arg12 harg12 arg13 harg13 (BitVec.ofNat 32 (i 2).val) hc1 (kernelRun1_B.sl.v32 i) (kernelRun1_B.sl.r_3 (F := F) c arg3 harg3 arg4 harg4 arg6 harg6 arg7 harg7 x0 x1 x3 x4) x0 x1 x2 x3 x4 _ _ _ _ _
    (scores x0 x1 x3 x4 (i 2).val 0) (scores x0 x1 x3 x4 (i 2).val 1) (fun n hn => ⟨scores_lo hn, scores_lo hn⟩)
    (held_start c i arg3 harg3 arg4 harg4 arg5 harg5 arg6 harg6 arg7 harg7 arg8 harg8 arg9 harg9 arg10 harg10 arg11 harg11 arg12 harg12 arg13 harg13 x0 x1 x2 x3 x4 hi) _ le_rfl
  rw [show 2 * ((i 2).val - 1) = 2 * (k1_t1_loop i).trips by rw [trips_eq]]
  exact e

theorem no_rest : Scf.trips (k1_t2_loop i).lb (k1_t2_loop i).ub (k1_t2_loop i).st = 0 := by
  have h : ∀ n : Fin 16, (Scf.trips (Scalar.addi 0#32 (Scalar.muli (Scalar.divsi (Scalar.subi (Scalar.subi (BitVec.ofNat 32 n.val) 1#32) 0#32) 1#32) 1#32)) (Scalar.addi 0#32 (Scalar.subi (Scalar.subi (BitVec.ofNat 32 n.val) 1#32) 0#32)) 1#32) = 0 := by decide +kernel
  exact h (i 2)

theorem acc_final (s : ℕ → FVec F S512x1024 .f32) (v : ℕ → FVec F S144x512 .bf16) (q : ℕ) (hq : 0 < q) :
    accAt s v (2 * q + 2) =
      let H := (((headAt s v (2 * (q - 1))).next (v (2 * (q - 1))) (s (2 * q))).next (v (2 * (q - 1) + 1)) (s (2 * q + 1))).next (v (2 * q)) (s 0)
      ac H.a H.acc (v (2 * q + 1)) H.p := by
  obtain ⟨r, rfl⟩ : ∃ r, q = r + 1 := ⟨q - 1, by omega⟩
  rfl

theorem storesB : (kernelRun1_B (F := F) c i arg3 harg3 arg4 harg4 arg5 harg5 arg6 harg6 arg7 harg7 arg8 harg8 arg9 harg9 arg10 harg10 arg11 harg11 arg12 harg12 arg13 harg13 hc0 hc1 x0 x1 x2 x3 x4).1 =
    [⟨Rect.unit (s := S1024x256) ![0, 128] S1024x128.size inb_S1024x256_S1024x128_0_128, headOut x0 x1 x2 x3 x4 (i 2).val 1⟩,
     ⟨Rect.unit (s := S1024x256) ![0, 0] S1024x128.size inb_S1024x256_S1024x128_0_0, headOut x0 x1 x2 x3 x4 (i 2).val 0⟩] := by
  have hi := pos_of_later i hc1
  have HL := held_loop c i arg3 harg3 arg4 harg4 arg5 harg5 arg6 harg6 arg7 harg7 arg8 harg8 arg9 harg9 arg10 harg10 arg11 harg11 arg12 harg12 arg13 harg13 hc1 x0 x1 x2 x3 x4 hi
  have h0 := acc_final (scores x0 x1 x3 x4 (i 2).val 0) (fun n => vD (vTile x2 0 n)) _ hi
  have h1 := acc_final (scores x0 x1 x3 x4 (i 2).val 1) (fun n => vD (vTile x2 1 n)) _ hi
  have z := no_rest i
  unfold headOut
  rw [h0, h1]
  generalize headAt (scores x0 x1 x3 x4 (i 2).val 0) (fun n => vD (vTile x2 0 n)) (2 * ((i 2).val - 1)) = X at HL
  generalize headAt (scores x0 x1 x3 x4 (i 2).val 1) (fun n => vD (vTile x2 1 n)) (2 * ((i 2).val - 1)) = Y at HL
  obtain ⟨m0, m1, a0, a1, p0, p1, c0, c1, s0, s1⟩ := HL
  unfold kernelRun1_B
  dsimp only
  simp (disch := first | decide | exact hi) only [kernelRun1_B.sl.HS0_1_1, kernelRun1_B.sl.HS0_2_1, kernelRun1_B.sl.HS0_3_1, kernelRun1_B.sl.HS0_4, kernelRun1_B.sl.HS0_5, kernelRun1_B.sl.HS1_1_1, kernelRun1_B.sl.HS1_2, kernelRun1_B.sl.HS1_3, kernelRun1_B.sl.HS1_4, kernelRun1_B.sl.HS1_5, kernelRun1_B.sl.HS1_6, kernelRun1_B.sl.HS1_7, kernelRun1_B.sl.HS1_8, kernelRun1_B.sl.HS2_2_1, kernelRun1_B.sl.HS2_4_1, kernelRun1_B.sl.HS3_2_1, kernelRun1_B.sl.HS3_4, kernelRun1_B.sl.HS3_6, kernelRun1_B.sl.HS4_2_1, kernelRun1_B.sl.HS4_4, kernelRun1_B.sl.HS4_6, kernelRun1_B.sl.r_10, kernelRun1_B.sl.r_11, kernelRun1_B.sl.r_12, kernelRun1_B.sl.r_13, kernelRun1_B.sl.r_14, kernelRun1_B.sl.r_15, kernelRun1_B.sl.r_4, kernelRun1_B.sl.r_5, kernelRun1_B.sl.r_6, kernelRun1_B.sl.r_7, kernelRun1_B.sl.r_8, kernelRun1_B.sl.r_9, kernelRun1_B.sl.v127, kernelRun1_B.sl.v128, kernelRun1_B.sl.v130, kernelRun1_B.sl.v131, kernelRun1_B.sl.v132, kernelRun1_B.sl.v133, kernelRun1_B.sl.v134, kernelRun1_B.sl.v136, kernelRun1_B.sl.v138, kernelRun1_B.sl.v14, kernelRun1_B.sl.v145, kernelRun1_B.sl.v152, kernelRun1_B.sl.v154, kernelRun1_B.sl.v16, kernelRun1_B.sl.v161, kernelRun1_B.sl.v168, kernelRun1_B.sl.v194, kernelRun1_B.sl.v196, kernelRun1_B.sl.v216, kernelRun1_B.sl.v218, kernelRun1_B.sl.v23, kernelRun1_B.sl.v238, kernelRun1_B.sl.v239, kernelRun1_B.sl.v241, kernelRun1_B.sl.v243, kernelRun1_B.sl.v25, kernelRun1_B.sl.v250, kernelRun1_B.sl.v257, kernelRun1_B.sl.v259, kernelRun1_B.sl.v266, kernelRun1_B.sl.v273, kernelRun1_B.sl.v300, kernelRun1_B.sl.v302, kernelRun1_B.sl.v303, kernelRun1_B.sl.v309, kernelRun1_B.sl.v329, kernelRun1_B.sl.v338, kernelRun1_B.sl.v360, kernelRun1_B.sl.v362, kernelRun1_B.sl.v369, kernelRun1_B.sl.v376, kernelRun1_B.sl.v378, kernelRun1_B.sl.v385, kernelRun1_B.sl.v392, kernelRun1_B.sl.v401, kernelRun1_B.sl.v421, kernelRun1_B.sl.v430, kernelRun1_B.sl.v451, kernelRun1_B.sl.v453, kernelRun1_B.sl.v455, kernelRun1_B.sl.v462, kernelRun1_B.sl.v469, kernelRun1_B.sl.v471, kernelRun1_B.sl.v478, readCov_eq, z, pb_k1_t2.eq_1, List.nil_append, View.writes_append, rd_hit, rd_skip, m0, m1, a0, a1, p0, p1, c0, c1, s0, s1,
    rd_top0, rd_top1, rd_low0, rd_low1, rd_q0, rd_q1, rd_o13_2, rd_o13_1, rd_o14_2, rd_o14_1, rd_o15, rd_o16, rd_o17, rd_o18, rd_o19, rd_o20, rd_o21, rd_o22,
    k1_pay1_eq, k1_pay2_eq, k1_pay116_eq, k1_pay3_eq, k1_pay117_eq, k1_pay4_eq, k1_pay61_eq, k1_pay100_eq, k1_pay5_eq, k1_pay6_eq, k1_pay7_eq, k1_pay8_eq, k1_pay14_eq, k1_pay23_eq, k1_pay30_eq, k1_pay46_eq, k1_pay52_eq, k1_pay66_eq, k1_pay73_eq, k1_pay85_eq, k1_pay91_eq, k1_pay105_eq, k1_pay112_eq, k1_pay119_eq, k1_pay125_eq, k1_pay141_eq, k1_pay147_eq, k1_pay152_eq, k1_pay160_eq, k1_pay166_eq, k1_pay176_eq, k1_pay182_eq, k1_pay9_eq, k1_pay10_eq, k1_pay11_eq, k1_pay12_eq, k1_pay13_eq, k1_pay15_eq, k1_pay16_eq, k1_pay17_eq, k1_pay19_eq, k1_pay26_eq, k1_pay28_eq, k1_pay35_eq, k1_pay71_eq, k1_pay110_eq, k1_pay130_eq, k1_pay134_eq, k1_pay135_eq, k1_pay145_eq, k1_pay185_eq, k1_pay187_eq, k1_pay18_eq, k1_pay27_eq, k1_pay186_eq, k1_pay20_eq, k1_pay21_eq, k1_pay22_eq, k1_pay24_eq, k1_pay25_eq, k1_pay29_eq, k1_pay31_eq, k1_pay32_eq, k1_pay33_eq, k1_pay34_eq, k1_pay36_eq, k1_pay37_eq, k1_pay39_eq, k1_pay78_eq, k1_pay171_eq, k1_pay38_eq, k1_pay77_eq, k1_pay40_eq, k1_pay79_eq, k1_pay41_eq, k1_pay80_eq, k1_pay42_eq, k1_pay81_eq, k1_pay43_eq, k1_pay82_eq, k1_pay44_eq, k1_pay83_eq, k1_pay133_eq, k1_pay45_eq, k1_pay51_eq, k1_pay65_eq, k1_pay72_eq, k1_pay84_eq, k1_pay90_eq, k1_pay104_eq, k1_pay111_eq, k1_pay118_eq, k1_pay124_eq, k1_pay140_eq, k1_pay146_eq, k1_pay157_eq, k1_pay47_eq, k1_pay48_eq, k1_pay49_eq, k1_pay50_eq, k1_pay53_eq, k1_pay54_eq, k1_pay93_eq, k1_pay55_eq, k1_pay56_eq, k1_pay57_eq, k1_pay58_eq, k1_pay97_eq, k1_pay59_eq, k1_pay98_eq, k1_pay60_eq, k1_pay99_eq, k1_pay62_eq, k1_pay101_eq, k1_pay63_eq, k1_pay102_eq, k1_pay64_eq, k1_pay103_eq, k1_pay67_eq, k1_pay68_eq, k1_pay69_eq, k1_pay70_eq, k1_pay109_eq, k1_pay74_eq, k1_pay75_eq, k1_pay76_eq, k1_pay86_eq, k1_pay87_eq, k1_pay88_eq, k1_pay89_eq, k1_pay92_eq, k1_pay94_eq, k1_pay95_eq, k1_pay96_eq, k1_pay106_eq, k1_pay107_eq, k1_pay108_eq, k1_pay113_eq, k1_pay114_eq, k1_pay115_eq, k1_pay120_eq, k1_pay121_eq, k1_pay122_eq, k1_pay123_eq, k1_pay126_eq, k1_pay127_eq, k1_pay128_eq, k1_pay129_eq, k1_pay131_eq, k1_pay132_eq, k1_pay136_eq, k1_pay137_eq, k1_pay138_eq, k1_pay139_eq, k1_pay142_eq, k1_pay143_eq, k1_pay144_eq, k1_pay148_eq, k1_pay149_eq, k1_pay150_eq, k1_pay151_eq, k1_pay153_eq, k1_pay154_eq, k1_pay155_eq, k1_pay156_eq, k1_pay158_eq, k1_pay159_eq, k1_pay161_eq, k1_pay162_eq, k1_pay163_eq, k1_pay164_eq, k1_pay165_eq, k1_pay167_eq, k1_pay168_eq, k1_pay169_eq, k1_pay170_eq, k1_pay172_eq, k1_pay173_eq, k1_pay174_eq, k1_pay175_eq, k1_pay177_eq, k1_pay178_eq, k1_pay179_eq, k1_pay180_eq, k1_pay181_eq, k1_pay183_eq, k1_pay184_eq, k1_pay188_eq, k1_pay191_eq, k1_pay192_eq, k1_pay193_eq, k1_pay194_eq,
    dn3_up3, accD_accU, scD_scU, prD_prU, Head.next, outAcc, outOf, scores_mid, scores_hi, hide, keyPos, qryPos, rawScore, sc, mx, al, pr, ac, mScore]

end B

end Cert.KernelIdeal.Gen

end
-- ==== Proof.CaseA.lean ====
module

public import proofs.«01_k».proof.Proof.CaseB

/-!
# The attention body at the first block of queries

Both blocks of keys are the queries' own, so both are masked.
-/

@[expose] public section

set_option maxRecDepth 16384

noncomputable section

namespace Cert.KernelIdeal.Gen

open Idealize.ShloMosaic Idealize.ShloMosaic.TcCoe

variable {F : FTy → Type} [FloatOps F]

section A
variable (c : Dev nD) (i : grid1.Coords) (arg3 : Memref sig .tc .vmem S16384x256 .bf16) (harg3 : arg3.IsWhole) (arg4 : Memref sig .tc .vmem S16384x256 .bf16) (harg4 : arg4.IsWhole) (arg5 : Memref sig .tc .vmem S1x2x144x16384 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S2x1x1024 .f32) (harg9 : arg9.IsWhole) (arg10 : Memref sig .tc .vmem S2x144x1024 .f32) (harg10 : arg10.IsWhole) (arg11 : Memref sig .tc .vmem S2x2x512x1024 .f32) (harg11 : arg11.IsWhole) (arg12 : Memref sig .tc .vmem S2x512x1024 .bf16) (harg12 : arg12.IsWhole) (arg13 : Memref sig .tc .vmem S2x1x1024 .f32) (harg13 : arg13.IsWhole) (hc0 : cond1_0 i) (hc1 : ¬cond1_1 i)
    (x0 x1 : FVec F S16384x256 .bf16) (x2 : FVec F S1x2x144x16384 .bf16) (x3 x4 : FVec F S1024x256 .bf16)

include hc0 in
theorem zero_of_first : (i 2).val = 0 := by
  have h : ∀ n : Fin 16, Scalar.cmpi .ne (Scalar.extui (Scalar.cmpi .eq (BitVec.ofNat 32 n.val) 0#32) : BitVec 32) 0#32 = 1#1 → n.val = 0 := by decide +kernel
  exact h (i 2) hc0

theorem storesA : (kernelRun1_A (F := F) c i arg3 harg3 arg4 harg4 arg5 harg5 arg6 harg6 arg7 harg7 arg8 harg8 arg9 harg9 arg10 harg10 arg11 harg11 arg12 harg12 arg13 harg13 hc0 hc1 x0 x1 x2 x3 x4).1 =
    [⟨Rect.unit (s := S1024x256) ![0, 128] S1024x128.size inb_S1024x256_S1024x128_0_128, headOut x0 x1 x2 x3 x4 (i 2).val 1⟩,
     ⟨Rect.unit (s := S1024x256) ![0, 0] S1024x128.size inb_S1024x256_S1024x128_0_0, headOut x0 x1 x2 x3 x4 (i 2).val 0⟩] := by
  have hi := zero_of_first i hc0
  have h0 : ∀ h, scores x0 x1 x3 x4 0 h 0 = hide 0#32 (rawScore x0 x1 x3 x4 h 0) := fun h => scores_mid x0 x1 x3 x4 0 h
  have h1 : ∀ h, scores x0 x1 x3 x4 0 h 1 = hide 512#32 (rawScore x0 x1 x3 x4 h 1) := fun h => scores_hi x0 x1 x3 x4 0 h
  have hacc : ∀ (s : ℕ → FVec F S512x1024 .f32) (v : ℕ → FVec F S144x512 .bf16), accAt s v (2 * 0 + 2) =
      ac (al (mx noMax (s 0)) (s 1)) (ac (al noMax (s 0)) noAcc (v 0) (pr noMax (s 0))) (v 1) (pr (mx noMax (s 0)) (s 1)) := fun _ _ => rfl
  unfold headOut
  rw [hi]
  unfold kernelRun1_A
  dsimp only
  simp (disch := decide) only [kernelRun1_A.sl.HS0_1, kernelRun1_A.sl.HS0_2, kernelRun1_A.sl.HS0_3, kernelRun1_A.sl.HS0_4, kernelRun1_A.sl.HS1_1, kernelRun1_A.sl.HS1_2, kernelRun1_A.sl.HS1_3, kernelRun1_A.sl.HS1_4, kernelRun1_A.sl.HS1_5, kernelRun1_A.sl.HS2_4, kernelRun1_A.sl.HS3_2, kernelRun1_A.sl.HS3_4, kernelRun1_A.sl.HS4_2, kernelRun1_A.sl.HS4_4, kernelRun1_A.sl.r, kernelRun1_A.sl.r_1, kernelRun1_A.sl.r_10, kernelRun1_A.sl.r_11, kernelRun1_A.sl.r_12, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.v111, kernelRun1_A.sl.v120, kernelRun1_A.sl.v14, kernelRun1_A.sl.v141, kernelRun1_A.sl.v143, kernelRun1_A.sl.v150, kernelRun1_A.sl.v157, kernelRun1_A.sl.v159, kernelRun1_A.sl.v16, kernelRun1_A.sl.v166, kernelRun1_A.sl.v173, kernelRun1_A.sl.v182, kernelRun1_A.sl.v202, kernelRun1_A.sl.v211, kernelRun1_A.sl.v23, kernelRun1_A.sl.v232, kernelRun1_A.sl.v234, kernelRun1_A.sl.v241, kernelRun1_A.sl.v248, kernelRun1_A.sl.v25, kernelRun1_A.sl.v250, kernelRun1_A.sl.v257, kernelRun1_A.sl.v82, kernelRun1_A.sl.v91, readCov_eq, rd_hit, rd_skip, rd_fill_m0, rd_fill_m1, rd_fill_a0, rd_fill_a1,
    rd_top0, rd_top1, rd_low0, rd_low1, rd_q0, rd_k00, rd_v00, rd_k01, rd_v01, rd_q1, rd_k10, rd_v10, rd_k11, rd_v11,
    k1_pay1_eq, k1_pay2_eq, k1_pay116_eq, k1_pay3_eq, k1_pay117_eq, k1_pay4_eq, k1_pay61_eq, k1_pay100_eq, k1_pay5_eq, k1_pay6_eq, k1_pay7_eq, k1_pay8_eq, k1_pay14_eq, k1_pay23_eq, k1_pay30_eq, k1_pay46_eq, k1_pay52_eq, k1_pay66_eq, k1_pay73_eq, k1_pay85_eq, k1_pay91_eq, k1_pay105_eq, k1_pay112_eq, k1_pay119_eq, k1_pay125_eq, k1_pay141_eq, k1_pay147_eq, k1_pay152_eq, k1_pay160_eq, k1_pay166_eq, k1_pay176_eq, k1_pay182_eq, k1_pay9_eq, k1_pay10_eq, k1_pay11_eq, k1_pay12_eq, k1_pay13_eq, k1_pay15_eq, k1_pay16_eq, k1_pay17_eq, k1_pay19_eq, k1_pay26_eq, k1_pay28_eq, k1_pay35_eq, k1_pay71_eq, k1_pay110_eq, k1_pay130_eq, k1_pay134_eq, k1_pay135_eq, k1_pay145_eq, k1_pay185_eq, k1_pay187_eq, k1_pay18_eq, k1_pay27_eq, k1_pay186_eq, k1_pay20_eq, k1_pay21_eq, k1_pay22_eq, k1_pay24_eq, k1_pay25_eq, k1_pay29_eq, k1_pay31_eq, k1_pay32_eq, k1_pay33_eq, k1_pay34_eq, k1_pay36_eq, k1_pay37_eq, k1_pay39_eq, k1_pay78_eq, k1_pay171_eq, k1_pay38_eq, k1_pay77_eq, k1_pay40_eq, k1_pay79_eq, k1_pay41_eq, k1_pay80_eq, k1_pay42_eq, k1_pay81_eq, k1_pay43_eq, k1_pay82_eq, k1_pay44_eq, k1_pay83_eq, k1_pay133_eq, k1_pay45_eq, k1_pay51_eq, k1_pay65_eq, k1_pay72_eq, k1_pay84_eq, k1_pay90_eq, k1_pay104_eq, k1_pay111_eq, k1_pay118_eq, k1_pay124_eq, k1_pay140_eq, k1_pay146_eq, k1_pay157_eq, k1_pay47_eq, k1_pay48_eq, k1_pay49_eq, k1_pay50_eq, k1_pay53_eq, k1_pay54_eq, k1_pay93_eq, k1_pay55_eq, k1_pay56_eq, k1_pay57_eq, k1_pay58_eq, k1_pay97_eq, k1_pay59_eq, k1_pay98_eq, k1_pay60_eq, k1_pay99_eq, k1_pay62_eq, k1_pay101_eq, k1_pay63_eq, k1_pay102_eq, k1_pay64_eq, k1_pay103_eq, k1_pay67_eq, k1_pay68_eq, k1_pay69_eq, k1_pay70_eq, k1_pay109_eq, k1_pay74_eq, k1_pay75_eq, k1_pay76_eq, k1_pay86_eq, k1_pay87_eq, k1_pay88_eq, k1_pay89_eq, k1_pay92_eq, k1_pay94_eq, k1_pay95_eq, k1_pay96_eq, k1_pay106_eq, k1_pay107_eq, k1_pay108_eq, k1_pay113_eq, k1_pay114_eq, k1_pay115_eq, k1_pay120_eq, k1_pay121_eq, k1_pay122_eq, k1_pay123_eq, k1_pay126_eq, k1_pay127_eq, k1_pay128_eq, k1_pay129_eq, k1_pay131_eq, k1_pay132_eq, k1_pay136_eq, k1_pay137_eq, k1_pay138_eq, k1_pay139_eq, k1_pay142_eq, k1_pay143_eq, k1_pay144_eq, k1_pay148_eq, k1_pay149_eq, k1_pay150_eq, k1_pay151_eq, k1_pay153_eq, k1_pay154_eq, k1_pay155_eq, k1_pay156_eq, k1_pay158_eq, k1_pay159_eq, k1_pay161_eq, k1_pay162_eq, k1_pay163_eq, k1_pay164_eq, k1_pay165_eq, k1_pay167_eq, k1_pay168_eq, k1_pay169_eq, k1_pay170_eq, k1_pay172_eq, k1_pay173_eq, k1_pay174_eq, k1_pay175_eq, k1_pay177_eq, k1_pay178_eq, k1_pay179_eq, k1_pay180_eq, k1_pay181_eq, k1_pay183_eq, k1_pay184_eq, k1_pay188_eq, k1_pay191_eq, k1_pay192_eq, k1_pay193_eq, k1_pay194_eq,
    dn3_up3, accD_accU, scD_scU, prD_prU, hacc, h0, h1, outAcc, outOf, hide, keyPos, qryPos, rawScore, sc, mx, al, pr, ac, mScore]

end A

end Cert.KernelIdeal.Gen

end
-- ==== Proof.Block.lean ====
module

public import proofs.«01_k».proof.Proof.CaseA
public import proofs.«01_k».proof.Proof.CaseB
public import Idealize.ShloMosaic.Lib.Pointwise
public import Idealize.ShloMosaic.Lib.Pointwise
public import Idealize.ShloMosaic.Lib.Pipeline.ValueKit.Geometry

/-!
# From the blocks to the arrays

What each grid point of the two calls writes, as functions of the arrays they read: the transposed values with their
rows of ones, and the attention's output.
-/

@[expose] public section

set_option maxRecDepth 16384

noncomputable section

namespace Cert.KernelIdeal.Gen

open Idealize.ShloMosaic Idealize.ShloMosaic.TcCoe

variable {F : FTy → Type} [FloatOps F]

/-! ## The attention's output block -/

/-- The output block of two heads for the block of queries `q`. -/
def outBlock (x0 x1 : FVec F S16384x256 .bf16) (x2 : FVec F S1x2x144x16384 .bf16) (x3 x4 : FVec F S1024x256 .bf16) (q : ℕ) : FVec F S1024x256 .bf16 := fun j =>
  headOut x0 x1 x2 x3 x4 q ((j 1).val / 128) (ix2 (⟨(j 0).val % 1024, Nat.mod_lt _ (by decide)⟩ : Fin 1024) (⟨(j 1).val % 128, Nat.mod_lt _ (by decide)⟩ : Fin 128))

theorem canon_heads (f g : FVec F S1024x128 .bf16) (j : S1024x256.Idx) :
    View.canon ([⟨Rect.unit (s := S1024x256) ![0, 128] S1024x128.size inb_S1024x256_S1024x128_0_128, g⟩,
     ⟨Rect.unit (s := S1024x256) ![0, 0] S1024x128.size inb_S1024x256_S1024x128_0_0, f⟩] : List (View.Piece (Elt F) S1024x256 .bf16)) j
    = (if (j 1).val < 128 then f else g) (ix2 (⟨(j 0).val % 1024, Nat.mod_lt _ (by decide)⟩ : Fin 1024) (⟨(j 1).val % 128, Nat.mod_lt _ (by decide)⟩ : Fin 128)) := by
  have hj0 : (j 0).val < 1024 := (j 0).isLt
  have hj1 : (j 1).val < 256 := (j 1).isLt
  by_cases h : (j 1).val < 128
  · rw [if_pos h]
    rw [View.canon_cons_of_not_mem (Val := Elt F)]
    · have e : j = (Rect.unit (s := S1024x256) ![0, 0] S1024x128.size inb_S1024x256_S1024x128_0_0).emb
          (ix2 (⟨(j 0).val % 1024, Nat.mod_lt _ (by decide)⟩ : Fin 1024) (⟨(j 1).val % 128, Nat.mod_lt _ (by decide)⟩ : Fin 128)) := by
        funext a; apply Fin.ext
        match a with
        | ⟨0, _⟩ => show (j 0).val = 0 + 1 * ((j 0).val % 1024); omega
        | ⟨1, _⟩ => show (j 1).val = 0 + 1 * ((j 1).val % 128); omega
      conv_lhs => rw [e]
      exact View.canon_cons_emb _ _ _ _
    · intro hm
      have h2 : 128 ≤ (j 1).val := ((Rect.mem_set_unit (inb := inb_S1024x256_S1024x128_0_128)).mp hm 1).1
      omega
  · rw [if_neg h]
    have e : j = (Rect.unit (s := S1024x256) ![0, 128] S1024x128.size inb_S1024x256_S1024x128_0_128).emb
        (ix2 (⟨(j 0).val % 1024, Nat.mod_lt _ (by decide)⟩ : Fin 1024) (⟨(j 1).val % 128, Nat.mod_lt _ (by decide)⟩ : Fin 128)) := by
      funext a; apply Fin.ext
      match a with
      | ⟨0, _⟩ => show (j 0).val = 0 + 1 * ((j 0).val % 1024); omega
      | ⟨1, _⟩ => show (j 1).val = 128 + 1 * ((j 1).val % 128); omega
    conv_lhs => rw [e]
    exact View.canon_cons_emb _ _ _ _

theorem canon_outBlock (x0 x1 : FVec F S16384x256 .bf16) (x2 : FVec F S1x2x144x16384 .bf16) (x3 x4 : FVec F S1024x256 .bf16) (q : ℕ) :
    View.canon ([⟨Rect.unit (s := S1024x256) ![0, 128] S1024x128.size inb_S1024x256_S1024x128_0_128, headOut x0 x1 x2 x3 x4 q 1⟩,
     ⟨Rect.unit (s := S1024x256) ![0, 0] S1024x128.size inb_S1024x256_S1024x128_0_0, headOut x0 x1 x2 x3 x4 q 0⟩] : List (View.Piece (Elt F) S1024x256 .bf16))
    = outBlock x0 x1 x2 x3 x4 q := by
  funext j
  rw [canon_heads]
  have hj1 : (j 1).val < 256 := (j 1).isLt
  unfold outBlock
  by_cases h : (j 1).val < 128
  · rw [if_pos h, show (j 1).val / 128 = 0 by omega]
  · rw [if_neg h, show (j 1).val / 128 = 1 by omega]

variable (V : (c : Dev nD) → (b : Ref sig .tc) → Buf (Elt F) ((c : Thread nD τ).loc b))

theorem outs1 (c : Dev nD) (t : Fin cfg1.N) :
    outsAt1 V c t.val t.isLt = outBlock (iblk1 V c 0 t) (iblk1 V c 1 t) (iblk1 V c 2 t) (iblk1 V c 3 t) (iblk1 V c 4 t) (grid1.coords t 2).val := by
  by_cases h0 : t.val % 16 = 0
  · rw [outsAt1_A V c t h0 (by omega)]
    unfold out1_A_5
    rw [View.read_writes_junk_eq_canon, storesA, canon_outBlock]
  · rw [outsAt1_B V c t h0 (by omega)]
    unfold out1_B_5
    rw [View.read_writes_junk_eq_canon, storesB, canon_outBlock]

/-! ## The blocks a point reads -/

theorem idx1_0 : ∀ t : Fin cfg1.N, win1_0.index t (0 : Fin 2) = t.val / 48 % 2 ∧ win1_0.index t (1 : Fin 2) = 43 + t.val / 16 % 3 :=
  (by decide +kernel : ∀ t : Fin grid1.N, _)
theorem idx1_1 : ∀ t : Fin cfg1.N, win1_1.index t (0 : Fin 2) = t.val / 48 % 2 ∧ win1_1.index t (1 : Fin 2) = t.val / 16 % 3 :=
  (by decide +kernel : ∀ t : Fin grid1.N, _)
theorem idx1_2 : ∀ t : Fin cfg1.N, win1_2.index t (0 : Fin 4) = t.val / 48 % 2 ∧ win1_2.index t (1 : Fin 4) = t.val / 16 % 3
    ∧ win1_2.index t (2 : Fin 4) = 0 ∧ win1_2.index t (3 : Fin 4) = 0 :=
  (by decide +kernel : ∀ t : Fin grid1.N, _)
theorem idx1_3 : ∀ t : Fin cfg1.N, win1_3.index t (0 : Fin 2) = t.val / 48 % 2 * 16 + t.val % 16 ∧ win1_3.index t (1 : Fin 2) = 40 + t.val / 16 % 3 :=
  (by decide +kernel : ∀ t : Fin grid1.N, _)
theorem idx1_4 : ∀ t : Fin cfg1.N, win1_4.index t (0 : Fin 2) = t.val / 48 % 2 * 16 + t.val % 16 ∧ win1_4.index t (1 : Fin 2) = t.val / 16 % 3 :=
  (by decide +kernel : ∀ t : Fin grid1.N, _)
theorem idx1_5 : ∀ t : Fin cfg1.N, win1_5.index t (0 : Fin 2) = t.val / 48 % 2 * 16 + t.val % 16 ∧ win1_5.index t (1 : Fin 2) = t.val / 16 % 3 :=
  (by decide +kernel : ∀ t : Fin grid1.N, _)
theorem idx0_0 : ∀ t : Fin cfg0.N, win0_0.index t (0 : Fin 2) = t.val / 24 % 2 * 4 + t.val % 4 ∧ win0_0.index t (1 : Fin 2) = 92 + t.val / 4 % 6 :=
  (by decide +kernel : ∀ t : Fin grid0.N, _)
theorem idx0_1 : ∀ t : Fin cfg0.N, win0_1.index t (0 : Fin 4) = t.val / 24 % 2 ∧ win0_1.index t (1 : Fin 4) = t.val / 4 % 6
    ∧ win0_1.index t (2 : Fin 4) = 0 ∧ win0_1.index t (3 : Fin 4) = t.val % 4 :=
  (by decide +kernel : ∀ t : Fin grid0.N, _)

/-- Row `i` and column `j` of the projections. -/
def atP (x : FVec F S32768x12544 .bf16) (i j : ℕ) : F .bf16 :=
  x (ix2 (⟨i % 32768, Nat.mod_lt _ (by decide)⟩ : Fin 32768) (⟨j % 12544, Nat.mod_lt _ (by decide)⟩ : Fin 12544))
/-- Row `i` and column `j` of the positions' arrays. -/
def atE (x : FVec F S32768x768 .bf16) (i j : ℕ) : F .bf16 :=
  x (ix2 (⟨i % 32768, Nat.mod_lt _ (by decide)⟩ : Fin 32768) (⟨j % 768, Nat.mod_lt _ (by decide)⟩ : Fin 768))

/-- The keys of batch `b` and head pair `hp`. -/
def kBlk (x : FVec F S32768x12544 .bf16) (b hp : ℕ) : FVec F S16384x256 .bf16 := fun j =>
  atP x (b * 16384 + (j 0).val) (11008 + hp * 256 + (j 1).val)
/-- The keys' positions. -/
def ekBlk (x : FVec F S32768x768 .bf16) (b hp : ℕ) : FVec F S16384x256 .bf16 := fun j =>
  atE x (b * 16384 + (j 0).val) (hp * 256 + (j 1).val)
/-- The queries of block `q`. -/
def qBlk (x : FVec F S32768x12544 .bf16) (b hp q : ℕ) : FVec F S1024x256 .bf16 := fun j =>
  atP x (b * 16384 + q * 1024 + (j 0).val) (10240 + hp * 256 + (j 1).val)
/-- The queries' positions. -/
def eqBlk (x : FVec F S32768x768 .bf16) (b hp q : ℕ) : FVec F S1024x256 .bf16 := fun j =>
  atE x (b * 16384 + q * 1024 + (j 0).val) (hp * 256 + (j 1).val)
/-- The transposed values of the head pair. -/
def vBlk (x : FVec F S2x6x144x16384 .bf16) (b hp : ℕ) : FVec F S1x2x144x16384 .bf16 := fun j =>
  x (ix4 (⟨b % 2, Nat.mod_lt _ (by decide)⟩ : Fin 2) (⟨(hp * 2 + (j 1).val) % 6, Nat.mod_lt _ (by decide)⟩ : Fin 6)
    (⟨(j 2).val % 144, Nat.mod_lt _ (by decide)⟩ : Fin 144) (⟨(j 3).val % 16384, Nat.mod_lt _ (by decide)⟩ : Fin 16384))

theorem t_lt1 (t : Fin cfg1.N) : t.val < 96 := lt_of_lt_of_eq t.isLt N_1
theorem t_lt0 (t : Fin cfg0.N) : t.val < 48 := lt_of_lt_of_eq t.isLt N_0

theorem blk1_0 (c : Dev nD) (t : Fin cfg1.N) : iblk1 V c 0 t = kBlk (V c main_arg0) (t.val / 48) (t.val / 16 % 3) := by
  funext j
  have hj0 : (j 0).val < 16384 := (j 0).isLt
  have hj1 : (j 1).val < 256 := (j 1).isLt
  have ht := t_lt1 t
  obtain ⟨e0, e1⟩ := idx1_0 t
  refine congrArg (V c main_arg0) (funext fun a => Fin.ext ?_)
  match a with
  | ⟨0, _⟩ => show win1_0.index t (0 : Fin 2) * 16384 + 1 * (j 0).val = (t.val / 48 * 16384 + (j 0).val) % 32768; omega
  | ⟨1, _⟩ => show win1_0.index t (1 : Fin 2) * 256 + 1 * (j 1).val = (11008 + t.val / 16 % 3 * 256 + (j 1).val) % 12544; omega

theorem blk1_1 (c : Dev nD) (t : Fin cfg1.N) : iblk1 V c 1 t = ekBlk (V c main_arg2) (t.val / 48) (t.val / 16 % 3) := by
  funext j
  have hj0 : (j 0).val < 16384 := (j 0).isLt
  have hj1 : (j 1).val < 256 := (j 1).isLt
  have ht := t_lt1 t
  obtain ⟨e0, e1⟩ := idx1_1 t
  refine congrArg (V c main_arg2) (funext fun a => Fin.ext ?_)
  match a with
  | ⟨0, _⟩ => show win1_1.index t (0 : Fin 2) * 16384 + 1 * (j 0).val = (t.val / 48 * 16384 + (j 0).val) % 32768; omega
  | ⟨1, _⟩ => show win1_1.index t (1 : Fin 2) * 256 + 1 * (j 1).val = (t.val / 16 % 3 * 256 + (j 1).val) % 768; omega

theorem blk1_2 (c : Dev nD) (t : Fin cfg1.N) : iblk1 V c 2 t = vBlk (V c main_v0) (t.val / 48) (t.val / 16 % 3) := by
  funext j
  have hj0 : (j 0).val < 1 := (j 0).isLt
  have hj1 : (j 1).val < 2 := (j 1).isLt
  have hj2 : (j 2).val < 144 := (j 2).isLt
  have hj3 : (j 3).val < 16384 := (j 3).isLt
  have ht := t_lt1 t
  obtain ⟨e0, e1, e2, e3⟩ := idx1_2 t
  refine congrArg (V c main_v0) (funext fun a => Fin.ext ?_)
  match a with
  | ⟨0, _⟩ => show win1_2.index t (0 : Fin 4) * 1 + 1 * (j 0).val = (t.val / 48) % 2; omega
  | ⟨1, _⟩ => show win1_2.index t (1 : Fin 4) * 2 + 1 * (j 1).val = (t.val / 16 % 3 * 2 + (j 1).val) % 6; omega
  | ⟨2, _⟩ => show win1_2.index t (2 : Fin 4) * 144 + 1 * (j 2).val = (j 2).val % 144; omega
  | ⟨3, _⟩ => show win1_2.index t (3 : Fin 4) * 16384 + 1 * (j 3).val = (j 3).val % 16384; omega

theorem blk1_3 (c : Dev nD) (t : Fin cfg1.N) : iblk1 V c 3 t = qBlk (V c main_arg0) (t.val / 48) (t.val / 16 % 3) (t.val % 16) := by
  funext j
  have hj0 : (j 0).val < 1024 := (j 0).isLt
  have hj1 : (j 1).val < 256 := (j 1).isLt
  have ht := t_lt1 t
  obtain ⟨e0, e1⟩ := idx1_3 t
  refine congrArg (V c main_arg0) (funext fun a => Fin.ext ?_)
  match a with
  | ⟨0, _⟩ => show win1_3.index t (0 : Fin 2) * 1024 + 1 * (j 0).val = (t.val / 48 * 16384 + t.val % 16 * 1024 + (j 0).val) % 32768; omega
  | ⟨1, _⟩ => show win1_3.index t (1 : Fin 2) * 256 + 1 * (j 1).val = (10240 + t.val / 16 % 3 * 256 + (j 1).val) % 12544; omega

theorem blk1_4 (c : Dev nD) (t : Fin cfg1.N) : iblk1 V c 4 t = eqBlk (V c main_arg1) (t.val / 48) (t.val / 16 % 3) (t.val % 16) := by
  funext j
  have hj0 : (j 0).val < 1024 := (j 0).isLt
  have hj1 : (j 1).val < 256 := (j 1).isLt
  have ht := t_lt1 t
  obtain ⟨e0, e1⟩ := idx1_4 t
  refine congrArg (V c main_arg1) (funext fun a => Fin.ext ?_)
  match a with
  | ⟨0, _⟩ => show win1_4.index t (0 : Fin 2) * 1024 + 1 * (j 0).val = (t.val / 48 * 16384 + t.val % 16 * 1024 + (j 0).val) % 32768; omega
  | ⟨1, _⟩ => show win1_4.index t (1 : Fin 2) * 256 + 1 * (j 1).val = (t.val / 16 % 3 * 256 + (j 1).val) % 768; omega

theorem coord_q (t : Fin cfg1.N) : (grid1.coords t 2).val = t.val % 16 :=
  (by decide +kernel : ∀ t : Fin grid1.N, (grid1.coords t 2).val = t.val % 16) t

/-! ## The attention's output array -/

/-- The attention's output: at each row its batch's and its block's, at each column its head pair's. -/
def foxOf (proj : FVec F S32768x12544 .bf16) (eq ek : FVec F S32768x768 .bf16) (vt : FVec F S2x6x144x16384 .bf16) : FVec F S32768x768 .bf16 := fun i =>
  outBlock (kBlk proj ((i 0).val / 16384) ((i 1).val / 256)) (ekBlk ek ((i 0).val / 16384) ((i 1).val / 256)) (vBlk vt ((i 0).val / 16384) ((i 1).val / 256))
    (qBlk proj ((i 0).val / 16384) ((i 1).val / 256) ((i 0).val % 16384 / 1024)) (eqBlk eq ((i 0).val / 16384) ((i 1).val / 256) ((i 0).val % 16384 / 1024))
    ((i 0).val % 16384 / 1024)
    (ix2 (⟨(i 0).val % 1024, Nat.mod_lt _ (by decide)⟩ : Fin 1024) (⟨(i 1).val % 256, Nat.mod_lt _ (by decide)⟩ : Fin 256))

theorem emb1_0 (t : Fin cfg1.N) (y : S1024x256.Idx) :
    (((cfg1.win 5).blk t).view.emb y 0).val = t.val / 48 * 16384 + t.val % 16 * 1024 + (y 0).val := by
  obtain ⟨e0, e1⟩ := idx1_5 t
  have ht := t_lt1 t
  show win1_5.index t (0 : Fin 2) * 1024 + 1 * (y 0).val = _; omega
theorem emb1_1 (t : Fin cfg1.N) (y : S1024x256.Idx) :
    (((cfg1.win 5).blk t).view.emb y 1).val = t.val / 16 % 3 * 256 + (y 1).val := by
  obtain ⟨e0, e1⟩ := idx1_5 t
  show win1_5.index t (1 : Fin 2) * 256 + 1 * (y 1).val = _; omega

theorem foxOf_emb (c : Dev nD) (t : Fin cfg1.N) (y : S1024x256.Idx) :
    outsAt1 V c t.val t.isLt y = foxOf (V c main_arg0) (V c main_arg1) (V c main_arg2) (V c main_v0) (((cfg1.win 5).blk t).view.emb y) := by
  have hy0 : (y 0).val < 1024 := (y 0).isLt
  have hy1 : (y 1).val < 256 := (y 1).isLt
  have ht := t_lt1 t
  rw [outs1, blk1_0, blk1_1, blk1_2, blk1_3, blk1_4, coord_q]
  unfold foxOf
  have r0 := emb1_0 t y
  have r1 := emb1_1 t y
  generalize ((cfg1.win 5).blk t).view.emb y = z at r0 r1 ⊢
  have a1 : (z 0).val / 16384 = t.val / 48 := by omega
  have a2 : (z 1).val / 256 = t.val / 16 % 3 := by omega
  have a3 : (z 0).val % 16384 / 1024 = t.val % 16 := by omega
  rw [a1, a2, a3]
  refine congrArg _ (funext fun a => Fin.ext ?_)
  match a with
  | ⟨0, _⟩ => show (y 0).val = (z 0).val % 1024; omega
  | ⟨1, _⟩ => show (y 1).val = (z 1).val % 256; omega

theorem covered1 (i : S32768x768.Idx) : ∃ t : Fin cfg1.N, (cfg1.win 5).flush t = true ∧ i ∈ ((cfg1.win 5).blk t).view.set := by
  have h0 : (i 0).val < 32768 := (i 0).isLt
  have h1 : (i 1).val < 768 := (i 1).isLt
  let t : Fin cfg1.N := ⟨(i 0).val / 16384 * 48 + (i 1).val / 256 * 16 + (i 0).val % 16384 / 1024, by rw [show cfg1.N = 96 from N_1]; omega⟩
  have tv : t.val = (i 0).val / 16384 * 48 + (i 1).val / 256 * 16 + (i 0).val % 16384 / 1024 := rfl
  refine ⟨t, flush1_5 t, ?_⟩
  have e : i = ((cfg1.win 5).blk t).view.emb (ix2 (⟨(i 0).val % 1024, Nat.mod_lt _ (by decide)⟩ : Fin 1024) (⟨(i 1).val % 256, Nat.mod_lt _ (by decide)⟩ : Fin 256)) := by
    funext a; apply Fin.ext
    match a with
    | ⟨0, _⟩ =>
      refine Eq.trans ?_ (emb1_0 t _).symm
      show (i 0).val = t.val / 48 * 16384 + t.val % 16 * 1024 + (i 0).val % 1024; omega
    | ⟨1, _⟩ =>
      refine Eq.trans ?_ (emb1_1 t _).symm
      show (i 1).val = t.val / 16 % 3 * 256 + (i 1).val % 256; omega
  rw [e]
  exact View.emb_mem_set _ _

/-- The second call's output array, from the arrays as the call finds them. -/
theorem final1 (c : Dev nD) : (dat1 V c).arrAt 5 cfg1.N = foxOf (V c main_arg0) (V c main_arg1) (V c main_arg2) (V c main_v0) := by
  refine (dat1 V c).arrAt_eq_of_emb 5 (foxOf (V c main_arg0) (V c main_arg1) (V c main_arg2) (V c main_v0)) (fun t _ y => ?_) covered1
  rw [after1_5]
  exact foxOf_emb V c t y

/-! ## The transposed values -/

/-- The transposed values of every head, rows 128 … 143 holding one. -/
def vtOf (proj : FVec F S32768x12544 .bf16) : FVec F S2x6x144x16384 .bf16 := fun i =>
  if (i 2).val < 128 then atP proj ((i 0).val * 16384 + (i 3).val) (11776 + (i 1).val * 128 + (i 2).val) else Scalar.ofBits .bf16 0x3F80#16

/-- One head's transposed block of values. -/
def vtBlock (x : FVec F S4096x128 .bf16) : FVec F S1x1x144x4096 .bf16 := fun j =>
  if (j 2).val < 128 then x (ix2 (⟨(j 3).val % 4096, Nat.mod_lt _ (by decide)⟩ : Fin 4096) (⟨(j 2).val % 128, Nat.mod_lt _ (by decide)⟩ : Fin 128))
  else Scalar.ofBits .bf16 0x3F80#16

theorem pay_flip (x : FVec F S4096x128 .bf16) (a : Fin 128) (b : Fin 4096) :
    k0_pay1 x (ix4 (0 : Fin 1) (0 : Fin 1) a b) = x (ix2 b a) := by
  unfold k0_pay1
  dsimp only
  pointwise []

theorem outs0 (c : Dev nD) (t : Fin cfg0.N) : outsAt0 V c t = vtBlock (iblk0 V c 0 t) := by
  unfold outsAt0 out0_A_1
  rw [View.read_writes_junk_eq_canon]
  show View.canon ([⟨Rect.unit (s := S1x1x144x4096) ![0, 0, 128, 0] S1x1x16x4096.size inb_S1x1x144x4096_S1x1x16x4096_0_0_128_0, k0_pay2⟩,
    ⟨Rect.unit (s := S1x1x144x4096) ![0, 0, 0, 0] S1x1x128x4096.size inb_S1x1x144x4096_S1x1x128x4096_0_0_0_0,
      k0_pay1 (View.readAt (Elt F) (ms0_0 t).view (Rect.unit (s := S4096x128) ![0, 0] S4096x128.size inb_S4096x128_S4096x128_0_0).toLoadRect ((hs0_0 t).unread (iblk0 V c 0 t)))⟩] :
    List (View.Piece (Elt F) S1x1x144x4096 .bf16)) = _
  rw [View.readAt_eq_ld, (hs0_0 t).read_unread, View.ld_unit_zero (funext fun a => by fin_cases a <;> rfl)]
  funext j
  unfold vtBlock
  have hj0 : (j 0).val < 1 := (j 0).isLt
  have hj1 : (j 1).val < 1 := (j 1).isLt
  have hj2 : (j 2).val < 144 := (j 2).isLt
  have hj3 : (j 3).val < 4096 := (j 3).isLt
  by_cases h : (j 2).val < 128
  · rw [if_pos h]
    rw [View.canon_cons_of_not_mem (Val := Elt F)]
    · have e : j = (Rect.unit (s := S1x1x144x4096) ![0, 0, 0, 0] S1x1x128x4096.size inb_S1x1x144x4096_S1x1x128x4096_0_0_0_0).emb
          (ix4 (0 : Fin 1) (0 : Fin 1) (⟨(j 2).val % 128, Nat.mod_lt _ (by decide)⟩ : Fin 128) (⟨(j 3).val % 4096, Nat.mod_lt _ (by decide)⟩ : Fin 4096)) := by
        funext a; apply Fin.ext
        match a with
        | ⟨0, _⟩ => show (j 0).val = 0 + 1 * 0; omega
        | ⟨1, _⟩ => show (j 1).val = 0 + 1 * 0; omega
        | ⟨2, _⟩ => show (j 2).val = 0 + 1 * ((j 2).val % 128); omega
        | ⟨3, _⟩ => show (j 3).val = 0 + 1 * ((j 3).val % 4096); omega
      conv_lhs => rw [e]
      exact (View.canon_cons_emb _ _ _ _).trans (pay_flip _ _ _)
    · intro hm
      have h2 : 128 ≤ (j 2).val := ((Rect.mem_set_unit (inb := inb_S1x1x144x4096_S1x1x16x4096_0_0_128_0)).mp hm 2).1
      omega
  · rw [if_neg h]
    have e : j = (Rect.unit (s := S1x1x144x4096) ![0, 0, 128, 0] S1x1x16x4096.size inb_S1x1x144x4096_S1x1x16x4096_0_0_128_0).emb
        (ix4 (0 : Fin 1) (0 : Fin 1) (⟨((j 2).val - 128) % 16, Nat.mod_lt _ (by decide)⟩ : Fin 16) (⟨(j 3).val % 4096, Nat.mod_lt _ (by decide)⟩ : Fin 4096)) := by
      funext a; apply Fin.ext
      match a with
      | ⟨0, _⟩ => show (j 0).val = 0 + 1 * 0; omega
      | ⟨1, _⟩ => show (j 1).val = 0 + 1 * 0; omega
      | ⟨2, _⟩ => show (j 2).val = 128 + 1 * (((j 2).val - 128) % 16); omega
      | ⟨3, _⟩ => show (j 3).val = 0 + 1 * ((j 3).val % 4096); omega
    conv_lhs => rw [e]
    exact View.canon_cons_emb _ _ _ _

theorem blk0_0 (c : Dev nD) (t : Fin cfg0.N) (a b : ℕ) (ha : a < 4096) (hb : b < 128) :
    iblk0 V c 0 t (ix2 (⟨a, ha⟩ : Fin 4096) (⟨b, hb⟩ : Fin 128)) = atP (V c main_arg0) (t.val / 24 * 16384 + t.val % 4 * 4096 + a) (11776 + t.val / 4 % 6 * 128 + b) := by
  have ht := t_lt0 t
  obtain ⟨e0, e1⟩ := idx0_0 t
  refine congrArg (V c main_arg0) (funext fun d => Fin.ext ?_)
  match d with
  | ⟨0, _⟩ => show win0_0.index t (0 : Fin 2) * 4096 + 1 * a = (t.val / 24 * 16384 + t.val % 4 * 4096 + a) % 32768; omega
  | ⟨1, _⟩ => show win0_0.index t (1 : Fin 2) * 128 + 1 * b = (11776 + t.val / 4 % 6 * 128 + b) % 12544; omega

theorem emb0_v (t : Fin cfg0.N) (y : S1x1x144x4096.Idx) :
    (((cfg0.win 1).blk t).view.emb y 0).val = t.val / 24 ∧ (((cfg0.win 1).blk t).view.emb y 1).val = t.val / 4 % 6
    ∧ (((cfg0.win 1).blk t).view.emb y 2).val = (y 2).val ∧ (((cfg0.win 1).blk t).view.emb y 3).val = t.val % 4 * 4096 + (y 3).val := by
  have hj0 : (y 0).val < 1 := (y 0).isLt
  have hj1 : (y 1).val < 1 := (y 1).isLt
  have ht := t_lt0 t
  obtain ⟨e0, e1, e2, e3⟩ := idx0_1 t
  refine ⟨?_, ?_, ?_, ?_⟩
  · show win0_1.index t (0 : Fin 4) * 1 + 1 * (y 0).val = _; omega
  · show win0_1.index t (1 : Fin 4) * 1 + 1 * (y 1).val = _; omega
  · show win0_1.index t (2 : Fin 4) * 144 + 1 * (y 2).val = _; omega
  · show win0_1.index t (3 : Fin 4) * 4096 + 1 * (y 3).val = _; omega

theorem vtOf_emb (c : Dev nD) (t : Fin cfg0.N) (y : S1x1x144x4096.Idx) :
    outsAt0 V c t y = vtOf (V c main_arg0) (((cfg0.win 1).blk t).view.emb y) := by
  have hy2 : (y 2).val < 144 := (y 2).isLt
  have hy3 : (y 3).val < 4096 := (y 3).isLt
  rw [outs0]
  unfold vtOf vtBlock
  obtain ⟨r0, r1, r2, r3⟩ := emb0_v t y
  rw [r0, r1, r2, r3]
  by_cases h : (y 2).val < 128
  · rw [if_pos h, if_pos h, blk0_0, Nat.mod_eq_of_lt hy3, Nat.mod_eq_of_lt h]
    exact congrArg₂ (atP _) (by omega) rfl
  · rw [if_neg h, if_neg h]

theorem covered0 (i : S2x6x144x16384.Idx) : ∃ t : Fin cfg0.N, (cfg0.win 1).flush t = true ∧ i ∈ ((cfg0.win 1).blk t).view.set := by
  have h0 : (i 0).val < 2 := (i 0).isLt
  have h1 : (i 1).val < 6 := (i 1).isLt
  have h2 : (i 2).val < 144 := (i 2).isLt
  have h3 : (i 3).val < 16384 := (i 3).isLt
  let t : Fin cfg0.N := ⟨(i 0).val * 24 + (i 1).val * 4 + (i 3).val / 4096, by rw [show cfg0.N = 48 from N_0]; omega⟩
  have tv : t.val = (i 0).val * 24 + (i 1).val * 4 + (i 3).val / 4096 := rfl
  refine ⟨t, flush0_1 t, ?_⟩
  have e : i = ((cfg0.win 1).blk t).view.emb (ix4 (0 : Fin 1) (0 : Fin 1) (⟨(i 2).val % 144, Nat.mod_lt _ (by decide)⟩ : Fin 144) (⟨(i 3).val % 4096, Nat.mod_lt _ (by decide)⟩ : Fin 4096)) := by
    obtain ⟨r0, r1, r2, r3⟩ := emb0_v t (ix4 (0 : Fin 1) (0 : Fin 1) (⟨(i 2).val % 144, Nat.mod_lt _ (by decide)⟩ : Fin 144) (⟨(i 3).val % 4096, Nat.mod_lt _ (by decide)⟩ : Fin 4096))
    funext a; apply Fin.ext
    match a with
    | ⟨0, _⟩ => refine Eq.trans ?_ r0.symm; show (i 0).val = t.val / 24; clear r0 r1 r2 r3; omega
    | ⟨1, _⟩ => refine Eq.trans ?_ r1.symm; show (i 1).val = t.val / 4 % 6; clear r0 r1 r2 r3; omega
    | ⟨2, _⟩ => refine Eq.trans ?_ r2.symm; show (i 2).val = (i 2).val % 144; clear r0 r1 r2 r3; omega
    | ⟨3, _⟩ => refine Eq.trans ?_ r3.symm; show (i 3).val = t.val % 4 * 4096 + (i 3).val % 4096; clear r0 r1 r2 r3; omega
  rw [e]
  exact View.emb_mem_set _ _

/-- The first call's output array. -/
theorem final0 (c : Dev nD) : (dat0 V c).arrAt 1 cfg0.N = vtOf (V c main_arg0) := by
  refine (dat0 V c).arrAt_eq_of_emb 1 (vtOf (V c main_arg0)) (fun t _ y => ?_) (fun i => covered0 i)
  exact (congrFun (after0_1 V c t) _).trans (vtOf_emb V c t y)

end Cert.KernelIdeal.Gen
-- ==== Proof.Run.lean ====
module

public import proofs.«01_k».proof.Proof.Block

/-!
# The kernel's run

Both calls, from the launch to the return: the result array is the attention's output over the transposed values that
the first call leaves.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V1_args (c : Dev nD) : V1 m ρ c main_arg0 = m ((c : Thread nD τ).loc main_arg0) ∧ V1 m ρ c main_arg1 = m ((c : Thread nD τ).loc main_arg1)
    ∧ V1 m ρ c main_arg2 = m ((c : Thread nD τ).loc main_arg2) :=
  ⟨W1_args m ρ c main_arg0 (by decide), W1_args m ρ c main_arg1 (by decide), W1_args m ρ c main_arg2 (by decide)⟩

theorem V1_values (c : Dev nD) : V1 m ρ c main_v0 = vtOf (m ((c : Thread nD τ).loc main_arg0)) :=
  (hF0 m ρ c 1).symm.trans (final0 (V0 m ρ) c)

/-- The kernel's result, from its arguments. -/
def result (proj : FVec F S32768x12544 .bf16) (eq ek : FVec F S32768x768 .bf16) : FVec F S32768x768 .bf16 := foxOf proj eq ek (vtOf proj)

theorem W2_result (c : Dev nD) : W2 m ρ c (Proc.devRef .tc main_v1)
    = result (m ((c : Thread nD τ).loc main_arg0)) (m ((c : Thread nD τ).loc main_arg1)) (m ((c : Thread nD τ).loc main_arg2)) := by
  obtain ⟨h0, h1, h2⟩ := V1_args m ρ c
  refine (W2_arr m ρ c 5).trans ((final1 (V1 m ρ) c).trans ?_)
  rw [h0, h1, h2, V1_values]
  rfl

/-- The launch, with every buffer at its final contents. -/
theorem run_result : θ_run defs (onTc (τ := τ) (main (F := F))) ⟨m, fun _ => 0, ρ⟩ (fun r => ∀ c : Dev nD,
      r.2.mem ((c.tc : Thread nD τ).loc main_v1)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => fun c =>
      ⟨(h c _ (mem_uc main_v1 (by decide))).trans (W2_result m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Gen
-- ==== Proof.Softmax.lean ====
module

public import Idealize.ShloMosaic.Lib.Pointwise
public import Idealize.ShloMosaic.Lib.WordCmp
public import Idealize.ShloMosaic.Lib.IdealHost

/-!
# A softmax taken block by block

Over the extended reals: a running maximum and a running sum, rescaled whenever the maximum grows, come
to the softmax over all the keys at once. Scores may be minus infinity (a masked key) but not plus
infinity; the values are arbitrary extended reals.
-/

@[expose] public section

noncomputable section

namespace Cert.Softmax

open Idealize.ShloMosaic Idealize.ShloMosaic.WordCmp

/-! ## Constants and comparisons -/

theorem neg_inf : Ideal.ofBits .f32 0xFF800000#32 = ⊥ := by simp [Ideal.ofBits, Ideal.ieee]

theorem two : Ideal.ofBits .f32 0x40000000#32 = ((2 : ℝ) : EReal) := by
  simp [Ideal.ofBits, Ideal.ieee, -EReal.coe_mul]; norm_num

theorem select_le {α : Type} {a b : ℕ} (ha : a < 2 ^ 31) (hb : b < 2 ^ 31) (x y : α) :
    Scalar.select (IntOp.cmpi .sle (BitVec.ofNat 32 a) (BitVec.ofNat 32 b)) x y = if a ≤ b then x else y := by
  unfold Scalar.select
  exact if_congr (cmpi_sle_ofNat_eq_one_iff (w := 32) ha hb) rfl rfl

/-- A power of two is the exponential to base two. -/
theorem pow_two (y : EReal) : Ideal.pow ((2 : ℝ) : EReal) y = Ideal.exp2 y := by
  induction y using EReal.rec with
  | bot => rw [Ideal.pow_coe_bot, Ideal.exp2_bot]; norm_num
  | top => rw [Ideal.pow_coe_top, Ideal.exp2_top]; norm_num
  | coe r => rfl

/-! ## The exponential -/

theorem exp2_real (a : EReal) (ha : a ≠ ⊤) (m : ℝ) : ∃ e : ℝ, 0 ≤ e ∧ Ideal.exp2 (a - (m : EReal)) = (e : EReal) := by
  induction a using EReal.rec with
  | bot => exact ⟨0, le_rfl, by rw [EReal.bot_sub, Ideal.exp2_bot, EReal.coe_zero]⟩
  | top => exact absurd rfl ha
  | coe r => exact ⟨Real.rpow 2 (r - m), Real.rpow_nonneg (by norm_num) _, by rw [← EReal.coe_sub, Ideal.exp2_coe]⟩

theorem exp2_shift (a : EReal) (ha : a ≠ ⊤) (m m' : ℝ) :
    Ideal.exp2 (a - (m : EReal)) * Ideal.exp2 ((m : EReal) - (m' : EReal)) = Ideal.exp2 (a - (m' : EReal)) := by
  induction a using EReal.rec with
  | bot => rw [EReal.bot_sub, EReal.bot_sub, Ideal.exp2_bot, zero_mul]
  | top => exact absurd rfl ha
  | coe r =>
    rw [← EReal.coe_sub, ← EReal.coe_sub, ← EReal.coe_sub, Ideal.exp2_coe, Ideal.exp2_coe, Ideal.exp2_coe, ← EReal.coe_mul]
    refine congrArg _ ?_
    show (2 : ℝ) ^ (r - m) * (2 : ℝ) ^ (m - m') = (2 : ℝ) ^ (r - m')
    rw [← Real.rpow_add (by norm_num)]
    congr 1
    ring

/-- A nonnegative real passes into a sum of extended reals. -/
theorem mul_sum' {ι : Type} (S : Finset ι) (c : ℝ) (hc : 0 ≤ c) (f : ι → EReal) : (c : EReal) * ∑ i ∈ S, f i = ∑ i ∈ S, (c : EReal) * f i := by
  classical
  induction S using Finset.induction_on with
  | empty => simp
  | insert a S ha ih =>
    rw [Finset.sum_insert ha, Finset.sum_insert ha, EReal.left_distrib_of_nonneg_of_ne_top (EReal.coe_nonneg.mpr hc) (EReal.coe_ne_top c), ih]

theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-! ## The running maximum and the running sum -/

variable (s : ℕ → Fin 512 → EReal) (M : ℕ → EReal)

/-- What the running maximum does with each block. -/
def MaxRun : Prop := M 0 = ⊥ ∧ ∀ n, M (n + 1) = max (M n) (Finset.univ.fold max ⊥ fun k : Fin 512 => s n k)
/-- What the running sum does with each block. -/
def SumRun (v : ℕ → Fin 512 → EReal) (A : ℕ → EReal) : Prop :=
  A 0 = 0 ∧ ∀ n, A (n + 1) = Ideal.exp2 (M n - M (n + 1)) * A n + ∑ k : Fin 512, v n k * Ideal.exp2 (s n k - M (n + 1))

variable {s M}

theorem max_le (h : MaxRun s M) (n : ℕ) (x : EReal) : M n ≤ x ↔ ∀ i, i < n → ∀ k, s i k ≤ x := by
  induction n with
  | zero => simp [h.1]
  | succ n ih =>
    rw [h.2 n, max_le_iff, ih, Finset.fold_max_le]
    constructor
    · rintro ⟨a, -, b⟩ i hi k
      rcases Nat.lt_succ_iff_lt_or_eq.mp hi with hi | rfl
      · exact a i hi k
      · exact b k (Finset.mem_univ k)
    · intro a
      exact ⟨fun i hi k => a i (by omega) k, bot_le, fun k _ => a n (by omega) k⟩

theorem max_real (h : MaxRun s M) {N : ℕ} (top : ∀ n, n < N → ∀ k, s n k ≠ ⊤) (bot : ∃ k, s 0 k ≠ ⊥) {n : ℕ} (h0 : 0 < n) (hn : n ≤ N) :
    ∃ m : ℝ, M n = (m : EReal) := by
  obtain ⟨k, hk⟩ := bot
  have hb : M n ≠ ⊥ := fun e => hk (le_bot_iff.mp ((max_le h n ⊥).mp e.le 0 h0 k))
  have ht : M n ≠ ⊤ := by
    have : ∀ n, n ≤ N → M n < ⊤ := by
      intro n
      induction n with
      | zero => intro _; rw [h.1]; exact bot_lt_top
      | succ n ih =>
        intro hn
        rw [h.2 n, max_lt_iff, Finset.fold_max_lt]
        exact ⟨ih (by omega), bot_lt_top, fun k _ => lt_top_iff_ne_top.mpr (top n (by omega) k)⟩
    exact (this n hn).ne
  exact ⟨(M n).toReal, (EReal.coe_toReal ht hb).symm⟩

theorem sum_run (h : MaxRun s M) {v : ℕ → Fin 512 → EReal} {A : ℕ → EReal} (hA : SumRun s M v A) {N : ℕ}
    (top : ∀ n, n < N → ∀ k, s n k ≠ ⊤) (bot : ∃ k, s 0 k ≠ ⊥) (n : ℕ) (hn : n ≤ N) :
    A n = ∑ i ∈ Finset.range n, ∑ k : Fin 512, v i k * Ideal.exp2 (s i k - M n) := by
  induction n with
  | zero => rw [hA.1, Finset.range_zero, Finset.sum_empty]
  | succ n ih =>
    rw [hA.2 n, Finset.sum_range_succ]
    refine congrArg (· + _) ?_
    rcases Nat.eq_zero_or_pos n with rfl | h0
    · rw [hA.1, mul_zero, Finset.range_zero, Finset.sum_empty]
    · obtain ⟨m, hm⟩ := max_real h top bot h0 (by omega)
      obtain ⟨m', hm'⟩ := max_real h top bot (n := n + 1) (by omega) hn
      obtain ⟨c, hc, ec⟩ := exp2_real (m : EReal) (EReal.coe_ne_top m) m'
      rw [ih (by omega), hm, hm', ec, mul_sum' _ c hc]
      refine Finset.sum_congr rfl fun i hi => ?_
      rw [mul_sum' _ c hc]
      refine Finset.sum_congr rfl fun k _ => ?_
      rw [mul_left_comm, mul_comm (c : EReal), ← ec, exp2_shift _ (top i (by have := Finset.mem_range.mp hi; omega) k)]

/-! ## All the keys at once -/

/-- A sum over the keys, block by block. -/
theorem sum_blocks (f : Fin 16384 → EReal) : ∑ j, f j = ∑ n : Fin 32, ∑ k : Fin 512, f ⟨n.val * 512 + k.val, by omega⟩ := by
  have e : ∑ p : Fin 32 × Fin 512, f (finProdFinEquiv (m := 32) (n := 512) p) = ∑ j, f j := Equiv.sum_comp (finProdFinEquiv (m := 32) (n := 512)) f
  rw [← e, Fintype.sum_prod_type]
  refine Finset.sum_congr rfl fun n _ => Finset.sum_congr rfl fun k _ => congrArg f (Fin.ext ?_)
  show k.val + 512 * n.val = n.val * 512 + k.val
  ring

/-- A sum over the keys that stops after `N` blocks. -/
theorem sum_first {N : ℕ} (hN : N ≤ 32) (f : Fin 16384 → EReal) (g : ℕ → Fin 512 → EReal)
    (hg : ∀ n (h : n < N) (k : Fin 512), g n k = f ⟨n * 512 + k.val, by omega⟩) (hz : ∀ j : Fin 16384, N * 512 ≤ j.val → f j = 0) :
    ∑ n ∈ Finset.range N, ∑ k, g n k = ∑ j, f j := by
  rw [sum_blocks]
  let F : ℕ → EReal := fun n => if n < N then ∑ k, g n k else 0
  have e1 : ∑ n ∈ Finset.range N, ∑ k, g n k = ∑ n ∈ Finset.range 32, F n := by
    have : ∑ n ∈ Finset.range N, ∑ k, g n k = ∑ n ∈ Finset.range N, F n :=
      Finset.sum_congr rfl fun n hn => (if_pos (Finset.mem_range.mp hn)).symm
    rw [this]
    refine Finset.sum_subset (Finset.range_subset_range.mpr hN) fun n _ hn => if_neg fun h => hn (Finset.mem_range.mpr h)
  rw [e1, Finset.sum_range]
  refine Finset.sum_congr rfl fun n _ => ?_
  show (if n.val < N then _ else _) = _
  split
  · rename_i h
    exact Finset.sum_congr rfl fun k _ => hg n.val h k
  · rename_i h
    exact (Finset.sum_eq_zero fun k _ => hz _ (by show N * 512 ≤ n.val * 512 + k.val; have := Nat.mul_le_mul_right 512 (Nat.le_of_not_lt h); omega)).symm

/-- **The running softmax is the softmax.** -/
theorem online (h : MaxRun s M) {v : ℕ → Fin 512 → EReal} {A L : ℕ → EReal} (hA : SumRun s M v A) (hL : SumRun s M (fun _ _ => 1) L)
    {N : ℕ} (h0 : 0 < N) (hN : N ≤ 32) (t w : Fin 16384 → EReal)
    (hs : ∀ n (h : n < N) (k : Fin 512), s n k = t ⟨n * 512 + k.val, by omega⟩)
    (hv : ∀ n (h : n < N) (k : Fin 512), v n k = w ⟨n * 512 + k.val, by omega⟩)
    (ht : ∀ j : Fin 16384, N * 512 ≤ j.val → t j = ⊥) (top : ∀ j, t j ≠ ⊤) (bot : t 0 ≠ ⊥) :
    Ideal.div (A N) (L N)
      = ∑ j, Ideal.div (Ideal.pow ((2 : ℝ) : EReal) (t j - Finset.univ.fold max ⊥ t)) (∑ i, Ideal.pow ((2 : ℝ) : EReal) (t i - Finset.univ.fold max ⊥ t)) * w j := by
  have top' : ∀ n, n < N → ∀ k, s n k ≠ ⊤ := fun n hn k => by rw [hs n hn k]; exact top _
  have bot' : ∃ k, s 0 k ≠ ⊥ := ⟨0, by rw [hs 0 h0 0]; exact bot⟩
  obtain ⟨m, hm⟩ := max_real h top' bot' h0 le_rfl
  have eM : Finset.univ.fold max ⊥ t = (m : EReal) := by
    rw [← hm]
    apply le_antisymm
    · rw [Finset.fold_max_le]
      refine ⟨bot_le, fun j _ => ?_⟩
      by_cases hj : N * 512 ≤ j.val
      · rw [ht j hj]; exact bot_le
      · have hn : j.val / 512 < N := by omega
        have := (max_le h N (M N)).mp le_rfl (j.val / 512) hn ⟨j.val % 512, by omega⟩
        rw [hs _ hn] at this
        refine le_of_eq_of_le (congrArg t (Fin.ext ?_)) this
        show j.val = j.val / 512 * 512 + j.val % 512
        omega
    · rw [max_le h]
      intro i hi k
      rw [hs i hi k]
      exact ((Finset.fold_max_le (b := ⊥) (f := t) (s := Finset.univ) (Finset.univ.fold max ⊥ t)).mp le_rfl).2 _ (Finset.mem_univ _)
  rw [eM, sum_run h hA top' bot' N le_rfl, sum_run h hL top' bot' N le_rfl, hm]
  simp only [pow_two]
  have zero : ∀ j : Fin 16384, N * 512 ≤ j.val → Ideal.exp2 (t j - (m : EReal)) = 0 := fun j hj => by
    rw [ht j hj, EReal.bot_sub, Ideal.exp2_bot]
  have eL : ∑ n ∈ Finset.range N, ∑ k : Fin 512, 1 * Ideal.exp2 (s n k - (m : EReal)) = ∑ j, Ideal.exp2 (t j - (m : EReal)) :=
    sum_first hN (fun j => Ideal.exp2 (t j - (m : EReal))) _ (fun n hn k => by rw [one_mul, hs n hn k]) zero
  rw [eL]
  choose e he ee using fun j => exp2_real (t j) (top j) m
  have eT : ∑ j, Ideal.exp2 (t j - (m : EReal)) = ((∑ j, e j : ℝ) : EReal) := by
    rw [← coe_sum]; exact Finset.sum_congr rfl fun j _ => ee j
  have e0 : 0 < e 0 := by
    have h1 := ee 0
    have htop := top 0
    generalize t 0 = a at h1 bot htop
    induction a using EReal.rec with
    | bot => exact absurd rfl bot
    | top => exact absurd rfl htop
    | coe r =>
      rw [← EReal.coe_sub, Ideal.exp2_coe] at h1
      rw [← EReal.coe_eq_coe_iff.mp h1]
      exact Real.rpow_pos_of_pos (by norm_num) _
  have pos : 0 < ∑ j, e j := lt_of_lt_of_le e0 (Finset.single_le_sum (fun j _ => he j) (Finset.mem_univ (0 : Fin 16384)))
  rw [eT]
  generalize ∑ j, e j = T at pos
  have dv : ∀ x : EReal, Ideal.div x (T : EReal) = ((T⁻¹ : ℝ) : EReal) * x := fun x => by
    unfold Ideal.div
    rw [if_neg (by exact_mod_cast pos.ne'), mul_comm, EReal.coe_inv]
  rw [dv, mul_sum' _ _ (inv_nonneg.mpr pos.le)]
  rw [Finset.sum_congr rfl fun i _ => mul_sum' _ _ (inv_nonneg.mpr pos.le) _]
  refine sum_first hN _ _ (fun n hn k => ?_) (fun j hj => ?_)
  · rw [dv, hv n hn k, hs n hn k, mul_comm (w _), mul_assoc]
  · rw [dv, zero j hj, mul_zero, zero_mul]

end Cert.Softmax
-- ==== Proof.Values.lean ====
module

public import proofs.«01_k».proof.Proof.Run
public import proofs.«01_k».proof.Proof.Softmax

/-!
# The attention body over the extended reals

Each piece of the body's arithmetic, at one row and one column; and the output block as a quotient of two
running sums.
-/

@[expose] public section

set_option maxRecDepth 16384

noncomputable section

namespace Cert.KernelIdeal.Gen

open Idealize.ShloMosaic Idealize.ShloMosaic.TcCoe

theorem mx_at (m : FVec Ideal S1x1024 .f32) (s : FVec Ideal S512x1024 .f32) (r : Fin 1024) :
    mx m s (ix2 (0 : Fin 1) r) = max (m (ix2 0 r)) (Finset.univ.fold max ⊥ fun k : Fin 512 => s (ix2 k r)) := by
  pointwise [mx, row, rowMax]
  rw [Softmax.neg_inf]

theorem al_at (m : FVec Ideal S1x1024 .f32) (s : FVec Ideal S512x1024 .f32) (r : Fin 1024) :
    al m s (ix2 (0 : Fin 1) r) = Ideal.exp2 (m (ix2 0 r) - mx m s (ix2 0 r)) := by
  pointwise [al]
  rfl

theorem pr_at (m : FVec Ideal S1x1024 .f32) (s : FVec Ideal S512x1024 .f32) (k : Fin 512) (r : Fin 1024) :
    pr m s (ix2 k r) = Ideal.exp2 (s (ix2 k r) - mx m s (ix2 0 r)) := by
  pointwise [pr, toBf, overKeys]
  rfl

theorem ac_at (a : FVec Ideal S1x1024 .f32) (acc : FVec Ideal S144x1024 .f32) (v : FVec Ideal S144x512 .bf16) (p : FVec Ideal S512x1024 .bf16) (d : Fin 144) (r : Fin 1024) :
    ac a acc v p (ix2 d r) = a (ix2 0 r) * acc (ix2 d r) + ∑ k : Fin 512, v (ix2 d k) * p (ix2 k r) := by
  pointwise [ac, overAcc, mPV]

theorem outAcc_at (A : FVec Ideal S144x1024 .f32) (r : Fin 1024) (d : Fin 128) :
    outAcc A (ix2 r d) = Ideal.div (A (ix2 ⟨d.val, by omega⟩ r)) (A (ix2 128 r)) := by
  pointwise [outAcc, outOf, toBf, flip, overOut, topD, dn3, top3, low3, accU]
  have e1 : (⟨d.val % 144, Nat.mod_lt _ (by decide)⟩ : Fin 144) = ⟨d.val, by omega⟩ := Fin.ext (Nat.mod_eq_of_lt (by omega))
  have e2 : (⟨r.val % 1024, Nat.mod_lt _ (by decide)⟩ : Fin 1024) = r := Fin.ext (Nat.mod_eq_of_lt r.isLt)
  rw [e1, e2]

theorem sc_at (q e : FVec Ideal S1024x128 .bf16) (k x : FVec Ideal S512x128 .bf16) (n : Fin 512) (r : Fin 1024) :
    sc q e k x (ix2 n r) = (∑ c : Fin 128, k (ix2 n c) * q (ix2 r c)) + ∑ c : Fin 128, x (ix2 n c) * e (ix2 r c) := by
  pointwise [sc, mScore, joinK, joinQ]

theorem noMax_at (r : Fin 1024) : (noMax : FVec Ideal S1x1024 .f32) (ix2 0 r) = ⊥ := by
  pointwise [noMax]
  exact Softmax.neg_inf

theorem noAcc_at (d : Fin 144) (r : Fin 1024) : (noAcc : FVec Ideal S144x1024 .f32) (ix2 d r) = 0 := by
  pointwise [noAcc]

theorem hide_at (off : ℕ) (ho : off ≤ 512) (s : FVec Ideal S512x1024 .f32) (k : Fin 512) (r : Fin 1024) :
    hide (BitVec.ofNat 32 off) s (ix2 k r) = if k.val + off ≤ r.val then s (ix2 k r) else ⊥ := by
  pointwise [hide, keyPos, qryPos]
  have e : IntOp.addi (BitVec.ofNat 32 k.val) (BitVec.ofNat 32 off) = BitVec.ofNat 32 (k.val + off) := (BitVec.ofNat_add ..).symm
  rw [e, Softmax.select_le (by omega) (by omega), Softmax.neg_inf]

theorem vD_at (v : FVec Ideal S1x1x144x512 .bf16) (d : Fin 144) (k : Fin 512) : vD v (ix2 d k) = v (ix4 0 0 d k) := by
  pointwise [vD]

/-! ## The running maximum and the running sums -/

variable (s : ℕ → FVec Ideal S512x1024 .f32) (v : ℕ → FVec Ideal S144x512 .bf16) (r : Fin 1024)

theorem maxRun : Softmax.MaxRun (fun n k => s n (ix2 k r)) (fun n => maxAt s n (ix2 (0 : Fin 1) r)) :=
  ⟨noMax_at r, fun n => mx_at (maxAt s n) (s n) r⟩

theorem sumRun (d : Fin 144) : Softmax.SumRun (fun n k => s n (ix2 k r)) (fun n => maxAt s n (ix2 (0 : Fin 1) r))
    (fun n k => v n (ix2 d k)) (fun n => accAt s v n (ix2 d r)) := by
  refine ⟨noAcc_at d r, fun n => (ac_at _ _ _ _ d r).trans ?_⟩
  rw [al_at]
  refine congrArg₂ (· + ·) rfl (Finset.sum_congr rfl fun k _ => ?_)
  rw [pr_at]
  rfl

/-! ## The scores -/

/-- The score of a query and a key of one head. -/
def score (proj : FVec Ideal S32768x12544 .bf16) (eq ek : FVec Ideal S32768x768 .bf16) (b : Fin 2) (h : Fin 6) (p j : Fin 16384) : EReal :=
  (∑ c : Fin 128, proj (ix2 ⟨b.val * 16384 + j.val, by omega⟩ ⟨11008 + (h.val * 128 + c.val), by omega⟩) * proj (ix2 ⟨b.val * 16384 + p.val, by omega⟩ ⟨10240 + (h.val * 128 + c.val), by omega⟩))
    + ∑ c : Fin 128, ek (ix2 ⟨b.val * 16384 + j.val, by omega⟩ ⟨h.val * 128 + c.val, by omega⟩) * eq (ix2 ⟨b.val * 16384 + p.val, by omega⟩ ⟨h.val * 128 + c.val, by omega⟩)

theorem ix2_congr {m n : ℕ} {a a' : Fin m} {c c' : Fin n} (h : a.val = a'.val) (h' : c.val = c'.val) : ix2 a c = ix2 a' c' := by
  rw [Fin.ext h, Fin.ext h']

theorem raw_at (proj : FVec Ideal S32768x12544 .bf16) (eq ek : FVec Ideal S32768x768 .bf16) (b : Fin 2) (hp : Fin 3) (h : Fin 2) (q : Fin 16) (n : Fin 32) (k : Fin 512) (r : Fin 1024) :
    rawScore (kBlk proj b.val hp.val) (ekBlk ek b.val hp.val) (qBlk proj b.val hp.val q.val) (eqBlk eq b.val hp.val q.val) h.val n.val (ix2 k r)
      = score proj eq ek b ⟨hp.val * 2 + h.val, by omega⟩ ⟨q.val * 1024 + r.val, by omega⟩ ⟨n.val * 512 + k.val, by omega⟩ := by
  unfold rawScore score
  rw [sc_at]
  refine congrArg₂ (· + ·) (Finset.sum_congr rfl fun c _ => congrArg₂ (· * ·) ?_ ?_) (Finset.sum_congr rfl fun c _ => congrArg₂ (· * ·) ?_ ?_)
  · refine congrArg proj (ix2_congr ?_ ?_)
    · show (b.val * 16384 + (n.val * 512 + k.val) % 16384) % 32768 = b.val * 16384 + (n.val * 512 + k.val); omega
    · show (11008 + hp.val * 256 + (h.val * 128 + c.val) % 256) % 12544 = 11008 + ((hp.val * 2 + h.val) * 128 + c.val); omega
  · refine congrArg proj (ix2_congr ?_ ?_)
    · show (b.val * 16384 + q.val * 1024 + r.val % 1024) % 32768 = b.val * 16384 + (q.val * 1024 + r.val); omega
    · show (10240 + hp.val * 256 + (h.val * 128 + c.val) % 256) % 12544 = 10240 + ((hp.val * 2 + h.val) * 128 + c.val); omega
  · refine congrArg ek (ix2_congr ?_ ?_)
    · show (b.val * 16384 + (n.val * 512 + k.val) % 16384) % 32768 = b.val * 16384 + (n.val * 512 + k.val); omega
    · show (hp.val * 256 + (h.val * 128 + c.val) % 256) % 768 = (hp.val * 2 + h.val) * 128 + c.val; omega
  · refine congrArg eq (ix2_congr ?_ ?_)
    · show (b.val * 16384 + q.val * 1024 + r.val % 1024) % 32768 = b.val * 16384 + (q.val * 1024 + r.val); omega
    · show (hp.val * 256 + (h.val * 128 + c.val) % 256) % 768 = (hp.val * 2 + h.val) * 128 + c.val; omega

/-- A block of scores, masked where the body masks it, is the causally masked score. -/
theorem scores_at (proj : FVec Ideal S32768x12544 .bf16) (eq ek : FVec Ideal S32768x768 .bf16) (b : Fin 2) (hp : Fin 3) (h : Fin 2) (q : Fin 16) (n : ℕ) (hn : n < 2 * q.val + 2) (k : Fin 512) (r : Fin 1024) :
    scores (kBlk proj b.val hp.val) (ekBlk ek b.val hp.val) (qBlk proj b.val hp.val q.val) (eqBlk eq b.val hp.val q.val) q.val h.val n (ix2 k r)
      = if n * 512 + k.val ≤ q.val * 1024 + r.val then
          score proj eq ek b ⟨hp.val * 2 + h.val, by omega⟩ ⟨q.val * 1024 + r.val, by omega⟩ ⟨n * 512 + k.val, by omega⟩ else ⊥ := by
  have e := raw_at proj eq ek b hp h q ⟨n, by omega⟩ k r
  rw [← e]
  unfold scores
  split
  · rw [if_pos (by omega)]
  · split
    · refine (hide_at 0 (by decide) _ k r).trans (if_congr ?_ rfl rfl)
      omega
    · refine (hide_at 512 (by decide) _ k r).trans (if_congr ?_ rfl rfl)
      omega

/-! ## The values -/

theorem values_at (proj : FVec Ideal S32768x12544 .bf16) (b : Fin 2) (hp : Fin 3) (h : Fin 2) (n : Fin 32) (k : Fin 512) (d : Fin 128) :
    vD (vTile (vBlk (vtOf proj) b.val hp.val) h.val n.val) (ix2 (⟨d.val, by omega⟩ : Fin 144) k)
      = proj (ix2 ⟨b.val * 16384 + (n.val * 512 + k.val), by omega⟩ ⟨11776 + ((hp.val * 2 + h.val) * 128 + d.val), by omega⟩) := by
  rw [vD_at]
  show vtOf proj (ix4 _ _ _ _) = _
  unfold vtOf
  refine (if_pos ?_).trans ?_
  · show d.val % 144 % 144 < 128; omega
  · refine congrArg proj (ix2_congr ?_ ?_)
    · show (b.val % 2 * 16384 + (n.val * 512 + k.val) % 16384 % 16384) % 32768 = b.val * 16384 + (n.val * 512 + k.val); omega
    · show (11776 + (hp.val * 2 + h.val % 2) % 6 * 128 + d.val % 144 % 144) % 12544 = 11776 + ((hp.val * 2 + h.val) * 128 + d.val); omega

theorem ones_at (proj : FVec Ideal S32768x12544 .bf16) (b hp h n : ℕ) (k : Fin 512) :
    vD (vTile (vBlk (vtOf proj) b hp) h n) (ix2 (128 : Fin 144) k) = 1 := by
  rw [vD_at]
  unfold vTile vBlk vtOf
  refine (if_neg ?_).trans Ideal.ofBits_one_bf16
  show ¬((128 : Fin 144).val % 144 % 144 < 128)
  decide

/-! ## The result -/

/-- The causally masked scores of one query. -/
def seen (proj : FVec Ideal S32768x12544 .bf16) (eq ek : FVec Ideal S32768x768 .bf16) (b : Fin 2) (h : Fin 6) (p j : Fin 16384) : EReal :=
  if j.val ≤ p.val then score proj eq ek b h p j else ⊥

/-- The softmax-weighted sum of the values of one head, for one query. -/
def mixOf (proj : FVec Ideal S32768x12544 .bf16) (eq ek : FVec Ideal S32768x768 .bf16) (b : Fin 2) (h : Fin 6) (p : Fin 16384) (d : Fin 128) : EReal :=
  ∑ j, Ideal.div (Ideal.pow ((2 : ℝ) : EReal) (seen proj eq ek b h p j - Finset.univ.fold max ⊥ (seen proj eq ek b h p)))
      (∑ i, Ideal.pow ((2 : ℝ) : EReal) (seen proj eq ek b h p i - Finset.univ.fold max ⊥ (seen proj eq ek b h p)))
    * proj (ix2 ⟨b.val * 16384 + j.val, by omega⟩ ⟨11776 + (h.val * 128 + d.val), by omega⟩)

theorem head_at (proj : FVec Ideal S32768x12544 .bf16) (eq ek : FVec Ideal S32768x768 .bf16) (b : Fin 2) (hp : Fin 3) (h : Fin 2) (q : Fin 16) (r : Fin 1024) (d : Fin 128)
    (fin : ∀ p j, ∃ x : ℝ, score proj eq ek b ⟨hp.val * 2 + h.val, by omega⟩ p j = (x : EReal)) :
    headOut (kBlk proj b.val hp.val) (ekBlk ek b.val hp.val) (vBlk (vtOf proj) b.val hp.val) (qBlk proj b.val hp.val q.val) (eqBlk eq b.val hp.val q.val) q.val h.val (ix2 r d)
      = mixOf proj eq ek b ⟨hp.val * 2 + h.val, by omega⟩ ⟨q.val * 1024 + r.val, by omega⟩ d := by
  unfold headOut
  rw [outAcc_at]
  let S := scores (kBlk proj b.val hp.val) (ekBlk ek b.val hp.val) (qBlk proj b.val hp.val q.val) (eqBlk eq b.val hp.val q.val) q.val h.val
  let V := fun n => vD (vTile (vBlk (vtOf proj) b.val hp.val) h.val n)
  refine Softmax.online (N := 2 * q.val + 2) (L := fun n => accAt S V n (ix2 128 r)) (maxRun S r) (sumRun S V r ⟨d.val, by omega⟩) ?_ (by omega) (by omega)
    (seen proj eq ek b ⟨hp.val * 2 + h.val, by omega⟩ ⟨q.val * 1024 + r.val, by omega⟩)
    (fun j => proj (ix2 ⟨b.val * 16384 + j.val, by omega⟩ ⟨11776 + ((hp.val * 2 + h.val) * 128 + d.val), by omega⟩)) ?_ ?_ ?_ ?_ ?_
  · have e := sumRun S V r 128
    have e1 : (fun n k => V n (ix2 (128 : Fin 144) k)) = fun (_ : ℕ) (_ : Fin 512) => (1 : EReal) := by
      funext n k
      exact ones_at proj b.val hp.val h.val n k
    rw [e1] at e
    exact e
  · exact fun n hn k => scores_at proj eq ek b hp h q n hn k r
  · exact fun n hn k => values_at proj b hp h ⟨n, by omega⟩ k d
  · intro j hj
    exact if_neg (by show ¬(j.val ≤ q.val * 1024 + r.val); omega)
  · intro j
    unfold seen
    split
    · obtain ⟨x, hx⟩ := fin ⟨q.val * 1024 + r.val, by omega⟩ j
      rw [hx]; exact EReal.coe_ne_top x
    · exact bot_ne_top
  · obtain ⟨x, hx⟩ := fin ⟨q.val * 1024 + r.val, by omega⟩ 0
    unfold seen
    rw [if_pos (show (0 : Fin 16384).val ≤ q.val * 1024 + r.val from Nat.zero_le _), hx]
    exact EReal.coe_ne_bot x

/-- The kernel's result at one row and one column. -/
theorem result_at (proj : FVec Ideal S32768x12544 .bf16) (eq ek : FVec Ideal S32768x768 .bf16)
    (fin : ∀ b h p j, ∃ x : ℝ, score proj eq ek b h p j = (x : EReal)) (i : Fin 32768) (j : Fin 768) :
    result proj eq ek (ix2 i j) = mixOf proj eq ek ⟨i.val / 16384, by omega⟩ ⟨j.val / 128, by omega⟩ ⟨i.val % 16384, by omega⟩ ⟨j.val % 128, by omega⟩ := by
  have e := head_at proj eq ek ⟨i.val / 16384, by omega⟩ ⟨j.val / 256, by omega⟩ ⟨j.val % 256 / 128, by omega⟩ ⟨i.val % 16384 / 1024, by omega⟩
    ⟨i.val % 1024 % 1024, by omega⟩ ⟨j.val % 256 % 128, by omega⟩ (fin _ _)
  refine Eq.trans e ?_
  congr 1
  · exact Fin.ext (by show j.val / 256 * 2 + j.val % 256 / 128 = j.val / 128; omega)
  · exact Fin.ext (by show i.val % 16384 / 1024 * 1024 + i.val % 1024 % 1024 = i.val % 16384; omega)
  · exact Fin.ext (by show j.val % 256 % 128 = j.val % 128; omega)

end Cert.KernelIdeal.Gen
-- ==== Proof.Equal.lean ====
module

public import proofs.«01_k».proof.Proof.Ref
public import proofs.«01_k».proof.Proof.Values
public import Idealize.ShloMosaic.Lib.ReduceAll

/-!
# The kernel's result is the reference's

Over the extended reals, where the queries, the keys and their position columns are finite.
-/

@[expose] public section

set_option maxRecDepth 16384

noncomputable section

namespace Cert.ReferenceIdeal.Ref

open Idealize.ShloMosaic Idealize.ShloMosaic.TcCoe

/-! ## The reference's stages, entry by entry -/

theorem heads_at (x : FVec Ideal S32768x768 .bf16) (b : Fin 2) (h : Fin 6) (p : Fin 16384) (d : Fin 128) :
    heads x (ix4 b h p d) = x (ix2 ⟨b.val * 16384 + p.val, by omega⟩ ⟨h.val * 128 + d.val, by omega⟩) := by
  pointwise [heads]
theorem colsQ_at (x : FVec Ideal S32768x12544 .bf16) (i : Fin 32768) (j : Fin 768) : colsQ x (ix2 i j) = x (ix2 i ⟨10240 + j.val, by omega⟩) := by
  pointwise [colsQ]
theorem colsK_at (x : FVec Ideal S32768x12544 .bf16) (i : Fin 32768) (j : Fin 768) : colsK x (ix2 i j) = x (ix2 i ⟨11008 + j.val, by omega⟩) := by
  pointwise [colsK]
theorem colsV_at (x : FVec Ideal S32768x12544 .bf16) (i : Fin 32768) (j : Fin 768) : colsV x (ix2 i j) = x (ix2 i ⟨11776 + j.val, by omega⟩) := by
  pointwise [colsV]
theorem prods_at (x y : FVec Ideal S2x6x16384x128 .f32) (b : Fin 2) (h : Fin 6) (p q : Fin 16384) :
    prods x y (ix4 b h p q) = ∑ c : Fin 128, x (ix4 b h p c) * y (ix4 b h q c) := by
  pointwise [prods]
theorem masked_at (l : FVec Ideal S2x6x16384x16384 .f32) (b : Fin 2) (h : Fin 6) (p q : Fin 16384) :
    masked l (ix4 b h p q) = if q.val ≤ p.val then l (ix4 b h p q) else ⊥ := by
  pointwise [masked, causal]
  rw [Softmax.select_le (by omega) (by omega), Softmax.neg_inf]
theorem peaks_at (l : FVec Ideal S2x6x16384x16384 .f32) (b : Fin 2) (h : Fin 6) (p : Fin 16384) :
    peaks l (ix3 b h p) = Finset.univ.fold max ⊥ fun k : Fin 16384 => l (ix4 b h p k) := by
  pointwise [peaks]
  rw [Softmax.neg_inf]
theorem powers_at (l : FVec Ideal S2x6x16384x16384 .f32) (b : Fin 2) (h : Fin 6) (p q : Fin 16384) :
    powers l (ix4 b h p q) = Ideal.pow ((2 : ℝ) : EReal) (l (ix4 b h p q) - peaks l (ix3 b h p)) := by
  pointwise [powers, spread]
  rw [Softmax.two]
theorem totals_at (l : FVec Ideal S2x6x16384x16384 .f32) (b : Fin 2) (h : Fin 6) (p : Fin 16384) : totals l (ix3 b h p) = ∑ k, l (ix4 b h p k) := by
  pointwise [totals]
theorem weights_at (l : FVec Ideal S2x6x16384x16384 .f32) (b : Fin 2) (h : Fin 6) (p q : Fin 16384) :
    weights l (ix4 b h p q) = Ideal.div (l (ix4 b h p q)) (totals l (ix3 b h p)) := by
  pointwise [weights, spread]
theorem mixed_at (w : FVec Ideal S2x6x16384x16384 .f32) (v : FVec Ideal S2x6x16384x128 .f32) (b : Fin 2) (h : Fin 6) (p : Fin 16384) (d : Fin 128) :
    mixed w v (ix4 b h p d) = ∑ k : Fin 16384, w (ix4 b h p k) * v (ix4 b h k d) := by
  pointwise [mixed]
theorem unheads_at (o : FVec Ideal S2x6x16384x128 .f32) (i : Fin 32768) (j : Fin 768) :
    unheads o (ix2 i j) = o (ix4 ⟨i.val / 16384, by omega⟩ ⟨j.val / 128, by omega⟩ ⟨i.val % 16384, by omega⟩ ⟨j.val % 128, by omega⟩) := by
  pointwise [unheads]

variable (proj : FVec Ideal S32768x12544 .bf16) (eq ek : FVec Ideal S32768x768 .bf16)

theorem logits_at (b : Fin 2) (h : Fin 6) (p q : Fin 16384) : logits proj eq ek (ix4 b h p q) = KernelIdeal.Gen.score proj eq ek b h p q := by
  unfold logits KernelIdeal.Gen.score
  show prods _ _ (ix4 b h p q) + prods _ _ (ix4 b h p q) = _
  rw [prods_at, prods_at]
  refine congrArg₂ (· + ·) (Finset.sum_congr rfl fun c _ => ?_) (Finset.sum_congr rfl fun c _ => ?_)
  · rw [heads_at, heads_at, colsQ_at, colsK_at, mul_comm]
  · rw [heads_at, heads_at, mul_comm]

theorem seen_at (b : Fin 2) (h : Fin 6) (p : Fin 16384) : (fun q => masked (logits proj eq ek) (ix4 b h p q)) = KernelIdeal.Gen.seen proj eq ek b h p := by
  funext q
  rw [masked_at, logits_at]
  rfl

/-- The reference's result at one row and one column. -/
theorem out_at (i : Fin 32768) (j : Fin 768) :
    out proj eq ek (ix2 i j)
      = KernelIdeal.Gen.mixOf proj eq ek ⟨i.val / 16384, by omega⟩ ⟨j.val / 128, by omega⟩ ⟨i.val % 16384, by omega⟩ ⟨j.val % 128, by omega⟩ := by
  unfold out KernelIdeal.Gen.mixOf
  rw [unheads_at, mixed_at, ← seen_at]
  refine Finset.sum_congr rfl fun k _ => congrArg₂ (· * ·) ?_ ?_
  · rw [weights_at, totals_at]
    simp only [powers_at, peaks_at]
  · rw [heads_at, colsV_at]

/-! ## Finite scores -/

/-- A real number among the extended reals. -/
def IsReal (x : EReal) : Prop := ∃ r : ℝ, x = (r : EReal)

theorem sum_real {n : ℕ} {f g : Fin n → EReal} (hf : ∀ c, IsReal (f c)) (hg : ∀ c, IsReal (g c)) : IsReal (∑ c, f c * g c) := by
  choose a ha using hf
  choose e he using hg
  refine ⟨∑ c, a c * e c, ?_⟩
  rw [← Softmax.coe_sum]
  exact Finset.sum_congr rfl fun c _ => by rw [ha, he, EReal.coe_mul]

theorem real_of_abs {x : EReal} (h : max x (-x) < ⊤) : IsReal x := by
  induction x using EReal.rec with
  | bot => exact absurd h (by simp)
  | top => exact absurd h (by simp)
  | coe r => exact ⟨r, rfl⟩

theorem score_real (hp : ∀ i (j : Fin 1536), IsReal (proj (ix2 i ⟨10240 + j.val, by omega⟩))) (hq : ∀ i j, IsReal (eq (ix2 i j))) (hk : ∀ i j, IsReal (ek (ix2 i j)))
    (b : Fin 2) (h : Fin 6) (p q : Fin 16384) : ∃ x : ℝ, KernelIdeal.Gen.score proj eq ek b h p q = (x : EReal) := by
  have e1 : ∀ i (j : Fin 12544) (h0 : 10240 ≤ j.val) (h1 : j.val < 11776), IsReal (proj (ix2 i j)) := fun i j h0 h1 => by
    have e := hp i ⟨j.val - 10240, by omega⟩
    have : (⟨10240 + (j.val - 10240), by omega⟩ : Fin 12544) = j := Fin.ext (by show 10240 + (j.val - 10240) = j.val; omega)
    rwa [this] at e
  obtain ⟨x, hx⟩ := sum_real (f := fun c : Fin 128 => proj (ix2 ⟨b.val * 16384 + q.val, by omega⟩ ⟨11008 + (h.val * 128 + c.val), by omega⟩))
    (g := fun c : Fin 128 => proj (ix2 ⟨b.val * 16384 + p.val, by omega⟩ ⟨10240 + (h.val * 128 + c.val), by omega⟩))
    (fun c => e1 _ _ (by show 10240 ≤ 11008 + (h.val * 128 + c.val); omega) (by show 11008 + (h.val * 128 + c.val) < 11776; omega))
    (fun c => e1 _ _ (by show 10240 ≤ 10240 + (h.val * 128 + c.val); omega) (by show 10240 + (h.val * 128 + c.val) < 11776; omega))
  obtain ⟨y, hy⟩ := sum_real (f := fun c : Fin 128 => ek (ix2 ⟨b.val * 16384 + q.val, by omega⟩ ⟨h.val * 128 + c.val, by omega⟩))
    (g := fun c : Fin 128 => eq (ix2 ⟨b.val * 16384 + p.val, by omega⟩ ⟨h.val * 128 + c.val, by omega⟩))
    (fun c => hk _ _) (fun c => hq _ _)
  refine ⟨x + y, ?_⟩
  unfold KernelIdeal.Gen.score
  rw [hx, hy, EReal.coe_add]

/-! ## The precondition -/

theorem pos_inf : Ideal.ofBits .f32 0x7F800000#32 = ⊤ := by simp [Ideal.ofBits, Ideal.ieee]

theorem andi_one {a b : BitVec 1} (h : IntOp.andi a b = 1#1) : a = 1#1 ∧ b = 1#1 := IntOp.andi_eq_one.1 h

theorem lt_of_cmp {x y : EReal} (h : Ideal.cmp .olt x y = 1#1) : x < y := by
  by_contra hn
  have e : Ideal.cmp .olt x y = BitVec.ofBool (decide (x < y)) := rfl
  rw [e, decide_eq_false hn] at h
  exact absurd h (by decide)

theorem slice_at {φ : FTy} (x : FVec Ideal Pre_finite.S32768x12544 φ) (h : Pre_finite.S32768x12544.Slices ![0, 10240] Pre_finite.S32768x1536) (i : Fin 32768) (j : Fin 1536) :
    extractStridedSlice Pre_finite.S32768x1536 ![0, 10240] x h (ix2 i j) = x (ix2 i ⟨10240 + j.val, by omega⟩) := by
  pointwise

theorem finite_of_pre (h : Cert.Pre_finite.fn (F := Ideal) proj eq ek = fun _ => 1#1) :
    (∀ i (j : Fin 1536), IsReal (proj (ix2 i ⟨10240 + j.val, by omega⟩))) ∧ (∀ i j, IsReal (eq (ix2 i j))) ∧ (∀ i j, IsReal (ek (ix2 i j))) := by
  have h0 := congrFun h (Shape.Idx.first (by decide))
  unfold Cert.Pre_finite.fn at h0
  obtain ⟨h01, h2⟩ := andi_one h0
  obtain ⟨h0, h1⟩ := andi_one h01
  haveI : Subsingleton Pre_finite.S_.Idx := ⟨fun a b => funext fun i => i.elim0⟩
  refine ⟨fun i j => real_of_abs ?_, fun i j => real_of_abs ?_, fun i j => real_of_abs ?_⟩
  · have e := Host.reduce_andi_all _ _ _ _ _ h0 (ix2 i j)
    have e' := lt_of_lt_of_eq (lt_of_cmp e) pos_inf
    rw [← slice_at proj Pre_finite.Facts.slices_S32768x12544_S32768x1536_0_10240]
    exact e'
  · exact lt_of_lt_of_eq (lt_of_cmp (Host.reduce_andi_all _ _ _ _ _ h1 (ix2 i j))) pos_inf
  · exact lt_of_lt_of_eq (lt_of_cmp (Host.reduce_andi_all _ _ _ _ _ h2 (ix2 i j))) pos_inf

/-- **The kernel's result is the reference's.** -/
theorem result_eq_out (h : Cert.Pre_finite.fn (F := Ideal) proj eq ek = fun _ => 1#1) : KernelIdeal.Gen.result proj eq ek = out proj eq ek := by
  obtain ⟨hp, hq, hk⟩ := finite_of_pre proj eq ek h
  funext y
  have ey : y = ix2 (y 0) (y 1) := by funext a; match a with | ⟨0, _⟩ => rfl | ⟨1, _⟩ => rfl
  rw [ey]
  exact (KernelIdeal.Gen.result_at proj eq ek (score_real proj eq ek hp hq hk) (y 0) (y 1)).trans (out_at proj eq ek (y 0) (y 1)).symm

end Cert.ReferenceIdeal.Ref
-- ==== Proof.FfnRun.lean ====
module

public import proofs.«01_k».proof.Proof.Gen.Kernel2Ideal.Value
public import Idealize.ShloMosaic.Lib.Pipeline.ValueKit
public import Idealize.ShloMosaic.Lib.Pipeline.ReadBack

/-!
# What each grid point of the feed-forward kernel leaves

The grid walks eleven slices of the hidden width for each tile of 512 rows. The first point of a tile normalises
the rows, keeps them in the scratch, and starts the sum at zero; the others add to the sum; the last turns the sum
into the result.
-/

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem

variable {F : FTy → Type} [FloatOps F]
variable (m : (ℓ : Loc nD τ sig) → Buf (Elt F) ℓ)

theorem first_acc (c : Dev nD) (t : Fin cfg0.N) (h0 : t.val % 11 = 0) (h1 : ¬t.val % 11 = 10) :
    (outsAt0 m c t.val t.isLt).1 = k0_pay3 (k0_pay1 (iblk m c 0 t) (iblk m c 2 t) (iblk m c 1 t)) (iblk m c 4 t) (iblk m c 5 t) (k0_pay2 (F := F)) (iblk m c 6 t) := by
  rw [outsAt0_A m c t h0 h1]; frame_out

theorem first_rows (c : Dev nD) (t : Fin cfg0.N) (h0 : t.val % 11 = 0) (h1 : ¬t.val % 11 = 10) :
    (outsAt0 m c t.val t.isLt).2 = k0_pay1 (iblk m c 0 t) (iblk m c 2 t) (iblk m c 1 t) := by
  rw [outsAt0_A m c t h0 h1]; frame_out

theorem next_acc (c : Dev nD) (t : Fin cfg0.N) (h0 : ¬t.val % 11 = 0) (h1 : ¬t.val % 11 = 10) :
    (outsAt0 m c t.val t.isLt).1 = k0_pay3 (outsAt0 m c (t.val - 1) (Nat.lt_of_le_of_lt (Nat.sub_le _ _) t.isLt)).2 (iblk m c 4 t) (iblk m c 5 t) (outsAt0 m c (t.val - 1) (Nat.lt_of_le_of_lt (Nat.sub_le _ _) t.isLt)).1 (iblk m c 6 t) := by
  rw [outsAt0_B m c t h0 h1]; frame_out; rw [read_unread_whole]

theorem next_rows (c : Dev nD) (t : Fin cfg0.N) (h0 : ¬t.val % 11 = 0) (h1 : ¬t.val % 11 = 10) :
    (outsAt0 m c t.val t.isLt).2 = (outsAt0 m c (t.val - 1) (Nat.lt_of_le_of_lt (Nat.sub_le _ _) t.isLt)).2 := by
  rw [outsAt0_B m c t h0 h1]; rfl

theorem last_out (c : Dev nD) (t : Fin cfg0.N) (h0 : ¬t.val % 11 = 0) (h1 : t.val % 11 = 10) :
    (outsAt0 m c t.val t.isLt).1 = k0_pay4 (iblk m c 0 t) (iblk m c 3 t) (k0_pay3 (outsAt0 m c (t.val - 1) (Nat.lt_of_le_of_lt (Nat.sub_le _ _) t.isLt)).2 (iblk m c 4 t) (iblk m c 5 t) (outsAt0 m c (t.val - 1) (Nat.lt_of_le_of_lt (Nat.sub_le _ _) t.isLt)).1 (iblk m c 6 t)) (iblk m c 7 t) (iblk m c 8 t) := by
  rw [outsAt0_C m c t h0 h1]; frame_out; rw [read_unread_whole]

end Cert.Kernel2Ideal.Ffn
end
-- ==== Proof.Rows.lean ====
module

public import Idealize.ShloMosaic.Lib.Pointwise

/-!
# The row arithmetic the sub-layers share

The normalisation of a row, its modulation by a shift and a scale, and the feed-forward sub-layer, as functions of
rows of extended reals.
-/

@[expose] public section

noncomputable section

namespace Cert.Rows

open Idealize.ShloMosaic

/-- The mean of a row: its sum divided by its length. -/
def mean (y : Fin 2048 → EReal) : EReal := Ideal.div (∑ e, y e) (Ideal.ofBits .f32 0x45000000#32)

/-- The row less its mean, over its deviation. -/
def norm (y : Fin 2048 → EReal) (d : Fin 2048) : EReal :=
  (y d - mean y) * Ideal.rsqrt (mean (fun e => (y e - mean y) * (y e - mean y)) + Ideal.ofBits .f32 0x3727C5AC#32)

/-- The normalised row, scaled and shifted. -/
def modulated (y sh sc : Fin 2048 → EReal) (d : Fin 2048) : EReal := norm y d * (1 + sc d) + sh d

/-- The gated activation of one hidden column: `a` times its logistic, times `u`. -/
def gated (h : Fin 2048 → EReal) (wa wu : Fin 2048 → EReal) : EReal :=
  (∑ k, h k * wa k) * Ideal.logistic (∑ k, h k * wa k) * ∑ k, h k * wu k

/-- The residual row plus the gated branch, normalised, with the gain and the bias of the norm. -/
def postNorm (x g b lg lb : Fin 2048 → EReal) (d : Fin 2048) : EReal :=
  norm (fun e => Ideal.ofBits .f32 0x3FB504F3#32 * x e + (1 + g e) * b e) d * lg d + lb d

/-- The feed-forward branch of a row: the gated activations of the hidden columns, projected back. -/
def ffn (h : Fin 2048 → EReal) (wi : Fin 2048 → Fin 11264 → EReal) (wo : Fin 5632 → Fin 2048 → EReal) (d : Fin 2048) : EReal :=
  ∑ f : Fin 5632, gated h (fun k => wi k ⟨f.val, by omega⟩) (fun k => wi k ⟨5632 + f.val, by omega⟩) * wo f d

/-- The batch of a row of the flattened activations. -/
def batch (R : Fin 32768) : Fin 2 := ⟨R.val / 16384, by omega⟩

/-- The whole feed-forward sub-layer at row `R` and column `d`. -/
def ffnOut (x : Fin 32768 → Fin 2048 → EReal) (sh sc g : Fin 2 → Fin 2048 → EReal) (wi : Fin 2048 → Fin 11264 → EReal) (wo : Fin 5632 → Fin 2048 → EReal)
    (lg lb : Fin 2048 → EReal) (R : Fin 32768) (d : Fin 2048) : EReal :=
  postNorm (x R) (g (batch R)) (ffn (modulated (x R) (sh (batch R)) (sc (batch R))) wi wo) lg lb d

end Cert.Rows
end
-- ==== Proof.FfnReads.lean ====
module

public import proofs.«01_k».proof.Proof.Gen.Kernel2Ideal.Skeleton
public import proofs.«01_k».proof.Proof.Rows

/-!
# The feed-forward body over the extended reals, at one row and one column
-/

@[expose] public section

set_option maxRecDepth 16384

noncomputable section

namespace Cert.Kernel2Ideal.Ffn

open Cert.Kernel2Ideal Cert.Kernel2Ideal.Gen
open Idealize.ShloMosaic Idealize.ShloMosaic.TcCoe

theorem start_at (r : Fin 512) (d : Fin 2048) : (k0_pay2 (F := Ideal)) (ix2 r d) = 0 := by
  pointwise [k0_pay2]

theorem acc_at (h : FVec Ideal S512x2048 .bf16) (wa wu : FVec Ideal S2048x512 .bf16) (a : FVec Ideal S512x2048 .f32) (wo : FVec Ideal S512x2048 .bf16) (r : Fin 512) (d : Fin 2048) :
    k0_pay3 (F := Ideal) h wa wu a wo (ix2 r d) = a (ix2 r d) + ∑ f : Fin 512, Rows.gated (fun k => h (ix2 r k)) (fun k => wa (ix2 k f)) (fun k => wu (ix2 k f)) * wo (ix2 f d) := by
  pointwise [k0_pay3]
  rfl

theorem rows_at (x : FVec Ideal S512x2048 .f32) (sc sh : FVec Ideal S1x1x2048 .f32) (r : Fin 512) (d : Fin 2048) :
    k0_pay1 (F := Ideal) x sc sh (ix2 r d) = Rows.modulated (fun e => x (ix2 r e)) (fun e => sh (ix3 0 0 e)) (fun e => sc (ix3 0 0 e)) d := by
  pointwise [k0_pay1]
  rfl

theorem out_at (x : FVec Ideal S512x2048 .f32) (g : FVec Ideal S1x1x2048 .f32) (a : FVec Ideal S512x2048 .f32) (lg lb : FVec Ideal S1x2048 .f32) (r : Fin 512) (d : Fin 2048) :
    k0_pay4 (F := Ideal) x g a lg lb (ix2 r d) = Rows.postNorm (fun e => x (ix2 r e)) (fun e => g (ix3 0 0 e)) (fun e => a (ix2 r e)) (fun e => lg (ix2 0 e)) (fun e => lb (ix2 0 e)) d := by
  pointwise [k0_pay4]
  rfl

end Cert.Kernel2Ideal.Ffn
end
-- ==== Proof.FfnBlocks.lean ====
module

public import proofs.«01_k».proof.Proof.FfnRun
public import proofs.«01_k».proof.Proof.FfnReads
public import Idealize.ShloMosaic.Lib.Pipeline.ValueKit.Point
public import Idealize.ShloMosaic.Lib.Pipeline.ValueKit.Geometry

/-!
# The feed-forward kernel's blocks

Which entries of its operands each grid point reads.
-/

@[expose] public section

set_option maxRecDepth 16384

noncomputable section

namespace Cert.Kernel2Ideal.Ffn

open Cert.Kernel2Ideal Cert.Kernel2Ideal.Gen
open Idealize.ShloMosaic Idealize.ShloMosaic.TcCoe

variable {F : FTy → Type} [FloatOps F]
variable (m : (ℓ : Loc nD τ sig) → Buf (Elt F) ℓ)

theorem point_lt (t : Fin cfg0.N) : t.val < 704 := lt_of_lt_of_eq t.isLt N_0

theorem at0 : ∀ t : Fin cfg0.N, win0_0.index t (0 : Fin 2) = t.val / 11 ∧ win0_0.index t (1 : Fin 2) = 0 :=
  (by decide +kernel : ∀ t : Fin grid0.N, _)
theorem at1 : ∀ t : Fin cfg0.N, win0_1.index t (0 : Fin 3) = t.val / 352 ∧ win0_1.index t (1 : Fin 3) = 0 ∧ win0_1.index t (2 : Fin 3) = 0 :=
  (by decide +kernel : ∀ t : Fin grid0.N, _)
theorem at2 : ∀ t : Fin cfg0.N, win0_2.index t (0 : Fin 3) = t.val / 352 ∧ win0_2.index t (1 : Fin 3) = 0 ∧ win0_2.index t (2 : Fin 3) = 0 :=
  (by decide +kernel : ∀ t : Fin grid0.N, _)
theorem at3 : ∀ t : Fin cfg0.N, win0_3.index t (0 : Fin 3) = t.val / 352 ∧ win0_3.index t (1 : Fin 3) = 0 ∧ win0_3.index t (2 : Fin 3) = 0 :=
  (by decide +kernel : ∀ t : Fin grid0.N, _)
theorem at4 : ∀ t : Fin cfg0.N, win0_4.index t (0 : Fin 2) = 0 ∧ win0_4.index t (1 : Fin 2) = t.val % 11 :=
  (by decide +kernel : ∀ t : Fin grid0.N, _)
theorem at5 : ∀ t : Fin cfg0.N, win0_5.index t (0 : Fin 2) = 0 ∧ win0_5.index t (1 : Fin 2) = 11 + t.val % 11 :=
  (by decide +kernel : ∀ t : Fin grid0.N, _)
theorem at6 : ∀ t : Fin cfg0.N, win0_6.index t (0 : Fin 2) = t.val % 11 ∧ win0_6.index t (1 : Fin 2) = 0 :=
  (by decide +kernel : ∀ t : Fin grid0.N, _)
theorem at7 : ∀ t : Fin cfg0.N, win0_7.index t (0 : Fin 2) = 0 ∧ win0_7.index t (1 : Fin 2) = 0 :=
  (by decide +kernel : ∀ t : Fin grid0.N, _)
theorem at8 : ∀ t : Fin cfg0.N, win0_8.index t (0 : Fin 2) = 0 ∧ win0_8.index t (1 : Fin 2) = 0 :=
  (by decide +kernel : ∀ t : Fin grid0.N, _)

/-- Row `r` of the tile of point `n`. -/
def row (n : ℕ) (r : Fin 512) : Fin 32768 := ⟨(n / 11 * 512 + r.val) % 32768, Nat.mod_lt _ (by decide)⟩
/-- Column `f` of the slice of point `n`, among the hidden columns. -/
def col (n : ℕ) (f : Fin 512) : Fin 5632 := ⟨(n % 11 * 512 + f.val) % 5632, Nat.mod_lt _ (by decide)⟩

theorem blk0 (c : Dev nD) (t : Fin cfg0.N) (r : Fin 512) (d : Fin 2048) :
    iblk m c 0 t (ix2 r d) = m ((c : Thread nD τ).loc main_arg0) (ix2 (row t.val r) d) := by
  have ht := point_lt t
  obtain ⟨e0, e1⟩ := at0 t
  refine Eq.trans (congrArg (V m c main_arg0) (funext fun a => Fin.ext ?_)) (congrFun (V_main_arg0 m c) _)
  match a with
  | ⟨0, _⟩ => show win0_0.index t (0 : Fin 2) * 512 + 1 * r.val = (t.val / 11 * 512 + r.val) % 32768; omega
  | ⟨1, _⟩ => show win0_0.index t (1 : Fin 2) * 2048 + 1 * d.val = d.val; omega

theorem blk1 (c : Dev nD) (t : Fin cfg0.N) (r : Fin 512) (d : Fin 2048) :
    iblk m c 1 t (ix3 0 0 d) = m ((c : Thread nD τ).loc main_arg1) (ix3 (Rows.batch (row t.val r)) 0 d) := by
  have ht := point_lt t
  obtain ⟨e0, e1, e2⟩ := at1 t
  refine Eq.trans (congrArg (V m c main_arg1) (funext fun a => Fin.ext ?_)) (congrFun (V_main_arg1 m c) _)
  match a with
  | ⟨0, _⟩ => show win0_1.index t (0 : Fin 3) * 1 + 1 * 0 = ((t.val / 11 * 512 + r.val) % 32768) / 16384; omega
  | ⟨1, _⟩ => show win0_1.index t (1 : Fin 3) * 1 + 1 * 0 = 0; omega
  | ⟨2, _⟩ => show win0_1.index t (2 : Fin 3) * 2048 + 1 * d.val = d.val; omega

theorem blk2 (c : Dev nD) (t : Fin cfg0.N) (r : Fin 512) (d : Fin 2048) :
    iblk m c 2 t (ix3 0 0 d) = m ((c : Thread nD τ).loc main_arg2) (ix3 (Rows.batch (row t.val r)) 0 d) := by
  have ht := point_lt t
  obtain ⟨e0, e1, e2⟩ := at2 t
  refine Eq.trans (congrArg (V m c main_arg2) (funext fun a => Fin.ext ?_)) (congrFun (V_main_arg2 m c) _)
  match a with
  | ⟨0, _⟩ => show win0_2.index t (0 : Fin 3) * 1 + 1 * 0 = ((t.val / 11 * 512 + r.val) % 32768) / 16384; omega
  | ⟨1, _⟩ => show win0_2.index t (1 : Fin 3) * 1 + 1 * 0 = 0; omega
  | ⟨2, _⟩ => show win0_2.index t (2 : Fin 3) * 2048 + 1 * d.val = d.val; omega

theorem blk3 (c : Dev nD) (t : Fin cfg0.N) (r : Fin 512) (d : Fin 2048) :
    iblk m c 3 t (ix3 0 0 d) = m ((c : Thread nD τ).loc main_arg3) (ix3 (Rows.batch (row t.val r)) 0 d) := by
  have ht := point_lt t
  obtain ⟨e0, e1, e2⟩ := at3 t
  refine Eq.trans (congrArg (V m c main_arg3) (funext fun a => Fin.ext ?_)) (congrFun (V_main_arg3 m c) _)
  match a with
  | ⟨0, _⟩ => show win0_3.index t (0 : Fin 3) * 1 + 1 * 0 = ((t.val / 11 * 512 + r.val) % 32768) / 16384; omega
  | ⟨1, _⟩ => show win0_3.index t (1 : Fin 3) * 1 + 1 * 0 = 0; omega
  | ⟨2, _⟩ => show win0_3.index t (2 : Fin 3) * 2048 + 1 * d.val = d.val; omega

theorem blk4 (c : Dev nD) (t : Fin cfg0.N) (k : Fin 2048) (f : Fin 512) :
    iblk m c 4 t (ix2 k f) = m ((c : Thread nD τ).loc main_arg4) (ix2 k ⟨(col t.val f).val, by omega⟩) := by
  obtain ⟨e0, e1⟩ := at4 t
  refine Eq.trans (congrArg (V m c main_arg4) (funext fun a => Fin.ext ?_)) (congrFun (V_main_arg4 m c) _)
  match a with
  | ⟨0, _⟩ => show win0_4.index t (0 : Fin 2) * 2048 + 1 * k.val = k.val; omega
  | ⟨1, _⟩ => show win0_4.index t (1 : Fin 2) * 512 + 1 * f.val = (t.val % 11 * 512 + f.val) % 5632; omega

theorem blk5 (c : Dev nD) (t : Fin cfg0.N) (k : Fin 2048) (f : Fin 512) :
    iblk m c 5 t (ix2 k f) = m ((c : Thread nD τ).loc main_arg4) (ix2 k ⟨5632 + (col t.val f).val, by omega⟩) := by
  obtain ⟨e0, e1⟩ := at5 t
  refine Eq.trans (congrArg (V m c main_arg4) (funext fun a => Fin.ext ?_)) (congrFun (V_main_arg4 m c) _)
  match a with
  | ⟨0, _⟩ => show win0_5.index t (0 : Fin 2) * 2048 + 1 * k.val = k.val; omega
  | ⟨1, _⟩ => show win0_5.index t (1 : Fin 2) * 512 + 1 * f.val = 5632 + (t.val % 11 * 512 + f.val) % 5632; omega

theorem blk6 (c : Dev nD) (t : Fin cfg0.N) (f : Fin 512) (d : Fin 2048) :
    iblk m c 6 t (ix2 f d) = m ((c : Thread nD τ).loc main_arg5) (ix2 (col t.val f) d) := by
  obtain ⟨e0, e1⟩ := at6 t
  refine Eq.trans (congrArg (V m c main_arg5) (funext fun a => Fin.ext ?_)) (congrFun (V_main_arg5 m c) _)
  match a with
  | ⟨0, _⟩ => show win0_6.index t (0 : Fin 2) * 512 + 1 * f.val = (t.val % 11 * 512 + f.val) % 5632; omega
  | ⟨1, _⟩ => show win0_6.index t (1 : Fin 2) * 2048 + 1 * d.val = d.val; omega

theorem blk7 (c : Dev nD) (t : Fin cfg0.N) (d : Fin 2048) :
    iblk m c 7 t (ix2 0 d) = m ((c : Thread nD τ).loc main_arg6) (ix1 d) := by
  blk_ext! [iblk, V, at7 t]

theorem blk8 (c : Dev nD) (t : Fin cfg0.N) (d : Fin 2048) :
    iblk m c 8 t (ix2 0 d) = m ((c : Thread nD τ).loc main_arg7) (ix1 d) := by
  blk_ext! [iblk, V, at8 t]

end Cert.Kernel2Ideal.Ffn
end
-- ==== Proof.FfnEqual.lean ====
module

public import proofs.«01_k».proof.Proof.FfnBlocks

/-!
# What the feed-forward kernel computes

At each point of a tile the scratch holds the modulated rows, and the output's block the sum over the slices of the
hidden width met so far; at the last point the block is the sub-layer's result.
-/

@[expose] public section

set_option maxRecDepth 16384

noncomputable section

namespace Cert.Kernel2Ideal.Ffn

open Cert.Kernel2Ideal Cert.Kernel2Ideal.Gen
open Idealize.ShloMosaic Idealize.ShloMosaic.TcCoe

variable (m : (ℓ : Loc nD τ sig) → Buf (Elt Ideal) ℓ)

/-- The arguments, by row and column. -/
def argX (c : Dev nD) (R : Fin 32768) (e : Fin 2048) : EReal := m ((c : Thread nD τ).loc main_arg0) (ix2 R e)
def argShift (c : Dev nD) (b : Fin 2) (e : Fin 2048) : EReal := m ((c : Thread nD τ).loc main_arg1) (ix3 b 0 e)
def argScale (c : Dev nD) (b : Fin 2) (e : Fin 2048) : EReal := m ((c : Thread nD τ).loc main_arg2) (ix3 b 0 e)
def argGate (c : Dev nD) (b : Fin 2) (e : Fin 2048) : EReal := m ((c : Thread nD τ).loc main_arg3) (ix3 b 0 e)
def argIn (c : Dev nD) (k : Fin 2048) (f : Fin 11264) : EReal := m ((c : Thread nD τ).loc main_arg4) (ix2 k f)
def argOut (c : Dev nD) (f : Fin 5632) (d : Fin 2048) : EReal := m ((c : Thread nD τ).loc main_arg5) (ix2 f d)
def argGain (c : Dev nD) (e : Fin 2048) : EReal := m ((c : Thread nD τ).loc main_arg6) (ix1 e)
def argBias (c : Dev nD) (e : Fin 2048) : EReal := m ((c : Thread nD τ).loc main_arg7) (ix1 e)

/-- The modulated row `R`. -/
def hid (c : Dev nD) (R : Fin 32768) : Fin 2048 → EReal :=
  Rows.modulated (argX m c R) (argShift m c (Rows.batch R)) (argScale m c (Rows.batch R))

/-- What hidden column `f` adds to row `R`, column `d`. -/
def term (c : Dev nD) (R : Fin 32768) (d : Fin 2048) (f : Fin 5632) : EReal :=
  Rows.gated (hid m c R) (fun k => argIn m c k ⟨f.val, by omega⟩) (fun k => argIn m c k ⟨5632 + f.val, by omega⟩) * argOut m c f d

/-- What slice `q` of the hidden width adds. -/
def slice (c : Dev nD) (R : Fin 32768) (d : Fin 2048) (q : ℕ) : EReal :=
  ∑ f : Fin 512, term m c R d ⟨(q * 512 + f.val) % 5632, Nat.mod_lt _ (by decide)⟩

theorem rows_point (c : Dev nD) (t : Fin cfg0.N) (r : Fin 512) (d : Fin 2048) :
    k0_pay1 (F := Ideal) (iblk m c 0 t) (iblk m c 2 t) (iblk m c 1 t) (ix2 r d) = hid m c (row t.val r) d := by
  refine (rows_at _ _ _ r d).trans ?_
  have e0 : (fun e => iblk m c 0 t (ix2 r e)) = argX m c (row t.val r) := funext fun e => blk0 m c t r e
  have e1 : (fun e => iblk m c 1 t (ix3 0 0 e)) = argShift m c (Rows.batch (row t.val r)) := funext fun e => blk1 m c t r e
  have e2 : (fun e => iblk m c 2 t (ix3 0 0 e)) = argScale m c (Rows.batch (row t.val r)) := funext fun e => blk2 m c t r e
  rw [e0, e1, e2]
  rfl

theorem slice_point (c : Dev nD) (t : Fin cfg0.N) (h : FVec Ideal S512x2048 .bf16) (a : FVec Ideal S512x2048 .f32) (r : Fin 512) (d : Fin 2048)
    (hh : ∀ k, h (ix2 r k) = hid m c (row t.val r) k) :
    k0_pay3 (F := Ideal) h (iblk m c 4 t) (iblk m c 5 t) a (iblk m c 6 t) (ix2 r d) = a (ix2 r d) + slice m c (row t.val r) d (t.val % 11) := by
  refine (acc_at _ _ _ _ _ r d).trans (congrArg (a (ix2 r d) + ·) (Finset.sum_congr rfl fun f _ => ?_))
  have e0 : (fun k => h (ix2 r k)) = hid m c (row t.val r) := funext hh
  have e4 : (fun k => iblk m c 4 t (ix2 k f)) = fun k => argIn m c k ⟨(col t.val f).val, by omega⟩ := funext fun k => blk4 m c t k f
  have e5 : (fun k => iblk m c 5 t (ix2 k f)) = fun k => argIn m c k ⟨5632 + (col t.val f).val, by omega⟩ := funext fun k => blk5 m c t k f
  have e6 : iblk m c 6 t (ix2 f d) = argOut m c (col t.val f) d := blk6 m c t f d
  rw [e0, e4, e5, e6]
  rfl

theorem row_pred (n : ℕ) (h : n % 11 ≠ 0) (r : Fin 512) : row (n - 1) r = row n r :=
  Fin.ext (by show ((n - 1) / 11 * 512 + r.val) % 32768 = (n / 11 * 512 + r.val) % 32768; rw [show (n - 1) / 11 = n / 11 by omega])

/-- Before the last point of a tile: the rows, and the slices so far. -/
theorem state (c : Dev nD) (n : ℕ) : ∀ (hn : n < cfg0.N), n % 11 ≠ 10 → ∀ r : Fin 512,
    (∀ d, (outsAt0 m c n hn).2 (ix2 r d) = hid m c (row n r) d)
    ∧ ∀ d, (outsAt0 m c n hn).1 (ix2 r d) = ∑ q ∈ Finset.range (n % 11 + 1), slice m c (row n r) d q := by
  induction n using Nat.strong_induction_on with
  | _ n ih =>
    intro hn hl r
    by_cases h0 : n % 11 = 0
    · have ea := first_acc m c ⟨n, hn⟩ h0 hl
      have eh := first_rows m c ⟨n, hn⟩ h0 hl
      refine ⟨fun d => (congrFun eh _).trans (rows_point m c ⟨n, hn⟩ r d), fun d => (congrFun ea _).trans ?_⟩
      refine (slice_point m c ⟨n, hn⟩ _ _ r d (fun k => rows_point m c ⟨n, hn⟩ r k)).trans ?_
      rw [start_at, zero_add]
      show slice m c (row n r) d (n % 11) = _
      rw [h0, Finset.sum_range_one]
    · have ea := next_acc m c ⟨n, hn⟩ h0 hl
      have eh := next_rows m c ⟨n, hn⟩ h0 hl
      obtain ⟨ph, pa⟩ := ih (n - 1) (by omega) (Nat.lt_of_le_of_lt (Nat.sub_le _ _) hn) (by omega) r
      simp only [row_pred n h0 r] at ph pa
      refine ⟨fun d => (congrFun eh _).trans (ph d), fun d => (congrFun ea _).trans ?_⟩
      refine (slice_point m c ⟨n, hn⟩ _ _ r d ph).trans ?_
      rw [pa d, Finset.sum_range_succ _ (n % 11), show (n - 1) % 11 + 1 = n % 11 by omega]

theorem slices (c : Dev nD) (R : Fin 32768) (d : Fin 2048) :
    ∑ q ∈ Finset.range 11, slice m c R d q = Rows.ffn (hid m c R) (argIn m c) (argOut m c) d := by
  rw [Finset.sum_range]
  unfold slice
  refine Eq.trans ?_ (Fin.sum_mul_add_fin 11 512 (term m c R d))
  refine Finset.sum_congr rfl fun q _ => Finset.sum_congr rfl fun f _ => congrArg _ (Fin.ext ?_)
  show (q.val * 512 + f.val) % 5632 = q.val * 512 + f.val
  omega

/-- At the last point of a tile: the sub-layer's result. -/
theorem last_point (c : Dev nD) (t : Fin cfg0.N) (h : t.val % 11 = 10) (r : Fin 512) (d : Fin 2048) :
    (outsAt0 m c t.val t.isLt).1 (ix2 r d)
      = Rows.ffnOut (argX m c) (argShift m c) (argScale m c) (argGate m c) (argIn m c) (argOut m c) (argGain m c) (argBias m c) (row t.val r) d := by
  have h0 : ¬t.val % 11 = 0 := by omega
  refine (congrFun (last_out m c t h0 h) _).trans ((out_at _ _ _ _ _ r d).trans ?_)
  obtain ⟨ph, pa⟩ := state m c (t.val - 1) (Nat.lt_of_le_of_lt (Nat.sub_le _ _) t.isLt) (by omega) r
  simp only [row_pred t.val h0 r] at ph pa
  have e0 : (fun e => iblk m c 0 t (ix2 r e)) = argX m c (row t.val r) := funext fun e => blk0 m c t r e
  have e3 : (fun e => iblk m c 3 t (ix3 0 0 e)) = argGate m c (Rows.batch (row t.val r)) := funext fun e => blk3 m c t r e
  have e7 : (fun e => iblk m c 7 t (ix2 0 e)) = argGain m c := funext fun e => blk7 m c t e
  have e8 : (fun e => iblk m c 8 t (ix2 0 e)) = argBias m c := funext fun e => blk8 m c t e
  rw [e0, e3, e7, e8]
  unfold Rows.ffnOut
  refine congrArg (fun b => Rows.postNorm _ _ b _ _ d) (funext fun e => ?_)
  refine (slice_point m c t _ _ r e ph).trans ?_
  rw [pa e, show (t.val - 1) % 11 + 1 = 10 by omega, h, ← Finset.sum_range_succ]
  exact slices m c (row t.val r) e

/-- The kernel's result, read at a row and a column. -/
theorem result_at (c : Dev nD) (R : Fin 32768) (d : Fin 2048) :
    Value.G9 m c (ix2 R d)
      = Rows.ffnOut (argX m c) (argShift m c) (argScale m c) (argGate m c) (argIn m c) (argOut m c) (argGain m c) (argBias m c) R d := by
  have hp : Value.pt9Of (ix2 R d) = 11 * (R.val / 512) + 10 := by
    show 11 * (1 * (R.val / 512 - 0) + 1 * (d.val / 2048 - 0)) + 10 = _
    omega
  have hN : Value.pt9Of (ix2 R d) < cfg0.N := by rw [hp]; exact lt_of_lt_of_eq (by omega) N_0.symm
  have hg : Value.G9 m c (ix2 R d) = (outsAt0 m c (Value.pt9Of (ix2 R d)) hN).1 (Value.loc9Of (ix2 R d)) := by
    unfold Value.G9
    rw [dif_pos hN, ← Value.outsAt0_sweep]
  have hl : Value.loc9Of (ix2 R d) = ix2 (⟨R.val % 512, Nat.mod_lt _ (by decide)⟩ : Fin 512) d := funext fun a => Fin.ext (by
    match a with
    | ⟨0, _⟩ => rfl
    | ⟨1, _⟩ => show d.val % 2048 = d.val; omega)
  rw [hg, hl, last_point m c ⟨_, hN⟩ (by show Value.pt9Of (ix2 R d) % 11 = 10; omega)]
  refine congrArg (fun R => Rows.ffnOut _ _ _ _ _ _ _ _ R d) (Fin.ext ?_)
  show (Value.pt9Of (ix2 R d) / 11 * 512 + R.val % 512) % 32768 = R.val
  omega

end Cert.Kernel2Ideal.Ffn
end
-- ==== Proof.FfnRef.lean ====
module

public import proofs.«01_k».proof.Proof.Rows
public import proofs.«01_k».proof.Proof.Gen.Reference2Ideal.Read

/-!
# The feed-forward reference, read at an index
-/

@[expose] public section

set_option maxRecDepth 16384

noncomputable section

namespace Cert.Reference2Ideal.Ffn

open Cert.Reference2Ideal Cert.Reference2Ideal.Gen Cert.Reference2Ideal.Read
open Idealize.ShloMosaic Idealize.ShloMosaic.TcCoe

/-- Row `s` of batch `b` among the flattened rows. -/
def row (b : Fin 2) (s : Fin 16384) : Fin 32768 := ⟨b.val * 16384 + s.val, by omega⟩

theorem x_at (x0 : FVec Ideal S32768x2048 .f32) (b : Fin 2) (s : Fin 16384) (k : Fin 2048) :
    val_main_v0 (F := Ideal) x0 (ix3 b s k) = x0 (ix2 (row b s) k) := by
  rw [val_main_v0_apply]
  refine congrArg x0 (funext fun a => Fin.ext ?_)
  match a with
  | ⟨0, _⟩ => show ((b.val * 16384 + s.val) * 2048 + k.val) / 2048 = b.val * 16384 + s.val; omega
  | ⟨1, _⟩ => show ((b.val * 16384 + s.val) * 2048 + k.val) % 2048 = k.val; omega

theorem hid_at (x0 : FVec Ideal S32768x2048 .f32) (x1 x2 : FVec Ideal S2x1x2048 .f32) (b : Fin 2) (s : Fin 16384) (k : Fin 2048) :
    val_main_v24 (F := Ideal) x0 x1 x2 (ix3 b s k) = Rows.modulated (fun e => x0 (ix2 (row b s) e)) (fun e => x1 (ix3 b 0 e)) (fun e => x2 (ix3 b 0 e)) k := by
  simp only [← x_at]
  unfold val_main_v24 val_main_v23 val_main_v22 val_main_v21 val_main_v20 val_main_v19 val_main_cst_4 val_main_v18 val_main_v17 val_main_v16 val_main_v15 val_main_v14 val_main_cst_3 val_main_v13 val_main_v12 val_main_v11 val_main_v10 val_main_cst_2 val_main_v9 val_main_v8 val_main_cst_1 val_main_v7 val_main_v6 val_main_v5 val_main_v4 val_main_v3 val_main_cst_0 val_main_v2 val_main_v1 val_main_cst
  generalize val_main_v0 (F := Ideal) x0 = y
  pointwise
  rfl

theorem branch_at (x0 : FVec Ideal S32768x2048 .f32) (x1 x2 : FVec Ideal S2x1x2048 .f32) (x4 : FVec Ideal S2048x11264 .bf16) (x5 : FVec Ideal S5632x2048 .bf16) (b : Fin 2) (s : Fin 16384) (k : Fin 2048) :
    val_main_v32 (F := Ideal) x0 x1 x2 x4 x5 (ix3 b s k) = Rows.ffn (fun e => val_main_v24 (F := Ideal) x0 x1 x2 (ix3 b s e)) (fun e f => x4 (ix2 e f)) (fun f e => x5 (ix2 f e)) k := by
  unfold val_main_v32 val_main_v31 val_main_v30 val_main_v29 val_main_call0_v5 val_main_call0_v4 val_main_call0_cst_0 val_main_call0_v3 val_main_call0_v2 val_main_call0_cst val_main_call0_v1 val_main_call0_v0 val_main_v28 val_main_v27 val_main_v26 val_main_v25
  generalize val_main_v24 (F := Ideal) x0 x1 x2 = y
  pointwise
  rfl

theorem sum_at (x0 : FVec Ideal S32768x2048 .f32) (x1 x2 x3 : FVec Ideal S2x1x2048 .f32) (x4 : FVec Ideal S2048x11264 .bf16) (x5 : FVec Ideal S5632x2048 .bf16) (b : Fin 2) (s : Fin 16384) (k : Fin 2048) :
    val_main_v39 (F := Ideal) x0 x1 x2 x3 x4 x5 (ix3 b s k) = Ideal.ofBits .f32 0x3FB504F3#32 * x0 (ix2 (row b s) k) + (1 + x3 (ix3 b 0 k)) * val_main_v32 (F := Ideal) x0 x1 x2 x4 x5 (ix3 b s k) := by
  rw [← x_at x0 b s k]
  unfold val_main_v39 val_main_v38 val_main_v37 val_main_v36 val_main_v35 val_main_cst_6 val_main_v34 val_main_v33 val_main_cst_5
  generalize val_main_v0 (F := Ideal) x0 = y
  generalize val_main_v32 (F := Ideal) x0 x1 x2 x4 x5 = z
  pointwise

theorem out_at (x0 : FVec Ideal S32768x2048 .f32) (x1 x2 x3 : FVec Ideal S2x1x2048 .f32) (x4 : FVec Ideal S2048x11264 .bf16) (x5 : FVec Ideal S5632x2048 .bf16) (x6 x7 : FVec Ideal S2048 .f32) (b : Fin 2) (s : Fin 16384) (k : Fin 2048) :
    val_main_v63 (F := Ideal) x0 x1 x2 x3 x4 x5 x6 x7 (ix3 b s k) = Rows.norm (fun e => val_main_v39 (F := Ideal) x0 x1 x2 x3 x4 x5 (ix3 b s e)) k * x6 (ix1 k) + x7 (ix1 k) := by
  unfold val_main_v63 val_main_v62 val_main_v61 val_main_v60 val_main_v59 val_main_v58 val_main_v57 val_main_v56 val_main_v55 val_main_v54 val_main_v53 val_main_cst_11 val_main_v52 val_main_v51 val_main_v50 val_main_v49 val_main_cst_10 val_main_v48 val_main_v47 val_main_cst_9 val_main_v46 val_main_v45 val_main_v44 val_main_v43 val_main_v42 val_main_cst_8 val_main_v41 val_main_v40 val_main_cst_7
  generalize val_main_v39 (F := Ideal) x0 x1 x2 x3 x4 x5 = y
  pointwise
  rfl

/-- The reference, read at a row and a column. -/
theorem result_at (x0 : FVec Ideal S32768x2048 .f32) (x1 x2 x3 : FVec Ideal S2x1x2048 .f32) (x4 : FVec Ideal S2048x11264 .bf16) (x5 : FVec Ideal S5632x2048 .bf16) (x6 x7 : FVec Ideal S2048 .f32) (R : Fin 32768) (d : Fin 2048) :
    val_main_v64 (F := Ideal) x0 x1 x2 x3 x4 x5 x6 x7 (ix2 R d)
      = Rows.ffnOut (fun R e => x0 (ix2 R e)) (fun b e => x1 (ix3 b 0 e)) (fun b e => x2 (ix3 b 0 e)) (fun b e => x3 (ix3 b 0 e)) (fun e f => x4 (ix2 e f)) (fun f e => x5 (ix2 f e))
          (fun e => x6 (ix1 e)) (fun e => x7 (ix1 e)) R d := by
  have hR : R = row (Rows.batch R) ⟨R.val % 16384, Nat.mod_lt _ (by decide)⟩ := Fin.ext (by show R.val = R.val / 16384 * 16384 + R.val % 16384; omega)
  rw [val_main_v64_apply, show idx_main_v64 (ix2 R d) = ix3 (Rows.batch R) ⟨R.val % 16384, Nat.mod_lt _ (by decide)⟩ d from funext fun a => Fin.ext (by
    match a with
    | ⟨0, _⟩ => show (R.val * 2048 + d.val) / 33554432 = R.val / 16384; omega
    | ⟨1, _⟩ => show (R.val * 2048 + d.val) / 2048 % 16384 = R.val % 16384; omega
    | ⟨2, _⟩ => show (R.val * 2048 + d.val) % 2048 = d.val; omega), out_at]
  simp only [sum_at, branch_at, hid_at, ← hR]
  rfl

end Cert.Reference2Ideal.Ffn
end
-- ==== Proof.FfnClaim.lean ====
module

public import proofs.«01_k».proof.Defs
public import proofs.«01_k».proof.Proof.FfnEqual
public import proofs.«01_k».proof.Proof.FfnRef
public import Idealize.ShloMosaic.Lib.Quiescent
public import Idealize.ShloMosaic.Adequacy

/-!
# The feed-forward kernel equals its reference
-/

@[expose] public section

set_option maxRecDepth 16384

noncomputable section

namespace Cert.Proof

open Idealize.ShloMosaic Idealize.ShloMosaic.TcCoe Idealize.SL.Sem

theorem reference2_frame : quiescent_Reference2Ideal (hReference2Ideal := Cert.Reference2Ideal.Gen.facts) := by
  intro m ρ _
  exact θ_run_mono (Cert.Reference2Ideal.Value.run m ρ) fun r h => ⟨fun c => (h c).2, sem_eq_zero_of_no_sems (by decide) r.2⟩

/-- What the feed-forward kernel leaves in its result. -/
def res2 (m : (ℓ : Loc Cert.Kernel2Ideal.nD Cert.Kernel2Ideal.τ Cert.Kernel2Ideal.sig) → Buf (Elt Ideal) ℓ) (c : Dev Cert.Kernel2Ideal.nD) :
    Buf (Elt Ideal) ((c.tc : Thread Cert.Kernel2Ideal.nD Cert.Kernel2Ideal.τ).loc Cert.Kernel2Ideal.main_v2) :=
  Cert.Kernel2Ideal.Value.G9 m c

theorem equal2 : algebraic_Kernel2Ideal_Reference2Ideal (hKernel2Ideal := Cert.Kernel2Ideal.Gen.facts) (hReference2Ideal := Cert.Reference2Ideal.Gen.facts) := by
  intro m g m' g' _ hargs
  refine ⟨res2 m, Cert.Kernel2Ideal.Value.run m g, ?_⟩
  refine θ_run_mono (Cert.Reference2Ideal.Value.run m' g') fun r h c => ?_
  obtain ⟨h0, ha⟩ := h c
  refine ⟨h0.trans ?_, ha⟩
  obtain ⟨e0, e1, e2, e3, e4, e5, e6, e7⟩ := hargs c
  rw [Cert.Reference2Ideal.Read.val_main_v64_eq, e0, e1, e2, e3, e4, e5, e6, e7]
  refine funext fun i => ?_
  have hi : i = ix2 (i 0) (i 1) := funext fun a => by
    match a with
    | ⟨0, _⟩ => rfl
    | ⟨1, _⟩ => rfl
  rw [hi]
  exact (Cert.Reference2Ideal.Ffn.result_at _ _ _ _ _ _ _ _ (i 0) (i 1)).trans (Cert.Kernel2Ideal.Ffn.result_at m c (i 0) (i 1)).symm

end Cert.Proof
end
-- ==== Proof.MergeRun.lean ====
module

public import proofs.«01_k».proof.Proof.Gen.Kernel4Ideal.Value
public import proofs.«01_k».proof.Proof.Rows
public import Idealize.ShloMosaic.Lib.Pipeline.ValueKit
public import Idealize.ShloMosaic.Lib.Pipeline.ReadBack
public import Idealize.ShloMosaic.Lib.Pipeline.ValueKit.Point
public import Idealize.ShloMosaic.Lib.Pipeline.ValueKit.Geometry

/-!
# What each grid point of the merge kernel leaves, and which entries of its operands it reads

A grid point works on 512 rows, the upper and the lower 256 of them one after the other.
-/

@[expose] public section

set_option maxRecDepth 16384

noncomputable section

namespace Cert.Kernel4Ideal.Merge

open Cert.Kernel4Ideal Cert.Kernel4Ideal.Gen
open Idealize.ShloMosaic Idealize.ShloMosaic.TcCoe Idealize.SL.Sem

variable {F : FTy → Type} [FloatOps F]
variable (m : (ℓ : Loc nD τ sig) → Buf (Elt F) ℓ)

/-- The lower half's rows before their norm, less their mean. -/
def lowerRows (c : Dev nD) (t : Fin cfg0.N) : FVec F S256x2048 .f32 :=
  k0_pay6
    (k0_pay5 (View.ld (X0_3 m c t) (Rect.unit ![256, 0] ![256, 2048] inb_S512x6144_S256x2048_256_0))
      (View.ld (iblk m c 0 t) (Rect.unit ![256, 0] ![256, 768] inb_S512x768_S256x768_256_0))
      (View.ld (iblk m c 6 t) (Rect.unit ![0, 0] ![768, 2048] inb_S2048x2048_S768x2048_0_0)))
    (View.ld (X0_3 m c t) (Rect.unit ![256, 2048] ![256, 2048] inb_S512x6144_S256x2048_256_2048))
    (View.ld (iblk m c 1 t) (Rect.unit ![256, 0] ![256, 512] inb_S512x512_S256x512_256_0))
    (View.ld (iblk m c 6 t) (Rect.unit ![768, 0] ![512, 2048] inb_S2048x2048_S512x2048_768_0))
    (View.ld (X0_3 m c t) (Rect.unit ![256, 4096] ![256, 2048] inb_S512x6144_S256x2048_256_4096))
    (View.ld (iblk m c 2 t) (Rect.unit ![256, 0] ![256, 768] inb_S512x768_S256x768_256_0))
    (View.ld (iblk m c 6 t) (Rect.unit ![1280, 0] ![768, 2048] inb_S2048x2048_S768x2048_1280_0))
    (iblk m c 7 t) (View.ld (iblk m c 4 t) (Rect.unit ![256, 0] ![256, 2048] inb_S512x2048_S256x2048_256_0))
    (iblk m c 5 t)

/-- The lower half's result. -/
def lower (c : Dev nD) (t : Fin cfg0.N) : FVec F S256x2048 .f32 := k0_pay1 (lowerRows m c t) (iblk m c 8 t) (iblk m c 9 t)

/-- The upper half's projection of the merged rows. -/
def upperMix (c : Dev nD) (t : Fin cfg0.N) : FVec F S256x2048 .f32 :=
  k0_pay2 (View.ld (X0_3 m c t) (Rect.unit ![0, 0] ![256, 2048] inb_S512x6144_S256x2048_0_0))
    (View.ld (iblk m c 0 t) (Rect.unit ![0, 0] ![256, 768] inb_S512x768_S256x768_0_0))
    (View.ld (iblk m c 6 t) (Rect.unit ![0, 0] ![768, 2048] inb_S2048x2048_S768x2048_0_0))
    (View.ld (X0_3 m c t) (Rect.unit ![0, 2048] ![256, 2048] inb_S512x6144_S256x2048_0_2048))
    (View.ld (iblk m c 1 t) (Rect.unit ![0, 0] ![256, 512] inb_S512x512_S256x512_0_0))
    (View.ld (iblk m c 6 t) (Rect.unit ![768, 0] ![512, 2048] inb_S2048x2048_S512x2048_768_0))
    (View.ld (X0_3 m c t) (Rect.unit ![0, 4096] ![256, 2048] inb_S512x6144_S256x2048_0_4096))
    (View.ld (iblk m c 2 t) (Rect.unit ![0, 0] ![256, 768] inb_S512x768_S256x768_0_0))
    (View.ld (iblk m c 6 t) (Rect.unit ![1280, 0] ![768, 2048] inb_S2048x2048_S768x2048_1280_0))
    (iblk m c 7 t)

/-- The upper half's result. -/
def upper (c : Dev nD) (t : Fin cfg0.N) : FVec F S256x2048 .f32 :=
  k0_pay4 (upperMix m c t)
    (k0_pay3 (View.ld (iblk m c 4 t) (Rect.unit ![0, 0] ![256, 2048] inb_S512x2048_S256x2048_0_0)))
    (iblk m c 5 t) (iblk m c 8 t) (iblk m c 9 t)

/-- A load through a rectangle, read at an index. -/
theorem part_at {Val : EltTy → Type} {ty : EltTy} {n0 n1 k0 k1 : ℕ} (X : (⟨2, ![n0, n1]⟩ : Shape).Idx → Val ty) (o0 o1 : ℕ)
    (inb : ∀ a, ![o0, o1] a + ![k0, k1] a ≤ (⟨2, ![n0, n1]⟩ : Shape).size a) (r : Fin k0) (e : Fin k1) (r' : Fin n0) (e' : Fin n1)
    (hr : r'.val = o0 + r.val) (he : e'.val = o1 + e.val) :
    View.ld X (Rect.unit (s := ⟨2, ![n0, n1]⟩) ![o0, o1] ![k0, k1] inb) (ix2 r e) = X (ix2 r' e') :=
  congrArg X (funext fun a => Fin.ext (by
    match a with
    | ⟨0, _⟩ => show o0 + 1 * r.val = r'.val; omega
    | ⟨1, _⟩ => show o1 + 1 * e.val = e'.val; omega))

theorem halves (f g : FVec F S256x2048 .f32) (r : Fin 512) (d : Fin 2048) :
    View.canon ([⟨Rect.unit (s := S512x2048) ![256, 0] S256x2048.size inb_S512x2048_S256x2048_256_0, g⟩,
     ⟨Rect.unit (s := S512x2048) ![0, 0] S256x2048.size inb_S512x2048_S256x2048_0_0, f⟩] : List (View.Piece (Elt F) S512x2048 .f32)) (ix2 r d)
    = (if r.val < 256 then f else g) (ix2 (⟨r.val % 256, Nat.mod_lt _ (by decide)⟩ : Fin 256) d) := by
  by_cases h : r.val < 256
  · rw [if_pos h]
    rw [View.canon_cons_of_not_mem (Val := Elt F)]
    · have e : ix2 r d = (Rect.unit (s := S512x2048) ![0, 0] S256x2048.size inb_S512x2048_S256x2048_0_0).emb
          (ix2 (⟨r.val % 256, Nat.mod_lt _ (by decide)⟩ : Fin 256) d) := by
        funext a; apply Fin.ext
        match a with
        | ⟨0, _⟩ => show r.val = 0 + 1 * (r.val % 256); omega
        | ⟨1, _⟩ => show d.val = 0 + 1 * d.val; omega
      conv_lhs => rw [e]
      exact View.canon_cons_emb _ _ _ _
    · intro hm
      have h2 : 256 ≤ r.val := ((Rect.mem_set_unit (inb := inb_S512x2048_S256x2048_256_0)).mp hm 0).1
      omega
  · rw [if_neg h]
    have e : ix2 r d = (Rect.unit (s := S512x2048) ![256, 0] S256x2048.size inb_S512x2048_S256x2048_256_0).emb
        (ix2 (⟨r.val % 256, Nat.mod_lt _ (by decide)⟩ : Fin 256) d) := by
      funext a; apply Fin.ext
      match a with
      | ⟨0, _⟩ => show r.val = 256 + 1 * (r.val % 256); omega
      | ⟨1, _⟩ => show d.val = 0 + 1 * d.val; omega
    conv_lhs => rw [e]
    exact View.canon_cons_emb _ _ _ _

theorem tile (c : Dev nD) (t : Fin cfg0.N) (r : Fin 512) (d : Fin 2048) :
    outsAt0 m c t (ix2 r d) = (if r.val < 256 then upper m c t else lower m c t) (ix2 (⟨r.val % 256, Nat.mod_lt _ (by decide)⟩ : Fin 256) d) := by
  refine Eq.trans (congrFun ?_ (ix2 r d)) (halves (upper m c t) (lower m c t) r d)
  unfold outsAt0 out0_A_10
  frame_out
  rfl

/-! ## The blocks -/

theorem point_lt (t : Fin cfg0.N) : t.val < 64 := lt_of_lt_of_eq t.isLt N_0

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)
theorem at4 : ∀ t : Fin cfg0.N, win0_4.index t (0 : Fin 2) = t.val ∧ win0_4.index t (1 : Fin 2) = 0 :=
  (by decide +kernel : ∀ t : Fin grid0.N, _)
theorem at5 : ∀ t : Fin cfg0.N, win0_5.index t (0 : Fin 3) = t.val / 32 ∧ win0_5.index t (1 : Fin 3) = 0 ∧ win0_5.index t (2 : Fin 3) = 0 :=
  (by decide +kernel : ∀ t : Fin grid0.N, _)
theorem at6 : ∀ t : Fin cfg0.N, win0_6.index t (0 : Fin 2) = 0 ∧ win0_6.index t (1 : Fin 2) = 0 :=
  (by decide +kernel : ∀ t : Fin grid0.N, _)
theorem at7 : ∀ t : Fin cfg0.N, win0_7.index t (0 : Fin 2) = 0 ∧ win0_7.index t (1 : Fin 2) = 0 :=
  (by decide +kernel : ∀ t : Fin grid0.N, _)
theorem at8 : ∀ t : Fin cfg0.N, win0_8.index t (0 : Fin 2) = 0 ∧ win0_8.index t (1 : Fin 2) = 0 :=
  (by decide +kernel : ∀ t : Fin grid0.N, _)
theorem at9 : ∀ t : Fin cfg0.N, win0_9.index t (0 : Fin 2) = 0 ∧ win0_9.index t (1 : Fin 2) = 0 :=
  (by decide +kernel : ∀ t : Fin grid0.N, _)
theorem at10 : ∀ t : Fin cfg0.N, win0_10.index t (0 : Fin 2) = t.val ∧ win0_10.index t (1 : Fin 2) = 0 :=
  (by decide +kernel : ∀ t : Fin grid0.N, _)

/-- Row `r` of the tile of point `n`. -/
def row (n : ℕ) (r : Fin 512) : Fin 32768 := ⟨(n * 512 + r.val) % 32768, Nat.mod_lt _ (by decide)⟩

theorem blk0 (c : Dev nD) (t : Fin cfg0.N) (r : Fin 512) (d : Fin 768) :
    iblk m c 0 t (ix2 r d) = m ((c : Thread nD τ).loc main_arg0) (ix2 (row t.val r) d) := by
  have ht := point_lt t
  obtain ⟨e0, e1⟩ := at0 t
  refine Eq.trans (congrArg (V m c main_arg0) (funext fun a => Fin.ext ?_)) (congrFun (V_main_arg0 m c) _)
  match a with
  | ⟨0, _⟩ => show win0_0.index t (0 : Fin 2) * 512 + 1 * r.val = (t.val * 512 + r.val) % 32768; omega
  | ⟨1, _⟩ => show win0_0.index t (1 : Fin 2) * 768 + 1 * d.val = d.val; omega

theorem blk1 (c : Dev nD) (t : Fin cfg0.N) (r : Fin 512) (d : Fin 512) :
    iblk m c 1 t (ix2 r d) = m ((c : Thread nD τ).loc main_arg1) (ix2 (row t.val r) d) := by
  have ht := point_lt t
  obtain ⟨e0, e1⟩ := at1 t
  refine Eq.trans (congrArg (V m c main_arg1) (funext fun a => Fin.ext ?_)) (congrFun (V_main_arg1 m c) _)
  match a with
  | ⟨0, _⟩ => show win0_1.index t (0 : Fin 2) * 512 + 1 * r.val = (t.val * 512 + r.val) % 32768; omega
  | ⟨1, _⟩ => show win0_1.index t (1 : Fin 2) * 512 + 1 * d.val = d.val; omega

theorem blk2 (c : Dev nD) (t : Fin cfg0.N) (r : Fin 512) (d : Fin 768) :
    iblk m c 2 t (ix2 r d) = m ((c : Thread nD τ).loc main_arg2) (ix2 (row t.val r) d) := by
  have ht := point_lt t
  obtain ⟨e0, e1⟩ := at2 t
  refine Eq.trans (congrArg (V m c main_arg2) (funext fun a => Fin.ext ?_)) (congrFun (V_main_arg2 m c) _)
  match a with
  | ⟨0, _⟩ => show win0_2.index t (0 : Fin 2) * 512 + 1 * r.val = (t.val * 512 + r.val) % 32768; omega
  | ⟨1, _⟩ => show win0_2.index t (1 : Fin 2) * 768 + 1 * d.val = d.val; omega

theorem blk3 (c : Dev nD) (t : Fin cfg0.N) (r : Fin 512) (d : Fin 6144) :
    X0_3 m c t (ix2 r d) = m ((c : Thread nD τ).loc main_arg3) (ix2 (row t.val r) ⟨d.val, by omega⟩) := by
  have ht := point_lt t
  obtain ⟨e0, e1⟩ := at3 t
  unfold X0_3 Pipeline.Window.fill
  rw [dif_pos (moved0_3 t _)]
  refine Eq.trans (congrArg (V m c main_arg3) (funext fun a => Fin.ext ?_)) (congrFun (V_main_arg3 m c) _)
  match a with
  | ⟨0, _⟩ => show win0_3.index t (0 : Fin 2) * 512 + 1 * r.val = (t.val * 512 + r.val) % 32768; omega
  | ⟨1, _⟩ => show win0_3.index t (1 : Fin 2) * 6144 + 1 * d.val = d.val; omega

theorem blk4 (c : Dev nD) (t : Fin cfg0.N) (r : Fin 512) (d : Fin 2048) :
    iblk m c 4 t (ix2 r d) = m ((c : Thread nD τ).loc main_arg4) (ix2 (row t.val r) d) := by
  have ht := point_lt t
  obtain ⟨e0, e1⟩ := at4 t
  refine Eq.trans (congrArg (V m c main_arg4) (funext fun a => Fin.ext ?_)) (congrFun (V_main_arg4 m c) _)
  match a with
  | ⟨0, _⟩ => show win0_4.index t (0 : Fin 2) * 512 + 1 * r.val = (t.val * 512 + r.val) % 32768; omega
  | ⟨1, _⟩ => show win0_4.index t (1 : Fin 2) * 2048 + 1 * d.val = d.val; omega

theorem blk5 (c : Dev nD) (t : Fin cfg0.N) (r : Fin 512) (d : Fin 2048) :
    iblk m c 5 t (ix3 0 0 d) = m ((c : Thread nD τ).loc main_arg5) (ix3 (Rows.batch (row t.val r)) 0 d) := by
  have ht := point_lt t
  obtain ⟨e0, e1, e2⟩ := at5 t
  refine Eq.trans (congrArg (V m c main_arg5) (funext fun a => Fin.ext ?_)) (congrFun (V_main_arg5 m c) _)
  match a with
  | ⟨0, _⟩ => show win0_5.index t (0 : Fin 3) * 1 + 1 * 0 = ((t.val * 512 + r.val) % 32768) / 16384; omega
  | ⟨1, _⟩ => show win0_5.index t (1 : Fin 3) * 1 + 1 * 0 = 0; omega
  | ⟨2, _⟩ => show win0_5.index t (2 : Fin 3) * 2048 + 1 * d.val = d.val; omega

theorem blk6 (c : Dev nD) (t : Fin cfg0.N) (k d : Fin 2048) :
    iblk m c 6 t (ix2 k d) = m ((c : Thread nD τ).loc main_arg6) (ix2 k d) := by
  obtain ⟨e0, e1⟩ := at6 t
  refine Eq.trans (congrArg (V m c main_arg6) (funext fun a => Fin.ext ?_)) (congrFun (V_main_arg6 m c) _)
  match a with
  | ⟨0, _⟩ => show win0_6.index t (0 : Fin 2) * 2048 + 1 * k.val = k.val; omega
  | ⟨1, _⟩ => show win0_6.index t (1 : Fin 2) * 2048 + 1 * d.val = d.val; omega

theorem blk7 (c : Dev nD) (t : Fin cfg0.N) (k d : Fin 2048) :
    iblk m c 7 t (ix2 k d) = m ((c : Thread nD τ).loc main_arg7) (ix2 k d) := by
  obtain ⟨e0, e1⟩ := at7 t
  refine Eq.trans (congrArg (V m c main_arg7) (funext fun a => Fin.ext ?_)) (congrFun (V_main_arg7 m c) _)
  match a with
  | ⟨0, _⟩ => show win0_7.index t (0 : Fin 2) * 2048 + 1 * k.val = k.val; omega
  | ⟨1, _⟩ => show win0_7.index t (1 : Fin 2) * 2048 + 1 * d.val = d.val; omega

theorem blk8 (c : Dev nD) (t : Fin cfg0.N) (d : Fin 2048) :
    iblk m c 8 t (ix2 0 d) = m ((c : Thread nD τ).loc main_arg8) (ix1 d) := by
  blk_ext! [iblk, V, at8 t]

theorem blk9 (c : Dev nD) (t : Fin cfg0.N) (d : Fin 2048) :
    iblk m c 9 t (ix2 0 d) = m ((c : Thread nD τ).loc main_arg9) (ix1 d) := by
  blk_ext! [iblk, V, at9 t]

end Cert.Kernel4Ideal.Merge
end
-- ==== Proof.MergeRows.lean ====
module

public import proofs.«01_k».proof.Proof.Rows

/-!
# The row arithmetic of the merge of the three branches
-/

@[expose] public section

noncomputable section

namespace Cert.Rows

open Idealize.ShloMosaic

/-- One column of the gated sum of the three branches: each branch's projection times the logistic of its gate. -/
def merged (g0 g1 g2 : Fin 2048 → EReal) (a : Fin 768 → EReal) (wa : Fin 768 → Fin 2048 → EReal) (b : Fin 512 → EReal) (wb : Fin 512 → Fin 2048 → EReal)
    (c : Fin 768 → EReal) (wc : Fin 768 → Fin 2048 → EReal) (d : Fin 2048) : EReal :=
  Ideal.logistic (g0 d) * (∑ k, a k * wa k d) + Ideal.logistic (g1 d) * (∑ k, b k * wb k d) + Ideal.logistic (g2 d) * ∑ k, c k * wc k d

/-- The merged row, projected. -/
def mixed (y : Fin 2048 → EReal) (wo : Fin 2048 → Fin 2048 → EReal) (e : Fin 2048) : EReal := ∑ d, y d * wo d e

/-- The merge of row `R`: the three gates lie in the first columns of the projected activations, the three branches'
    weights one below another. -/
def mergedRow (of : Fin 32768 → Fin 768 → EReal) (os : Fin 32768 → Fin 512 → EReal) (or' : Fin 32768 → Fin 768 → EReal) (gl : Fin 32768 → Fin 12544 → EReal)
    (w : Fin 2048 → Fin 2048 → EReal) (R : Fin 32768) : Fin 2048 → EReal :=
  merged (fun e => gl R ⟨e.val, by omega⟩) (fun e => gl R ⟨2048 + e.val, by omega⟩) (fun e => gl R ⟨4096 + e.val, by omega⟩)
    (of R) (fun k => w ⟨k.val, by omega⟩) (os R) (fun k => w ⟨768 + k.val, by omega⟩) (or' R) (fun k => w ⟨1280 + k.val, by omega⟩)

/-- The residual row plus the gated merge, normalised. -/
def mergeOut (of : Fin 32768 → Fin 768 → EReal) (os : Fin 32768 → Fin 512 → EReal) (or' : Fin 32768 → Fin 768 → EReal) (gl : Fin 32768 → Fin 12544 → EReal)
    (x : Fin 32768 → Fin 2048 → EReal) (g : Fin 2 → Fin 2048 → EReal) (w wo : Fin 2048 → Fin 2048 → EReal) (lg lb : Fin 2048 → EReal) (R : Fin 32768) (d : Fin 2048) : EReal :=
  postNorm (x R) (g (batch R)) (mixed (mergedRow of os or' gl w R) wo) lg lb d

end Cert.Rows
end
-- ==== Proof.MergeReads.lean ====
module

public import proofs.«01_k».proof.Proof.Gen.Kernel4Ideal.Skeleton
public import proofs.«01_k».proof.Proof.MergeRows

/-!
# The merge body over the extended reals, at one row and one column
-/

@[expose] public section

set_option maxRecDepth 16384

noncomputable section

namespace Cert.Kernel4Ideal.Merge

open Cert.Kernel4Ideal Cert.Kernel4Ideal.Gen
open Idealize.ShloMosaic Idealize.ShloMosaic.TcCoe

/-- The first half's projection of the merged rows. -/
theorem mix_at (v0 v7 v15 : FVec Ideal S256x2048 .bf16) (v3 v18 : FVec Ideal S256x768 .bf16) (v4 v19 : FVec Ideal S768x2048 .bf16) (v10 : FVec Ideal S256x512 .bf16)
    (v11 : FVec Ideal S512x2048 .bf16) (v24 : FVec Ideal S2048x2048 .bf16) (r : Fin 256) (d : Fin 2048) :
    k0_pay2 (F := Ideal) v0 v3 v4 v7 v10 v11 v15 v18 v19 v24 (ix2 r d)
      = Rows.mixed (Rows.merged (fun e => v0 (ix2 r e)) (fun e => v7 (ix2 r e)) (fun e => v15 (ix2 r e)) (fun k => v3 (ix2 r k)) (fun k e => v4 (ix2 k e))
          (fun k => v10 (ix2 r k)) (fun k e => v11 (ix2 k e)) (fun k => v18 (ix2 r k)) (fun k e => v19 (ix2 k e))) (fun k e => v24 (ix2 k e)) d := by
  pointwise [k0_pay2]
  rfl

/-- The first half's result. -/
theorem first_at (y : FVec Ideal S256x2048 .f32) (x : FVec Ideal S256x2048 .f32) (g : FVec Ideal S1x1x2048 .f32) (lg lb : FVec Ideal S1x2048 .f32) (r : Fin 256) (d : Fin 2048) :
    k0_pay4 (F := Ideal) y (k0_pay3 (F := Ideal) x) g lg lb (ix2 r d)
      = Rows.postNorm (fun e => x (ix2 r e)) (fun e => g (ix3 0 0 e)) (fun e => y (ix2 r e)) (fun e => lg (ix2 0 e)) (fun e => lb (ix2 0 e)) d := by
  pointwise [k0_pay4, k0_pay3]
  rfl

/-- The second half's centred rows. -/
def centred (y : Fin 2048 → EReal) (e : Fin 2048) : EReal := y e - Rows.mean y

theorem centred_at (v61 v68 v76 : FVec Ideal S256x2048 .bf16) (v64 v79 : FVec Ideal S256x768 .bf16) (v65 v80 : FVec Ideal S768x2048 .bf16) (v71 : FVec Ideal S256x512 .bf16)
    (v72 : FVec Ideal S512x2048 .bf16) (v85 : FVec Ideal S2048x2048 .bf16) (x : FVec Ideal S256x2048 .f32) (g : FVec Ideal S1x1x2048 .f32) (r : Fin 256) (d : Fin 2048) :
    k0_pay6 (F := Ideal) (k0_pay5 (F := Ideal) v61 v64 v65) v68 v71 v72 v76 v79 v80 v85 x g (ix2 r d)
      = centred (fun e => Ideal.ofBits .f32 0x3FB504F3#32 * x (ix2 r e) + (1 + g (ix3 0 0 e)) *
          Rows.mixed (Rows.merged (fun e => v61 (ix2 r e)) (fun e => v68 (ix2 r e)) (fun e => v76 (ix2 r e)) (fun k => v64 (ix2 r k)) (fun k e => v65 (ix2 k e))
          (fun k => v71 (ix2 r k)) (fun k e => v72 (ix2 k e)) (fun k => v79 (ix2 r k)) (fun k e => v80 (ix2 k e))) (fun k e => v85 (ix2 k e)) e) d := by
  pointwise [k0_pay6, k0_pay5]
  rfl

theorem second_at (z : FVec Ideal S256x2048 .f32) (lg lb : FVec Ideal S1x2048 .f32) (r : Fin 256) (d : Fin 2048) :
    k0_pay1 (F := Ideal) z lg lb (ix2 r d)
      = z (ix2 r d) * Ideal.rsqrt (Rows.mean (fun e => z (ix2 r e) * z (ix2 r e)) + Ideal.ofBits .f32 0x3727C5AC#32) * lg (ix2 0 d) + lb (ix2 0 d) := by
  pointwise [k0_pay1]
  rfl

end Cert.Kernel4Ideal.Merge
end
-- ==== Proof.MergeEqual.lean ====
module

public import proofs.«01_k».proof.Proof.MergeRun
public import proofs.«01_k».proof.Proof.MergeReads

/-!
# What the merge kernel computes

Each half tile's rows are the merge of the three branches, added to the residual rows and normalised.
-/

@[expose] public section

set_option maxRecDepth 16384

noncomputable section

namespace Cert.Kernel4Ideal.Merge

open Cert.Kernel4Ideal Cert.Kernel4Ideal.Gen
open Idealize.ShloMosaic Idealize.ShloMosaic.TcCoe

variable (m : (ℓ : Loc nD τ sig) → Buf (Elt Ideal) ℓ)

/-- The arguments, by row and column. -/
def argFox (c : Dev nD) (R : Fin 32768) (k : Fin 768) : EReal := m ((c : Thread nD τ).loc main_arg0) (ix2 R k)
def argShort (c : Dev nD) (R : Fin 32768) (k : Fin 512) : EReal := m ((c : Thread nD τ).loc main_arg1) (ix2 R k)
def argRet (c : Dev nD) (R : Fin 32768) (k : Fin 768) : EReal := m ((c : Thread nD τ).loc main_arg2) (ix2 R k)
def argGates (c : Dev nD) (R : Fin 32768) (k : Fin 12544) : EReal := m ((c : Thread nD τ).loc main_arg3) (ix2 R k)
def argX (c : Dev nD) (R : Fin 32768) (e : Fin 2048) : EReal := m ((c : Thread nD τ).loc main_arg4) (ix2 R e)
def argGate (c : Dev nD) (b : Fin 2) (e : Fin 2048) : EReal := m ((c : Thread nD τ).loc main_arg5) (ix3 b 0 e)
def argBranch (c : Dev nD) (k e : Fin 2048) : EReal := m ((c : Thread nD τ).loc main_arg6) (ix2 k e)
def argOut (c : Dev nD) (k e : Fin 2048) : EReal := m ((c : Thread nD τ).loc main_arg7) (ix2 k e)
def argGain (c : Dev nD) (e : Fin 2048) : EReal := m ((c : Thread nD τ).loc main_arg8) (ix1 e)
def argBias (c : Dev nD) (e : Fin 2048) : EReal := m ((c : Thread nD τ).loc main_arg9) (ix1 e)

theorem upper_gate0 (c : Dev nD) (t : Fin cfg0.N) (r : Fin 256) :
    (fun e => View.ld (X0_3 m c t) (Rect.unit (s := S512x6144) ![0, 0] ![256, 2048] inb_S512x6144_S256x2048_0_0) (ix2 r e))
      = fun e : Fin 2048 => argGates m c (row t.val ⟨r.val, by omega⟩) ⟨e.val, by omega⟩ :=
  funext fun e => (part_at (X0_3 m c t) 0 0 _ r e ⟨r.val, by omega⟩ ⟨e.val, by omega⟩ (by show r.val = 0 + r.val; omega) (by show e.val = 0 + e.val; omega)).trans (blk3 m c t _ _)
theorem upper_gate1 (c : Dev nD) (t : Fin cfg0.N) (r : Fin 256) :
    (fun e => View.ld (X0_3 m c t) (Rect.unit (s := S512x6144) ![0, 2048] ![256, 2048] inb_S512x6144_S256x2048_0_2048) (ix2 r e))
      = fun e : Fin 2048 => argGates m c (row t.val ⟨r.val, by omega⟩) ⟨2048 + e.val, by omega⟩ :=
  funext fun e => (part_at (X0_3 m c t) 0 2048 _ r e ⟨r.val, by omega⟩ ⟨2048 + e.val, by omega⟩ (by show r.val = 0 + r.val; omega) rfl).trans (blk3 m c t _ _)
theorem upper_gate2 (c : Dev nD) (t : Fin cfg0.N) (r : Fin 256) :
    (fun e => View.ld (X0_3 m c t) (Rect.unit (s := S512x6144) ![0, 4096] ![256, 2048] inb_S512x6144_S256x2048_0_4096) (ix2 r e))
      = fun e : Fin 2048 => argGates m c (row t.val ⟨r.val, by omega⟩) ⟨4096 + e.val, by omega⟩ :=
  funext fun e => (part_at (X0_3 m c t) 0 4096 _ r e ⟨r.val, by omega⟩ ⟨4096 + e.val, by omega⟩ (by show r.val = 0 + r.val; omega) rfl).trans (blk3 m c t _ _)
theorem upper_Fox (c : Dev nD) (t : Fin cfg0.N) (r : Fin 256) :
    (fun e => View.ld (iblk m c 0 t) (Rect.unit (s := S512x768) ![0, 0] ![256, 768] inb_S512x768_S256x768_0_0) (ix2 r e))
      = argFox m c (row t.val ⟨r.val, by omega⟩) :=
  funext fun e => (part_at (iblk m c 0 t) 0 0 _ r e ⟨r.val, by omega⟩ e (by show r.val = 0 + r.val; omega) (by omega)).trans (blk0 m c t _ _)
theorem upper_Short (c : Dev nD) (t : Fin cfg0.N) (r : Fin 256) :
    (fun e => View.ld (iblk m c 1 t) (Rect.unit (s := S512x512) ![0, 0] ![256, 512] inb_S512x512_S256x512_0_0) (ix2 r e))
      = argShort m c (row t.val ⟨r.val, by omega⟩) :=
  funext fun e => (part_at (iblk m c 1 t) 0 0 _ r e ⟨r.val, by omega⟩ e (by show r.val = 0 + r.val; omega) (by omega)).trans (blk1 m c t _ _)
theorem upper_Ret (c : Dev nD) (t : Fin cfg0.N) (r : Fin 256) :
    (fun e => View.ld (iblk m c 2 t) (Rect.unit (s := S512x768) ![0, 0] ![256, 768] inb_S512x768_S256x768_0_0) (ix2 r e))
      = argRet m c (row t.val ⟨r.val, by omega⟩) :=
  funext fun e => (part_at (iblk m c 2 t) 0 0 _ r e ⟨r.val, by omega⟩ e (by show r.val = 0 + r.val; omega) (by omega)).trans (blk2 m c t _ _)
theorem upper_X (c : Dev nD) (t : Fin cfg0.N) (r : Fin 256) :
    (fun e => View.ld (iblk m c 4 t) (Rect.unit (s := S512x2048) ![0, 0] ![256, 2048] inb_S512x2048_S256x2048_0_0) (ix2 r e))
      = argX m c (row t.val ⟨r.val, by omega⟩) :=
  funext fun e => (part_at (iblk m c 4 t) 0 0 _ r e ⟨r.val, by omega⟩ e (by show r.val = 0 + r.val; omega) (by omega)).trans (blk4 m c t _ _)
theorem lower_gate0 (c : Dev nD) (t : Fin cfg0.N) (r : Fin 256) :
    (fun e => View.ld (X0_3 m c t) (Rect.unit (s := S512x6144) ![256, 0] ![256, 2048] inb_S512x6144_S256x2048_256_0) (ix2 r e))
      = fun e : Fin 2048 => argGates m c (row t.val ⟨256 + r.val, by omega⟩) ⟨e.val, by omega⟩ :=
  funext fun e => (part_at (X0_3 m c t) 256 0 _ r e ⟨256 + r.val, by omega⟩ ⟨e.val, by omega⟩ rfl (by show e.val = 0 + e.val; omega)).trans (blk3 m c t _ _)
theorem lower_gate1 (c : Dev nD) (t : Fin cfg0.N) (r : Fin 256) :
    (fun e => View.ld (X0_3 m c t) (Rect.unit (s := S512x6144) ![256, 2048] ![256, 2048] inb_S512x6144_S256x2048_256_2048) (ix2 r e))
      = fun e : Fin 2048 => argGates m c (row t.val ⟨256 + r.val, by omega⟩) ⟨2048 + e.val, by omega⟩ :=
  funext fun e => (part_at (X0_3 m c t) 256 2048 _ r e ⟨256 + r.val, by omega⟩ ⟨2048 + e.val, by omega⟩ rfl rfl).trans (blk3 m c t _ _)
theorem lower_gate2 (c : Dev nD) (t : Fin cfg0.N) (r : Fin 256) :
    (fun e => View.ld (X0_3 m c t) (Rect.unit (s := S512x6144) ![256, 4096] ![256, 2048] inb_S512x6144_S256x2048_256_4096) (ix2 r e))
      = fun e : Fin 2048 => argGates m c (row t.val ⟨256 + r.val, by omega⟩) ⟨4096 + e.val, by omega⟩ :=
  funext fun e => (part_at (X0_3 m c t) 256 4096 _ r e ⟨256 + r.val, by omega⟩ ⟨4096 + e.val, by omega⟩ rfl rfl).trans (blk3 m c t _ _)
theorem lower_Fox (c : Dev nD) (t : Fin cfg0.N) (r : Fin 256) :
    (fun e => View.ld (iblk m c 0 t) (Rect.unit (s := S512x768) ![256, 0] ![256, 768] inb_S512x768_S256x768_256_0) (ix2 r e))
      = argFox m c (row t.val ⟨256 + r.val, by omega⟩) :=
  funext fun e => (part_at (iblk m c 0 t) 256 0 _ r e ⟨256 + r.val, by omega⟩ e rfl (by omega)).trans (blk0 m c t _ _)
theorem lower_Short (c : Dev nD) (t : Fin cfg0.N) (r : Fin 256) :
    (fun e => View.ld (iblk m c 1 t) (Rect.unit (s := S512x512) ![256, 0] ![256, 512] inb_S512x512_S256x512_256_0) (ix2 r e))
      = argShort m c (row t.val ⟨256 + r.val, by omega⟩) :=
  funext fun e => (part_at (iblk m c 1 t) 256 0 _ r e ⟨256 + r.val, by omega⟩ e rfl (by omega)).trans (blk1 m c t _ _)
theorem lower_Ret (c : Dev nD) (t : Fin cfg0.N) (r : Fin 256) :
    (fun e => View.ld (iblk m c 2 t) (Rect.unit (s := S512x768) ![256, 0] ![256, 768] inb_S512x768_S256x768_256_0) (ix2 r e))
      = argRet m c (row t.val ⟨256 + r.val, by omega⟩) :=
  funext fun e => (part_at (iblk m c 2 t) 256 0 _ r e ⟨256 + r.val, by omega⟩ e rfl (by omega)).trans (blk2 m c t _ _)
theorem lower_X (c : Dev nD) (t : Fin cfg0.N) (r : Fin 256) :
    (fun e => View.ld (iblk m c 4 t) (Rect.unit (s := S512x2048) ![256, 0] ![256, 2048] inb_S512x2048_S256x2048_256_0) (ix2 r e))
      = argX m c (row t.val ⟨256 + r.val, by omega⟩) :=
  funext fun e => (part_at (iblk m c 4 t) 256 0 _ r e ⟨256 + r.val, by omega⟩ e rfl (by omega)).trans (blk4 m c t _ _)
theorem weightFox (c : Dev nD) (t : Fin cfg0.N) :
    (fun (k : Fin 768) e => View.ld (iblk m c 6 t) (Rect.unit (s := S2048x2048) ![0, 0] ![768, 2048] inb_S2048x2048_S768x2048_0_0) (ix2 k e))
      = fun k => argBranch m c ⟨k.val, by omega⟩ :=
  funext fun k => funext fun e => (part_at (iblk m c 6 t) 0 0 _ k e ⟨k.val, by omega⟩ e (by show k.val = 0 + k.val; omega) (by omega)).trans (blk6 m c t _ _)
theorem weightShort (c : Dev nD) (t : Fin cfg0.N) :
    (fun (k : Fin 512) e => View.ld (iblk m c 6 t) (Rect.unit (s := S2048x2048) ![768, 0] ![512, 2048] inb_S2048x2048_S512x2048_768_0) (ix2 k e))
      = fun k => argBranch m c ⟨768 + k.val, by omega⟩ :=
  funext fun k => funext fun e => (part_at (iblk m c 6 t) 768 0 _ k e ⟨768 + k.val, by omega⟩ e rfl (by omega)).trans (blk6 m c t _ _)
theorem weightRet (c : Dev nD) (t : Fin cfg0.N) :
    (fun (k : Fin 768) e => View.ld (iblk m c 6 t) (Rect.unit (s := S2048x2048) ![1280, 0] ![768, 2048] inb_S2048x2048_S768x2048_1280_0) (ix2 k e))
      = fun k => argBranch m c ⟨1280 + k.val, by omega⟩ :=
  funext fun k => funext fun e => (part_at (iblk m c 6 t) 1280 0 _ k e ⟨1280 + k.val, by omega⟩ e rfl (by omega)).trans (blk6 m c t _ _)
theorem weightOut (c : Dev nD) (t : Fin cfg0.N) : (fun k e : Fin 2048 => iblk m c 7 t (ix2 k e)) = argOut m c :=
  funext fun k => funext fun e => blk7 m c t k e
theorem gate_row (c : Dev nD) (t : Fin cfg0.N) (r : Fin 512) : (fun e : Fin 2048 => iblk m c 5 t (ix3 0 0 e)) = argGate m c (Rows.batch (row t.val r)) :=
  funext fun e => blk5 m c t r e
theorem gain_row (c : Dev nD) (t : Fin cfg0.N) : (fun e : Fin 2048 => iblk m c 8 t (ix2 0 e)) = argGain m c := funext fun e => blk8 m c t e
theorem bias_row (c : Dev nD) (t : Fin cfg0.N) : (fun e : Fin 2048 => iblk m c 9 t (ix2 0 e)) = argBias m c := funext fun e => blk9 m c t e

theorem upper_mix (c : Dev nD) (t : Fin cfg0.N) (r : Fin 256) (d : Fin 2048) :
    upperMix m c t (ix2 r d) = Rows.mixed (Rows.mergedRow (argFox m c) (argShort m c) (argRet m c) (argGates m c) (argBranch m c) (row t.val ⟨r.val, by omega⟩)) (argOut m c) d := by
  refine (mix_at _ _ _ _ _ _ _ _ _ _ r d).trans ?_
  rw [upper_gate0, upper_gate1, upper_gate2, upper_Fox, upper_Short, upper_Ret, weightFox, weightShort, weightRet, weightOut]
  rfl

theorem upper_at (c : Dev nD) (t : Fin cfg0.N) (r : Fin 256) (d : Fin 2048) :
    upper m c t (ix2 r d) = Rows.mergeOut (argFox m c) (argShort m c) (argRet m c) (argGates m c) (argX m c) (argGate m c) (argBranch m c) (argOut m c) (argGain m c) (argBias m c) (row t.val ⟨r.val, by omega⟩) d := by
  refine (first_at _ _ _ _ _ r d).trans ?_
  rw [upper_X, gate_row m c t ⟨r.val, by omega⟩, gain_row, bias_row,
    show (fun e => upperMix m c t (ix2 r e)) = _ from funext fun e => upper_mix m c t r e]
  rfl

/-- The residual row plus the gated merge, before its norm. -/
def preNorm (c : Dev nD) (R : Fin 32768) (e : Fin 2048) : EReal :=
  Ideal.ofBits .f32 0x3FB504F3#32 * argX m c R e + (1 + argGate m c (Rows.batch R) e) * Rows.mixed (Rows.mergedRow (argFox m c) (argShort m c) (argRet m c) (argGates m c) (argBranch m c) R) (argOut m c) e

theorem lower_rows (c : Dev nD) (t : Fin cfg0.N) (r : Fin 256) (d : Fin 2048) :
    lowerRows m c t (ix2 r d) = centred (preNorm m c (row t.val ⟨256 + r.val, by omega⟩)) d := by
  refine (centred_at _ _ _ _ _ _ _ _ _ _ _ _ r d).trans (congrArg (fun y => centred y d) (funext fun e => ?_))
  rw [lower_gate0, lower_gate1, lower_gate2, lower_Fox, lower_Short, lower_Ret, weightFox, weightShort, weightRet, weightOut,
    show View.ld (iblk m c 4 t) (Rect.unit (s := S512x2048) ![256, 0] ![256, 2048] inb_S512x2048_S256x2048_256_0) (ix2 r e) = _ from congrFun (lower_X m c t r) e,
    show iblk m c 5 t (ix3 0 0 e) = _ from congrFun (gate_row m c t ⟨256 + r.val, by omega⟩) e]
  rfl

theorem lower_at (c : Dev nD) (t : Fin cfg0.N) (r : Fin 256) (d : Fin 2048) :
    lower m c t (ix2 r d) = Rows.mergeOut (argFox m c) (argShort m c) (argRet m c) (argGates m c) (argX m c) (argGate m c) (argBranch m c) (argOut m c) (argGain m c) (argBias m c) (row t.val ⟨256 + r.val, by omega⟩) d := by
  refine (second_at _ _ _ r d).trans ?_
  rw [show (fun e => lowerRows m c t (ix2 r e) * lowerRows m c t (ix2 r e))
      = fun e => centred (preNorm m c (row t.val ⟨256 + r.val, by omega⟩)) e * centred (preNorm m c (row t.val ⟨256 + r.val, by omega⟩)) e
      from funext fun e => by rw [lower_rows m c t r e],
    lower_rows m c t r d, show iblk m c 8 t (ix2 0 d) = _ from blk8 m c t d, show iblk m c 9 t (ix2 0 d) = _ from blk9 m c t d]
  rfl

theorem tile_at (c : Dev nD) (t : Fin cfg0.N) (r : Fin 512) (d : Fin 2048) :
    outsAt0 m c t (ix2 r d) = Rows.mergeOut (argFox m c) (argShort m c) (argRet m c) (argGates m c) (argX m c) (argGate m c) (argBranch m c) (argOut m c) (argGain m c) (argBias m c) (row t.val r) d := by
  rw [tile]
  by_cases h : r.val < 256
  · rw [if_pos h, upper_at]
    exact congrArg (fun r => Rows.mergeOut _ _ _ _ _ _ _ _ _ _ (row t.val r) d) (Fin.ext (by show r.val % 256 = r.val; omega))
  · rw [if_neg h, lower_at]
    exact congrArg (fun r => Rows.mergeOut _ _ _ _ _ _ _ _ _ _ (row t.val r) d) (Fin.ext (by show 256 + r.val % 256 = r.val; omega))

theorem flushes : ∀ t : Fin cfg0.N, (cfg0.win 10).flush t = true := (by decide +kernel : ∀ t : Fin grid0.N, win0_10.flush t = true)

/-- The kernel's result, read at a row and a column. -/
theorem result_at (c : Dev nD) (R : Fin 32768) (d : Fin 2048) :
    (dats m 0 c).arrAt 10 cfg0.N (ix2 R d) = Rows.mergeOut (argFox m c) (argShort m c) (argRet m c) (argGates m c) (argX m c) (argGate m c) (argBranch m c) (argOut m c) (argGain m c) (argBias m c) R d := by
  have hN : R.val / 512 < cfg0.N := lt_of_lt_of_eq (by omega) N_0.symm
  have e0 : win0_10.index ⟨R.val / 512, hN⟩ (0 : Fin 2) = R.val / 512 := (at10 ⟨R.val / 512, hN⟩).1
  have e1 : win0_10.index ⟨R.val / 512, hN⟩ (1 : Fin 2) = 0 := (at10 ⟨R.val / 512, hN⟩).2
  have hb := congrFun (Value.blocks10 m c ⟨R.val / 512, hN⟩ (flushes _)) (ix2 (⟨R.val % 512, Nat.mod_lt _ (by decide)⟩ : Fin 512) d)
  rw [Value.flushed10] at hb
  refine Eq.trans (congrArg ((dats m 0 c).arrAt 10 cfg0.N) (funext fun a => Fin.ext ?_)) (hb.trans ?_)
  · match a with
    | ⟨0, _⟩ => show R.val = win0_10.index ⟨R.val / 512, hN⟩ (0 : Fin 2) * 512 + 1 * (R.val % 512); omega
    | ⟨1, _⟩ => show d.val = win0_10.index ⟨R.val / 512, hN⟩ (1 : Fin 2) * 2048 + 1 * d.val; omega
  · refine (tile_at m c ⟨R.val / 512, hN⟩ (⟨R.val % 512, Nat.mod_lt _ (by decide)⟩ : Fin 512) d).trans ?_
    refine congrArg (fun R => Rows.mergeOut _ _ _ _ _ _ _ _ _ _ R d) (Fin.ext ?_)
    show (R.val / 512 * 512 + R.val % 512) % 32768 = R.val
    omega

end Cert.Kernel4Ideal.Merge
end
-- ==== Proof.MergeRef.lean ====
module

public import proofs.«01_k».proof.Proof.MergeRows
public import proofs.«01_k».proof.Proof.Gen.Reference4Ideal.Read

/-!
# The merge reference, read at an index
-/

@[expose] public section

set_option maxRecDepth 16384

noncomputable section

namespace Cert.Reference4Ideal.Merge

open Cert.Reference4Ideal Cert.Reference4Ideal.Gen Cert.Reference4Ideal.Read
open Idealize.ShloMosaic Idealize.ShloMosaic.TcCoe

/-- Row `s` of batch `b` among the flattened rows. -/
def row (b : Fin 2) (s : Fin 16384) : Fin 32768 := ⟨b.val * 16384 + s.val, by omega⟩

theorem x_at (x4 : FVec Ideal S32768x2048 .f32) (b : Fin 2) (s : Fin 16384) (k : Fin 2048) :
    val_main_v0 (F := Ideal) x4 (ix3 b s k) = x4 (ix2 (row b s) k) := by
  rw [val_main_v0_apply]
  refine congrArg x4 (funext fun a => Fin.ext ?_)
  match a with
  | ⟨0, _⟩ => show ((b.val * 16384 + s.val) * 2048 + k.val) / 2048 = b.val * 16384 + s.val; omega
  | ⟨1, _⟩ => show ((b.val * 16384 + s.val) * 2048 + k.val) % 2048 = k.val; omega

theorem fox_at (x0 : FVec Ideal S32768x768 .bf16) (b : Fin 2) (s : Fin 16384) (k : Fin 768) :
    val_main_v2 (F := Ideal) x0 (ix3 b s k) = x0 (ix2 (row b s) k) := by
  rw [val_main_v2_apply]
  refine congrArg x0 (funext fun a => Fin.ext ?_)
  match a with
  | ⟨0, _⟩ => show ((b.val * 16384 + s.val) * 768 + k.val) / 768 = b.val * 16384 + s.val; omega
  | ⟨1, _⟩ => show ((b.val * 16384 + s.val) * 768 + k.val) % 768 = k.val; omega

theorem short_at (x1 : FVec Ideal S32768x512 .bf16) (b : Fin 2) (s : Fin 16384) (k : Fin 512) :
    val_main_v4 (F := Ideal) x1 (ix3 b s k) = x1 (ix2 (row b s) k) := by
  rw [val_main_v4_apply]
  refine congrArg x1 (funext fun a => Fin.ext ?_)
  match a with
  | ⟨0, _⟩ => show ((b.val * 16384 + s.val) * 512 + k.val) / 512 = b.val * 16384 + s.val; omega
  | ⟨1, _⟩ => show ((b.val * 16384 + s.val) * 512 + k.val) % 512 = k.val; omega

theorem ret_at (x2 : FVec Ideal S32768x768 .bf16) (b : Fin 2) (s : Fin 16384) (k : Fin 768) :
    val_main_v6 (F := Ideal) x2 (ix3 b s k) = x2 (ix2 (row b s) k) := by
  rw [val_main_v6_apply]
  refine congrArg x2 (funext fun a => Fin.ext ?_)
  match a with
  | ⟨0, _⟩ => show ((b.val * 16384 + s.val) * 768 + k.val) / 768 = b.val * 16384 + s.val; omega
  | ⟨1, _⟩ => show ((b.val * 16384 + s.val) * 768 + k.val) % 768 = k.val; omega

theorem logit_at (x3 : FVec Ideal S32768x12544 .bf16) (b : Fin 2) (s : Fin 16384) (k : Fin 6144) :
    val_main_v9 (F := Ideal) x3 (ix3 b s k) = x3 (ix2 (row b s) ⟨k.val, by omega⟩) := by
  rw [val_main_v9_apply]
  refine Eq.trans (congrArg (val_main_v8 (F := Ideal) x3) (funext fun a => Fin.ext ?_ : _ = ix2 (row b s) k)) ?_
  · match a with
    | ⟨0, _⟩ => show ((b.val * 16384 + s.val) * 6144 + k.val) / 6144 = b.val * 16384 + s.val; omega
    | ⟨1, _⟩ => show ((b.val * 16384 + s.val) * 6144 + k.val) % 6144 = k.val; omega
  · refine congrArg x3 (funext fun a => Fin.ext ?_)
    match a with
    | ⟨0, _⟩ => show 0 + (b.val * 16384 + s.val) = b.val * 16384 + s.val; omega
    | ⟨1, _⟩ => show 0 + k.val = k.val; omega

theorem gate_at (x3 : FVec Ideal S32768x12544 .bf16) (b : Fin 2) (s : Fin 16384) (n : Fin 3) (k : Fin 2048) :
    val_main_v20 (F := Ideal) x3 (ix4 b s n k) = Ideal.logistic (x3 (ix2 (row b s) ⟨n.val * 2048 + k.val, by omega⟩)) := by
  rw [val_main_v20_apply]
  refine Eq.trans (congrArg (val_main_v19 (F := Ideal) x3) (funext fun a => Fin.ext ?_ : _ = ix3 b s (⟨n.val * 2048 + k.val, by omega⟩ : Fin 6144))) ?_
  · match a with
    | ⟨0, _⟩ => show (((b.val * 16384 + s.val) * 3 + n.val) * 2048 + k.val) / 100663296 = b.val; omega
    | ⟨1, _⟩ => show (((b.val * 16384 + s.val) * 3 + n.val) * 2048 + k.val) / 6144 % 16384 = s.val; omega
    | ⟨2, _⟩ => show (((b.val * 16384 + s.val) * 3 + n.val) * 2048 + k.val) % 6144 = n.val * 2048 + k.val; omega
  · rw [← logit_at x3 b s ⟨n.val * 2048 + k.val, by omega⟩]
    unfold val_main_v19 val_main_v18 val_main_cst_0 val_main_v17 val_main_v16 val_main_cst val_main_v15 val_main_v14
    generalize val_main_v9 (F := Ideal) x3 = y
    pointwise
    rfl

theorem merged_at (x0 : FVec Ideal S32768x768 .bf16) (x1 : FVec Ideal S32768x512 .bf16) (x2 : FVec Ideal S32768x768 .bf16) (x3 : FVec Ideal S32768x12544 .bf16) (x6 : FVec Ideal S2048x2048 .bf16)
    (b : Fin 2) (s : Fin 16384) (d : Fin 2048) :
    val_main_v34 (F := Ideal) x0 x1 x2 x3 x6 (ix3 b s d)
      = val_main_v20 (F := Ideal) x3 (ix4 b s 0 d) * (∑ k : Fin 768, val_main_v2 (F := Ideal) x0 (ix3 b s k) * x6 (ix2 ⟨k.val, by omega⟩ d))
        + val_main_v20 (F := Ideal) x3 (ix4 b s 1 d) * (∑ k : Fin 512, val_main_v4 (F := Ideal) x1 (ix3 b s k) * x6 (ix2 ⟨768 + k.val, by omega⟩ d))
        + val_main_v20 (F := Ideal) x3 (ix4 b s 2 d) * ∑ k : Fin 768, val_main_v6 (F := Ideal) x2 (ix3 b s k) * x6 (ix2 ⟨1280 + k.val, by omega⟩ d) := by
  unfold val_main_v34 val_main_v33 val_main_v32 val_main_v31 val_main_v30 val_main_v29 val_main_v28 val_main_v27 val_main_v26 val_main_v25 val_main_v24 val_main_v23 val_main_v22 val_main_v21 val_main_v13 val_main_v12 val_main_v11 val_main_v10
  generalize val_main_v20 (F := Ideal) x3 = g
  generalize val_main_v2 (F := Ideal) x0 = y0
  generalize val_main_v4 (F := Ideal) x1 = y1
  generalize val_main_v6 (F := Ideal) x2 = y2
  pointwise

theorem mix_at (x0 : FVec Ideal S32768x768 .bf16) (x1 : FVec Ideal S32768x512 .bf16) (x2 : FVec Ideal S32768x768 .bf16) (x3 : FVec Ideal S32768x12544 .bf16) (x6 x7 : FVec Ideal S2048x2048 .bf16)
    (b : Fin 2) (s : Fin 16384) (d : Fin 2048) :
    val_main_v36 (F := Ideal) x0 x1 x2 x3 x6 x7 (ix3 b s d)
      = Rows.mixed (fun e => val_main_v34 (F := Ideal) x0 x1 x2 x3 x6 (ix3 b s e)) (fun k e => x7 (ix2 k e)) d := by
  unfold val_main_v36 val_main_v35
  generalize val_main_v34 (F := Ideal) x0 x1 x2 x3 x6 = y
  pointwise
  rfl

theorem sum_at (x0 : FVec Ideal S32768x768 .bf16) (x1 : FVec Ideal S32768x512 .bf16) (x2 : FVec Ideal S32768x768 .bf16) (x3 : FVec Ideal S32768x12544 .bf16) (x4 : FVec Ideal S32768x2048 .f32)
    (x5 : FVec Ideal S2x1x2048 .f32) (x6 x7 : FVec Ideal S2048x2048 .bf16) (b : Fin 2) (s : Fin 16384) (k : Fin 2048) :
    val_main_v43 (F := Ideal) x0 x1 x2 x3 x4 x5 x6 x7 (ix3 b s k)
      = Ideal.ofBits .f32 0x3FB504F3#32 * x4 (ix2 (row b s) k) + (1 + x5 (ix3 b 0 k)) * val_main_v36 (F := Ideal) x0 x1 x2 x3 x6 x7 (ix3 b s k) := by
  rw [← x_at x4 b s k]
  unfold val_main_v43 val_main_v42 val_main_v41 val_main_v40 val_main_v39 val_main_cst_2 val_main_v38 val_main_v37 val_main_cst_1
  generalize val_main_v0 (F := Ideal) x4 = y
  generalize val_main_v36 (F := Ideal) x0 x1 x2 x3 x6 x7 = z
  pointwise

theorem out_at (x0 : FVec Ideal S32768x768 .bf16) (x1 : FVec Ideal S32768x512 .bf16) (x2 : FVec Ideal S32768x768 .bf16) (x3 : FVec Ideal S32768x12544 .bf16) (x4 : FVec Ideal S32768x2048 .f32)
    (x5 : FVec Ideal S2x1x2048 .f32) (x6 x7 : FVec Ideal S2048x2048 .bf16) (x8 x9 : FVec Ideal S2048 .f32) (b : Fin 2) (s : Fin 16384) (k : Fin 2048) :
    val_main_v67 (F := Ideal) x0 x1 x2 x3 x4 x5 x6 x7 x8 x9 (ix3 b s k)
      = Rows.norm (fun e => val_main_v43 (F := Ideal) x0 x1 x2 x3 x4 x5 x6 x7 (ix3 b s e)) k * x8 (ix1 k) + x9 (ix1 k) := by
  unfold val_main_v67 val_main_v66 val_main_v65 val_main_v64 val_main_v63 val_main_v62 val_main_v61 val_main_v60 val_main_v59 val_main_v58 val_main_v57 val_main_cst_7 val_main_v56 val_main_v55 val_main_v54 val_main_v53 val_main_cst_6 val_main_v52 val_main_v51 val_main_cst_5 val_main_v50 val_main_v49 val_main_v48 val_main_v47 val_main_v46 val_main_cst_4 val_main_v45 val_main_v44 val_main_cst_3
  generalize val_main_v43 (F := Ideal) x0 x1 x2 x3 x4 x5 x6 x7 = y
  pointwise
  rfl

/-- The reference, read at a row and a column. -/
theorem result_at (x0 : FVec Ideal S32768x768 .bf16) (x1 : FVec Ideal S32768x512 .bf16) (x2 : FVec Ideal S32768x768 .bf16) (x3 : FVec Ideal S32768x12544 .bf16) (x4 : FVec Ideal S32768x2048 .f32)
    (x5 : FVec Ideal S2x1x2048 .f32) (x6 x7 : FVec Ideal S2048x2048 .bf16) (x8 x9 : FVec Ideal S2048 .f32) (R : Fin 32768) (d : Fin 2048) :
    val_main_v68 (F := Ideal) x0 x1 x2 x3 x4 x5 x6 x7 x8 x9 (ix2 R d)
      = Rows.mergeOut (fun R k => x0 (ix2 R k)) (fun R k => x1 (ix2 R k)) (fun R k => x2 (ix2 R k)) (fun R k => x3 (ix2 R k)) (fun R e => x4 (ix2 R e)) (fun b e => x5 (ix3 b 0 e))
          (fun k e => x6 (ix2 k e)) (fun k e => x7 (ix2 k e)) (fun e => x8 (ix1 e)) (fun e => x9 (ix1 e)) R d := by
  have hR : R = row (Rows.batch R) ⟨R.val % 16384, Nat.mod_lt _ (by decide)⟩ := Fin.ext (by show R.val = R.val / 16384 * 16384 + R.val % 16384; omega)
  rw [val_main_v68_apply, show idx_main_v68 (ix2 R d) = ix3 (Rows.batch R) ⟨R.val % 16384, Nat.mod_lt _ (by decide)⟩ d from funext fun a => Fin.ext (by
    match a with
    | ⟨0, _⟩ => show (R.val * 2048 + d.val) / 33554432 = R.val / 16384; omega
    | ⟨1, _⟩ => show (R.val * 2048 + d.val) / 2048 % 16384 = R.val % 16384; omega
    | ⟨2, _⟩ => show (R.val * 2048 + d.val) % 2048 = d.val; omega), out_at]
  simp only [sum_at, mix_at, merged_at, gate_at, fox_at, short_at, ret_at, ← hR]
  unfold Rows.mergeOut Rows.postNorm Rows.mergedRow Rows.merged
  have g0 : ∀ e : Fin 2048, (⟨(0 : Fin 3).val * 2048 + e.val, by have := e.isLt; show 0 * 2048 + e.val < 12544; omega⟩ : Fin 12544) = ⟨e.val, by omega⟩ := fun e => Fin.ext (by show 0 * 2048 + e.val = e.val; omega)
  simp only [g0]
  rfl

end Cert.Reference4Ideal.Merge
end
-- ==== Proof.MergeClaim.lean ====
module

public import proofs.«01_k».proof.Defs
public import proofs.«01_k».proof.Proof.MergeEqual
public import proofs.«01_k».proof.Proof.MergeRef
public import Idealize.ShloMosaic.Lib.Quiescent
public import Idealize.ShloMosaic.Adequacy

/-!
# The merge kernel equals its reference
-/

@[expose] public section

set_option maxRecDepth 16384

noncomputable section

namespace Cert.Proof

open Idealize.ShloMosaic Idealize.ShloMosaic.TcCoe Idealize.SL.Sem

theorem reference4_frame : quiescent_Reference4Ideal (hReference4Ideal := Cert.Reference4Ideal.Gen.facts) := by
  intro m ρ _
  exact θ_run_mono (Cert.Reference4Ideal.Value.run m ρ) fun r h => ⟨fun c => (h c).2, sem_eq_zero_of_no_sems (by decide) r.2⟩

/-- What the merge kernel leaves in its result. -/
def res4 (m : (ℓ : Loc Cert.Kernel4Ideal.nD Cert.Kernel4Ideal.τ Cert.Kernel4Ideal.sig) → Buf (Elt Ideal) ℓ) (c : Dev Cert.Kernel4Ideal.nD) :
    Buf (Elt Ideal) ((c.tc : Thread Cert.Kernel4Ideal.nD Cert.Kernel4Ideal.τ).loc Cert.Kernel4Ideal.main_v2) :=
  (Cert.Kernel4Ideal.Gen.dats m 0 c).arrAt 10 Cert.Kernel4Ideal.cfg0.N

theorem equal4 : algebraic_Kernel4Ideal_Reference4Ideal (hKernel4Ideal := Cert.Kernel4Ideal.Gen.facts) (hReference4Ideal := Cert.Reference4Ideal.Gen.facts) := by
  intro m g m' g' _ hargs
  refine ⟨res4 m, Cert.Kernel4Ideal.Value.run_blocks m g, ?_⟩
  refine θ_run_mono (Cert.Reference4Ideal.Value.run m' g') fun r h c => ?_
  obtain ⟨h0, ha⟩ := h c
  refine ⟨h0.trans ?_, ha⟩
  obtain ⟨e0, e1, e2, e3, e4, e5, e6, e7, e8, e9⟩ := hargs c
  rw [Cert.Reference4Ideal.Read.val_main_v68_eq, e0, e1, e2, e3, e4, e5, e6, e7, e8, e9]
  refine funext fun i => ?_
  have hi : i = ix2 (i 0) (i 1) := funext fun a => by
    match a with
    | ⟨0, _⟩ => rfl
    | ⟨1, _⟩ => rfl
  rw [hi]
  exact (Cert.Reference4Ideal.Merge.result_at _ _ _ _ _ _ _ _ _ _ (i 0) (i 1)).trans (Cert.Kernel4Ideal.Merge.result_at m c (i 0) (i 1)).symm

end Cert.Proof
end
-- ==== Proof.SgRows.lean ====
module

public import Idealize.ShloMosaic.Lib.Pointwise

/-!
# The row arithmetic of the chunked spatial gating

The tanh form of the GELU, the norm of a row of 512 columns, and one entry of the gated product, as functions of rows
of extended reals.
-/

@[expose] public section

noncomputable section

namespace Cert.Sg

open Idealize.ShloMosaic

/-- What the GELU multiplies its argument by, before the half. -/
def bend (x : EReal) : EReal :=
  1 + Ideal.tanh (Ideal.ofBits .f32 0x3F4C422A#32 * (x + Ideal.ofBits .f32 0x3D372713#32 * (x * x * x)))

/-- The tanh form of the GELU. -/
def gelu (x : EReal) : EReal := x * (Ideal.ofBits .f32 0x3F000000#32 * bend x)

/-- The half may be multiplied to the argument first. -/
theorem half_first (x : EReal) : Ideal.ofBits .f32 0x3F000000#32 * x * bend x = gelu x := by
  unfold gelu
  rw [mul_comm (Ideal.ofBits .f32 0x3F000000#32) x, mul_assoc]

/-- The mean of a row: its sum divided by its length. -/
def mean (y : Fin 512 → EReal) : EReal := Ideal.div (∑ e, y e) (Ideal.ofBits .f32 0x44000000#32)

/-- The row less its mean, over its deviation. -/
def norm (y : Fin 512 → EReal) (d : Fin 512) : EReal :=
  (y d - mean y) * Ideal.rsqrt (mean (fun e => (y e - mean y) * (y e - mean y)) + Ideal.ofBits .f32 0x3727C5AC#32)

/-- The weight of position `k` for position `r` of a chunk of 128: none where `k` lies in a later half. -/
def masked (w : Fin 128 → Fin 128 → EReal) (r k : Fin 128) : EReal := if k.val / 64 ≤ r.val / 64 then w r k else 0

/-- The mixed half of a row: the GELU of its 512 columns, normalised, with the norm's gain and bias. -/
def mixed (z : Fin 512 → EReal) (g b : Fin 512 → EReal) (d : Fin 512) : EReal := norm (fun e => gelu (z e)) d * g d + b d

/-- The gating at row `R` and column `d`: the GELU of the gating half, times the mixed half of the chunk's rows under
    the masked weights of the column's group, plus the group's bias. The gating half's columns begin at 9216, the mixed
    half's at 9728. -/
def out (z : Fin 32768 → Fin 12544 → EReal) (g b : Fin 512 → EReal) (w : Fin 4 → Fin 128 → Fin 128 → EReal) (bs : Fin 4 → Fin 128 → EReal)
    (R : Fin 32768) (d : Fin 512) : EReal :=
  gelu (z R ⟨9216 + d.val, by omega⟩)
    * ((∑ k : Fin 128, masked (w ⟨d.val / 128, by omega⟩) ⟨R.val % 128, by omega⟩ k
          * mixed (fun e => z ⟨R.val / 128 * 128 + k.val, by omega⟩ ⟨9728 + e.val, by omega⟩) g b d)
        + bs ⟨d.val / 128, by omega⟩ ⟨R.val % 128, by omega⟩)

end Cert.Sg
end
-- ==== Proof.SgReads.lean ====
module

public import proofs.«01_k».proof.Proof.Gen.Kernel5Ideal.Skeleton
public import proofs.«01_k».proof.Proof.SgRows

/-!
# The spatial-gating body over the extended reals, at one row and one column
-/

@[expose] public section

set_option maxRecDepth 16384

noncomputable section

namespace Cert.Kernel5Ideal.Sg

open Cert.Kernel5Ideal Cert.Kernel5Ideal.Gen
open Idealize.ShloMosaic Idealize.ShloMosaic.TcCoe

/-- The gating half. -/
theorem gate_at (x : FVec Ideal S512x512 .bf16) (r d : Fin 512) : k0_pay3 (F := Ideal) x (ix2 r d) = Cert.Sg.gelu (x (ix2 r d)) := by
  rw [← Cert.Sg.half_first]
  pointwise [k0_pay3]
  rfl

/-- The mixed half, less its mean. -/
theorem centred_at (x : FVec Ideal S512x512 .bf16) (r d : Fin 512) :
    k0_pay4 (F := Ideal) x (ix2 r d) = Cert.Sg.gelu (x (ix2 r d)) - Cert.Sg.mean (fun e => Cert.Sg.gelu (x (ix2 r e))) := by
  simp only [← Cert.Sg.half_first]
  pointwise [k0_pay4]
  rfl

/-- The mean of its squares. -/
theorem square_at (x : FVec Ideal S512x512 .bf16) (r : Fin 512) :
    k0_pay5 (F := Ideal) x (ix2 r 0) = Cert.Sg.mean (fun e => k0_pay4 (F := Ideal) x (ix2 r e) * k0_pay4 (F := Ideal) x (ix2 r e)) := by
  unfold k0_pay5
  generalize k0_pay4 (F := Ideal) x = y
  pointwise
  rfl

/-- The mixed half, normalised. -/
theorem mixed_at (x : FVec Ideal S512x512 .bf16) (g b : FVec Ideal S1x512 .f32) (r d : Fin 512) :
    k0_pay7 (F := Ideal) (k0_pay4 (F := Ideal) x) (k0_pay5 (F := Ideal) x) (k0_pay6 (F := Ideal)) g b (ix2 r d)
      = Cert.Sg.mixed (fun e => x (ix2 r e)) (fun e => g (ix2 0 e)) (fun e => b (ix2 0 e)) d := by
  have e1 : k0_pay7 (F := Ideal) (k0_pay4 (F := Ideal) x) (k0_pay5 (F := Ideal) x) (k0_pay6 (F := Ideal)) g b (ix2 r d)
      = k0_pay4 (F := Ideal) x (ix2 r d) * Ideal.rsqrt (k0_pay5 (F := Ideal) x (ix2 r 0) + Ideal.ofBits .f32 0x3727C5AC#32) * g (ix2 0 d) + b (ix2 0 d) := by
    generalize k0_pay4 (F := Ideal) x = y
    generalize k0_pay5 (F := Ideal) x = z
    pointwise [k0_pay7, k0_pay6]
  rw [e1, square_at]
  simp only [centred_at]
  rfl

/-- The half of a chunk that a position lies in, as the body computes it: the quotient by 64, one less where the
    signs differ and a remainder is left. -/
theorem half_word : ∀ r : Fin 128,
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 r.val) 64#32) 0#32))
      (IntOp.subi (IntOp.divsi ArithUnit.vector (BitVec.ofNat 32 r.val) 64#32) 1#32)
      (IntOp.divsi ArithUnit.vector (BitVec.ofNat 32 r.val) 64#32)
    = BitVec.ofNat 32 (r.val / 64) := by decide +kernel

/-- Two halves compared. -/
theorem half_ge (r k : Fin 128) :
    IntOp.cmpi .sge (BitVec.ofNat 32 (r.val / 64)) (BitVec.ofNat 32 (k.val / 64)) = if k.val / 64 ≤ r.val / 64 then 1#1 else 0#1 := by
  have all : ∀ a b : Fin 2, IntOp.cmpi .sge (BitVec.ofNat 32 a.val) (BitVec.ofNat 32 b.val) = if b.val ≤ a.val then 1#1 else 0#1 := by decide
  exact all ⟨r.val / 64, by omega⟩ ⟨k.val / 64, by omega⟩

theorem rows_at (r k : Fin 128) : k0_pay8 (ix2 r k) = BitVec.ofNat 32 (r.val / 64) := by
  pointwise [k0_pay8]
  exact half_word r

/-- The body's mask. -/
def keep : IVec S128x128 1 :=
  k0_pay12 k0_pay8 (iota Kind.tc S128x128 32 [1] iota_S128x128_d1_w32) 64#32 k0_pay9 k0_pay10 k0_pay11

theorem keep_at (r k : Fin 128) : keep (ix2 r k) = if k.val / 64 ≤ r.val / 64 then 1#1 else 0#1 := by
  unfold keep k0_pay12
  rw [← half_ge, ← half_word k, ← rows_at r k]
  generalize k0_pay8 = y
  pointwise [k0_pay9, k0_pay10, k0_pay11]

/-- The masked weights of a group. -/
def weights (w : Vec Ideal S1x128x128 .f32) : FVec Ideal S128x128 .bf16 := k0_pay20 (F := Ideal) keep w

theorem weights_at (w : Vec Ideal S1x128x128 .f32) (r k : Fin 128) :
    weights w (ix2 r k) = Cert.Sg.masked (fun r k => w (ix3 0 r k)) r k := by
  have e1 : weights w (ix2 r k) = Scalar.select (keep (ix2 r k)) (w (ix3 0 r k)) (Ideal.ofBits .f32 0x00000000#32) := by
    unfold weights
    generalize keep = y
    pointwise [k0_pay20]
    try rfl
  rw [e1, keep_at, Ideal.ofBits_zero]
  unfold Cert.Sg.masked
  split <;> rfl

/-- The bias of a group, as the body recasts it. -/
theorem bias_at (b : Vec Ideal S128x1 .f32) (r : Fin 128) : k0_pay21 (F := Ideal) b (ix2 r 0) = b (ix2 r 0) := by
  pointwise [k0_pay21]

/-- The piece of a tile for chunk `p` and group `g`. -/
def piece (p g : Fin 4) (u : FVec Ideal S512x512 .f32) (v : FVec Ideal S512x512 .bf16) (w : FVec Ideal S128x128 .bf16) (b : FVec Ideal S128x1 .f32) :
    FVec Ideal S128x128 .bf16 := fun i =>
  u (ix2 ⟨128 * p.val + (i 0).val, by have := (i 0).isLt; change _ < 128 at this; omega⟩ ⟨128 * g.val + (i 1).val, by have := (i 1).isLt; change _ < 128 at this; omega⟩)
    * ((∑ k : Fin 128, w (ix2 (i 0) k) * v (ix2 ⟨128 * p.val + k.val, by omega⟩ ⟨128 * g.val + (i 1).val, by have := (i 1).isLt; change _ < 128 at this; omega⟩))
        + b (ix2 (i 0) 0))

/-- A piece, read with its rows and column named. -/
theorem piece_at (p g : Fin 4) (u : FVec Ideal S512x512 .f32) (v : FVec Ideal S512x512 .bf16) (w : FVec Ideal S128x128 .bf16) (b : FVec Ideal S128x1 .f32)
    (r d : Fin 128) (R : Fin 128 → Fin 512) (D : Fin 512) (hR : ∀ k, (R k).val = 128 * p.val + k.val) (hD : D.val = 128 * g.val + d.val) :
    u (ix2 (R r) D) * ((∑ k : Fin 128, w (ix2 r k) * v (ix2 (R k) D)) + b (ix2 r 0)) = piece p g u v w b (ix2 r d) := by
  have eR : R = fun k => ⟨128 * p.val + k.val, by omega⟩ := funext fun k => Fin.ext (hR k)
  have eD : D = ⟨128 * g.val + d.val, by omega⟩ := Fin.ext hD
  rw [eR, eD]
  rfl

/-! ## The sixteen stored pieces, by chunk and group -/

variable (u : FVec Ideal S512x512 .f32) (v : FVec Ideal S512x512 .bf16) (w : FVec Ideal S128x128 .bf16) (b : FVec Ideal S128x1 .f32)
  (wl : Vec Ideal S1x128x128 .f32) (bl : Vec Ideal S128x1 .f32)

theorem piece_0_0 : k0_pay15 (F := Ideal) u v k0_pay8 (iota Kind.tc S128x128 32 [1] iota_S128x128_d1_w32) 64#32 k0_pay9 k0_pay10 k0_pay11 wl bl = piece 0 0 u v (weights wl) (k0_pay21 (F := Ideal) bl) := by
  change _ = piece 0 0 u v (k0_pay13 (F := Ideal) k0_pay8 (iota Kind.tc S128x128 32 [1] iota_S128x128_d1_w32) 64#32 k0_pay9 k0_pay10 k0_pay11 wl) (k0_pay14 (F := Ideal) bl)
  unfold k0_pay15
  generalize k0_pay13 (F := Ideal) k0_pay8 (iota Kind.tc S128x128 32 [1] iota_S128x128_d1_w32) 64#32 k0_pay9 k0_pay10 k0_pay11 wl = w
  generalize k0_pay14 (F := Ideal) bl = b
  funext i
  obtain ⟨r, d, rfl⟩ : ∃ (r : Fin 128) (d : Fin 128), i = ix2 r d := ⟨i 0, i 1, eq_ix2 i⟩
  pointwise
  exact piece_at 0 0 u v w b r d (fun k => ⟨k.val, by omega⟩) ⟨d.val, by omega⟩ (fun k => (Nat.zero_add _).symm) (Nat.zero_add _).symm

theorem piece_1_0 : k0_pay16 (F := Ideal) u v k0_pay8 (iota Kind.tc S128x128 32 [1] iota_S128x128_d1_w32) 64#32 k0_pay9 k0_pay10 k0_pay11 wl bl = piece 1 0 u v (weights wl) (k0_pay21 (F := Ideal) bl) := by
  change _ = piece 1 0 u v (k0_pay13 (F := Ideal) k0_pay8 (iota Kind.tc S128x128 32 [1] iota_S128x128_d1_w32) 64#32 k0_pay9 k0_pay10 k0_pay11 wl) (k0_pay14 (F := Ideal) bl)
  unfold k0_pay16
  generalize k0_pay13 (F := Ideal) k0_pay8 (iota Kind.tc S128x128 32 [1] iota_S128x128_d1_w32) 64#32 k0_pay9 k0_pay10 k0_pay11 wl = w
  generalize k0_pay14 (F := Ideal) bl = b
  funext i
  obtain ⟨r, d, rfl⟩ : ∃ (r : Fin 128) (d : Fin 128), i = ix2 r d := ⟨i 0, i 1, eq_ix2 i⟩
  pointwise
  exact piece_at 1 0 u v w b r d (fun k => ⟨128 + k.val, by omega⟩) ⟨d.val, by omega⟩ (fun k => rfl) (Nat.zero_add _).symm

theorem piece_2_0 : k0_pay18 (F := Ideal) u w b (k0_pay17 (F := Ideal) v) = piece 2 0 u v w b := by
  funext i
  obtain ⟨r, d, rfl⟩ : ∃ (r : Fin 128) (d : Fin 128), i = ix2 r d := ⟨i 0, i 1, eq_ix2 i⟩
  pointwise [k0_pay18, k0_pay17]
  exact piece_at 2 0 u v w b r d (fun k => ⟨256 + k.val, by omega⟩) ⟨d.val, by omega⟩ (fun k => rfl) (Nat.zero_add _).symm

theorem piece_3_0 : k0_pay19 (F := Ideal) u v w b = piece 3 0 u v w b := by
  funext i
  obtain ⟨r, d, rfl⟩ : ∃ (r : Fin 128) (d : Fin 128), i = ix2 r d := ⟨i 0, i 1, eq_ix2 i⟩
  pointwise [k0_pay19]
  exact piece_at 3 0 u v w b r d (fun k => ⟨384 + k.val, by omega⟩) ⟨d.val, by omega⟩ (fun k => rfl) (Nat.zero_add _).symm

theorem piece_0_1 : k0_pay22 (F := Ideal) u v keep wl bl = piece 0 1 u v (weights wl) (k0_pay21 (F := Ideal) bl) := by
  change _ = piece 0 1 u v (k0_pay20 (F := Ideal) keep wl) (k0_pay21 (F := Ideal) bl)
  unfold k0_pay22
  generalize k0_pay20 (F := Ideal) keep wl = w
  generalize k0_pay21 (F := Ideal) bl = b
  funext i
  obtain ⟨r, d, rfl⟩ : ∃ (r : Fin 128) (d : Fin 128), i = ix2 r d := ⟨i 0, i 1, eq_ix2 i⟩
  pointwise
  exact piece_at 0 1 u v w b r d (fun k => ⟨k.val, by omega⟩) ⟨128 + d.val, by omega⟩ (fun k => (Nat.zero_add _).symm) rfl

theorem piece_1_1 : k0_pay23 (F := Ideal) u v keep wl bl = piece 1 1 u v (weights wl) (k0_pay21 (F := Ideal) bl) := by
  change _ = piece 1 1 u v (k0_pay20 (F := Ideal) keep wl) (k0_pay21 (F := Ideal) bl)
  unfold k0_pay23
  generalize k0_pay20 (F := Ideal) keep wl = w
  generalize k0_pay21 (F := Ideal) bl = b
  funext i
  obtain ⟨r, d, rfl⟩ : ∃ (r : Fin 128) (d : Fin 128), i = ix2 r d := ⟨i 0, i 1, eq_ix2 i⟩
  pointwise
  exact piece_at 1 1 u v w b r d (fun k => ⟨128 + k.val, by omega⟩) ⟨128 + d.val, by omega⟩ (fun k => rfl) rfl

theorem piece_2_1 : k0_pay24 (F := Ideal) u v w b = piece 2 1 u v w b := by
  funext i
  obtain ⟨r, d, rfl⟩ : ∃ (r : Fin 128) (d : Fin 128), i = ix2 r d := ⟨i 0, i 1, eq_ix2 i⟩
  pointwise [k0_pay24]
  exact piece_at 2 1 u v w b r d (fun k => ⟨256 + k.val, by omega⟩) ⟨128 + d.val, by omega⟩ (fun k => rfl) rfl

theorem piece_3_1 : k0_pay25 (F := Ideal) u v w b = piece 3 1 u v w b := by
  funext i
  obtain ⟨r, d, rfl⟩ : ∃ (r : Fin 128) (d : Fin 128), i = ix2 r d := ⟨i 0, i 1, eq_ix2 i⟩
  pointwise [k0_pay25]
  exact piece_at 3 1 u v w b r d (fun k => ⟨384 + k.val, by omega⟩) ⟨128 + d.val, by omega⟩ (fun k => rfl) rfl

theorem piece_0_2 : k0_pay28 (F := Ideal) u v keep wl bl = piece 0 2 u v (weights wl) (k0_pay21 (F := Ideal) bl) := by
  change _ = piece 0 2 u v (k0_pay26 (F := Ideal) keep wl) (k0_pay27 (F := Ideal) bl)
  unfold k0_pay28
  generalize k0_pay26 (F := Ideal) keep wl = w
  generalize k0_pay27 (F := Ideal) bl = b
  funext i
  obtain ⟨r, d, rfl⟩ : ∃ (r : Fin 128) (d : Fin 128), i = ix2 r d := ⟨i 0, i 1, eq_ix2 i⟩
  pointwise
  exact piece_at 0 2 u v w b r d (fun k => ⟨k.val, by omega⟩) ⟨256 + d.val, by omega⟩ (fun k => (Nat.zero_add _).symm) rfl

theorem piece_1_2 : k0_pay29 (F := Ideal) u v keep wl bl = piece 1 2 u v (weights wl) (k0_pay21 (F := Ideal) bl) := by
  change _ = piece 1 2 u v (k0_pay26 (F := Ideal) keep wl) (k0_pay27 (F := Ideal) bl)
  unfold k0_pay29
  generalize k0_pay26 (F := Ideal) keep wl = w
  generalize k0_pay27 (F := Ideal) bl = b
  funext i
  obtain ⟨r, d, rfl⟩ : ∃ (r : Fin 128) (d : Fin 128), i = ix2 r d := ⟨i 0, i 1, eq_ix2 i⟩
  pointwise
  exact piece_at 1 2 u v w b r d (fun k => ⟨128 + k.val, by omega⟩) ⟨256 + d.val, by omega⟩ (fun k => rfl) rfl

theorem piece_2_2 : k0_pay30 (F := Ideal) u v w b = piece 2 2 u v w b := by
  funext i
  obtain ⟨r, d, rfl⟩ : ∃ (r : Fin 128) (d : Fin 128), i = ix2 r d := ⟨i 0, i 1, eq_ix2 i⟩
  pointwise [k0_pay30]
  exact piece_at 2 2 u v w b r d (fun k => ⟨256 + k.val, by omega⟩) ⟨256 + d.val, by omega⟩ (fun k => rfl) rfl

theorem piece_3_2 : k0_pay31 (F := Ideal) u v w b = piece 3 2 u v w b := by
  funext i
  obtain ⟨r, d, rfl⟩ : ∃ (r : Fin 128) (d : Fin 128), i = ix2 r d := ⟨i 0, i 1, eq_ix2 i⟩
  pointwise [k0_pay31]
  exact piece_at 3 2 u v w b r d (fun k => ⟨384 + k.val, by omega⟩) ⟨256 + d.val, by omega⟩ (fun k => rfl) rfl

theorem piece_0_3 : k0_pay34 (F := Ideal) u v keep wl bl = piece 0 3 u v (weights wl) (k0_pay21 (F := Ideal) bl) := by
  change _ = piece 0 3 u v (k0_pay32 (F := Ideal) keep wl) (k0_pay33 (F := Ideal) bl)
  unfold k0_pay34
  generalize k0_pay32 (F := Ideal) keep wl = w
  generalize k0_pay33 (F := Ideal) bl = b
  funext i
  obtain ⟨r, d, rfl⟩ : ∃ (r : Fin 128) (d : Fin 128), i = ix2 r d := ⟨i 0, i 1, eq_ix2 i⟩
  pointwise
  exact piece_at 0 3 u v w b r d (fun k => ⟨k.val, by omega⟩) ⟨384 + d.val, by omega⟩ (fun k => (Nat.zero_add _).symm) rfl

theorem piece_1_3 : k0_pay35 (F := Ideal) u v keep wl bl = piece 1 3 u v (weights wl) (k0_pay21 (F := Ideal) bl) := by
  change _ = piece 1 3 u v (k0_pay32 (F := Ideal) keep wl) (k0_pay33 (F := Ideal) bl)
  unfold k0_pay35
  generalize k0_pay32 (F := Ideal) keep wl = w
  generalize k0_pay33 (F := Ideal) bl = b
  funext i
  obtain ⟨r, d, rfl⟩ : ∃ (r : Fin 128) (d : Fin 128), i = ix2 r d := ⟨i 0, i 1, eq_ix2 i⟩
  pointwise
  exact piece_at 1 3 u v w b r d (fun k => ⟨128 + k.val, by omega⟩) ⟨384 + d.val, by omega⟩ (fun k => rfl) rfl

theorem piece_2_3 : k0_pay1 (F := Ideal) u v w b = piece 2 3 u v w b := by
  funext i
  obtain ⟨r, d, rfl⟩ : ∃ (r : Fin 128) (d : Fin 128), i = ix2 r d := ⟨i 0, i 1, eq_ix2 i⟩
  pointwise [k0_pay1]
  exact piece_at 2 3 u v w b r d (fun k => ⟨256 + k.val, by omega⟩) ⟨384 + d.val, by omega⟩ (fun k => rfl) rfl

theorem piece_3_3 : k0_pay2 (F := Ideal) u v w b = piece 3 3 u v w b := by
  funext i
  obtain ⟨r, d, rfl⟩ : ∃ (r : Fin 128) (d : Fin 128), i = ix2 r d := ⟨i 0, i 1, eq_ix2 i⟩
  pointwise [k0_pay2]
  exact piece_at 3 3 u v w b r d (fun k => ⟨384 + k.val, by omega⟩) ⟨384 + d.val, by omega⟩ (fun k => rfl) rfl

end Cert.Kernel5Ideal.Sg
end
-- ==== Proof.SgRun.lean ====
module

public import proofs.«01_k».proof.Proof.Gen.Kernel5Ideal.Value
public import proofs.«01_k».proof.Proof.SgReads
public import Idealize.ShloMosaic.Lib.Pipeline.ValueKit
public import Idealize.ShloMosaic.Lib.Pipeline.ReadBack
public import Idealize.ShloMosaic.Lib.Pipeline.ValueKit.Point
public import Idealize.ShloMosaic.Lib.Pipeline.ValueKit.Geometry
public import Idealize.ShloMosaic.Lib.Pipeline.ValueKit.Tiles

/-!
# What each grid point of the spatial-gating kernel leaves, and which entries of its operands it reads

A grid point works on 512 rows, four chunks of 128, and stores sixteen pieces: one for each chunk and each group of
128 columns.
-/

@[expose] public section

set_option maxRecDepth 16384

noncomputable section

namespace Cert.Kernel5Ideal.Sg

open Cert.Kernel5Ideal Cert.Kernel5Ideal.Gen
open Idealize.ShloMosaic Idealize.ShloMosaic.TcCoe Idealize.SL.Sem

variable (m : (ℓ : Loc nD τ sig) → Buf (Elt Ideal) ℓ)

/-- The gating half of a point's rows. -/
def gate (c : Dev nD) (t : Fin cfg0.N) : FVec Ideal S512x512 .f32 := k0_pay3 (F := Ideal) (X0_0 m c t)

/-- The mixed half of a point's rows. -/
def normed (c : Dev nD) (t : Fin cfg0.N) : FVec Ideal S512x512 .bf16 :=
  k0_pay7 (F := Ideal) (k0_pay4 (F := Ideal) (X0_1 m c t)) (k0_pay5 (F := Ideal) (X0_1 m c t)) (k0_pay6 (F := Ideal)) (iblk m c 2 t) (iblk m c 3 t)

/-- A group's weights, as loaded. -/
def load4 (c : Dev nD) (t : Fin cfg0.N) (g : Fin 4) : Vec Ideal S1x128x128 .f32 := fun i => iblk m c 4 t (ix3 g (i 1) (i 2))

/-- A group's bias, as loaded. -/
def load5 (c : Dev nD) (t : Fin cfg0.N) (g : Fin 4) : Vec Ideal S128x1 .f32 := fun i => iblk m c 5 t (ix2 (i 0) g)

theorem load4_0 (c : Dev nD) (t : Fin cfg0.N) :
    View.ld (iblk m c 4 t) (Rect.unit (s := S4x128x128) ![0, 0, 0] ![1, 128, 128] inb_S4x128x128_S1x128x128_0_0_0) = load4 m c t 0 :=
  funext fun i => congrArg (iblk m c 4 t) (funext fun a => Fin.ext (by
    match a with
    | ⟨0, _⟩ => show 0 + 1 * (i 0).val = 0; have h := (i 0).isLt; change _ < 1 at h; omega
    | ⟨1, _⟩ => show 0 + 1 * (i 1).val = (i 1).val; omega
    | ⟨2, _⟩ => show 0 + 1 * (i 2).val = (i 2).val; omega))

theorem load5_0 (c : Dev nD) (t : Fin cfg0.N) :
    View.ld (iblk m c 5 t) (Rect.unit (s := S128x4) ![0, 0] ![128, 1] inb_S128x4_S128x1_0_0) = load5 m c t 0 :=
  funext fun i => congrArg (iblk m c 5 t) (funext fun a => Fin.ext (by
    match a with
    | ⟨0, _⟩ => show 0 + 1 * (i 0).val = (i 0).val; omega
    | ⟨1, _⟩ => show 0 + 1 * (i 1).val = 0; have h := (i 1).isLt; change _ < 1 at h; omega))

theorem load4_1 (c : Dev nD) (t : Fin cfg0.N) :
    View.ld (iblk m c 4 t) (Rect.unit (s := S4x128x128) ![1, 0, 0] ![1, 128, 128] inb_S4x128x128_S1x128x128_1_0_0) = load4 m c t 1 :=
  funext fun i => congrArg (iblk m c 4 t) (funext fun a => Fin.ext (by
    match a with
    | ⟨0, _⟩ => show 1 + 1 * (i 0).val = 1; have h := (i 0).isLt; change _ < 1 at h; omega
    | ⟨1, _⟩ => show 0 + 1 * (i 1).val = (i 1).val; omega
    | ⟨2, _⟩ => show 0 + 1 * (i 2).val = (i 2).val; omega))

theorem load5_1 (c : Dev nD) (t : Fin cfg0.N) :
    View.ld (iblk m c 5 t) (Rect.unit (s := S128x4) ![0, 1] ![128, 1] inb_S128x4_S128x1_0_1) = load5 m c t 1 :=
  funext fun i => congrArg (iblk m c 5 t) (funext fun a => Fin.ext (by
    match a with
    | ⟨0, _⟩ => show 0 + 1 * (i 0).val = (i 0).val; omega
    | ⟨1, _⟩ => show 1 + 1 * (i 1).val = 1; have h := (i 1).isLt; change _ < 1 at h; omega))

theorem load4_2 (c : Dev nD) (t : Fin cfg0.N) :
    View.ld (iblk m c 4 t) (Rect.unit (s := S4x128x128) ![2, 0, 0] ![1, 128, 128] inb_S4x128x128_S1x128x128_2_0_0) = load4 m c t 2 :=
  funext fun i => congrArg (iblk m c 4 t) (funext fun a => Fin.ext (by
    match a with
    | ⟨0, _⟩ => show 2 + 1 * (i 0).val = 2; have h := (i 0).isLt; change _ < 1 at h; omega
    | ⟨1, _⟩ => show 0 + 1 * (i 1).val = (i 1).val; omega
    | ⟨2, _⟩ => show 0 + 1 * (i 2).val = (i 2).val; omega))

theorem load5_2 (c : Dev nD) (t : Fin cfg0.N) :
    View.ld (iblk m c 5 t) (Rect.unit (s := S128x4) ![0, 2] ![128, 1] inb_S128x4_S128x1_0_2) = load5 m c t 2 :=
  funext fun i => congrArg (iblk m c 5 t) (funext fun a => Fin.ext (by
    match a with
    | ⟨0, _⟩ => show 0 + 1 * (i 0).val = (i 0).val; omega
    | ⟨1, _⟩ => show 2 + 1 * (i 1).val = 2; have h := (i 1).isLt; change _ < 1 at h; omega))

theorem load4_3 (c : Dev nD) (t : Fin cfg0.N) :
    View.ld (iblk m c 4 t) (Rect.unit (s := S4x128x128) ![3, 0, 0] ![1, 128, 128] inb_S4x128x128_S1x128x128_3_0_0) = load4 m c t 3 :=
  funext fun i => congrArg (iblk m c 4 t) (funext fun a => Fin.ext (by
    match a with
    | ⟨0, _⟩ => show 3 + 1 * (i 0).val = 3; have h := (i 0).isLt; change _ < 1 at h; omega
    | ⟨1, _⟩ => show 0 + 1 * (i 1).val = (i 1).val; omega
    | ⟨2, _⟩ => show 0 + 1 * (i 2).val = (i 2).val; omega))

theorem load5_3 (c : Dev nD) (t : Fin cfg0.N) :
    View.ld (iblk m c 5 t) (Rect.unit (s := S128x4) ![0, 3] ![128, 1] inb_S128x4_S128x1_0_3) = load5 m c t 3 :=
  funext fun i => congrArg (iblk m c 5 t) (funext fun a => Fin.ext (by
    match a with
    | ⟨0, _⟩ => show 0 + 1 * (i 0).val = (i 0).val; omega
    | ⟨1, _⟩ => show 3 + 1 * (i 1).val = 3; have h := (i 1).isLt; change _ < 1 at h; omega))

/-- The piece for chunk `p` and group `g` at a point. -/
def part (c : Dev nD) (t : Fin cfg0.N) (p g : Fin 4) : FVec Ideal S128x128 .bf16 :=
  piece p g (gate m c t) (normed m c t) (weights (load4 m c t g)) (k0_pay21 (F := Ideal) (load5 m c t g))

/-- A point's tile, read at a row and a column. -/
def whole (c : Dev nD) (t : Fin cfg0.N) (y : S512x512.Idx) : EReal :=
  part m c t ⟨(y 0).val / 128, by have h := (y 0).isLt; change _ < 512 at h; omega⟩ ⟨(y 1).val / 128, by have h := (y 1).isLt; change _ < 512 at h; omega⟩
    (ix2 (⟨(y 0).val % 128, Nat.mod_lt _ (by decide)⟩ : Fin 128) (⟨(y 1).val % 128, Nat.mod_lt _ (by decide)⟩ : Fin 128))

theorem tileAt (c : Dev nD) (t : Fin cfg0.N) (p g : Fin 4) (o0 o1 : ℕ) (h0 : o0 = 128 * p.val) (h1 : o1 = 128 * g.val) (f : FVec Ideal S128x128 .bf16)
    (hf : f = part m c t p g) (y : S512x512.Idx) :
    View.TileAt (S := S512x512) (Val := Elt Ideal) (e := EltTy.bf16) y ![o0, o1] ![128, 128] f (whole m c t y) := by
  intro x hx
  have x0 : (y 0).val = o0 + (x 0).val := hx 0
  have x1 : (y 1).val = o1 + (x 1).val := hx 1
  have l0 : (x 0).val < 128 := (x 0).isLt
  have l1 : (x 1).val < 128 := (x 1).isLt
  rw [hf]
  unfold whole
  have ep : (⟨(y 0).val / 128, by have h := (y 0).isLt; change _ < 512 at h; omega⟩ : Fin 4) = p := Fin.ext (by show (y 0).val / 128 = p.val; omega)
  have eg : (⟨(y 1).val / 128, by have h := (y 1).isLt; change _ < 512 at h; omega⟩ : Fin 4) = g := Fin.ext (by show (y 1).val / 128 = g.val; omega)
  rw [ep, eg]
  refine congrArg (part m c t p g) (funext fun a => Fin.ext ?_)
  match a with
  | ⟨0, _⟩ => show (x 0).val = (y 0).val % 128; omega
  | ⟨1, _⟩ => show (x 1).val = (y 1).val % 128; omega

theorem tile (c : Dev nD) (t : Fin cfg0.N) (y : S512x512.Idx) : outsAt0 m c t y = whole m c t y := by
  unfold outsAt0 out0_A_6
  frame_out
  simp only [load4_0, load4_1, load4_2, load4_3, load5_0, load5_1, load5_2, load5_3]
  refine View.canon_eq_of_allAt (Val := Elt Ideal) (S := S512x512) (e := EltTy.bf16) _ y (whole m c t y) ?_ ?_
  · exact View.cover_of_tiled_head _ _ _ (by rfl) y
  refine View.allAt_cons_unit _ _ _ _ _ (tileAt m c t 3 3 384 384 rfl rfl _ (piece_3_3 _ _ _ _) y) ?_
  refine View.allAt_cons_unit _ _ _ _ _ (tileAt m c t 2 3 256 384 rfl rfl _ (piece_2_3 _ _ _ _) y) ?_
  refine View.allAt_cons_unit _ _ _ _ _ (tileAt m c t 1 3 128 384 rfl rfl _ (piece_1_3 _ _ _ _) y) ?_
  refine View.allAt_cons_unit _ _ _ _ _ (tileAt m c t 0 3 0 384 rfl rfl _ (piece_0_3 _ _ _ _) y) ?_
  refine View.allAt_cons_unit _ _ _ _ _ (tileAt m c t 3 2 384 256 rfl rfl _ (piece_3_2 _ _ _ _) y) ?_
  refine View.allAt_cons_unit _ _ _ _ _ (tileAt m c t 2 2 256 256 rfl rfl _ (piece_2_2 _ _ _ _) y) ?_
  refine View.allAt_cons_unit _ _ _ _ _ (tileAt m c t 1 2 128 256 rfl rfl _ (piece_1_2 _ _ _ _) y) ?_
  refine View.allAt_cons_unit _ _ _ _ _ (tileAt m c t 0 2 0 256 rfl rfl _ (piece_0_2 _ _ _ _) y) ?_
  refine View.allAt_cons_unit _ _ _ _ _ (tileAt m c t 3 1 384 128 rfl rfl _ (piece_3_1 _ _ _ _) y) ?_
  refine View.allAt_cons_unit _ _ _ _ _ (tileAt m c t 2 1 256 128 rfl rfl _ (piece_2_1 _ _ _ _) y) ?_
  refine View.allAt_cons_unit _ _ _ _ _ (tileAt m c t 1 1 128 128 rfl rfl _ (piece_1_1 _ _ _ _) y) ?_
  refine View.allAt_cons_unit _ _ _ _ _ (tileAt m c t 0 1 0 128 rfl rfl _ (piece_0_1 _ _ _ _) y) ?_
  refine View.allAt_cons_unit _ _ _ _ _ (tileAt m c t 3 0 384 0 rfl rfl _ (piece_3_0 _ _ _ _) y) ?_
  refine View.allAt_cons_unit _ _ _ _ _ (tileAt m c t 2 0 256 0 rfl rfl _ (piece_2_0 _ _ _ _) y) ?_
  refine View.allAt_cons_unit _ _ _ _ _ (tileAt m c t 1 0 128 0 rfl rfl _ (piece_1_0 _ _ _ _) y) ?_
  refine View.allAt_cons_unit _ _ _ _ _ (tileAt m c t 0 0 0 0 rfl rfl _ (piece_0_0 _ _ _ _) y) ?_
  exact View.allAt_nil (Val := Elt Ideal) (S := S512x512) (e := EltTy.bf16) y (whole m c t y)

/-! ## The blocks -/

theorem point_lt (t : Fin cfg0.N) : t.val < 64 := lt_of_lt_of_eq t.isLt N_0

theorem at0 : ∀ t : Fin cfg0.N, win0_0.index t (0 : Fin 2) = t.val ∧ win0_0.index t (1 : Fin 2) = 18 :=
  (by decide +kernel : ∀ t : Fin grid0.N, _)
theorem at1 : ∀ t : Fin cfg0.N, win0_1.index t (0 : Fin 2) = t.val ∧ win0_1.index t (1 : Fin 2) = 19 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 3) = 0 ∧ win0_4.index t (1 : Fin 3) = 0 ∧ win0_4.index t (2 : Fin 3) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = t.val ∧ win0_6.index t (1 : Fin 2) = 0 :=
  (by decide +kernel : ∀ t : Fin grid0.N, _)

/-- Row `r` of the tile of point `n`. -/
def row (n : ℕ) (r : Fin 512) : Fin 32768 := ⟨(n * 512 + r.val) % 32768, Nat.mod_lt _ (by decide)⟩

theorem blk0 (c : Dev nD) (t : Fin cfg0.N) (r d : Fin 512) :
    X0_0 m c t (ix2 r d) = m ((c : Thread nD τ).loc main_arg0) (ix2 (row t.val r) ⟨9216 + d.val, by omega⟩) := by
  have ht := point_lt t
  obtain ⟨e0, e1⟩ := at0 t
  unfold X0_0 Pipeline.Window.fill
  rw [dif_pos (moved0_0 t _)]
  refine Eq.trans (congrArg (V m c main_arg0) (funext fun a => Fin.ext ?_)) (congrFun (V_main_arg0 m c) _)
  match a with
  | ⟨0, _⟩ => show win0_0.index t (0 : Fin 2) * 512 + 1 * r.val = (t.val * 512 + r.val) % 32768; omega
  | ⟨1, _⟩ => show win0_0.index t (1 : Fin 2) * 512 + 1 * d.val = 9216 + d.val; omega

theorem blk1 (c : Dev nD) (t : Fin cfg0.N) (r d : Fin 512) :
    X0_1 m c t (ix2 r d) = m ((c : Thread nD τ).loc main_arg0) (ix2 (row t.val r) ⟨9728 + d.val, by omega⟩) := by
  have ht := point_lt t
  obtain ⟨e0, e1⟩ := at1 t
  unfold X0_1 Pipeline.Window.fill
  rw [dif_pos (moved0_1 t _)]
  refine Eq.trans (congrArg (V m c main_arg0) (funext fun a => Fin.ext ?_)) (congrFun (V_main_arg0 m c) _)
  match a with
  | ⟨0, _⟩ => show win0_1.index t (0 : Fin 2) * 512 + 1 * r.val = (t.val * 512 + r.val) % 32768; omega
  | ⟨1, _⟩ => show win0_1.index t (1 : Fin 2) * 512 + 1 * d.val = 9728 + d.val; omega

theorem blk2 (c : Dev nD) (t : Fin cfg0.N) (d : Fin 512) :
    iblk m c 2 t (ix2 0 d) = m ((c : Thread nD τ).loc main_arg1) (ix1 d) := by
  blk_ext! [iblk, V, at2 t]

theorem blk3 (c : Dev nD) (t : Fin cfg0.N) (d : Fin 512) :
    iblk m c 3 t (ix2 0 d) = m ((c : Thread nD τ).loc main_arg2) (ix1 d) := by
  blk_ext! [iblk, V, at3 t]

theorem blk4 (c : Dev nD) (t : Fin cfg0.N) (g : Fin 4) (r k : Fin 128) :
    iblk m c 4 t (ix3 g r k) = m ((c : Thread nD τ).loc main_arg3) (ix3 g r k) := by
  obtain ⟨e0, e1, e2⟩ := at4 t
  refine Eq.trans (congrArg (V m c main_arg3) (funext fun a => Fin.ext ?_)) (congrFun (V_main_arg3 m c) _)
  match a with
  | ⟨0, _⟩ => show win0_4.index t (0 : Fin 3) * 4 + 1 * g.val = g.val; omega
  | ⟨1, _⟩ => show win0_4.index t (1 : Fin 3) * 128 + 1 * r.val = r.val; omega
  | ⟨2, _⟩ => show win0_4.index t (2 : Fin 3) * 128 + 1 * k.val = k.val; omega

theorem blk5 (c : Dev nD) (t : Fin cfg0.N) (r : Fin 128) (g : Fin 4) :
    iblk m c 5 t (ix2 r g) = m ((c : Thread nD τ).loc main_arg4) (ix2 g r) := by
  blk_ext! [iblk, V, at5 t]

end Cert.Kernel5Ideal.Sg
end
-- ==== Proof.SgEqual.lean ====
module

public import proofs.«01_k».proof.Proof.SgRun

/-!
# What the spatial-gating kernel computes

Each tile's rows are the gating of the same rows, the four chunks of a tile being chunks of the sequence.
-/

@[expose] public section

set_option maxRecDepth 16384

noncomputable section

namespace Cert.Kernel5Ideal.Sg

open Cert.Kernel5Ideal Cert.Kernel5Ideal.Gen
open Idealize.ShloMosaic Idealize.ShloMosaic.TcCoe

variable (m : (ℓ : Loc nD τ sig) → Buf (Elt Ideal) ℓ)

/-- The arguments, by row and column. -/
def argZ (c : Dev nD) (R : Fin 32768) (k : Fin 12544) : EReal := m ((c : Thread nD τ).loc main_arg0) (ix2 R k)
def argGain (c : Dev nD) (e : Fin 512) : EReal := m ((c : Thread nD τ).loc main_arg1) (ix1 e)
def argBias (c : Dev nD) (e : Fin 512) : EReal := m ((c : Thread nD τ).loc main_arg2) (ix1 e)
def argWeight (c : Dev nD) (g : Fin 4) (r k : Fin 128) : EReal := m ((c : Thread nD τ).loc main_arg3) (ix3 g r k)
def argShift (c : Dev nD) (g : Fin 4) (r : Fin 128) : EReal := m ((c : Thread nD τ).loc main_arg4) (ix2 g r)

theorem gate_row (c : Dev nD) (t : Fin cfg0.N) (r d : Fin 512) :
    gate m c t (ix2 r d) = Cert.Sg.gelu (argZ m c (row t.val r) ⟨9216 + d.val, by omega⟩) :=
  (gate_at _ r d).trans (congrArg Cert.Sg.gelu (blk0 m c t r d))

theorem normed_row (c : Dev nD) (t : Fin cfg0.N) (r d : Fin 512) :
    normed m c t (ix2 r d) = Cert.Sg.mixed (fun e => argZ m c (row t.val r) ⟨9728 + e.val, by omega⟩) (argGain m c) (argBias m c) d := by
  refine (mixed_at _ _ _ r d).trans ?_
  rw [show (fun e => X0_1 m c t (ix2 r e)) = fun e : Fin 512 => argZ m c (row t.val r) ⟨9728 + e.val, by omega⟩ from funext fun e => blk1 m c t r e,
    show (fun e => iblk m c 2 t (ix2 0 e)) = argGain m c from funext fun e => blk2 m c t e,
    show (fun e => iblk m c 3 t (ix2 0 e)) = argBias m c from funext fun e => blk3 m c t e]

theorem weights_row (c : Dev nD) (t : Fin cfg0.N) (g : Fin 4) (r k : Fin 128) :
    weights (load4 m c t g) (ix2 r k) = Cert.Sg.masked (argWeight m c g) r k := by
  refine (weights_at _ r k).trans ?_
  rw [show (fun r k => load4 m c t g (ix3 0 r k)) = argWeight m c g from funext fun r => funext fun k => blk4 m c t g r k]

theorem shift_row (c : Dev nD) (t : Fin cfg0.N) (g : Fin 4) (r : Fin 128) :
    k0_pay21 (F := Ideal) (load5 m c t g) (ix2 r 0) = argShift m c g r :=
  (bias_at _ r).trans (blk5 m c t r g)

theorem tile_at (c : Dev nD) (t : Fin cfg0.N) (r d : Fin 512) :
    outsAt0 m c t (ix2 r d) = Cert.Sg.out (argZ m c) (argGain m c) (argBias m c) (argWeight m c) (argShift m c) (row t.val r) d := by
  have ht := point_lt t
  rw [tile]
  have hR : (row t.val r).val = t.val * 512 + r.val := by show (t.val * 512 + r.val) % 32768 = _; omega
  have e0 : (⟨128 * (r.val / 128) + r.val % 128, by omega⟩ : Fin 512) = r := Fin.ext (by show 128 * (r.val / 128) + r.val % 128 = r.val; omega)
  have e1 : (⟨128 * (d.val / 128) + d.val % 128, by omega⟩ : Fin 512) = d := Fin.ext (by show 128 * (d.val / 128) + d.val % 128 = d.val; omega)
  have er : (⟨r.val % 128, Nat.mod_lt _ (by decide)⟩ : Fin 128) = ⟨(row t.val r).val % 128, Nat.mod_lt _ (by decide)⟩ := Fin.ext (by show r.val % 128 = (row t.val r).val % 128; omega)
  have ek : ∀ k : Fin 128, row t.val ⟨128 * (r.val / 128) + k.val, by omega⟩ = ⟨(row t.val r).val / 128 * 128 + k.val, by omega⟩ :=
    fun k => Fin.ext (by show (t.val * 512 + (128 * (r.val / 128) + k.val)) % 32768 = (row t.val r).val / 128 * 128 + k.val; omega)
  have s1 : whole m c t (ix2 r d)
      = gate m c t (ix2 ⟨128 * (r.val / 128) + r.val % 128, by omega⟩ ⟨128 * (d.val / 128) + d.val % 128, by omega⟩)
        * ((∑ k : Fin 128, weights (load4 m c t ⟨d.val / 128, by omega⟩) (ix2 ⟨r.val % 128, Nat.mod_lt _ (by decide)⟩ k)
              * normed m c t (ix2 ⟨128 * (r.val / 128) + k.val, by omega⟩ ⟨128 * (d.val / 128) + d.val % 128, by omega⟩))
            + k0_pay21 (F := Ideal) (load5 m c t ⟨d.val / 128, by omega⟩) (ix2 ⟨r.val % 128, Nat.mod_lt _ (by decide)⟩ 0)) := rfl
  rw [s1, e0, e1, er]
  simp only [gate_row, normed_row, weights_row, shift_row, ek]
  rfl

theorem flushes : ∀ t : Fin cfg0.N, (cfg0.win 6).flush t = true := (by decide +kernel : ∀ t : Fin grid0.N, win0_6.flush t = true)

/-- The kernel's result, read at a row and a column. -/
theorem result_at (c : Dev nD) (R : Fin 32768) (d : Fin 512) :
    (dats m 0 c).arrAt 6 cfg0.N (ix2 R d) = Cert.Sg.out (argZ m c) (argGain m c) (argBias m c) (argWeight m c) (argShift m c) R d := by
  have hN : R.val / 512 < cfg0.N := lt_of_lt_of_eq (by omega) N_0.symm
  have e0 : win0_6.index ⟨R.val / 512, hN⟩ (0 : Fin 2) = R.val / 512 := (at6 ⟨R.val / 512, hN⟩).1
  have e1 : win0_6.index ⟨R.val / 512, hN⟩ (1 : Fin 2) = 0 := (at6 ⟨R.val / 512, hN⟩).2
  have hb := congrFun (Value.blocks6 m c ⟨R.val / 512, hN⟩ (flushes _)) (ix2 (⟨R.val % 512, Nat.mod_lt _ (by decide)⟩ : Fin 512) d)
  rw [Value.flushed6] at hb
  refine Eq.trans (congrArg ((dats m 0 c).arrAt 6 cfg0.N) (funext fun a => Fin.ext ?_)) (hb.trans ?_)
  · match a with
    | ⟨0, _⟩ => show R.val = win0_6.index ⟨R.val / 512, hN⟩ (0 : Fin 2) * 512 + 1 * (R.val % 512); omega
    | ⟨1, _⟩ => show d.val = win0_6.index ⟨R.val / 512, hN⟩ (1 : Fin 2) * 512 + 1 * d.val; omega
  · refine (tile_at m c ⟨R.val / 512, hN⟩ (⟨R.val % 512, Nat.mod_lt _ (by decide)⟩ : Fin 512) d).trans ?_
    refine congrArg (fun R => Cert.Sg.out _ _ _ _ _ R d) (Fin.ext ?_)
    show (R.val / 512 * 512 + R.val % 512) % 32768 = R.val
    omega

end Cert.Kernel5Ideal.Sg
end
-- ==== Proof.SgRef.lean ====
module

public import proofs.«01_k».proof.Proof.SgRows
public import proofs.«01_k».proof.Proof.Gen.Reference5Ideal.Read

/-!
# The spatial-gating reference, read at an index
-/

@[expose] public section

set_option maxRecDepth 16384

noncomputable section

namespace Cert.Reference5Ideal.Sg

open Cert.Reference5Ideal Cert.Reference5Ideal.Gen Cert.Reference5Ideal.Read
open Idealize.ShloMosaic Idealize.ShloMosaic.TcCoe

/-- Row `s` of batch `b` among the flattened rows. -/
def row (b : Fin 2) (s : Fin 16384) : Fin 32768 := ⟨b.val * 16384 + s.val, by omega⟩

theorem z_at (x0 : FVec Ideal S32768x12544 .bf16) (b : Fin 2) (s : Fin 16384) (k : Fin 1024) :
    val_main_v2 (F := Ideal) x0 (ix3 b s k) = x0 (ix2 (row b s) ⟨9216 + k.val, by omega⟩) := by
  rw [val_main_v2_apply]
  refine congrArg x0 (funext fun a => Fin.ext ?_)
  match a with
  | ⟨0, _⟩ => show 0 + ((b.val * 16384 + s.val) * 1024 + k.val) / 1024 = b.val * 16384 + s.val; omega
  | ⟨1, _⟩ => show 9216 + ((b.val * 16384 + s.val) * 1024 + k.val) % 1024 = 9216 + k.val; omega

theorem act_at (x0 : FVec Ideal S32768x12544 .bf16) (b : Fin 2) (s : Fin 16384) (k : Fin 1024) :
    val_main_v15 (F := Ideal) x0 (ix3 b s k) = Cert.Sg.gelu (x0 (ix2 (row b s) ⟨9216 + k.val, by omega⟩)) := by
  rw [← z_at x0 b s k]
  unfold val_main_v15 val_main_v14 val_main_v13 val_main_cst_2 val_main_v12 val_main_v11 val_main_cst_1 val_main_v10 val_main_v9 val_main_v8 val_main_cst_0 val_main_v7 val_main_v6 val_main_v5 val_main_cst val_main_v4 val_main_v3
  generalize val_main_v2 (F := Ideal) x0 = y
  pointwise
  rfl

theorem gate_at (x0 : FVec Ideal S32768x12544 .bf16) (b : Fin 2) (s : Fin 16384) (d : Fin 512) :
    val_main_v16 (F := Ideal) x0 (ix3 b s d) = Cert.Sg.gelu (x0 (ix2 (row b s) ⟨9216 + d.val, by omega⟩)) := by
  refine Eq.trans ?_ (act_at x0 b s ⟨d.val, by omega⟩)
  unfold val_main_v16
  generalize val_main_v15 (F := Ideal) x0 = y
  pointwise

theorem other_at (x0 : FVec Ideal S32768x12544 .bf16) (b : Fin 2) (s : Fin 16384) (d : Fin 512) :
    val_main_v17 (F := Ideal) x0 (ix3 b s d) = Cert.Sg.gelu (x0 (ix2 (row b s) ⟨9728 + d.val, by omega⟩)) := by
  refine Eq.trans (Eq.trans ?_ (act_at x0 b s ⟨512 + d.val, by omega⟩)) (congrArg (fun k => Cert.Sg.gelu (x0 (ix2 (row b s) k))) (Fin.ext (by show 9216 + (512 + d.val) = 9728 + d.val; omega)))
  unfold val_main_v17
  generalize val_main_v15 (F := Ideal) x0 = y
  pointwise

theorem mixed_at (x0 : FVec Ideal S32768x12544 .bf16) (x1 x2 : FVec Ideal S512 .f32) (b : Fin 2) (s : Fin 16384) (d : Fin 512) :
    val_main_v41 (F := Ideal) x0 x1 x2 (ix3 b s d)
      = Cert.Sg.mixed (fun e => x0 (ix2 (row b s) ⟨9728 + e.val, by omega⟩)) (fun e => x1 (ix1 e)) (fun e => x2 (ix1 e)) d := by
  have e1 : val_main_v41 (F := Ideal) x0 x1 x2 (ix3 b s d)
      = Cert.Sg.norm (fun e => val_main_v17 (F := Ideal) x0 (ix3 b s e)) d * x1 (ix1 d) + x2 (ix1 d) := by
    unfold val_main_v41 val_main_v40 val_main_v39 val_main_v38 val_main_v37 val_main_v36 val_main_v35 val_main_v34 val_main_v33 val_main_v32 val_main_v31 val_main_v30 val_main_cst_7 val_main_v29 val_main_v28 val_main_v27 val_main_cst_6 val_main_v26 val_main_v25 val_main_cst_5 val_main_v24 val_main_v23 val_main_v22 val_main_v21 val_main_v20 val_main_cst_4 val_main_v19 val_main_v18 val_main_cst_3
    generalize val_main_v17 (F := Ideal) x0 = y
    pointwise
    rfl
  rw [e1]
  simp only [other_at]
  rfl

theorem half_at (r : Fin 128) : val_main_v44 (F := Ideal) (ix1 r) = BitVec.ofNat 32 (r.val / 64) := by
  unfold val_main_v44 val_main_call0_v13 val_main_call0_v12 val_main_call0_c_0 val_main_call0_v11 val_main_call0_v10 val_main_call0_v9 val_main_call0_c val_main_call0_v8 val_main_call0_v7 val_main_call0_v6 val_main_call0_v5 val_main_call0_v4 val_main_call0_v3 val_main_call0_v2 val_main_call0_v1 val_main_call0_v0 val_main_c val_main_v43
  pointwise
  revert r
  decide +kernel

theorem keep_at (r k : Fin 128) : val_main_v49 (F := Ideal) (ix2 r k) = if k.val / 64 ≤ r.val / 64 then 1#1 else 0#1 := by
  have all : ∀ a b : Fin 2, IntOp.cmpi .sge (BitVec.ofNat 32 a.val) (BitVec.ofNat 32 b.val) = if b.val ≤ a.val then 1#1 else 0#1 := by decide
  refine Eq.trans ?_ (all ⟨r.val / 64, by omega⟩ ⟨k.val / 64, by omega⟩)
  rw [show BitVec.ofNat 32 (⟨r.val / 64, by omega⟩ : Fin 2).val = _ from (half_at r).symm, show BitVec.ofNat 32 (⟨k.val / 64, by omega⟩ : Fin 2).val = _ from (half_at k).symm]
  unfold val_main_v49 val_main_v48 val_main_v47 val_main_v46 val_main_v45
  generalize val_main_v44 (F := Ideal) = y
  pointwise

theorem weights_at (x3 : FVec Ideal S4x128x128 .f32) (g : Fin 4) (r k : Fin 128) :
    val_main_v51 (F := Ideal) x3 (ix3 g r k) = Cert.Sg.masked (fun r k => x3 (ix3 g r k)) r k := by
  have e1 : val_main_v51 (F := Ideal) x3 (ix3 g r k) = Scalar.select (val_main_v49 (F := Ideal) (ix2 r k)) (x3 (ix3 g r k)) (FloatOps.sitofp (F := Ideal) .f32 0#32) := by
    unfold val_main_v51 val_main_call1_v2 val_main_call1_v1 val_main_call1_v0 val_main_c_8 val_main_v50
    generalize val_main_v49 (F := Ideal) = y
    pointwise
    try rfl
  have e2 : FloatOps.sitofp (F := Ideal) .f32 0#32 = (0 : EReal) := by
    simp [FloatOps.sitofp]
  rw [e1, keep_at, e2]
  unfold Cert.Sg.masked
  split <;> rfl

theorem chunk_at (x0 : FVec Ideal S32768x12544 .bf16) (x1 x2 : FVec Ideal S512 .f32) (b : Fin 2) (n k : Fin 128) (g : Fin 4) (e : Fin 128) :
    val_main_v42 (F := Ideal) x0 x1 x2 (ix5 b n k g e)
      = val_main_v41 (F := Ideal) x0 x1 x2 (ix3 b ⟨n.val * 128 + k.val, by omega⟩ ⟨g.val * 128 + e.val, by omega⟩) := by
  rw [val_main_v42_apply]
  refine congrArg (val_main_v41 (F := Ideal) x0 x1 x2) (funext fun a => Fin.ext ?_)
  match a with
  | ⟨0, _⟩ => show ((((b.val * 128 + n.val) * 128 + k.val) * 4 + g.val) * 128 + e.val) / 8388608 = b.val; omega
  | ⟨1, _⟩ => show ((((b.val * 128 + n.val) * 128 + k.val) * 4 + g.val) * 128 + e.val) / 512 % 16384 = n.val * 128 + k.val; omega
  | ⟨2, _⟩ => show ((((b.val * 128 + n.val) * 128 + k.val) * 4 + g.val) * 128 + e.val) % 512 = g.val * 128 + e.val; omega

theorem sum_at (x0 : FVec Ideal S32768x12544 .bf16) (x1 x2 : FVec Ideal S512 .f32) (x3 : FVec Ideal S4x128x128 .f32) (x4 : FVec Ideal S4x128 .f32) (b : Fin 2) (n r : Fin 128) (g : Fin 4) (e : Fin 128) :
    val_main_v58 (F := Ideal) x0 x1 x2 x3 x4 (ix5 b n r g e)
      = (∑ k : Fin 128, val_main_v42 (F := Ideal) x0 x1 x2 (ix5 b n k g e) * val_main_v51 (F := Ideal) x3 (ix3 g r k)) + x4 (ix2 g r) := by
  rw [val_main_v58_apply, val_main_v53_apply, val_main_v52_apply, val_main_v57_apply, val_main_v56_apply, val_main_v55_apply, val_main_v54_apply]
  refine congrArg₂ (· + ·) (Finset.sum_congr rfl fun k _ => congrArg₂ (· * ·) (congrArg _ ?_) (congrArg _ ?_)) (congrArg x4 ?_)
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
  · funext a
    match a with
    | ⟨0, _⟩ => rfl
    | ⟨1, _⟩ => rfl

theorem gated_at (x0 : FVec Ideal S32768x12544 .bf16) (x1 x2 : FVec Ideal S512 .f32) (x3 : FVec Ideal S4x128x128 .f32) (x4 : FVec Ideal S4x128 .f32) (b : Fin 2) (s : Fin 16384) (d : Fin 512) :
    val_main_v60 (F := Ideal) x0 x1 x2 x3 x4 (ix3 b s d)
      = Cert.Sg.out (fun R k => x0 (ix2 R k)) (fun e => x1 (ix1 e)) (fun e => x2 (ix1 e)) (fun g r k => x3 (ix3 g r k)) (fun g r => x4 (ix2 g r)) (row b s) d := by
  rw [val_main_v60_apply, gate_at, val_main_v59_apply,
    show idx_main_v59 (ix3 b s d) = ix5 b ⟨s.val / 128, by omega⟩ ⟨s.val % 128, by omega⟩ ⟨d.val / 128, by omega⟩ ⟨d.val % 128, by omega⟩ from funext fun a => Fin.ext (by
      match a with
      | ⟨0, _⟩ => show ((b.val * 16384 + s.val) * 512 + d.val) / 8388608 = b.val; omega
      | ⟨1, _⟩ => show ((b.val * 16384 + s.val) * 512 + d.val) / 65536 % 128 = s.val / 128; omega
      | ⟨2, _⟩ => show ((b.val * 16384 + s.val) * 512 + d.val) / 512 % 128 = s.val % 128; omega
      | ⟨3, _⟩ => show ((b.val * 16384 + s.val) * 512 + d.val) / 128 % 4 = d.val / 128; omega
      | ⟨4, _⟩ => show ((b.val * 16384 + s.val) * 512 + d.val) % 128 = d.val % 128; omega), sum_at]
  simp only [chunk_at, mixed_at, weights_at]
  have er : (⟨s.val % 128, by omega⟩ : Fin 128) = ⟨(row b s).val % 128, by omega⟩ := Fin.ext (by show s.val % 128 = (b.val * 16384 + s.val) % 128; omega)
  have ed : (⟨d.val / 128 * 128 + d.val % 128, by omega⟩ : Fin 512) = d := Fin.ext (by show d.val / 128 * 128 + d.val % 128 = d.val; omega)
  have ek : ∀ k : Fin 128, row b ⟨s.val / 128 * 128 + k.val, by omega⟩ = ⟨(row b s).val / 128 * 128 + k.val, by have := (row b s).isLt; omega⟩ :=
    fun k => Fin.ext (by show b.val * 16384 + (s.val / 128 * 128 + k.val) = (b.val * 16384 + s.val) / 128 * 128 + k.val; omega)
  unfold Cert.Sg.out
  refine congrArg₂ (· * ·) rfl (congrArg₂ (· + ·) (Finset.sum_congr rfl fun k _ => ?_) ?_)
  · rw [mul_comm, ed, ek, er]
  · rw [er]

/-- The reference, read at a row and a column. -/
theorem result_at (x0 : FVec Ideal S32768x12544 .bf16) (x1 x2 : FVec Ideal S512 .f32) (x3 : FVec Ideal S4x128x128 .f32) (x4 : FVec Ideal S4x128 .f32) (R : Fin 32768) (d : Fin 512) :
    val_main_v62 (F := Ideal) x0 x1 x2 x3 x4 (ix2 R d)
      = Cert.Sg.out (fun R k => x0 (ix2 R k)) (fun e => x1 (ix1 e)) (fun e => x2 (ix1 e)) (fun g r k => x3 (ix3 g r k)) (fun g r => x4 (ix2 g r)) R d := by
  have hR : row ⟨R.val / 16384, by omega⟩ ⟨R.val % 16384, Nat.mod_lt _ (by decide)⟩ = R := Fin.ext (by show R.val / 16384 * 16384 + R.val % 16384 = R.val; omega)
  refine Eq.trans (val_main_v61_apply (F := Ideal) x0 x1 x2 x3 x4 (ix2 R d)) ?_
  rw [show idx_main_v61 (ix2 R d) = ix3 (⟨R.val / 16384, by omega⟩ : Fin 2) ⟨R.val % 16384, Nat.mod_lt _ (by decide)⟩ d from funext fun a => Fin.ext (by
    match a with
    | ⟨0, _⟩ => show (R.val * 512 + d.val) / 8388608 = R.val / 16384; omega
    | ⟨1, _⟩ => show (R.val * 512 + d.val) / 512 % 16384 = R.val % 16384; omega
    | ⟨2, _⟩ => show (R.val * 512 + d.val) % 512 = d.val; omega), gated_at, hR]

end Cert.Reference5Ideal.Sg
end
-- ==== Proof.SgClaim.lean ====
module

public import proofs.«01_k».proof.Defs
public import proofs.«01_k».proof.Proof.SgEqual
public import proofs.«01_k».proof.Proof.SgRef
public import Idealize.ShloMosaic.Lib.Quiescent
public import Idealize.ShloMosaic.Adequacy

/-!
# The spatial-gating kernel equals its reference
-/

@[expose] public section

set_option maxRecDepth 16384

noncomputable section

namespace Cert.Proof

open Idealize.ShloMosaic Idealize.ShloMosaic.TcCoe Idealize.SL.Sem

theorem reference5_frame : quiescent_Reference5Ideal (hReference5Ideal := Cert.Reference5Ideal.Gen.facts) := by
  intro m ρ _
  exact θ_run_mono (Cert.Reference5Ideal.Value.run m ρ) fun r h => ⟨fun c => (h c).2, sem_eq_zero_of_no_sems (by decide) r.2⟩

/-- What the spatial-gating kernel leaves in its result. -/
def res5 (m : (ℓ : Loc Cert.Kernel5Ideal.nD Cert.Kernel5Ideal.τ Cert.Kernel5Ideal.sig) → Buf (Elt Ideal) ℓ) (c : Dev Cert.Kernel5Ideal.nD) :
    Buf (Elt Ideal) ((c.tc : Thread Cert.Kernel5Ideal.nD Cert.Kernel5Ideal.τ).loc Cert.Kernel5Ideal.main_v3) :=
  (Cert.Kernel5Ideal.Gen.dats m 0 c).arrAt 6 Cert.Kernel5Ideal.cfg0.N

theorem equal5 : algebraic_Kernel5Ideal_Reference5Ideal (hKernel5Ideal := Cert.Kernel5Ideal.Gen.facts) (hReference5Ideal := Cert.Reference5Ideal.Gen.facts) := by
  intro m g m' g' _ hargs
  refine ⟨res5 m, Cert.Kernel5Ideal.Value.run_blocks m g, ?_⟩
  refine θ_run_mono (Cert.Reference5Ideal.Value.run m' g') fun r h c => ?_
  obtain ⟨h0, ha⟩ := h c
  refine ⟨h0.trans ?_, ha⟩
  obtain ⟨e0, e1, e2, e3, e4⟩ := hargs c
  rw [Cert.Reference5Ideal.Read.val_main_v62_eq, e0, e1, e2, e3, e4]
  refine funext fun i => ?_
  have hi : i = ix2 (i 0) (i 1) := funext fun a => by
    match a with
    | ⟨0, _⟩ => rfl
    | ⟨1, _⟩ => rfl
  rw [hi]
  exact (Cert.Reference5Ideal.Sg.result_at _ _ _ _ _ (i 0) (i 1)).trans (Cert.Kernel5Ideal.Sg.result_at m c (i 0) (i 1)).symm

end Cert.Proof
end
-- ==== Proof.AdaRows.lean ====
module

public import Idealize.ShloMosaic.Lib.Pointwise

/-!
# The arithmetic of the conditioning vector

One entry of `silu(c) @ w[l] + b[l]`, as a function of extended reals.
-/

@[expose] public section

noncomputable section

namespace Cert.Ada

open Idealize.ShloMosaic

/-- The gated activation `x · σ(x)`. -/
def silu (x : EReal) : EReal := x * Ideal.logistic x

/-- The conditioning of layer `l` for batch `r`, at column `n`. -/
def out (c : Fin 2 → Fin 2048 → EReal) (w : Fin 2 → Fin 2048 → Fin 12288 → EReal) (b : Fin 2 → Fin 12288 → EReal)
    (l r : Fin 2) (n : Fin 12288) : EReal :=
  (∑ d : Fin 2048, silu (c r d) * w l d n) + b l n

end Cert.Ada
end
-- ==== Proof.AdaReads.lean ====
module

public import proofs.«01_k».proof.Proof.Gen.Kernel6Ideal.Value
public import proofs.«01_k».proof.Proof.AdaRows
public import Idealize.ShloMosaic.Lib.Pipeline.ValueKit
public import Idealize.ShloMosaic.Lib.Pipeline.ReadBack
public import Idealize.ShloMosaic.Lib.Pipeline.ValueKit.Point
public import Idealize.ShloMosaic.Lib.Pipeline.ValueKit.Geometry
public import Idealize.ShloMosaic.Lib.Pipeline.ValueKit.Tiles
public import Idealize.ShloMosaic.Lib.Routing.OpsPair
public import Idealize.ShloMosaic.Lib.Routing.OpsSet

/-!
# What each grid point of the conditioning kernel stores, and which entries of its operands it reads

A grid point works on one layer and on 2048 of its columns, and stores a row for each of the two batches. The
activations reach it as the first two columns of an array of 128 that is zero elsewhere.
-/

@[expose] public section

set_option maxRecDepth 16384

noncomputable section

namespace Cert.Kernel6Ideal.Ada

open Cert.Kernel6Ideal Cert.Kernel6Ideal.Gen
open Idealize.ShloMosaic Idealize.ShloMosaic.TcCoe Idealize.SL.Sem Idealize.ShloMosaic.Routing

/-! ## The two stored rows -/

theorem row0 (x : Vec Ideal S2048x128 .f32) (w : Vec Ideal S1x2048x2048 .f32) (b : Vec Ideal S1x1x2048 .f32) (n : Fin 2048) :
    k0_pay3 (F := Ideal) x w b (ix3 0 0 n) = (∑ d : Fin 2048, Cert.Ada.silu (x (ix2 d 0)) * w (ix3 0 d n)) + b (ix3 0 0 n) := by
  pointwise [k0_pay3, k0_pay1, k0_pay2]
  rfl

theorem row1 (x : Vec Ideal S2048x128 .f32) (w : Vec Ideal S1x2048x2048 .f32) (b : Vec Ideal S1x1x2048 .f32) (n : Fin 2048) :
    k0_pay4 (F := Ideal) x w b (ix3 0 0 n) = (∑ d : Fin 2048, Cert.Ada.silu (x (ix2 d 1)) * w (ix3 0 d n)) + b (ix3 0 0 n) := by
  pointwise [k0_pay4, k0_pay1, k0_pay2]
  rfl

/-! ## The tile -/

/-- A point's tile, read at a row and a column, from what the point loads. -/
def whole (x : Vec Ideal S2048x128 .f32) (w : Vec Ideal S1x2048x2048 .f32) (b : Vec Ideal S1x1x2048 .f32) (y : S1x2x2048.Idx) : EReal :=
  (∑ d : Fin 2048, Cert.Ada.silu (x (ix2 d ⟨(y 1).val, by have h := (y 1).isLt; change _ < 2 at h; omega⟩)) * w (ix3 0 d ⟨(y 2).val, (y 2).isLt⟩))
    + b (ix3 0 0 ⟨(y 2).val, (y 2).isLt⟩)

theorem whole0 (x : Vec Ideal S2048x128 .f32) (w : Vec Ideal S1x2048x2048 .f32) (b : Vec Ideal S1x1x2048 .f32) (z : S1x1x2048.Idx) :
    k0_pay3 (F := Ideal) x w b z = whole x w b (r0_3.idx z) := by
  have h0 : (z 0).val < 1 := (z 0).isLt
  have h1 : (z 1).val < 1 := (z 1).isLt
  have hz : z = ix3 (0 : Fin 1) (0 : Fin 1) (⟨(z 2).val, (z 2).isLt⟩ : Fin 2048) := funext fun a => Fin.ext (by
    match a with
    | ⟨0, _⟩ => show (z 0).val = 0; omega
    | ⟨1, _⟩ => show (z 1).val = 0; omega
    | ⟨2, _⟩ => rfl)
  have e1 : (⟨((r0_3.idx z) 1).val, by have h := ((r0_3.idx z) 1).isLt; change _ < 2 at h; omega⟩ : Fin 128) = 0 :=
    Fin.ext (by show 0 + 1 * (z 1).val = 0; omega)
  have e2 : (⟨((r0_3.idx z) 2).val, ((r0_3.idx z) 2).isLt⟩ : Fin 2048) = ⟨(z 2).val, (z 2).isLt⟩ :=
    Fin.ext (by show 0 + 1 * (z 2).val = (z 2).val; omega)
  unfold whole
  rw [e1, e2]
  exact (congrArg (k0_pay3 (F := Ideal) x w b) hz).trans (row0 x w b _)

theorem whole1 (x : Vec Ideal S2048x128 .f32) (w : Vec Ideal S1x2048x2048 .f32) (b : Vec Ideal S1x1x2048 .f32) (z : S1x1x2048.Idx) :
    k0_pay4 (F := Ideal) x w b z = whole x w b (r0_4.idx z) := by
  have h0 : (z 0).val < 1 := (z 0).isLt
  have h1 : (z 1).val < 1 := (z 1).isLt
  have hz : z = ix3 (0 : Fin 1) (0 : Fin 1) (⟨(z 2).val, (z 2).isLt⟩ : Fin 2048) := funext fun a => Fin.ext (by
    match a with
    | ⟨0, _⟩ => show (z 0).val = 0; omega
    | ⟨1, _⟩ => show (z 1).val = 0; omega
    | ⟨2, _⟩ => rfl)
  have e1 : (⟨((r0_4.idx z) 1).val, by have h := ((r0_4.idx z) 1).isLt; change _ < 2 at h; omega⟩ : Fin 128) = 1 :=
    Fin.ext (by show 1 + 1 * (z 1).val = 1; omega)
  have e2 : (⟨((r0_4.idx z) 2).val, ((r0_4.idx z) 2).isLt⟩ : Fin 2048) = ⟨(z 2).val, (z 2).isLt⟩ :=
    Fin.ext (by show 0 + 1 * (z 2).val = (z 2).val; omega)
  unfold whole
  rw [e1, e2]
  exact (congrArg (k0_pay4 (F := Ideal) x w b) hz).trans (row1 x w b _)

theorem tile (x : Vec Ideal S2048x128 .f32) (w : Vec Ideal S1x2048x2048 .f32) (b : Vec Ideal S1x1x2048 .f32) (y : S1x2x2048.Idx) :
    out0_3 x w b y = whole x w b y := by
  unfold out0_3
  rw [View.ld_unit_zero (S := S2048x128) (funext fun a => by fin_cases a <;> rfl), View.ld_unit_zero (S := S1x2048x2048) (funext fun a => by fin_cases a <;> rfl),
    View.ld_unit_zero (S := S1x1x2048) (funext fun a => by fin_cases a <;> rfl)]
  refine View.canon_apply_of_pieces (Val := Elt Ideal) (S := S1x2x2048) (e := EltTy.f32) (whole x w b) _ ?_ y (cover0_3 _ _ y)
  intro pc hpc
  rcases List.mem_cons.mp hpc with rfl | hpc
  · exact fun z => whole1 x w b z
  rcases List.mem_cons.mp hpc with rfl | hpc
  · exact fun z => whole0 x w b z
  nomatch hpc

/-! ## The activations' array -/

/-- Where an entry of the update lands: nowhere but at its own row and column. -/
theorem lands (idx : IVec S1 32) (hidx : ∀ i, idx i = 0#32) (j : S2048x2.Idx) (d : Fin 2048) (k : Fin 128) :
    scatter_S2048x128_S1_S2048x2_01_n_1_0.resultIdx? j idx = some (ix2 d k) ↔ (j 0).val = d.val ∧ (j 1).val = k.val := by
  have s0 : scatter_S2048x128_S1_S2048x2_01_n_1_0.start j idx 0 = 0 := rfl
  have s1 : scatter_S2048x128_S1_S2048x2_01_n_1_0.start j idx 1 = 0 := by
    unfold ScatterDims.start
    split
    · rw [hidx]; rfl
    · rfl
  have w0 : scatter_S2048x128_S1_S2048x2_01_n_1_0.window j 0 = (j 0).val := rfl
  have w1 : scatter_S2048x128_S1_S2048x2_01_n_1_0.window j 1 = (j 1).val := rfl
  refine (resultIdx?_ix2 scatter_S2048x128_S1_S2048x2_01_n_1_0 j idx d k).trans ?_
  rw [s0, s1, w0, w1]
  omega

/-- The two columns written into the array are the update's. -/
theorem set_at (x : FVec Ideal S2048x128 .f32) (idx : IVec S1 32) (hidx : ∀ i, idx i = 0#32) (u : FVec Ideal S2048x2 .f32) (d : Fin 2048) (r : Fin 2) :
    Host.scatter scatter_S2048x128_S1_S2048x2_01_n_1_0 (fun _ b => b) x idx u (ix2 d ⟨r.val, by omega⟩) = u (ix2 d r) := by
  refine scatter_set_hit scatter_S2048x128_S1_S2048x2_01_n_1_0 x idx u (ix2 d ⟨r.val, by omega⟩) (u (ix2 d r)) (fun j hj => ?_) (ix2 d r)
    ((lands idx hidx (ix2 d r) d ⟨r.val, by omega⟩).mpr ⟨rfl, rfl⟩)
  obtain ⟨h0, h1⟩ := (lands idx hidx j d ⟨r.val, by omega⟩).mp hj
  refine congrArg u (funext fun a => Fin.ext ?_)
  match a with
  | ⟨0, _⟩ => exact h0
  | ⟨1, _⟩ => exact h1

/-! ## The blocks -/

variable (m : (ℓ : Loc nD τ sig) → Buf (Elt Ideal) ℓ)

theorem point_lt (t : Fin cfg0.N) : t.val < 12 := lt_of_lt_of_eq t.isLt N_0

theorem at0 : ∀ t : Fin cfg0.N, win0_0.index t (0 : Fin 2) = 0 ∧ win0_0.index t (1 : Fin 2) = 0 :=
  (by decide +kernel : ∀ t : Fin grid0.N, _)
theorem at1 : ∀ t : Fin cfg0.N, win0_1.index t (0 : Fin 3) = t.val / 6 ∧ win0_1.index t (1 : Fin 3) = 0 ∧ win0_1.index t (2 : Fin 3) = t.val % 6 :=
  (by decide +kernel : ∀ t : Fin grid0.N, _)
theorem at2 : ∀ t : Fin cfg0.N, win0_2.index t (0 : Fin 3) = t.val / 6 ∧ win0_2.index t (1 : Fin 3) = 0 ∧ win0_2.index t (2 : Fin 3) = t.val % 6 :=
  (by decide +kernel : ∀ t : Fin grid0.N, _)
theorem at3 : ∀ t : Fin cfg0.N, win0_3.index t (0 : Fin 3) = t.val / 6 ∧ win0_3.index t (1 : Fin 3) = 0 ∧ win0_3.index t (2 : Fin 3) = t.val % 6 :=
  (by decide +kernel : ∀ t : Fin grid0.N, _)

/-- The layer of point `n`. -/
def layer (n : ℕ) : Fin 2 := ⟨n / 6 % 2, Nat.mod_lt _ (by decide)⟩

/-- Column `k` of the tile of point `n`. -/
def col (n : ℕ) (k : Fin 2048) : Fin 12288 := ⟨n % 6 * 2048 + k.val, by omega⟩

/-- The activations' array as the grid finds it. -/
theorem acts (c : Dev nD) : V m c main_v3
    = Host.scatter scatter_S2048x128_S1_S2048x2_01_n_1_0 (fun _ b => b) (broadcastInDim S2048x128 ![] bcast_S_S2048x128 (constant (F := Ideal) S_ .f32 0x00000000#32))
        (broadcastInDim S1 ![] bcast_S_S1 (constantI S_ 32 0#32))
        (transpose S2048x2 [1, 0] (m ((c : Thread nD τ).loc main_arg0)) transposes_S2x2048_S2048x2_1_0) := by
  simp only [V, hostOps0]
  after_results_simp <;> rfl

theorem blk0 (c : Dev nD) (t : Fin cfg0.N) (d : Fin 2048) (r : Fin 2) :
    iblk m c 0 t (ix2 d ⟨r.val, by omega⟩) = m ((c : Thread nD τ).loc main_arg0) (ix2 r d) := by
  obtain ⟨e0, e1⟩ := at0 t
  refine Eq.trans (congrArg (V m c main_v3) (funext fun a => Fin.ext ?_)) ((congrFun (acts m c) (ix2 d ⟨r.val, by omega⟩)).trans
    ((set_at _ _ (fun _ => rfl) _ d r).trans ?_))
  · match a with
    | ⟨0, _⟩ => show win0_0.index t (0 : Fin 2) * 2048 + 1 * d.val = d.val; omega
    | ⟨1, _⟩ => show win0_0.index t (1 : Fin 2) * 128 + 1 * r.val = r.val; omega
  · pointwise

theorem blk1 (c : Dev nD) (t : Fin cfg0.N) (d n : Fin 2048) :
    iblk m c 1 t (ix3 0 d n) = m ((c : Thread nD τ).loc main_arg1) (ix3 (layer t.val) d (col t.val n)) := by
  have ht := point_lt t
  obtain ⟨e0, e1, e2⟩ := at1 t
  refine Eq.trans (congrArg (V m c main_arg1) (funext fun a => Fin.ext ?_)) (congrFun (V_main_arg1 m c) _)
  match a with
  | ⟨0, _⟩ => show win0_1.index t (0 : Fin 3) * 1 + 1 * 0 = t.val / 6 % 2; omega
  | ⟨1, _⟩ => show win0_1.index t (1 : Fin 3) * 2048 + 1 * d.val = d.val; omega
  | ⟨2, _⟩ => show win0_1.index t (2 : Fin 3) * 2048 + 1 * n.val = t.val % 6 * 2048 + n.val; omega

/-- The bias as the grid finds it. -/
theorem biases (c : Dev nD) : V m c main_v4 = shapeCast S2x1x12288 (m ((c : Thread nD τ).loc main_arg2)) shapeCasts_S2x12288_S2x1x12288 := by
  simp only [V, hostOps0]
  after_results_simp <;> rfl

theorem bias_at (b : FVec Ideal S2x12288 .f32) (l : Fin 2) (n : Fin 12288) :
    shapeCast S2x1x12288 b shapeCasts_S2x12288_S2x1x12288 (ix3 l 0 n) = b (ix2 l n) := by
  pointwise

theorem blk2 (c : Dev nD) (t : Fin cfg0.N) (n : Fin 2048) :
    iblk m c 2 t (ix3 0 0 n) = m ((c : Thread nD τ).loc main_arg2) (ix2 (layer t.val) (col t.val n)) := by
  have ht := point_lt t
  obtain ⟨e0, e1, e2⟩ := at2 t
  refine Eq.trans (congrArg (V m c main_v4) (funext fun a => Fin.ext ?_)) ((congrFun (biases m c) (ix3 (layer t.val) 0 (col t.val n))).trans (bias_at _ _ _))
  match a with
  | ⟨0, _⟩ => show win0_2.index t (0 : Fin 3) * 1 + 1 * 0 = t.val / 6 % 2; omega
  | ⟨1, _⟩ => show win0_2.index t (1 : Fin 3) * 1 + 1 * 0 = 0; omega
  | ⟨2, _⟩ => show win0_2.index t (2 : Fin 3) * 2048 + 1 * n.val = t.val % 6 * 2048 + n.val; omega

end Cert.Kernel6Ideal.Ada
end
-- ==== Proof.AdaEqual.lean ====
module

public import proofs.«01_k».proof.Proof.AdaReads

/-!
# What the conditioning kernel computes

Each tile holds a layer's conditioning of both batches, at 2048 of its columns.
-/

@[expose] public section

set_option maxRecDepth 16384

noncomputable section

namespace Cert.Kernel6Ideal.Ada

open Cert.Kernel6Ideal Cert.Kernel6Ideal.Gen
open Idealize.ShloMosaic Idealize.ShloMosaic.TcCoe

variable (m : (ℓ : Loc nD τ sig) → Buf (Elt Ideal) ℓ)

/-- The arguments, by their coordinates. -/
def argC (c : Dev nD) (r : Fin 2) (d : Fin 2048) : EReal := m ((c : Thread nD τ).loc main_arg0) (ix2 r d)
def argW (c : Dev nD) (l : Fin 2) (d : Fin 2048) (n : Fin 12288) : EReal := m ((c : Thread nD τ).loc main_arg1) (ix3 l d n)
def argB (c : Dev nD) (l : Fin 2) (n : Fin 12288) : EReal := m ((c : Thread nD τ).loc main_arg2) (ix2 l n)

theorem tile_at (c : Dev nD) (t : Fin cfg0.N) (r : Fin 2) (k : Fin 2048) :
    out0_3 (F := Ideal) (iblk m c 0 t) (iblk m c 1 t) (iblk m c 2 t) (ix3 0 r k)
      = Cert.Ada.out (argC m c) (argW m c) (argB m c) (layer t.val) r (col t.val k) := by
  refine (tile _ _ _ _).trans ?_
  refine congrArg₂ (· + ·) (Finset.sum_congr rfl fun d _ => congrArg₂ (· * ·) ?_ ?_) ?_
  · exact congrArg Cert.Ada.silu (blk0 m c t d r)
  · exact blk1 m c t d k
  · exact blk2 m c t k

/-- The kernel's result, read at a layer, a batch and a column. -/
theorem result_at (c : Dev nD) (l r : Fin 2) (n : Fin 12288) :
    (dats m 0 c).arrAt 3 cfg0.N (ix3 l r n) = Cert.Ada.out (argC m c) (argW m c) (argB m c) l r n := by
  have hN : l.val * 6 + n.val / 2048 < cfg0.N := lt_of_lt_of_eq (by omega) N_0.symm
  obtain ⟨e0, e1, e2⟩ := at3 ⟨l.val * 6 + n.val / 2048, hN⟩
  have q0 : (l.val * 6 + n.val / 2048) / 6 = l.val := by omega
  have q2 : (l.val * 6 + n.val / 2048) % 6 = n.val / 2048 := by omega
  simp only [q0, q2] at e0 e1 e2
  have hb := congrFun (Value.blocks3 m c ⟨l.val * 6 + n.val / 2048, hN⟩ (flush0_3 _)) (ix3 (0 : Fin 1) r (⟨n.val % 2048, Nat.mod_lt _ (by decide)⟩ : Fin 2048))
  rw [Value.flushed3] at hb
  refine Eq.trans (congrArg ((dats m 0 c).arrAt 3 cfg0.N) (funext fun a => Fin.ext ?_)) (hb.trans ?_)
  · match a with
    | ⟨0, _⟩ => show l.val = win0_3.index ⟨l.val * 6 + n.val / 2048, hN⟩ (0 : Fin 3) * 1 + 1 * 0; omega
    | ⟨1, _⟩ => show r.val = win0_3.index ⟨l.val * 6 + n.val / 2048, hN⟩ (1 : Fin 3) * 2 + 1 * r.val; omega
    | ⟨2, _⟩ => show n.val = win0_3.index ⟨l.val * 6 + n.val / 2048, hN⟩ (2 : Fin 3) * 2048 + 1 * (n.val % 2048); omega
  · refine (tile_at m c ⟨l.val * 6 + n.val / 2048, hN⟩ r (⟨n.val % 2048, Nat.mod_lt _ (by decide)⟩ : Fin 2048)).trans ?_
    have el : layer (l.val * 6 + n.val / 2048) = l := Fin.ext (by show (l.val * 6 + n.val / 2048) / 6 % 2 = l.val; omega)
    have en : col (l.val * 6 + n.val / 2048) ⟨n.val % 2048, Nat.mod_lt _ (by decide)⟩ = n :=
      Fin.ext (by show (l.val * 6 + n.val / 2048) % 6 * 2048 + n.val % 2048 = n.val; omega)
    rw [el, en]

end Cert.Kernel6Ideal.Ada
end
-- ==== Proof.AdaRef.lean ====
module

public import proofs.«01_k».proof.Proof.AdaRows
public import proofs.«01_k».proof.Proof.Gen.Reference6Ideal.Read

/-!
# The conditioning reference, read at an index
-/

@[expose] public section

set_option maxRecDepth 16384

noncomputable section

namespace Cert.Reference6Ideal.Ada

open Cert.Reference6Ideal Cert.Reference6Ideal.Gen Cert.Reference6Ideal.Read
open Idealize.ShloMosaic Idealize.ShloMosaic.TcCoe

variable (x0 : FVec Ideal S2x2048 .f32) (x1 : FVec Ideal S2x2048x12288 .f32) (x2 : FVec Ideal S2x12288 .f32)

theorem silu0_at (r : Fin 2) (d : Fin 2048) : val_main_v0 (F := Ideal) x0 (ix2 r d) = Cert.Ada.silu (x0 (ix2 r d)) := by
  unfold val_main_v0 val_main_call0_v5 val_main_call0_v4 val_main_call0_cst_0 val_main_call0_v3 val_main_call0_v2 val_main_call0_cst val_main_call0_v1 val_main_call0_v0
  pointwise
  rfl

theorem silu1_at (r : Fin 2) (d : Fin 2048) : val_main_v9 (F := Ideal) x0 (ix2 r d) = Cert.Ada.silu (x0 (ix2 r d)) := by
  unfold val_main_v9 val_main_call1_v5 val_main_call1_v4 val_main_call1_cst_0 val_main_call1_v3 val_main_call1_v2 val_main_call1_cst val_main_call1_v1 val_main_call1_v0
  pointwise
  rfl

theorem weight0_at (d : Fin 2048) (n : Fin 12288) : val_main_v2 (F := Ideal) x1 (ix2 d n) = x1 (ix3 0 d n) := by
  rw [val_main_v2_apply, val_main_v1_apply]
  refine congrArg x1 (funext fun a => Fin.ext ?_)
  match a with
  | ⟨0, _⟩ => rfl
  | ⟨1, _⟩ => show (d.val * 12288 + n.val) / 12288 % 2048 = d.val; omega
  | ⟨2, _⟩ => show (d.val * 12288 + n.val) % 12288 = n.val; omega

theorem weight1_at (d : Fin 2048) (n : Fin 12288) : val_main_v11 (F := Ideal) x1 (ix2 d n) = x1 (ix3 1 d n) := by
  rw [val_main_v11_apply, val_main_v10_apply]
  refine congrArg x1 (funext fun a => Fin.ext ?_)
  match a with
  | ⟨0, _⟩ => rfl
  | ⟨1, _⟩ => show (d.val * 12288 + n.val) / 12288 % 2048 = d.val; omega
  | ⟨2, _⟩ => show (d.val * 12288 + n.val) % 12288 = n.val; omega

theorem bias0_at (r : Fin 2) (n : Fin 12288) : val_main_v7 (F := Ideal) x2 (ix2 r n) = x2 (ix2 0 n) := by
  rw [val_main_v7_apply, val_main_v6_apply, val_main_v5_apply, val_main_v4_apply]
  refine congrArg x2 (funext fun a => Fin.ext ?_)
  match a with
  | ⟨0, _⟩ => rfl
  | ⟨1, _⟩ => show n.val % 12288 = n.val; omega

theorem bias1_at (r : Fin 2) (n : Fin 12288) : val_main_v16 (F := Ideal) x2 (ix2 r n) = x2 (ix2 1 n) := by
  rw [val_main_v16_apply, val_main_v15_apply, val_main_v14_apply, val_main_v13_apply]
  refine congrArg x2 (funext fun a => Fin.ext ?_)
  match a with
  | ⟨0, _⟩ => rfl
  | ⟨1, _⟩ => show n.val % 12288 = n.val; omega

/-- The first layer's conditioning. -/
theorem layer0_at (r : Fin 2) (n : Fin 12288) :
    val_main_v8 (F := Ideal) x0 x1 x2 (ix2 r n)
      = Cert.Ada.out (fun r d => x0 (ix2 r d)) (fun l d n => x1 (ix3 l d n)) (fun l n => x2 (ix2 l n)) 0 r n := by
  rw [val_main_v8_apply, val_main_v3_apply, bias0_at]
  refine congrArg₂ (· + ·) (Finset.sum_congr rfl fun d _ => congrArg₂ (· * ·) ?_ ?_) rfl
  · refine Eq.trans (congrArg (val_main_v0 (F := Ideal) x0) (funext fun a => ?_)) (silu0_at x0 r d)
    match a with
    | ⟨0, _⟩ => rfl
    | ⟨1, _⟩ => rfl
  · refine Eq.trans (congrArg (val_main_v2 (F := Ideal) x1) (funext fun a => ?_)) (weight0_at x1 d n)
    match a with
    | ⟨0, _⟩ => rfl
    | ⟨1, _⟩ => rfl

/-- The second layer's conditioning. -/
theorem layer1_at (r : Fin 2) (n : Fin 12288) :
    val_main_v17 (F := Ideal) x0 x1 x2 (ix2 r n)
      = Cert.Ada.out (fun r d => x0 (ix2 r d)) (fun l d n => x1 (ix3 l d n)) (fun l n => x2 (ix2 l n)) 1 r n := by
  rw [val_main_v17_apply, val_main_v12_apply, bias1_at]
  refine congrArg₂ (· + ·) (Finset.sum_congr rfl fun d _ => congrArg₂ (· * ·) ?_ ?_) rfl
  · refine Eq.trans (congrArg (val_main_v9 (F := Ideal) x0) (funext fun a => ?_)) (silu1_at x0 r d)
    match a with
    | ⟨0, _⟩ => rfl
    | ⟨1, _⟩ => rfl
  · refine Eq.trans (congrArg (val_main_v11 (F := Ideal) x1) (funext fun a => ?_)) (weight1_at x1 d n)
    match a with
    | ⟨0, _⟩ => rfl
    | ⟨1, _⟩ => rfl

theorem first_at (r : Fin 2) (n : Fin 12288) : val_main_v20 (F := Ideal) x0 x1 x2 (ix3 0 r n) = val_main_v8 (F := Ideal) x0 x1 x2 (ix2 r n) := by
  unfold val_main_v20 val_main_v18 val_main_v19
  generalize val_main_v8 (F := Ideal) x0 x1 x2 = y
  generalize val_main_v17 (F := Ideal) x0 x1 x2 = z
  pointwise

theorem second_at (r : Fin 2) (n : Fin 12288) : val_main_v20 (F := Ideal) x0 x1 x2 (ix3 1 r n) = val_main_v17 (F := Ideal) x0 x1 x2 (ix2 r n) := by
  unfold val_main_v20 val_main_v18 val_main_v19
  generalize val_main_v8 (F := Ideal) x0 x1 x2 = y
  generalize val_main_v17 (F := Ideal) x0 x1 x2 = z
  pointwise

/-- The reference, read at a layer, a batch and a column. -/
theorem result_at (l r : Fin 2) (n : Fin 12288) :
    val_main_v20 (F := Ideal) x0 x1 x2 (ix3 l r n)
      = Cert.Ada.out (fun r d => x0 (ix2 r d)) (fun l d n => x1 (ix3 l d n)) (fun l n => x2 (ix2 l n)) l r n := by
  match l with
  | ⟨0, _⟩ => exact (first_at x0 x1 x2 r n).trans (layer0_at x0 x1 x2 r n)
  | ⟨1, _⟩ => exact (second_at x0 x1 x2 r n).trans (layer1_at x0 x1 x2 r n)

end Cert.Reference6Ideal.Ada
end
-- ==== Proof.AdaClaim.lean ====
module

public import proofs.«01_k».proof.Defs
public import proofs.«01_k».proof.Proof.AdaEqual
public import proofs.«01_k».proof.Proof.AdaRef
public import proofs.«01_k».proof.Proof.Gen.Reference6Ideal.Run
public import Idealize.ShloMosaic.Lib.Quiescent
public import Idealize.ShloMosaic.Adequacy

/-!
# The conditioning kernel equals its reference
-/

@[expose] public section

set_option maxRecDepth 16384

noncomputable section

namespace Cert.Proof

open Idealize.ShloMosaic Idealize.ShloMosaic.TcCoe Idealize.SL.Sem

theorem reference6_frame : quiescent_Reference6Ideal (hReference6Ideal := Cert.Reference6Ideal.Gen.facts) := by
  intro m ρ _
  exact θ_run_mono (Cert.Reference6Ideal.Value.run m ρ) fun r h => ⟨fun c => (h c).2, sem_eq_zero_of_no_sems (by decide) r.2⟩

/-- What the conditioning kernel leaves in its result. -/
def res6 (m : (ℓ : Loc Cert.Kernel6Ideal.nD Cert.Kernel6Ideal.τ Cert.Kernel6Ideal.sig) → Buf (Elt Ideal) ℓ) (c : Dev Cert.Kernel6Ideal.nD) :
    Buf (Elt Ideal) ((c.tc : Thread Cert.Kernel6Ideal.nD Cert.Kernel6Ideal.τ).loc Cert.Kernel6Ideal.main_v5) :=
  (Cert.Kernel6Ideal.Gen.dats m 0 c).arrAt 3 Cert.Kernel6Ideal.cfg0.N

theorem equal6 : algebraic_Kernel6Ideal_Reference6Ideal (hKernel6Ideal := Cert.Kernel6Ideal.Gen.facts) (hReference6Ideal := Cert.Reference6Ideal.Gen.facts) := by
  intro m g m' g' _ hargs
  refine ⟨res6 m, Cert.Kernel6Ideal.Value.run_blocks m g, ?_⟩
  refine θ_run_mono (Cert.Reference6Ideal.Value.run m' g') fun r h c => ?_
  obtain ⟨h0, ha⟩ := h c
  refine ⟨h0.trans ?_, ha⟩
  obtain ⟨e0, e1, e2⟩ := hargs c
  rw [Cert.Reference6Ideal.Read.val_main_v20_eq, e0, e1, e2]
  refine funext fun i => ?_
  have hi : i = ix3 (i 0) (i 1) (i 2) := funext fun a => by
    match a with
    | ⟨0, _⟩ => rfl
    | ⟨1, _⟩ => rfl
    | ⟨2, _⟩ => rfl
  rw [hi]
  exact (Cert.Reference6Ideal.Ada.result_at _ _ _ (i 0) (i 1) (i 2)).trans (Cert.Kernel6Ideal.Ada.result_at m c (i 0) (i 1) (i 2)).symm

end Cert.Proof
end
-- ==== Proof.ProjIdeal.lean ====
module

public import proofs.«01_k».proof.Proof.Gen.Kernel3Ideal.Frame
public import proofs.«01_k».proof.Proof.Gen.Kernel3Ideal.Skeleton
public import Idealize.ShloMosaic.Lib.Pipeline.ValueKit
public import Idealize.ShloMosaic.Lib.Pipeline.ReadBack
public import Idealize.ShloMosaic.Lib.Pipeline.TableIdle
public import Idealize.ShloMosaic.Lib.Claim

/-!
# The run of the input projection

The grid walks seven column blocks of the projection for each tile of 1024 rows. The first point of a tile normalises
and modulates the rows, keeps them in the scratch and writes the gate logits; every point multiplies the kept rows by
its block of the weights. So after any point the scratch holds the rows of the tile, the first output the point's own
block, and the second output the tile's gate logits.
-/

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The gate logits of a tile: the products of the high and low parts of the rows and of the weights, and the bias. -/
def fox (x : Vec F S1024x2048 .f32) (sh sc : Vec F S1x1x2048 .f32) (w : Vec F S2048x128 .f32) (b : Vec F S1x128 .f32) : Vec F S1024x128 .f32 :=
  k0_pay1 (k0_pay4 x sc sh) (k0_pay5 x sc sh) (k0_pay7 w) (k0_pay8 w) (constant S1024x256 .f32 0x00000000#32) b

/-! ## The body's two cases -/

set_option maxHeartbeats 1000000 in
/-- At the first point of a tile: the rows, the gate logits, and the point's block. -/
theorem body_first (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x128 .f32) (harg7 : arg7.IsWhole) (arg8 : Memref sig .tc .vmem S1x128 .f32) (harg8 : arg8.IsWhole) (arg9 : Memref sig .tc .vmem S1024x1792 .bf16) (harg9 : arg9.IsWhole) (arg10 : Memref sig .tc .vmem S1024x128 .f32) (harg10 : arg10.IsWhole) (arg11 : Memref sig .tc .vmem S1024x2048 .bf16) (harg11 : arg11.IsWhole)
    (hc : k0_cond1 i = 1#1) (x0 : Vec F S1024x2048 .f32) (x1 : Vec F S1x1x2048 .f32) (x2 : Vec F S1x1x2048 .f32) (x3 : Vec F S2048x1792 .bf16) (x4 : Vec F S1x1792 .f32) (x5 : Vec F S2048x128 .f32) (x6 : Vec F S1x128 .f32) (E : Set ℕ) (Q : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare (k0_pay2 (k0_pay6 x0 x2 x1) x3 x4)
        ∗ owns (c : Thread nD τ) arg10 fullShare (fox x0 x1 x2 x5 x6)
        ∗ owns (c : Thread nD τ) arg11 fullShare (k0_pay6 x0 x2 x1)) -∗ Q ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) Q := by
  rw [cc0_inproj_eq_skeleton]
  unfold cc0_inproj_skel
  rw [k0_part1_eq_skeleton]
  unfold k0_part1_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]
  · iexists _; isplitr
    swap; · iexact H7
    ipureintro
    rw [View.read_writes_eq_canon _ _ _ (fun y => View.cover_of_tiledL _ S1024x1792.size (by sl_kernel_rfl) y)]
    frame_out
  isplitl [H8]
  · iexists _; isplitr
    swap; · iexact H8
    ipureintro
    rw [View.read_writes_eq_canon _ _ _ (fun y => View.cover_of_tiledL _ S1024x128.size (by sl_kernel_rfl) y)]
    frame_out
    rfl
  iexists _; isplitr
  swap; · iexact HS
  ipureintro
  rw [View.read_writes_eq_canon _ _ _ (fun y => View.cover_of_tiledL _ S1024x2048.size (by sl_kernel_rfl) y)]
  frame_out

set_option maxHeartbeats 1000000 in
/-- At any other point: the point's block, from the rows kept; the gate logits are left alone. -/
theorem body_next (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x1792 .bf16) (harg5 : arg5.IsWhole) (arg6 : Memref sig .tc .vmem S1x1792 .f32) (harg6 : arg6.IsWhole) (arg7 : Memref sig .tc .vmem S2048x128 .f32) (harg7 : arg7.IsWhole) (arg8 : Memref sig .tc .vmem S1x128 .f32) (harg8 : arg8.IsWhole) (arg9 : Memref sig .tc .vmem S1024x1792 .bf16) (harg9 : arg9.IsWhole) (arg10 : Memref sig .tc .vmem S1024x128 .f32) (harg10 : arg10.IsWhole) (arg11 : Memref sig .tc .vmem S1024x2048 .bf16) (harg11 : arg11.IsWhole)
    (hc : ¬k0_cond1 i = 1#1) (x0 : Vec F S1024x2048 .f32) (x1 : Vec F S1x1x2048 .f32) (x2 : Vec F S1x1x2048 .f32) (x3 : Vec F S2048x1792 .bf16) (x4 : Vec F S1x1792 .f32) (x5 : Vec F S2048x128 .f32) (x6 : Vec F S1x128 .f32) (xs : Vec F S1024x2048 .bf16) (E : Set ℕ) (Q : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ (∃ d, owns (c : Thread nD τ) arg9 fullShare d)
        ∗ owns (c : Thread nD τ) arg11 fullShare xs
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare (k0_pay2 xs x3 x4)
        ∗ owns (c : Thread nD τ) arg11 fullShare xs) -∗ Q ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11) Q := by
  simp only [cc0_inproj_eq_skeleton]
  unfold cc0_inproj_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs
  sl_exec (disch := first | sl_exact hc)
  sl_step
  iapply Hk
  isplitl [H0]; · iexists _; isplitr; · ipureintro; exact harg2.read_unread _
                  iexact H0
  isplitl [H1]; · iexists _; isplitr; · ipureintro; exact harg3.read_unread _
                  iexact H1
  isplitl [H2]; · iexists _; isplitr; · ipureintro; exact harg4.read_unread _
                  iexact H2
  isplitl [H3]; · iexists _; isplitr; · ipureintro; exact harg5.read_unread _
                  iexact H3
  isplitl [H4]; · iexists _; isplitr; · ipureintro; exact harg6.read_unread _
                  iexact H4
  isplitl [H5]; · iexists _; isplitr; · ipureintro; exact harg7.read_unread _
                  iexact H5
  isplitl [H6]; · iexists _; isplitr; · ipureintro; exact harg8.read_unread _
                  iexact H6
  isplitl [H7]
  · iexists _; isplitr
    swap; · iexact H7
    ipureintro
    rw [View.read_writes_eq_canon _ _ _ (fun y => View.cover_of_tiledL _ S1024x1792.size (by sl_kernel_rfl) y)]
    frame_out
  iexists _; isplitr; · ipureintro; exact harg11.read_unread _
  iexact HS

/-! ## The schedule -/

theorem first_iff : ∀ t : Fin cfg0.N, k0_cond1 (grid0.coords t) = 1#1 ↔ t.val % 7 = 0 :=
  (by decide +kernel : ∀ t : Fin grid0.N, k0_cond1 (grid0.coords t) = 1#1 ↔ t.val % 7 = 0)

theorem point_lt (t : Fin cfg0.N) : t.val < 224 := lt_of_lt_of_eq t.isLt N_0

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev scM := Memref.whole cc0_scratch0

/-- The first point of the tile of point `n`. -/
def start (n : ℕ) (hn : n < cfg0.N) : Fin cfg0.N := ⟨n - n % 7, Nat.lt_of_le_of_lt (Nat.sub_le _ _) hn⟩

theorem start_of_first (t : Fin cfg0.N) (h : t.val % 7 = 0) : start t.val t.isLt = t := Fin.ext (by show t.val - t.val % 7 = t.val; omega)

theorem start_pred (t : Fin cfg0.N) (h : ¬t.val % 7 = 0) (hp : t.val - 1 < cfg0.N) : start (t.val - 1) hp = start t.val t.isLt :=
  Fin.ext (by show t.val - 1 - (t.val - 1) % 7 = t.val - t.val % 7; omega)

/-- The modulated rows of a tile, read at its first point. -/
def rowsAt (c : Dev nD) (s : Fin cfg0.N) : Vec F S1024x2048 .bf16 := k0_pay6 (iblk m c 0 s) (iblk m c 2 s) (iblk m c 1 s)

/-- The gate logits of a tile, read at its first point. -/
def foxAt (c : Dev nD) (s : Fin cfg0.N) : Vec F S1024x128 .f32 := fox (iblk m c 0 s) (iblk m c 1 s) (iblk m c 2 s) (iblk m c 5 s) (iblk m c 6 s)

/-- The projection's block at a point. -/
def projAt (c : Dev nD) (t : Fin cfg0.N) : Vec F S1024x1792 .bf16 := k0_pay2 (rowsAt m c (start t.val t.isLt)) (iblk m c 3 t) (iblk m c 4 t)

/-! ## The invariant and the proof data -/

theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]
  simp only [scM, owns_whole]; try rfl

/-- Before a point: the scratch at the rows of the tile the point before belongs to; at anything before the first. -/
def PhiS (c : Dev nD) : (n : ℕ) → n ≤ cfg0.N → sProp 𝕄
  | 0, _ => Pipeline.ΦA spec0 c
  | n + 1, hn => iprop(iprop(owns (c : Thread nD τ) scM fullShare (rowsAt m c (start n hn))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (rowsAt m c (start n hn))) ∗ (∃ r, prngReg c r)) := rfl

theorem PhiS_pos (c : Dev nD) (n : ℕ) (h : n ≤ cfg0.N) (hz : n ≠ 0) :
    PhiS m c n h = iprop(iprop(owns (c : Thread nD τ) scM fullShare (rowsAt m c (start (n - 1) (by omega)))) ∗ (∃ r, prngReg c r)) := by
  cases n with
  | zero => exact absurd rfl hz
  | succ n => rfl

/-- The arrays as launched; the inputs' buffers at their blocks, the outputs' at what the tile and the point give. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => projAt m c t
    | ⟨8, _⟩ => foxAt m c (start t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = projAt m c t := by dsimp only [dats]
theorem after_8 (c : Dev nD) (t : Fin cfg0.N) : (dats m 0 c).after 8 t = foxAt m c (start t.val t.isLt) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The gate logits' buffer, written once per tile -/

theorem idle8 (t : Fin cfg0.N) : cfg0.idle 8 (cfg0.grid.coords t) = !decide (t.val % 7 = 0) := by
  show (!(k0_cond1 (grid0.coords t) == 1#1)) = _
  refine congrArg _ ?_
  rw [Bool.eq_iff_iff, beq_iff_eq, decide_eq_true_iff]
  exact first_iff t

theorem fresh8 (n : ℕ) (hn : n ≤ cfg0.N) : cfg0.fresh 8 n = decide (n % 7 = 0) := by
  refine cfg0.fresh_tab 8 (fun n => decide (n % 7 = 0)) rfl (fun t => ?_) n hn
  rw [idle8]
  have hf := flush0_8 t
  cases hfl : (cfg0.win 8).flush t
  · rw [hfl] at hf
    have h6 : ¬t.val % 7 = 6 := fun h => Bool.false_ne_true (hf.mpr h)
    by_cases h0 : t.val % 7 = 0
    · simp [h0]; omega
    · simp [h0]; omega
  · have h6 := hf.mp hfl
    simp; omega

/-- At a point that is not the first of its tile, the buffer holds the tile's gate logits. -/
theorem before_8 (c : Dev nD) (t : Fin cfg0.N) (h : ¬t.val % 7 = 0) (d) :
    (dats m 0 c).before 8 t d = foxAt m c (start t.val t.isLt) := by
  have hp : t.val - 1 < cfg0.N := Nat.lt_of_le_of_lt (Nat.sub_le _ _) t.isLt
  rw [(dats m 0 c).before_out_traj 8 rfl (fun _ _ => rfl) (fun t ht hi hfr => ?_) t.val t rfl d,
    fresh8 _ (Nat.le_of_lt t.isLt), if_neg (by simpa using h), after_8]
  · exact congrArg (foxAt m c) (start_pred t h hp)
  · rw [after_8, after_8]
    rw [fresh8 _ (Nat.le_of_lt t.isLt)] at hfr
    exact congrArg (foxAt m c) (start_pred t (by simpa using hfr) _).symm

/-- What the body hands back of the gate logits' buffer: its contents where it wrote them or they are written back
    now, and otherwise what it found. -/
def back8 (c : Dev nD) (t : Fin cfg0.N) : sProp 𝕄 :=
  match cfg0.idle 8 (cfg0.grid.coords t) with
  | true => match (cfg0.win 8).flush t with
    | false => iprop(∃ d, owns (c : Thread nD τ) (ms0_8 t) fullShare ((dats m 0 c).before 8 t d))
    | true => owns (c : Thread nD τ) (ms0_8 t) fullShare ((dats m 0 c).after 8 t)
  | false => owns (c : Thread nD τ) (ms0_8 t) fullShare ((dats m 0 c).after 8 t)

theorem back8_of (c : Dev nD) (t : Fin cfg0.N) :
    owns (c : Thread nD τ) (ms0_8 t) fullShare ((dats m 0 c).after 8 t) ⊢ back8 m c t := by
  unfold back8
  by_cases h : t.val % 7 = 0
  · rw [idle8, decide_eq_true h]; exact .rfl
  · rw [idle8, decide_eq_false h]
    cases (cfg0.win 8).flush t
    · show _ ⊢ iprop(∃ d, owns (c : Thread nD τ) (ms0_8 t) fullShare ((dats m 0 c).before 8 t d))
      iintro H
      iexists (dats m 0 c).after 8 t
      rw [before_8 m c t h, after_8]
      iexact H
    · exact .rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ back8 m c t)

set_option maxHeartbeats 4000000 in
/-- The body at any point takes the invariant before it to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7]
  rw [show (dats m 0 c).Φ t.succ = PhiS m c (t.val + 1) t.isLt from rfl, PhiS_succ]
  have hback := back8_of m c t
  rw [after_8] at hback
  by_cases h0 : t.val % 7 = 0
  · have hin : (dats m 0 c).Φ t.castSucc ⊢ iprop(iprop((∃ d, owns (c : Thread nD τ) scM fullShare d)) ∗ (∃ r, prngReg c r)) := by
      by_cases hz : t.val = 0
      · rw [PhiS_castSucc m c t, PhiS_zero m c _ _ hz, PhiA0_eq]
      · rw [PhiS_castSucc m c t, PhiS_pos m c _ _ hz]
        iintro ⟨HS, Hg⟩
        isplitl [HS]; · iexists _; iexact HS
        iexact Hg
    unfold projAt
    rw [start_of_first t h0] at hback ⊢
    refine (sep_mono hin .rfl).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_first c (grid0.coords t) _ _ _ _ _ _ _ _ _ _ _ _ _ _ _ _ _ _ _ _ ((first_iff t).mpr h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply hback
    iexact H8
  · have hz : t.val ≠ 0 := fun h => h0 (by rw [h])
    rw [PhiS_castSucc m c t, PhiS_pos m c _ _ hz, start_pred t h0 _]
    simp only [before_8 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_next c (grid0.coords t) _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (rowsAt m c (start t.val t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply hback
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 224 := N_0; omega), PhiA0_eq]
  iintro ⟨HS, Hg⟩
  isplitl [HS]
  · iexists _; iexact HS
  iexact Hg

/-! ## The run and the frame -/

set_option backward.isDefEq.respectTransparency.types false in
/-- Every execution ends with the arrays at what the proof data give, and every semaphore at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run : θ_run defs (onTc (τ := τ) (main (F := F))) (s₀ m ρ) (Pipeline.FramePost cfgs (dats m) 0 (V m)) :=
  (θ_run defs _ _).mono (fun _ h => h.1) (run_quiescent m ρ)

/-- The arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run m ρ)) ((θ_run defs _ _).mono (fun _ h => h.2) (run_quiescent m ρ))

end Cert.Kernel3Ideal.Proj
end
-- ==== Proof.ProjReads.lean ====
module

public import proofs.«01_k».proof.Proof.ProjIdeal
public import proofs.«01_k».proof.Proof.Rows

/-!
# The input projection's body over the extended reals, at one row and one column
-/

@[expose] public section

set_option maxRecDepth 16384

noncomputable section

namespace Cert.Kernel3Ideal.Proj

open Cert.Kernel3Ideal Cert.Kernel3Ideal.Gen
open Idealize.ShloMosaic Idealize.ShloMosaic.TcCoe

theorem whole_at (x : FVec Ideal S1024x2048 .f32) (sc sh : FVec Ideal S1x1x2048 .f32) (r : Fin 1024) (d : Fin 2048) :
    k0_pay3 (F := Ideal) x sc sh (ix2 r d) = Rows.modulated (fun e => x (ix2 r e)) (fun e => sh (ix3 0 0 e)) (fun e => sc (ix3 0 0 e)) d := by
  pointwise [k0_pay3]
  rfl

theorem high_at (x : FVec Ideal S1024x2048 .f32) (sc sh : FVec Ideal S1x1x2048 .f32) (r : Fin 1024) (d : Fin 2048) :
    k0_pay4 (F := Ideal) x sc sh (ix2 r d) = Rows.modulated (fun e => x (ix2 r e)) (fun e => sh (ix3 0 0 e)) (fun e => sc (ix3 0 0 e)) d :=
  whole_at x sc sh r d

theorem low_at (x : FVec Ideal S1024x2048 .f32) (sc sh : FVec Ideal S1x1x2048 .f32) (r : Fin 1024) (d : Fin 2048) :
    k0_pay5 (F := Ideal) x sc sh (ix2 r d)
      = Rows.modulated (fun e => x (ix2 r e)) (fun e => sh (ix3 0 0 e)) (fun e => sc (ix3 0 0 e)) d
        - Rows.modulated (fun e => x (ix2 r e)) (fun e => sh (ix3 0 0 e)) (fun e => sc (ix3 0 0 e)) d :=
  congrArg₂ (· - ·) (whole_at x sc sh r d) (whole_at x sc sh r d)

theorem kept_at (x : FVec Ideal S1024x2048 .f32) (sc sh : FVec Ideal S1x1x2048 .f32) (r : Fin 1024) (d : Fin 2048) :
    k0_pay6 (F := Ideal) x sc sh (ix2 r d) = Rows.modulated (fun e => x (ix2 r e)) (fun e => sh (ix3 0 0 e)) (fun e => sc (ix3 0 0 e)) d := by
  rw [← high_at x sc sh r d]
  unfold k0_pay6
  generalize k0_pay4 (F := Ideal) x sc sh = y
  pointwise

theorem block_at (h : FVec Ideal S1024x2048 .bf16) (w : FVec Ideal S2048x1792 .bf16) (b : FVec Ideal S1x1792 .f32) (r : Fin 1024) (j : Fin 1792) :
    k0_pay2 (F := Ideal) h w b (ix2 r j) = (∑ k : Fin 2048, h (ix2 r k) * w (ix2 k j)) + b (ix2 0 j) := by
  pointwise [k0_pay2]

theorem pair_low (w : FVec Ideal S2048x128 .f32) (k : Fin 2048) (j : Fin 128) : k0_pay8 (F := Ideal) w (ix2 k ⟨j.val, by omega⟩) = w (ix2 k j) := by
  pointwise [k0_pay8, k0_pay7]

theorem pair_high (w : FVec Ideal S2048x128 .f32) (k : Fin 2048) (j : Fin 128) : k0_pay8 (F := Ideal) w (ix2 k ⟨128 + j.val, by omega⟩) = w (ix2 k j) - w (ix2 k j) := by
  pointwise [k0_pay8, k0_pay7]

theorem sum_at (h l : FVec Ideal S1024x2048 .bf16) (w : FVec Ideal S2048x128 .bf16) (p : FVec Ideal S2048x256 .bf16) (b : FVec Ideal S1x128 .f32) (r : Fin 1024) (j : Fin 128) :
    k0_pay1 (F := Ideal) h l w p (constant S1024x256 .f32 0x00000000#32) b (ix2 r j)
      = (∑ k : Fin 2048, h (ix2 r k) * p (ix2 k ⟨j.val, by omega⟩)) + (∑ k : Fin 2048, h (ix2 r k) * p (ix2 k ⟨128 + j.val, by omega⟩))
          + (∑ k : Fin 2048, l (ix2 r k) * w (ix2 k j)) + b (ix2 0 j) := by
  pointwise [k0_pay1]

end Cert.Kernel3Ideal.Proj
end
-- ==== Proof.ProjBlocks.lean ====
module

public import proofs.«01_k».proof.Proof.ProjReads
public import Idealize.ShloMosaic.Lib.Pipeline.ValueKit.Point
public import Idealize.ShloMosaic.Lib.Pipeline.ValueKit.Geometry

/-!
# The input projection's blocks

Which entries of its operands each grid point reads.
-/

@[expose] public section

set_option maxRecDepth 16384

noncomputable section

namespace Cert.Kernel3Ideal.Proj

open Cert.Kernel3Ideal Cert.Kernel3Ideal.Gen
open Idealize.ShloMosaic Idealize.ShloMosaic.TcCoe

variable {F : FTy → Type} [FloatOps F]
variable (m : (ℓ : Loc nD τ sig) → Buf (Elt F) ℓ)

theorem at0 : ∀ t : Fin cfg0.N, win0_0.index t (0 : Fin 2) = t.val / 7 ∧ win0_0.index t (1 : Fin 2) = 0 :=
  (by decide +kernel : ∀ t : Fin grid0.N, _)
theorem at1 : ∀ t : Fin cfg0.N, win0_1.index t (0 : Fin 3) = t.val / 112 ∧ win0_1.index t (1 : Fin 3) = 0 ∧ win0_1.index t (2 : Fin 3) = 0 :=
  (by decide +kernel : ∀ t : Fin grid0.N, _)
theorem at2 : ∀ t : Fin cfg0.N, win0_2.index t (0 : Fin 3) = t.val / 112 ∧ win0_2.index t (1 : Fin 3) = 0 ∧ win0_2.index t (2 : Fin 3) = 0 :=
  (by decide +kernel : ∀ t : Fin grid0.N, _)
theorem at3 : ∀ t : Fin cfg0.N, win0_3.index t (0 : Fin 2) = 0 ∧ win0_3.index t (1 : Fin 2) = t.val % 7 :=
  (by decide +kernel : ∀ t : Fin grid0.N, _)
theorem at4 : ∀ t : Fin cfg0.N, win0_4.index t (0 : Fin 2) = 0 ∧ win0_4.index t (1 : Fin 2) = t.val % 7 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = 0 ∧ win0_6.index t (1 : Fin 2) = 0 :=
  (by decide +kernel : ∀ t : Fin grid0.N, _)
theorem at7 : ∀ t : Fin cfg0.N, win0_7.index t (0 : Fin 2) = t.val / 7 ∧ win0_7.index t (1 : Fin 2) = t.val % 7 :=
  (by decide +kernel : ∀ t : Fin grid0.N, _)
theorem at8 : ∀ t : Fin cfg0.N, win0_8.index t (0 : Fin 2) = t.val / 7 ∧ win0_8.index t (1 : Fin 2) = 0 :=
  (by decide +kernel : ∀ t : Fin grid0.N, _)

/-- Row `r` of the tile of point `n`. -/
def row (n : ℕ) (r : Fin 1024) : Fin 32768 := ⟨(n / 7 * 1024 + r.val) % 32768, Nat.mod_lt _ (by decide)⟩
/-- Column `j` of the block of point `n`. -/
def col (n : ℕ) (j : Fin 1792) : Fin 12544 := ⟨(n % 7 * 1792 + j.val) % 12544, Nat.mod_lt _ (by decide)⟩

theorem blk0 (c : Dev nD) (t : Fin cfg0.N) (r : Fin 1024) (d : Fin 2048) :
    iblk m c 0 t (ix2 r d) = m ((c : Thread nD τ).loc main_arg0) (ix2 (row t.val r) d) := by
  have ht := point_lt t
  obtain ⟨e0, e1⟩ := at0 t
  refine Eq.trans (congrArg (V m c main_arg0) (funext fun a => Fin.ext ?_)) (congrFun (V_main_arg0 m c) _)
  match a with
  | ⟨0, _⟩ => show win0_0.index t (0 : Fin 2) * 1024 + 1 * r.val = (t.val / 7 * 1024 + r.val) % 32768; omega
  | ⟨1, _⟩ => show win0_0.index t (1 : Fin 2) * 2048 + 1 * d.val = d.val; omega

theorem blk1 (c : Dev nD) (t : Fin cfg0.N) (r : Fin 1024) (d : Fin 2048) :
    iblk m c 1 t (ix3 0 0 d) = m ((c : Thread nD τ).loc main_arg1) (ix3 (Rows.batch (row t.val r)) 0 d) := by
  have ht := point_lt t
  obtain ⟨e0, e1, e2⟩ := at1 t
  refine Eq.trans (congrArg (V m c main_arg1) (funext fun a => Fin.ext ?_)) (congrFun (V_main_arg1 m c) _)
  match a with
  | ⟨0, _⟩ => show win0_1.index t (0 : Fin 3) * 1 + 1 * 0 = ((t.val / 7 * 1024 + r.val) % 32768) / 16384; omega
  | ⟨1, _⟩ => show win0_1.index t (1 : Fin 3) * 1 + 1 * 0 = 0; omega
  | ⟨2, _⟩ => show win0_1.index t (2 : Fin 3) * 2048 + 1 * d.val = d.val; omega

theorem blk2 (c : Dev nD) (t : Fin cfg0.N) (r : Fin 1024) (d : Fin 2048) :
    iblk m c 2 t (ix3 0 0 d) = m ((c : Thread nD τ).loc main_arg2) (ix3 (Rows.batch (row t.val r)) 0 d) := by
  have ht := point_lt t
  obtain ⟨e0, e1, e2⟩ := at2 t
  refine Eq.trans (congrArg (V m c main_arg2) (funext fun a => Fin.ext ?_)) (congrFun (V_main_arg2 m c) _)
  match a with
  | ⟨0, _⟩ => show win0_2.index t (0 : Fin 3) * 1 + 1 * 0 = ((t.val / 7 * 1024 + r.val) % 32768) / 16384; omega
  | ⟨1, _⟩ => show win0_2.index t (1 : Fin 3) * 1 + 1 * 0 = 0; omega
  | ⟨2, _⟩ => show win0_2.index t (2 : Fin 3) * 2048 + 1 * d.val = d.val; omega

theorem blk3 (c : Dev nD) (t : Fin cfg0.N) (k : Fin 2048) (j : Fin 1792) :
    iblk m c 3 t (ix2 k j) = m ((c : Thread nD τ).loc main_arg3) (ix2 k (col t.val j)) := by
  obtain ⟨e0, e1⟩ := at3 t
  refine Eq.trans (congrArg (V m c main_arg3) (funext fun a => Fin.ext ?_)) (congrFun (V_main_arg3 m c) _)
  match a with
  | ⟨0, _⟩ => show win0_3.index t (0 : Fin 2) * 2048 + 1 * k.val = k.val; omega
  | ⟨1, _⟩ => show win0_3.index t (1 : Fin 2) * 1792 + 1 * j.val = (t.val % 7 * 1792 + j.val) % 12544; omega

theorem blk4 (c : Dev nD) (t : Fin cfg0.N) (j : Fin 1792) :
    iblk m c 4 t (ix2 0 j) = m ((c : Thread nD τ).loc main_arg4) (ix2 0 (col t.val j)) := by
  obtain ⟨e0, e1⟩ := at4 t
  refine Eq.trans (congrArg (V m c main_arg4) (funext fun a => Fin.ext ?_)) (congrFun (V_main_arg4 m c) _)
  match a with
  | ⟨0, _⟩ => show win0_4.index t (0 : Fin 2) * 1 + 1 * 0 = 0; omega
  | ⟨1, _⟩ => show win0_4.index t (1 : Fin 2) * 1792 + 1 * j.val = (t.val % 7 * 1792 + j.val) % 12544; omega

theorem blk5 (c : Dev nD) (t : Fin cfg0.N) (k : Fin 2048) (j : Fin 128) :
    iblk m c 5 t (ix2 k j) = m ((c : Thread nD τ).loc main_arg5) (ix2 k j) := by
  obtain ⟨e0, e1⟩ := at5 t
  refine Eq.trans (congrArg (V m c main_arg5) (funext fun a => Fin.ext ?_)) (congrFun (V_main_arg5 m c) _)
  match a with
  | ⟨0, _⟩ => show win0_5.index t (0 : Fin 2) * 2048 + 1 * k.val = k.val; omega
  | ⟨1, _⟩ => show win0_5.index t (1 : Fin 2) * 128 + 1 * j.val = j.val; omega

theorem blk6 (c : Dev nD) (t : Fin cfg0.N) (j : Fin 128) :
    iblk m c 6 t (ix2 0 j) = m ((c : Thread nD τ).loc main_arg6) (ix2 0 j) := by
  obtain ⟨e0, e1⟩ := at6 t
  refine Eq.trans (congrArg (V m c main_arg6) (funext fun a => Fin.ext ?_)) (congrFun (V_main_arg6 m c) _)
  match a with
  | ⟨0, _⟩ => show win0_6.index t (0 : Fin 2) * 1 + 1 * 0 = 0; omega
  | ⟨1, _⟩ => show win0_6.index t (1 : Fin 2) * 128 + 1 * j.val = j.val; omega

end Cert.Kernel3Ideal.Proj
end
-- ==== Proof.ProjReal.lean ====
module

public import proofs.«01_k».proof.Proof.Rows
public import proofs.«01_k».proof.Proof.Equal

/-!
# Real rows

A normalised row is real, whatever the row: the length of a row and the number added to its variance are positive, and a
row that is not all real has an infinite variance, so that its norm is zero.
-/

@[expose] public section

noncomputable section

namespace Cert.Rows

open Idealize.ShloMosaic Cert.ReferenceIdeal.Ref

theorem length_real : Ideal.ofBits .f32 0x45000000#32 = ((2048 : ℝ) : EReal) := by
  simp [Ideal.ofBits, Ideal.ieee, -EReal.coe_mul]; norm_num

theorem small_real : ∃ e : ℝ, 0 < e ∧ Ideal.ofBits .f32 0x3727C5AC#32 = (e : EReal) := by
  refine ⟨_, ?_, by simp [Ideal.ofBits, Ideal.ieee, -EReal.coe_mul]; rfl⟩
  positivity

/-- The mean of a real row. -/
theorem mean_real (r : Fin 2048 → ℝ) : mean (fun e => (r e : EReal)) = (((∑ e, r e) / 2048 : ℝ) : EReal) := by
  unfold mean
  rw [length_real, Softmax.coe_sum, Ideal.div_coe (by norm_num), ← EReal.coe_mul]
  congr 1
  ring

theorem norm_real (r : Fin 2048 → ℝ) (d : Fin 2048) : IsReal (norm (fun e => (r e : EReal)) d) := by
  unfold norm
  simp only [mean_real, ← EReal.coe_sub, ← EReal.coe_mul]
  obtain ⟨s, hs, es⟩ := small_real
  have hv : 0 ≤ (∑ e, (r e - (∑ e, r e) / 2048) * (r e - (∑ e, r e) / 2048)) / 2048 :=
    div_nonneg (Finset.sum_nonneg fun e _ => mul_self_nonneg _) (by norm_num)
  rw [es, ← EReal.coe_add, Ideal.rsqrt_coe, if_neg (by linarith), if_neg (by linarith), ← EReal.coe_mul]
  exact ⟨_, rfl⟩

theorem real_of_add {a b : EReal} (h : IsReal (a + b)) : IsReal a ∧ IsReal b := by
  obtain ⟨r, hr⟩ := h
  induction a using EReal.rec with
  | bot => rw [EReal.bot_add] at hr; exact absurd hr.symm (EReal.coe_ne_bot r)
  | top =>
    induction b using EReal.rec with
    | bot => rw [EReal.add_bot] at hr; exact absurd hr.symm (EReal.coe_ne_bot r)
    | top => rw [EReal.top_add_top] at hr; exact absurd hr.symm (EReal.coe_ne_top r)
    | coe b => rw [EReal.top_add_coe] at hr; exact absurd hr.symm (EReal.coe_ne_top r)
  | coe a =>
    refine ⟨⟨a, rfl⟩, ?_⟩
    induction b using EReal.rec with
    | bot => rw [EReal.add_bot] at hr; exact absurd hr.symm (EReal.coe_ne_bot r)
    | top => rw [EReal.coe_add_top] at hr; exact absurd hr.symm (EReal.coe_ne_top r)
    | coe b => exact ⟨b, rfl⟩

/-- A sum that is real has real terms. -/
theorem real_of_sum {y : Fin 2048 → EReal} (h : IsReal (∑ e, y e)) (e : Fin 2048) : IsReal (y e) := by
  rw [← Finset.add_sum_erase Finset.univ y (Finset.mem_univ e)] at h
  exact (real_of_add h).1

theorem top_of_not_real {x : EReal} (h : ¬IsReal x) (h0 : 0 ≤ x) : x = ⊤ := by
  induction x using EReal.rec with
  | bot => exact absurd h0 (by simp)
  | top => rfl
  | coe r => exact absurd ⟨r, rfl⟩ h

theorem square_top {x : EReal} (h : ¬IsReal x) : x * x = ⊤ := by
  induction x using EReal.rec with
  | bot => exact EReal.bot_mul_bot
  | top => exact EReal.top_mul_top
  | coe r => exact absurd ⟨r, rfl⟩ h

/-- A mean that is real is the mean of a real row. -/
theorem real_of_mean {y : Fin 2048 → EReal} (h : IsReal (mean y)) (e : Fin 2048) : IsReal (y e) := by
  refine real_of_sum ?_ e
  unfold mean at h
  rw [length_real, Ideal.div_coe (by norm_num)] at h
  obtain ⟨r, hr⟩ := h
  generalize ∑ e, y e = s at hr
  induction s using EReal.rec with
  | bot => rw [EReal.bot_mul_coe_of_pos (by norm_num)] at hr; exact absurd hr.symm (EReal.coe_ne_bot r)
  | top => rw [EReal.top_mul_coe_of_pos (by norm_num)] at hr; exact absurd hr.symm (EReal.coe_ne_top r)
  | coe s => exact ⟨s, rfl⟩

theorem mean_top : mean (fun _ => ⊤) = ⊤ := by
  have hs : (∑ _e : Fin 2048, (⊤ : EReal)) = ⊤ :=
    top_of_not_real (fun h => by obtain ⟨r, hr⟩ := real_of_sum h 0; exact absurd hr.symm (EReal.coe_ne_top r)) (Finset.sum_nonneg fun _ _ => le_top)
  unfold mean
  rw [hs, length_real, Ideal.div_coe (by norm_num), EReal.top_mul_coe_of_pos (by norm_num)]

/-- A normalised row is real. -/
theorem norm_finite (y : Fin 2048 → EReal) (d : Fin 2048) : IsReal (norm y d) := by
  by_cases h : IsReal (mean y)
  · choose r hr using real_of_mean h
    obtain rfl : y = fun e => (r e : EReal) := funext hr
    exact norm_real r d
  · have hd : ∀ e, ¬IsReal (y e - mean y) := fun e he => h (by
      rw [sub_eq_add_neg] at he
      obtain ⟨r, hr⟩ := (real_of_add he).2
      exact ⟨-r, by rw [EReal.coe_neg, ← hr, neg_neg]⟩)
    unfold norm
    simp only [square_top (hd _), mean_top]
    obtain ⟨s, hs, es⟩ := small_real
    rw [es, EReal.top_add_coe, Ideal.rsqrt_top, mul_zero]
    exact ⟨0, rfl⟩

theorem modulated_real (y : Fin 2048 → EReal) {sh sc : Fin 2048 → EReal} (hsh : ∀ e, IsReal (sh e)) (hsc : ∀ e, IsReal (sc e)) (d : Fin 2048) :
    IsReal (modulated y sh sc d) := by
  obtain ⟨n, hn⟩ := norm_finite y d
  obtain ⟨a, ha⟩ := hsh d
  obtain ⟨b, hb⟩ := hsc d
  refine ⟨n * (1 + b) + a, ?_⟩
  unfold modulated
  rw [hn, ha, hb, EReal.coe_add, EReal.coe_mul, EReal.coe_add, EReal.coe_one]

theorem sub_self_real {x : EReal} (h : IsReal x) : x - x = 0 := by
  obtain ⟨r, rfl⟩ := h
  rw [← EReal.coe_sub, sub_self, EReal.coe_zero]

/-- A product split into high and low parts: over the reals the low parts are zero. -/
theorem split_sum (h w : Fin 2048 → EReal) (hh : ∀ k, IsReal (h k)) (hw : ∀ k, IsReal (w k)) :
    (∑ k, h k * w k) + (∑ k, h k * (w k - w k)) + (∑ k, (h k - h k) * w k) = ∑ k, h k * w k := by
  simp only [sub_self_real (hw _), sub_self_real (hh _), mul_zero, zero_mul, Finset.sum_const_zero, add_zero]

end Cert.Rows
end
-- ==== Proof.ProjEqual.lean ====
module

public import proofs.«01_k».proof.Proof.ProjBlocks
public import proofs.«01_k».proof.Proof.ProjReal

/-!
# What the input projection computes

The first result is the modulated rows times the weights plus the bias, on any values. The second, whose product is
split into high and low parts, is the same product with the gate's weights where the operands are finite.
-/

@[expose] public section

set_option maxRecDepth 16384

noncomputable section

namespace Cert.Kernel3Ideal.Proj

open Cert.Kernel3Ideal Cert.Kernel3Ideal.Gen
open Idealize.ShloMosaic Idealize.ShloMosaic.TcCoe Idealize.SL.Sem
open Cert.ReferenceIdeal.Ref (IsReal)

variable (m : (ℓ : Loc nD τ sig) → Buf (Elt Ideal) ℓ)

/-- The arguments, by row and column. -/
def argX (c : Dev nD) (R : Fin 32768) (e : Fin 2048) : EReal := m ((c : Thread nD τ).loc main_arg0) (ix2 R e)
def argShift (c : Dev nD) (b : Fin 2) (e : Fin 2048) : EReal := m ((c : Thread nD τ).loc main_arg1) (ix3 b 0 e)
def argScale (c : Dev nD) (b : Fin 2) (e : Fin 2048) : EReal := m ((c : Thread nD τ).loc main_arg2) (ix3 b 0 e)
def argMain (c : Dev nD) (k : Fin 2048) (j : Fin 12544) : EReal := m ((c : Thread nD τ).loc main_arg3) (ix2 k j)
def argMainBias (c : Dev nD) (j : Fin 12544) : EReal := m ((c : Thread nD τ).loc main_arg4) (ix2 0 j)
def argGate (c : Dev nD) (k : Fin 2048) (j : Fin 128) : EReal := m ((c : Thread nD τ).loc main_arg5) (ix2 k j)
def argGateBias (c : Dev nD) (j : Fin 128) : EReal := m ((c : Thread nD τ).loc main_arg6) (ix2 0 j)

/-- The modulated row `R`. -/
def hid (c : Dev nD) (R : Fin 32768) : Fin 2048 → EReal :=
  Rows.modulated (argX m c R) (argShift m c (Rows.batch R)) (argScale m c (Rows.batch R))

/-- The projection of row `R`, and its gate logits. -/
def mainOf (c : Dev nD) (R : Fin 32768) (j : Fin 12544) : EReal := (∑ k : Fin 2048, hid m c R k * argMain m c k j) + argMainBias m c j
def gateOf (c : Dev nD) (R : Fin 32768) (j : Fin 128) : EReal := (∑ k : Fin 2048, hid m c R k * argGate m c k j) + argGateBias m c j

theorem hid_point (c : Dev nD) (t : Fin cfg0.N) (r : Fin 1024) (d : Fin 2048) :
    Rows.modulated (fun e => iblk m c 0 t (ix2 r e)) (fun e => iblk m c 1 t (ix3 0 0 e)) (fun e => iblk m c 2 t (ix3 0 0 e)) d = hid m c (row t.val r) d := by
  have e0 : (fun e => iblk m c 0 t (ix2 r e)) = argX m c (row t.val r) := funext fun e => blk0 m c t r e
  have e1 : (fun e => iblk m c 1 t (ix3 0 0 e)) = argShift m c (Rows.batch (row t.val r)) := funext fun e => blk1 m c t r e
  have e2 : (fun e => iblk m c 2 t (ix3 0 0 e)) = argScale m c (Rows.batch (row t.val r)) := funext fun e => blk2 m c t r e
  rw [e0, e1, e2]
  rfl

theorem row_start (n : ℕ) (hn : n < cfg0.N) (r : Fin 1024) : row (start n hn).val r = row n r :=
  Fin.ext (by show ((n - n % 7) / 7 * 1024 + r.val) % 32768 = (n / 7 * 1024 + r.val) % 32768; rw [show (n - n % 7) / 7 = n / 7 by omega])

/-- What a point leaves in the first output's block. -/
theorem main_point (c : Dev nD) (t : Fin cfg0.N) (r : Fin 1024) (j : Fin 1792) : projAt m c t (ix2 r j) = mainOf m c (row t.val r) (col t.val j) := by
  refine (block_at _ _ _ r j).trans (congrArg₂ (· + ·) (Finset.sum_congr rfl fun k _ => congrArg₂ (· * ·) ?_ (blk3 m c t k j)) (blk4 m c t j))
  refine (kept_at _ _ _ r k).trans ((hid_point m c _ r k).trans ?_)
  rw [row_start]

/-- What a tile leaves in the second output's block. -/
theorem gate_point (c : Dev nD) (t : Fin cfg0.N) (r : Fin 1024) (j : Fin 128)
    (hh : ∀ k, IsReal (hid m c (row t.val r) k)) (hw : ∀ k, IsReal (argGate m c k j)) :
    foxAt m c t (ix2 r j) = gateOf m c (row t.val r) j := by
  refine (sum_at _ _ _ _ _ r j).trans (congrArg₂ (· + ·) (Eq.trans ?_ (Rows.split_sum (hid m c (row t.val r)) (fun k => argGate m c k j) hh hw)) (blk6 m c t j))
  have ew : ∀ k, iblk m c 5 t (ix2 k j) = argGate m c k j := fun k => blk5 m c t k j
  refine congrArg₂ (· + ·) (congrArg₂ (· + ·) (Finset.sum_congr rfl fun k _ => ?_) (Finset.sum_congr rfl fun k _ => ?_)) (Finset.sum_congr rfl fun k _ => ?_)
  · exact congrArg₂ (· * ·) ((high_at _ _ _ r k).trans (hid_point m c t r k)) ((pair_low _ k j).trans (ew k))
  · exact congrArg₂ (· * ·) ((high_at _ _ _ r k).trans (hid_point m c t r k)) ((pair_high _ k j).trans (congrArg₂ (· - ·) (ew k) (ew k)))
  · exact congrArg₂ (· * ·) ((low_at _ _ _ r k).trans (congrArg₂ (· - ·) (hid_point m c t r k) (hid_point m c t r k))) (ew k)

/-! ## The arrays after the run -/

/-- The first result. -/
def mainArr (c : Dev nD) : FVec Ideal S32768x12544 .bf16 := fun i => mainOf m c (i 0) (i 1)
/-- The second result. -/
def gateArr (c : Dev nD) : FVec Ideal S32768x128 .f32 := fun i => gateOf m c (i 0) (i 1)

theorem main_array (c : Dev nD) : (dats m 0 c).arrAt 7 cfg0.N = mainArr m c := by
  refine (dats m 0 c).arrAt_eq_of_covers 7 _ (by decide +kernel) fun t hf y => ?_
  have ht := point_lt t
  obtain ⟨e0, e1⟩ := at7 t
  blk_simp
  rw [after_7]
  refine Eq.trans (?_ : _ = projAt m c t (ix2 (y 0) (y 1))) ((main_point m c t (y 0) (y 1)).trans ?_)
  · exact congrArg (projAt m c t) (funext fun a => by match a with | ⟨0, _⟩ => rfl | ⟨1, _⟩ => rfl)
  · have h0 : (y 0).val < 1024 := (y 0).isLt
    have h1 : (y 1).val < 1792 := (y 1).isLt
    refine congrArg₂ (mainOf m c) (Fin.ext ?_) (Fin.ext ?_)
    · show (t.val / 7 * 1024 + (y 0).val) % 32768 = win0_7.index t (0 : Fin 2) * 1024 + 1 * (y 0).val; omega
    · show (t.val % 7 * 1792 + (y 1).val) % 12544 = win0_7.index t (1 : Fin 2) * 1792 + 1 * (y 1).val; omega

theorem gate_array (c : Dev nD) (hh : ∀ R k, IsReal (hid m c R k)) (hw : ∀ k j, IsReal (argGate m c k j)) : (dats m 0 c).arrAt 8 cfg0.N = gateArr m c := by
  refine (dats m 0 c).arrAt_eq_of_covers 8 _ (by decide +kernel) fun t hf y => ?_
  have ht := point_lt t
  obtain ⟨e0, e1⟩ := at8 t
  blk_simp
  rw [after_8]
  refine Eq.trans (?_ : _ = foxAt m c (start t.val t.isLt) (ix2 (y 0) (y 1))) ((gate_point m c _ (y 0) (y 1) (fun k => hh _ k) (fun k => hw k _)).trans ?_)
  · exact congrArg (foxAt m c (start t.val t.isLt)) (funext fun a => by match a with | ⟨0, _⟩ => rfl | ⟨1, _⟩ => rfl)
  · have h0 : (y 0).val < 1024 := (y 0).isLt
    have h1 : (y 1).val < 128 := (y 1).isLt
    refine (congrArg (fun R => gateOf m c R (y 1)) (row_start t.val t.isLt (y 0))).trans ?_
    refine congrArg₂ (gateOf m c) (Fin.ext ?_) (Fin.ext ?_)
    · show (t.val / 7 * 1024 + (y 0).val) % 32768 = win0_8.index t (0 : Fin 2) * 1024 + 1 * (y 0).val; omega
    · show (y 1).val = win0_8.index t (1 : Fin 2) * 128 + 1 * (y 1).val; omega

/-! ## The run, read -/

theorem run_arrays (ρ : Dev nD → PrngReg) (hh : ∀ c R k, IsReal (hid m c R k)) (hw : ∀ c k j, IsReal (argGate m c k j)) :
    θ_run defs (onTc (τ := τ) (main (F := Ideal))) ⟨m, fun _ => 0, ρ⟩ (fun r => ∀ c : Dev nD,
      r.2.mem ((c : Thread nD τ).loc main_v0_0) = mainArr m c
      ∧ r.2.mem ((c : Thread nD τ).loc main_v0_1) = gateArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c => ⟨((h.1 c).1 7).trans (main_array m c), ((h.1 c).1 8).trans (gate_array m c (hh c) (hw c)), h.2.1 c⟩)
    (θ_run_and (run m ρ) (frame m ρ))

end Cert.Kernel3Ideal.Proj
end
-- ==== Proof.ProjRef.lean ====
module

public import proofs.«01_k».proof.Proof.Rows
public import proofs.«01_k».proof.Proof.Gen.Reference3Ideal.Read

/-!
# The input projection's reference, read at an index
-/

@[expose] public section

set_option maxRecDepth 16384

noncomputable section

namespace Cert.Reference3Ideal.Proj

open Cert.Reference3Ideal Cert.Reference3Ideal.Gen Cert.Reference3Ideal.Read
open Idealize.ShloMosaic Idealize.ShloMosaic.TcCoe

/-- Row `s` of batch `b` among the flattened rows. -/
def row (b : Fin 2) (s : Fin 16384) : Fin 32768 := ⟨b.val * 16384 + s.val, by omega⟩

theorem row_split (R : Fin 32768) : R = row (Rows.batch R) ⟨R.val % 16384, Nat.mod_lt _ (by decide)⟩ :=
  Fin.ext (by show R.val = R.val / 16384 * 16384 + R.val % 16384; omega)

theorem x_at (x0 : FVec Ideal S32768x2048 .f32) (b : Fin 2) (s : Fin 16384) (k : Fin 2048) :
    val_main_v0 (F := Ideal) x0 (ix3 b s k) = x0 (ix2 (row b s) k) := by
  rw [val_main_v0_apply]
  refine congrArg x0 (funext fun a => Fin.ext ?_)
  match a with
  | ⟨0, _⟩ => show ((b.val * 16384 + s.val) * 2048 + k.val) / 2048 = b.val * 16384 + s.val; omega
  | ⟨1, _⟩ => show ((b.val * 16384 + s.val) * 2048 + k.val) % 2048 = k.val; omega

theorem hid_at (x0 : FVec Ideal S32768x2048 .f32) (x1 x2 : FVec Ideal S2x1x2048 .f32) (b : Fin 2) (s : Fin 16384) (k : Fin 2048) :
    val_main_v24 (F := Ideal) x0 x1 x2 (ix3 b s k) = Rows.modulated (fun e => x0 (ix2 (row b s) e)) (fun e => x1 (ix3 b 0 e)) (fun e => x2 (ix3 b 0 e)) k := by
  simp only [← x_at]
  unfold val_main_v24 val_main_v23 val_main_v22 val_main_v21 val_main_v20 val_main_v19 val_main_cst_4 val_main_v18 val_main_v17 val_main_v16 val_main_v15 val_main_v14 val_main_cst_3 val_main_v13 val_main_v12 val_main_v11 val_main_v10 val_main_cst_2 val_main_v9 val_main_v8 val_main_cst_1 val_main_v7 val_main_v6 val_main_v5 val_main_v4 val_main_v3 val_main_cst_0 val_main_v2 val_main_v1 val_main_cst
  generalize val_main_v0 (F := Ideal) x0 = y
  pointwise
  rfl

theorem wide_at (x0 : FVec Ideal S32768x2048 .f32) (x1 x2 : FVec Ideal S2x1x2048 .f32) (x3 : FVec Ideal S2048x12544 .bf16) (x4 : FVec Ideal S1x12544 .f32) (b : Fin 2) (s : Fin 16384) (j : Fin 12544) :
    val_main_v29 (F := Ideal) x0 x1 x2 x3 x4 (ix3 b s j) = (∑ k : Fin 2048, val_main_v24 (F := Ideal) x0 x1 x2 (ix3 b s k) * x3 (ix2 k j)) + x4 (ix2 0 j) := by
  unfold val_main_v29 val_main_v28 val_main_v27 val_main_v26 val_main_v25
  generalize val_main_v24 (F := Ideal) x0 x1 x2 = y
  pointwise

theorem narrow_at (x0 : FVec Ideal S32768x2048 .f32) (x1 x2 : FVec Ideal S2x1x2048 .f32) (x5 : FVec Ideal S2048x128 .f32) (x6 : FVec Ideal S1x128 .f32) (b : Fin 2) (s : Fin 16384) (j : Fin 128) :
    val_main_v33 (F := Ideal) x0 x1 x2 x5 x6 (ix3 b s j) = (∑ k : Fin 2048, val_main_v24 (F := Ideal) x0 x1 x2 (ix3 b s k) * x5 (ix2 k j)) + x6 (ix2 0 j) := by
  unfold val_main_v33 val_main_v32 val_main_v31 val_main_v30
  generalize val_main_v24 (F := Ideal) x0 x1 x2 = y
  pointwise

/-- The projection, read at a row and a column. -/
theorem main_at (x0 : FVec Ideal S32768x2048 .f32) (x1 x2 : FVec Ideal S2x1x2048 .f32) (x3 : FVec Ideal S2048x12544 .bf16) (x4 : FVec Ideal S1x12544 .f32) (R : Fin 32768) (j : Fin 12544) :
    val_main_v35 (F := Ideal) x0 x1 x2 x3 x4 (ix2 R j)
      = (∑ k : Fin 2048, Rows.modulated (fun e => x0 (ix2 R e)) (fun e => x1 (ix3 (Rows.batch R) 0 e)) (fun e => x2 (ix3 (Rows.batch R) 0 e)) k * x3 (ix2 k j)) + x4 (ix2 0 j) := by
  show val_main_v34 (F := Ideal) x0 x1 x2 x3 x4 (ix2 R j) = _
  rw [val_main_v34_apply, show idx_main_v34 (ix2 R j) = ix3 (Rows.batch R) ⟨R.val % 16384, Nat.mod_lt _ (by decide)⟩ j from funext fun a => Fin.ext (by
    match a with
    | ⟨0, _⟩ => show (R.val * 12544 + j.val) / 205520896 = R.val / 16384; omega
    | ⟨1, _⟩ => show (R.val * 12544 + j.val) / 12544 % 16384 = R.val % 16384; omega
    | ⟨2, _⟩ => show (R.val * 12544 + j.val) % 12544 = j.val; omega), wide_at]
  simp only [hid_at, ← row_split]

/-- The gate logits, read at a row and a column. -/
theorem gate_at (x0 : FVec Ideal S32768x2048 .f32) (x1 x2 : FVec Ideal S2x1x2048 .f32) (x5 : FVec Ideal S2048x128 .f32) (x6 : FVec Ideal S1x128 .f32) (R : Fin 32768) (j : Fin 128) :
    val_main_v36 (F := Ideal) x0 x1 x2 x5 x6 (ix2 R j)
      = (∑ k : Fin 2048, Rows.modulated (fun e => x0 (ix2 R e)) (fun e => x1 (ix3 (Rows.batch R) 0 e)) (fun e => x2 (ix3 (Rows.batch R) 0 e)) k * x5 (ix2 k j)) + x6 (ix2 0 j) := by
  rw [val_main_v36_apply, show idx_main_v36 (ix2 R j) = ix3 (Rows.batch R) ⟨R.val % 16384, Nat.mod_lt _ (by decide)⟩ j from funext fun a => Fin.ext (by
    match a with
    | ⟨0, _⟩ => show (R.val * 128 + j.val) / 2097152 = R.val / 16384; omega
    | ⟨1, _⟩ => show (R.val * 128 + j.val) / 128 % 16384 = R.val % 16384; omega
    | ⟨2, _⟩ => show (R.val * 128 + j.val) % 128 = j.val; omega), narrow_at]
  simp only [hid_at, ← row_split]

end Cert.Reference3Ideal.Proj
end
-- ==== Proof.ProjClaim.lean ====
module

public import proofs.«01_k».proof.Defs
public import proofs.«01_k».proof.Proof.ProjEqual
public import proofs.«01_k».proof.Proof.ProjRef
public import proofs.«01_k».proof.Proof.Gen.Reference3Ideal.Run
public import Idealize.ShloMosaic.Lib.Quiescent
public import Idealize.ShloMosaic.Adequacy

/-!
# The input projection equals its reference

Over the extended reals, where the shift, the scale and the gate's weights are finite.
-/

@[expose] public section

set_option maxRecDepth 16384

noncomputable section

instance Cert.Pre_finite3.facts : Cert.Pre_finite3.Facts where
  bcast_S_S2x1x2048 := by decide
  reducesTo_S2x1x2048_S_d0_1_2 := by decide
  h_S_ := by decide
  bcast_S_S2048x128 := by decide
  reducesTo_S2048x128_S_d0_1 := by decide

namespace Cert.Proof

open Idealize.ShloMosaic Idealize.ShloMosaic.TcCoe Idealize.SL.Sem
open Cert.ReferenceIdeal.Ref (IsReal andi_one real_of_abs lt_of_cmp pos_inf)

/-- The reference's run: the arguments end as they began, and every semaphore at zero. -/
theorem reference3_run (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0) :=
  θ_run_mono (Cert.Reference3Ideal.Value.run m ρ) fun r h => ⟨fun c => (h c).2.2, sem_eq_zero_of_no_sems (by decide) r.2⟩

/-! ## The precondition -/

/-- The shift, the scale and the gate's weights are real. -/
theorem real_of_finite3 (x : FVec Ideal Pre_finite3.S32768x2048 .f32) (sh sc : FVec Ideal Pre_finite3.S2x1x2048 .f32) (w : FVec Ideal Pre_finite3.S2048x12544 .bf16) (b : FVec Ideal Pre_finite3.S1x12544 .f32)
    (wf : FVec Ideal Pre_finite3.S2048x128 .f32) (bf : FVec Ideal Pre_finite3.S1x128 .f32) (h : Cert.Pre_finite3.fn (F := Ideal) x sh sc w b wf bf = fun _ => 1#1) :
    (∀ i, IsReal (sh i)) ∧ (∀ i, IsReal (sc i)) ∧ (∀ i, IsReal (wf i)) := by
  have h0 := congrFun h (Shape.Idx.first (by decide))
  unfold Cert.Pre_finite3.fn at h0
  obtain ⟨h01, h2⟩ := andi_one h0
  obtain ⟨h0, h1⟩ := andi_one h01
  haveI : Subsingleton Pre_finite3.S_.Idx := ⟨fun a b => funext fun i => i.elim0⟩
  exact ⟨fun i => real_of_abs (lt_of_lt_of_eq (lt_of_cmp (Host.reduce_andi_all _ _ _ _ _ h0 i)) pos_inf),
    fun i => real_of_abs (lt_of_lt_of_eq (lt_of_cmp (Host.reduce_andi_all _ _ _ _ _ h1 i)) pos_inf),
    fun i => real_of_abs (lt_of_lt_of_eq (lt_of_cmp (Host.reduce_andi_all _ _ _ _ _ h2 i)) pos_inf)⟩

/-! ## The equality -/

/-- What the projection leaves in its first result. -/
def res3main (m : (ℓ : Loc Cert.Kernel3Ideal.nD Cert.Kernel3Ideal.τ Cert.Kernel3Ideal.sig) → Buf (Elt Ideal) ℓ) (c : Dev Cert.Kernel3Ideal.nD) :
    Buf (Elt Ideal) ((c.tc : Thread Cert.Kernel3Ideal.nD Cert.Kernel3Ideal.τ).loc Cert.Kernel3Ideal.main_v0_0) :=
  Cert.Kernel3Ideal.Proj.mainArr m c
/-- What it leaves in its second. -/
def res3gate (m : (ℓ : Loc Cert.Kernel3Ideal.nD Cert.Kernel3Ideal.τ Cert.Kernel3Ideal.sig) → Buf (Elt Ideal) ℓ) (c : Dev Cert.Kernel3Ideal.nD) :
    Buf (Elt Ideal) ((c.tc : Thread Cert.Kernel3Ideal.nD Cert.Kernel3Ideal.τ).loc Cert.Kernel3Ideal.main_v0_1) :=
  Cert.Kernel3Ideal.Proj.gateArr m c

theorem equal3 : algebraic_Kernel3Ideal_Reference3Ideal_pre_finite3 (hKernel3Ideal := Cert.Kernel3Ideal.Gen.facts) (hReference3Ideal := Cert.Reference3Ideal.Gen.facts) (hPre_finite3 := Cert.Pre_finite3.facts) := by
  intro m g m' g' hpre hargs
  have hr := fun c => real_of_finite3 _ _ _ _ _ _ _ (hpre c)
  have hh : ∀ c R k, IsReal (Cert.Kernel3Ideal.Proj.hid m c R k) := fun c R k =>
    Rows.modulated_real _ (fun e => (hr c).1 (ix3 (Rows.batch R) 0 e)) (fun e => (hr c).2.1 (ix3 (Rows.batch R) 0 e)) k
  have hw : ∀ c k j, IsReal (Cert.Kernel3Ideal.Proj.argGate m c k j) := fun c k j => (hr c).2.2 (ix2 k j)
  refine ⟨res3main m, res3gate m, Cert.Kernel3Ideal.Proj.run_arrays m g hh hw, ?_⟩
  refine θ_run_mono (Cert.Reference3Ideal.Value.run m' g') fun r h c => ?_
  obtain ⟨h0, h1, ha⟩ := h c
  obtain ⟨e0, e1, e2, e3, e4, e5, e6⟩ := hargs c
  refine ⟨h0.trans ?_, h1.trans ?_, ha⟩
  · rw [Cert.Reference3Ideal.Read.val_main_v35_eq, e0, e1, e2, e3, e4]
    refine funext fun i => ?_
    have hi : i = ix2 (i 0) (i 1) := funext fun a => by
      match a with
      | ⟨0, _⟩ => rfl
      | ⟨1, _⟩ => rfl
    rw [hi]
    exact Cert.Reference3Ideal.Proj.main_at _ _ _ _ _ (i 0) (i 1)
  · rw [Cert.Reference3Ideal.Read.val_main_v36_eq, e0, e1, e2, e5, e6]
    refine funext fun i => ?_
    have hi : i = ix2 (i 0) (i 1) := funext fun a => by
      match a with
      | ⟨0, _⟩ => rfl
      | ⟨1, _⟩ => rfl
    rw [hi]
    exact Cert.Reference3Ideal.Proj.gate_at _ _ _ _ _ (i 0) (i 1)

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Equal
public import proofs.«01_k».proof.Proof.FfnClaim
public import proofs.«01_k».proof.Proof.MergeClaim
public import proofs.«01_k».proof.Proof.SgClaim
public import proofs.«01_k».proof.Proof.AdaClaim
public import proofs.«01_k».proof.Proof.ProjFrame
public import proofs.«01_k».proof.Proof.ProjClaim
public import Idealize.ShloMosaic.Adequacy
public import Idealize.ShloMosaic.Init

@[expose] public section

noncomputable section

namespace Cert.Proof

open Idealize.ShloMosaic Idealize.SL.Sem Cert.Kernel

theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  θ_run_mono (Cert.ReferenceIdeal.Ref.run m ρ) fun r h => ⟨fun c => (h.1 c).2, h.2⟩

/-- What the kernel leaves in its result. -/
def res (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v1) :=
  Cert.KernelIdeal.Gen.result (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))

theorem equal : algebraic_KernelIdeal_ReferenceIdeal_pre_finite (hKernelIdeal := Cert.KernelIdeal.Gen.facts) (hReferenceIdeal := Cert.ReferenceIdeal.Ref.facts) (hPre_finite := Cert.Pre_finite.facts) := by
  intro m g m' g' hpre hargs
  refine ⟨res m, Cert.KernelIdeal.Gen.run_result m g, ?_⟩
  refine θ_run_mono (Cert.ReferenceIdeal.Ref.run m' g') fun r h c => ?_
  obtain ⟨h0, ha⟩ := h.1 c
  refine ⟨h0.trans ?_, ha⟩
  obtain ⟨e0, e1, e2⟩ := hargs c
  rw [e0, e1, e2]
  exact (Cert.ReferenceIdeal.Ref.result_eq_out _ _ _ (hpre c)).symm

theorem claim : Cert.Claim := ⟨Cert.Kernel.Gen.facts, Cert.KernelIdeal.Gen.facts, Cert.ReferenceIdeal.Ref.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.facts, Cert.Pre_finite3.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Kernel2.Gen.frame m ρ, fun m ρ _ => Cert.Kernel2Ideal.Gen.frame m ρ, reference2_frame,
  fun m ρ _ => Cert.Kernel3.Proj.frame m ρ, fun m ρ _ => Cert.Kernel3Ideal.Proj.frame m ρ, fun m ρ _ => Cert.Kernel3Ideal.Proj.frame m ρ,
  fun m ρ _ => reference3_run m ρ, fun m ρ _ => reference3_run m ρ,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  trivial, equal, trivial, equal2, trivial, equal3, trivial, equal4, trivial, equal5, trivial, equal6⟩

end Cert.Proof

end
